-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_history_nonnegative [hPre_x_finite_history_nonnegative : Cert.Pre_x_finite_history_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_history_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_history_nonnegative [hPre_x_finite_history_nonnegative : Cert.Pre_x_finite_history_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_history_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite_history_nonnegative [hKernelIdeal : Cert.KernelIdeal.Facts] [hPre_x_finite_history_nonnegative : Cert.Pre_x_finite_history_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_history_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite_history_nonnegative [hReferenceIdeal : Cert.ReferenceIdeal.Facts] [hPre_x_finite_history_nonnegative : Cert.Pre_x_finite_history_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_history_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_x_finite_history_nonnegative [hKernelIdeal : Cert.KernelIdeal.Facts] [hReferenceIdeal : Cert.ReferenceIdeal.Facts] [hPre_x_finite_history_nonnegative : Cert.Pre_x_finite_history_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_history_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_finite_history_nonnegative : Cert.Pre_x_finite_history_nonnegative.Facts),
    quiescent_Kernel (hKernel := hKernel)
    ∧ quiescent_KernelIdeal (hKernelIdeal := hKernelIdeal)
    ∧ quiescent_KernelIdeal_pre_x_finite_history_nonnegative (hKernelIdeal := hKernelIdeal) (hPre_x_finite_history_nonnegative := hPre_x_finite_history_nonnegative)
    ∧ quiescent_ReferenceIdeal (hReferenceIdeal := hReferenceIdeal)
    ∧ quiescent_ReferenceIdeal_pre_x_finite_history_nonnegative (hReferenceIdeal := hReferenceIdeal) (hPre_x_finite_history_nonnegative := hPre_x_finite_history_nonnegative)
    ∧ preserves_Kernel_KernelIdeal
    ∧ algebraic_KernelIdeal_ReferenceIdeal_pre_x_finite_history_nonnegative (hKernelIdeal := hKernelIdeal) (hReferenceIdeal := hReferenceIdeal) (hPre_x_finite_history_nonnegative := hPre_x_finite_history_nonnegative)
-- ==== Pre_x_finite_history_nonnegative.lean ====
abbrev S32x1x7168 : Shape := ⟨3, ![32, 1, 7168]⟩
abbrev S32256x7168 : Shape := ⟨2, ![32256, 7168]⟩
abbrev S32256 : Shape := ⟨1, ![32256]⟩
abbrev S32x64 : Shape := ⟨2, ![32, 64]⟩
abbrev S32 : Shape := ⟨1, ![32]⟩
abbrev S_ : Shape := ⟨0, ![]⟩

class Facts : Prop where
  bitsLt_bf16_f32 : FTy.bits .bf16 < FTy.bits .f32
  bcast_S_S32x1x7168 : S_.BroadcastsInDim S32x1x7168 (![] : Fin 0 → Fin S32x1x7168.rank)
  reducesTo_S32x1x7168_S_d0_1_2 : S32x1x7168.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn {F : FTy → Type} [FloatOps F] (main_arg0 : FVec F S32x1x7168 .bf16) (main_arg1 : FVec F S32256x7168 .fp8e4m3) (main_arg2 : FVec F S32256 .f32) (main_arg3 : FVec F S32256 .f32) (main_arg4 : IVec S32x64 32) (main_arg5 : FVec F S32 .f32) : IVec S_ 1 :=
  let main_v0 : FVec F S32x1x7168 .f32 := (extf .f32 · bitsLt_bf16_f32) main_arg0
  let main_v1 : FVec F S32x1x7168 .f32 := Host.absf main_v0
  let main_cst : FVec F S_ .f32 := constant S_ .f32 0x7F7F0000#32
  let main_v2 : FVec F S32x1x7168 .f32 := broadcastInDim S32x1x7168 ![] bcast_S_S32x1x7168 main_cst
  let main_v3 : IVec S32x1x7168 1 := cmpf .ole main_v1 main_v2
  let main_c : IVec S_ 1 := constantI S_ 1 1#1
  let main_v4 : IVec S_ 1 := (fun x v => Host.reduce IntOp.andi x v reducesTo_S32x1x7168_S_d0_1_2 h_S_) main_v3 main_c
  let main_c_0 : IVec S_ 32 := constantI S_ 32 0#32
  let main_v5 : IVec S32x64 32 := broadcastInDim S32x64 ![] bcast_S_S32x64 main_c_0
  let main_v6 : IVec S32x64 1 := cmpi .sge main_arg4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v4 main_v7
  main_v8
-- ==== Kernel.lean ====
abbrev S32x1x7168 : Shape := ⟨3, ![32, 1, 7168]⟩
abbrev S32256x7168 : Shape := ⟨2, ![32256, 7168]⟩
abbrev S32256 : Shape := ⟨1, ![32256]⟩
abbrev S32x64 : Shape := ⟨2, ![32, 64]⟩
abbrev S32 : Shape := ⟨1, ![32]⟩
abbrev S32x7168 : Shape := ⟨2, ![32, 7168]⟩
abbrev S32x1 : Shape := ⟨2, ![32, 1]⟩
abbrev S1x32256 : Shape := ⟨2, ![1, 32256]⟩
abbrev S32x8 : Shape := ⟨2, ![32, 8]⟩
abbrev S512x7168 : Shape := ⟨2, ![512, 7168]⟩
abbrev S1x512 : Shape := ⟨2, ![1, 512]⟩
abbrev S8x32x128 : Shape := ⟨3, ![8, 32, 128]⟩
abbrev S1x256 : Shape := ⟨2, ![1, 256]⟩
abbrev S32x256 : Shape := ⟨2, ![32, 256]⟩
abbrev S8x64 : Shape := ⟨2, ![8, 64]⟩
abbrev S8x128 : Shape := ⟨2, ![8, 128]⟩
abbrev S8x1 : Shape := ⟨2, ![8, 1]⟩
abbrev S1x8x128 : Shape := ⟨3, ![1, 8, 128]⟩
abbrev S32x2432 : Shape := ⟨2, ![32, 2432]⟩
abbrev S512x2432 : Shape := ⟨2, ![512, 2432]⟩
abbrev S32x512 : Shape := ⟨2, ![32, 512]⟩
abbrev S32x2304 : Shape := ⟨2, ![32, 2304]⟩
abbrev S512x2304 : Shape := ⟨2, ![512, 2304]⟩
abbrev S1x128 : Shape := ⟨2, ![1, 128]⟩
abbrev S1x32x128 : Shape := ⟨3, ![1, 32, 128]⟩
abbrev S32x128 : Shape := ⟨2, ![32, 128]⟩
abbrev S32x1x8 : Shape := ⟨3, ![32, 1, 8]⟩
abbrev S32x1x1 : Shape := ⟨3, ![32, 1, 1]⟩

abbrev nBuf : Space → Nat
  | .hbm => 18
  | .vmem => 16
  | .smem => 0
  | _ => 0

abbrev bufTy : (tb : Table) → Fin (tcTables nBuf tb) → BufTy
  | .hbm, ⟨0, _⟩ => ⟨S32x1x7168, .bf16⟩
  | .hbm, ⟨1, _⟩ => ⟨S32256x7168, .fp8e4m3⟩
  | .hbm, ⟨2, _⟩ => ⟨S32256, .f32⟩
  | .hbm, ⟨3, _⟩ => ⟨S32256, .f32⟩
  | .hbm, ⟨4, _⟩ => ⟨S32x64, .i32⟩
  | .hbm, ⟨5, _⟩ => ⟨S32, .f32⟩
  | .hbm, ⟨6, _⟩ => ⟨S32x7168, .bf16⟩
  | .hbm, ⟨7, _⟩ => ⟨S32x1, .f32⟩
  | .hbm, ⟨8, _⟩ => ⟨S1x32256, .f32⟩
  | .hbm, ⟨9, _⟩ => ⟨S1x32256, .f32⟩
  | .hbm, ⟨10, _⟩ => ⟨S32x8, .f32⟩
  | .hbm, ⟨11, _⟩ => ⟨S32x8, .i32⟩
  | .hbm, ⟨12, _⟩ => ⟨S32x7168, .fp8e4m3⟩
  | .hbm, ⟨13, _⟩ => ⟨S32x1, .f32⟩
  | .hbm, ⟨14, _⟩ => ⟨S32x1x8, .f32⟩
  | .hbm, ⟨15, _⟩ => ⟨S32x1x8, .i32⟩
  | .hbm, ⟨16, _⟩ => ⟨S32x1x7168, .fp8e4m3⟩
  | .hbm, ⟨17, _⟩ => ⟨S32x1x1, .f32⟩
  | .local _ .vmem, ⟨0, _⟩ => ⟨S32x7168, .bf16⟩
  | .local _ .vmem, ⟨1, _⟩ => ⟨S32x64, .i32⟩
  | .local _ .vmem, ⟨2, _⟩ => ⟨S32x1, .f32⟩
  | .local _ .vmem, ⟨3, _⟩ => ⟨S512x7168, .fp8e4m3⟩
  | .local _ .vmem, ⟨4, _⟩ => ⟨S512x7168, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S32x8, .f32⟩
  | .local _ .vmem, ⟨10, _⟩ => ⟨S32x8, .i32⟩
  | .local _ .vmem, ⟨11, _⟩ => ⟨S32x7168, .fp8e4m3⟩
  | .local _ .vmem, ⟨12, _⟩ => ⟨S32x1, .f32⟩
  | .local _ .vmem, ⟨13, _⟩ => ⟨S8x32x128, .i32⟩
  | .local _ .vmem, ⟨14, _⟩ => ⟨S8x32x128, .f32⟩
  | .local _ .vmem, ⟨15, _⟩ => ⟨S8x32x128, .i32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![63], ![false]⟩

def k0_off1 (i : grid0.Coords) (c0_i32_61 : BitVec 32) : Fin 3 → Nat :=
  let arg0 : BitVec 32 := BitVec.ofNat 32 (i 0).val
  let c4_i32 : BitVec 32 := 4#32
  let v67 : BitVec 32 := Scalar.muli arg0 c4_i32
  let v68 : BitVec 32 := Scalar.addi v67 c0_i32_61
  let c5_i32 : BitVec 32 := 5#32
  let v69 : BitVec 32 := Scalar.shrsi v68 c5_i32
  let v70 : Index := Scalar.indexCast v69
  let c0_62 : Index := 0#32
  let c0_63 : Index := 0#32
  ![v70.toNat, 0, 0]
def k0_off2 (i : grid0.Coords) (c0_i32_194 : BitVec 32) : Fin 3 → Nat :=
  let arg0 : BitVec 32 := BitVec.ofNat 32 (i 0).val
  let c4_i32_193 : BitVec 32 := 4#32
  let v436 : BitVec 32 := Scalar.muli arg0 c4_i32_193
  let v437 : BitVec 32 := Scalar.addi v436 c0_i32_194
  let c5_i32_195 : BitVec 32 := 5#32
  let v438 : BitVec 32 := Scalar.shrsi v437 c5_i32_195
  let v439 : Index := Scalar.indexCast v438
  let c8_196 : Index := 8#32
  let c0_197 : Index := 0#32
  ![v439.toNat, 8, 0]
def k0_off3 (i : grid0.Coords) (c0_i32_333 : BitVec 32) : Fin 3 → Nat :=
  let arg0 : BitVec 32 := BitVec.ofNat 32 (i 0).val
  let c4_i32_332 : BitVec 32 := 4#32
  let v805 : BitVec 32 := Scalar.muli arg0 c4_i32_332
  let v806 : BitVec 32 := Scalar.addi v805 c0_i32_333
  let c5_i32_334 : BitVec 32 := 5#32
  let v807 : BitVec 32 := Scalar.shrsi v806 c5_i32_334
  let v808 : Index := Scalar.indexCast v807
  let c16_335 : Index := 16#32
  let c0_336 : Index := 0#32
  ![v808.toNat, 16, 0]
def k0_off4 (i : grid0.Coords) (c0_i32_472 : BitVec 32) : Fin 3 → Nat :=
  let arg0 : BitVec 32 := BitVec.ofNat 32 (i 0).val
  let c4_i32_471 : BitVec 32 := 4#32
  let v1174 : BitVec 32 := Scalar.muli arg0 c4_i32_471
  let v1175 : BitVec 32 := Scalar.addi v1174 c0_i32_472
  let c5_i32_473 : BitVec 32 := 5#32
  let v1176 : BitVec 32 := Scalar.shrsi v1175 c5_i32_473
  let v1177 : Index := Scalar.indexCast v1176
  let c24_474 : Index := 24#32
  let c0_475 : Index := 0#32
  ![v1177.toNat, 24, 0]
def k0_cond2 (i : grid0.Coords) : BitVec 1 :=
  let arg0 : BitVec 32 := BitVec.ofNat 32 (i 0).val
  let c62_i32 : BitVec 32 := 62#32
  let v1497 : BitVec 1 := Scalar.cmpi .eq arg0 c62_i32
  let v1498 : BitVec 32 := Scalar.extui v1497
  let c0_i32_559 : BitVec 32 := 0#32
  let v1499 : BitVec 1 := Scalar.cmpi .ne v1498 c0_i32_559
  v1499

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x1x7168 : Shape := ⟨3, ![32, 1, 7168]⟩
abbrev S32256x7168 : Shape := ⟨2, ![32256, 7168]⟩
abbrev S32256 : Shape := ⟨1, ![32256]⟩
abbrev S32x64 : Shape := ⟨2, ![32, 64]⟩
abbrev S32 : Shape := ⟨1, ![32]⟩
abbrev S32x7168 : Shape := ⟨2, ![32, 7168]⟩
abbrev S_ : Shape := ⟨0, ![]⟩
abbrev S32x1 : Shape := ⟨2, ![32, 1]⟩
abbrev S32x32256 : Shape := ⟨2, ![32, 32256]⟩
abbrev S1x32256 : Shape := ⟨2, ![1, 32256]⟩
abbrev S32x64x1 : Shape := ⟨3, ![32, 64, 1]⟩
abbrev S32x64x2 : Shape := ⟨3, ![32, 64, 2]⟩
abbrev S32x8 : Shape := ⟨2, ![32, 8]⟩
abbrev S32x1x8 : Shape := ⟨3, ![32, 1, 8]⟩
abbrev S32x1x1 : Shape := ⟨3, ![32, 1, 1]⟩

abbrev nBuf : Space → Nat
  | .hbm => 106
  | .vmem => 4
  | .smem => 0
  | _ => 0

abbrev bufTy : (tb : Table) → Fin (tcTables nBuf tb) → BufTy
  | .hbm, ⟨0, _⟩ => ⟨S32x1x7168, .bf16⟩
  | .hbm, ⟨1, _⟩ => ⟨S32256x7168, .fp8e4m3⟩
  | .hbm, ⟨2, _⟩ => ⟨S32256, .f32⟩
  | .hbm, ⟨3, _⟩ => ⟨S32256, .f32⟩
  | .hbm, ⟨4, _⟩ => ⟨S32x64, .i32⟩
  | .hbm, ⟨5, _⟩ => ⟨S32, .f32⟩
  | .hbm, ⟨6, _⟩ => ⟨S32x7168, .bf16⟩
  | .hbm, ⟨7, _⟩ => ⟨S32x7168, .f32⟩
  | .hbm, ⟨8, _⟩ => ⟨S32x7168, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .i1⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S32x1, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S_, .f32⟩
  | .hbm, ⟨28, _⟩ => ⟨S_, .f32⟩
  | .hbm, ⟨29, _⟩ => ⟨S32x1, .f32⟩
  | .hbm, ⟨30, _⟩ => ⟨S32x1, .f32⟩
  | .hbm, ⟨31, _⟩ => ⟨S_, .f32⟩
  | .hbm, ⟨32, _⟩ => ⟨S32x1, .f32⟩
  | .hbm, ⟨33, _⟩ => ⟨S32x1, .f32⟩
  | .hbm, ⟨34, _⟩ => ⟨S32x1, .f32⟩
  | .hbm, ⟨35, _⟩ => ⟨S_, .f32⟩
  | .hbm, ⟨36, _⟩ => ⟨S32x1, .f32⟩
  | .hbm, ⟨37, _⟩ => ⟨S32x1, .f32⟩
  | .hbm, ⟨38, _⟩ => ⟨S32x7168, .f32⟩
  | .hbm, ⟨39, _⟩ => ⟨S32x7168, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x7168, .f32⟩
  | .hbm, ⟨44, _⟩ => ⟨S32x7168, .f32⟩
  | .hbm, ⟨45, _⟩ => ⟨S_, .f32⟩
  | .hbm, ⟨46, _⟩ => ⟨S32x7168, .f32⟩
  | .hbm, ⟨47, _⟩ => ⟨S32x7168, .f32⟩
  | .hbm, ⟨48, _⟩ => ⟨S32x7168, .fp8e4m3⟩
  | .hbm, ⟨49, _⟩ => ⟨S32x32256, .f32⟩
  | .hbm, ⟨50, _⟩ => ⟨S32x32256, .f32⟩
  | .hbm, ⟨51, _⟩ => ⟨S32x32256, .f32⟩
  | .hbm, ⟨52, _⟩ => ⟨S1x32256, .f32⟩
  | .hbm, ⟨53, _⟩ => ⟨S32x32256, .f32⟩
  | .hbm, ⟨54, _⟩ => ⟨S32x32256, .f32⟩
  | .hbm, ⟨55, _⟩ => ⟨S1x32256, .f32⟩
  | .hbm, ⟨56, _⟩ => ⟨S32x32256, .f32⟩
  | .hbm, ⟨57, _⟩ => ⟨S32x32256, .f32⟩
  | .hbm, ⟨58, _⟩ => ⟨S_, .i1⟩
  | .hbm, ⟨59, _⟩ => ⟨S32x32256, .i1⟩
  | .hbm, ⟨60, _⟩ => ⟨S32, .i32⟩
  | .hbm, ⟨61, _⟩ => ⟨S32x1, .i32⟩
  | .hbm, ⟨62, _⟩ => ⟨S_, .i32⟩
  | .hbm, ⟨63, _⟩ => ⟨S32x1, .i32⟩
  | .hbm, ⟨64, _⟩ => ⟨S32x1, .i1⟩
  | .hbm, ⟨65, _⟩ => ⟨S_, .i32⟩
  | .hbm, ⟨66, _⟩ => ⟨S32x1, .i32⟩
  | .hbm, ⟨67, _⟩ => ⟨S32x1, .i32⟩
  | .hbm, ⟨68, _⟩ => ⟨S32x1, .i32⟩
  | .hbm, ⟨69, _⟩ => ⟨S_, .i32⟩
  | .hbm, ⟨70, _⟩ => ⟨S32x64, .i32⟩
  | .hbm, ⟨71, _⟩ => ⟨S32x64, .i1⟩
  | .hbm, ⟨72, _⟩ => ⟨S_, .i32⟩
  | .hbm, ⟨73, _⟩ => ⟨S32x64, .i32⟩
  | .hbm, ⟨74, _⟩ => ⟨S32x64, .i32⟩
  | .hbm, ⟨75, _⟩ => ⟨S32x64, .i32⟩
  | .hbm, ⟨76, _⟩ => ⟨S32x64, .i32⟩
  | .hbm, ⟨77, _⟩ => ⟨S32x64x1, .i32⟩
  | .hbm, ⟨78, _⟩ => ⟨S32x64x1, .i32⟩
  | .hbm, ⟨79, _⟩ => ⟨S32x64x2, .i32⟩
  | .hbm, ⟨80, _⟩ => ⟨S_, .i1⟩
  | .hbm, ⟨81, _⟩ => ⟨S32x64, .i1⟩
  | .hbm, ⟨82, _⟩ => ⟨S32x32256, .i1⟩
  | .hbm, ⟨83, _⟩ => ⟨S32x1, .f32⟩
  | .hbm, ⟨84, _⟩ => ⟨S_, .f32⟩
  | .hbm, ⟨85, _⟩ => ⟨S32x32256, .f32⟩
  | .hbm, ⟨86, _⟩ => ⟨S32x32256, .i1⟩
  | .hbm, ⟨87, _⟩ => ⟨S32x32256, .f32⟩
  | .hbm, ⟨88, _⟩ => ⟨S32x32256, .f32⟩
  | .hbm, ⟨89, _⟩ => ⟨S32x32256, .f32⟩
  | .hbm, ⟨90, _⟩ => ⟨S32x32256, .f32⟩
  | .hbm, ⟨91, _⟩ => ⟨S32x32256, .f32⟩
  | .hbm, ⟨92, _⟩ => ⟨S32x32256, .f32⟩
  | .hbm, ⟨93, _⟩ => ⟨S32x8, .f32⟩
  | .hbm, ⟨94, _⟩ => ⟨S32x8, .i32⟩
  | .hbm, ⟨95, _⟩ => ⟨S_, .f32⟩
  | .hbm, ⟨96, _⟩ => ⟨S32x8, .f32⟩
  | .hbm, ⟨97, _⟩ => ⟨S32x8, .i1⟩
  | .hbm, ⟨98, _⟩ => ⟨S_, .i32⟩
  | .hbm, ⟨99, _⟩ => ⟨S_, .i32⟩
  | .hbm, ⟨100, _⟩ => ⟨S32x8, .i32⟩
  | .hbm, ⟨101, _⟩ => ⟨S32x8, .i32⟩
  | .hbm, ⟨102, _⟩ => ⟨S32x1x8, .f32⟩
  | .hbm, ⟨103, _⟩ => ⟨S32x1x8, .i32⟩
  | .hbm, ⟨104, _⟩ => ⟨S32x1x7168, .fp8e4m3⟩
  | .hbm, ⟨105, _⟩ => ⟨S32x1x1, .f32⟩
  | .local _ .vmem, ⟨0, _⟩ => ⟨S32x7168, .f32⟩
  | .local _ .vmem, ⟨1, _⟩ => ⟨S32256x7168, .fp8e4m3⟩
  | .local _ .vmem, ⟨2, _⟩ => ⟨S32x7168, .fp8e4m3⟩
  | .local _ .vmem, ⟨3, _⟩ => ⟨S32x32256, .f32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_c_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_values : Ref sig .tc := ⟨.hbm, 93, rfl⟩
abbrev main_indices : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_call4_v0 : Ref sig .tc := ⟨.hbm, 99, rfl⟩
abbrev main_call4_v1 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32256x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.IdealParts.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type; the buffer held at contents `f`; and held at the vector `X`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
abbrev pr (c : Dev nD) {sp : Space} {S : Shape} {e : EltTy} (M : Memref sig .tc sp S e) (X : Vec F S e) : sProp 𝕄 :=
  M.view.loc (c : Thread nD τ) ↦[M.view.set]{fullShare} M.view.rep X
abbrev ow (c : Dev nD) {sp : Space} {S : Shape} {e : EltTy} (M : Memref sig .tc sp S e) (X : Vec F S e) : sProp 𝕄 :=
  owns (c : Thread nD τ) M fullShare X

theorem ow_of (c : Dev nD) {sp : Space} {S : Shape} {e : EltTy} (M : Memref sig .tc sp S e) (f : Bf (F := F) c M) :
    pt c M f ⊢ ow (F := F) c M (M.view.read (Elt F) f) := by
  unfold ow owns; iintro H; iexists f; isplitr
  · ipureintro; rfl
  · iexact H

theorem pr_eq (c : Dev nD) {sp : Space} {S : Shape} {e : EltTy} (M : Memref sig .tc sp S e) (X : Vec F S e) :
    ow (F := F) c M X = pr c M X := owns_eq_rep (c : Thread nD τ) M fullShare X

/-- The first conditional region of the body: the quantiser, the table of seen tokens, the empty lists. -/
def front (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) : Prog (TpuEff nD τ sig (Elt F) Λ₀ .tc) PUnit := do
  let ⟨v1547, v1548, v4020, v4041, v4046, v4051, v4056, v4061, v4066, v4071, v4075⟩ : Σ' (v1547 : Vec F S8x64 .i32) (v1548 : IVec S8x128 32) (v4020 : IVec S8x128 32) (v4041 : IVec S8x128 32) (v4046 : IVec S8x128 32) (v4051 : IVec S8x128 32) (v4056 : IVec S8x128 32) (v4061 : IVec S8x128 32) (v4066 : IVec S8x128 32) (v4071 : IVec S8x128 32), IVec S8x128 32 ← k0_part340 i arg1 harg1 arg2 harg2 arg3 harg3 arg4 harg4 arg5 harg5 arg6 harg6 arg7 harg7 arg8 harg8 arg9 harg9 arg10 harg10 arg11 harg11 arg12 harg12 arg13 harg13
  let ⟨v5165, v5166, v6595, v6600, v6605, v6610, v6615, v6620, v6625, v6630, v6635, v6638, v6640⟩ : Σ' (v5165 : Vec F S8x64 .i32) (v5166 : IVec S8x128 32) (v6595 : IVec S8x128 32) (v6600 : IVec S8x128 32) (v6605 : IVec S8x128 32) (v6610 : IVec S8x128 32) (v6615 : IVec S8x128 32) (v6620 : IVec S8x128 32) (v6625 : IVec S8x128 32) (v6630 : IVec S8x128 32) (v6635 : IVec S8x128 32) (v6638 : IVec S8x128 1), IVec S8x128 32 ← k0_part341 i arg1 harg1 arg2 harg2 arg3 harg3 arg4 harg4 arg5 harg5 arg6 harg6 arg7 harg7 arg8 harg8 arg9 harg9 arg10 harg10 arg11 harg11 arg12 harg12 arg13 harg13 v1547 v1548 v4020 v4041 v4046 v4051 v4056 v4061 v4066 v4071 v4075
  let ⟨v8783, v8784, v9149, v9154, v9159, v9164, v9169, v9174, v9179, v9184, v9198, v9200, v9202, v9203⟩ : Σ' (v8783 : Vec F S8x64 .i32) (v8784 : IVec S8x128 32) (v9149 : IVec S8x128 32) (v9154 : IVec S8x128 32) (v9159 : IVec S8x128 32) (v9164 : IVec S8x128 32) (v9169 : IVec S8x128 32) (v9174 : IVec S8x128 32) (v9179 : IVec S8x128 32) (v9184 : IVec S8x128 32) (v9198 : IVec S8x128 32) (v9200 : IVec S8x128 32) (v9202 : IVec S8x128 1), IVec S8x128 32 ← k0_part342 i arg1 harg1 arg2 harg2 arg3 harg3 arg4 harg4 arg5 harg5 arg6 harg6 arg7 harg7 arg8 harg8 arg9 harg9 arg10 harg10 arg11 harg11 arg12 harg12 arg13 harg13 v5165 v5166 v6595 v6600 v6605 v6610 v6615 v6620 v6625 v6630 v6635 v6638 v6640
  let ⟨v11735, v11740, v11745, v11750, v11755, v11760, v11774, v11776, v11781, v11786, v11788⟩ : Σ' (v11735 : IVec S8x128 32) (v11740 : IVec S8x128 32) (v11745 : IVec S8x128 32) (v11750 : IVec S8x128 32) (v11755 : IVec S8x128 32) (v11760 : IVec S8x128 32) (v11774 : IVec S8x128 32) (v11776 : IVec S8x128 32) (v11781 : IVec S8x128 32) (v11786 : IVec S8x128 32), IVec S8x128 1 ← k0_part343 i arg1 harg1 arg2 harg2 arg3 harg3 arg4 harg4 arg5 harg5 arg6 harg6 arg7 harg7 arg8 harg8 arg9 harg9 arg10 harg10 arg11 harg11 arg12 harg12 arg13 harg13 v8783 v8784 v9149 v9154 v9159 v9164 v9169 v9174 v9179 v9184 v9198 v9200 v9202 v9203
  let ⟨v12401, v12402, v14299, v14304, v14309, v14314, v14328, v14330, v14335, v14340, v14345, v14350, v14352⟩ : Σ' (v12401 : Vec F S8x64 .i32) (v12402 : IVec S8x128 32) (v14299 : IVec S8x128 32) (v14304 : IVec S8x128 32) (v14309 : IVec S8x128 32) (v14314 : IVec S8x128 32) (v14328 : IVec S8x128 32) (v14330 : IVec S8x128 32) (v14335 : IVec S8x128 32) (v14340 : IVec S8x128 32) (v14345 : IVec S8x128 32) (v14350 : IVec S8x128 32), IVec S8x128 1 ← k0_part344 i arg1 harg1 arg2 harg2 arg3 harg3 arg4 harg4 arg5 harg5 arg6 harg6 arg7 harg7 arg8 harg8 arg9 harg9 arg10 harg10 arg11 harg11 arg12 harg12 arg13 harg13 v8783 v8784 v11735 v11740 v11745 v11750 v11755 v11760 v11774 v11776 v11781 v11786 v11788
  k0_part345 i arg1 harg1 arg2 harg2 arg3 harg3 arg4 harg4 arg5 harg5 arg6 harg6 arg7 harg7 arg8 harg8 arg9 harg9 arg10 harg10 arg11 harg11 arg12 harg12 arg13 harg13 v12401 v12402 v14299 v14304 v14309 v14314 v14328 v14330 v14335 v14340 v14345 v14350 v14352
  pure ⟨⟩

/-- What follows that region up to the first row group: the loads, the product of the block, and the first loads. -/
def loads (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) :
    Prog (TpuEff nD τ sig (Elt F) Λ₀ .tc) (Σ' (arg0 : BitVec 32) (v16 : FVec F S32x512 .f32) (v18 : FVec F S1x512 .f32) (v20 : FVec F S1x512 .f32) (v22 : FVec F S8x1 .f32) (v24 : FVec F S8x1 .f32), FVec F S8x128 .f32) := do
  let arg0 : BitVec 32 := BitVec.ofNat 32 (i 0).val
  let v3 : Vec F S32x2432 .fp8e4m3 ← Prog.lift (.load arg9 (Rect.unit (s := S32x7168) ![0, 0] S32x2432.size inb_S32x7168_S32x2432_0_0).toLoadRect (View.loadsAt_vmem h_S32x2432))
  let v5 : Vec F S512x2432 .fp8e4m3 ← Prog.lift (.load arg4 (Rect.unit (s := S512x7168) ![0, 0] S512x2432.size inb_S512x7168_S512x2432_0_0).toLoadRect (View.loadsAt_vmem h_S512x2432))
  let v7 : Vec F S32x2432 .fp8e4m3 ← Prog.lift (.load arg9 (Rect.unit (s := S32x7168) ![0, 2432] S32x2432.size inb_S32x7168_S32x2432_0_2432).toLoadRect (View.loadsAt_vmem h_S32x2432))
  let v9 : Vec F S512x2432 .fp8e4m3 ← Prog.lift (.load arg4 (Rect.unit (s := S512x7168) ![0, 2432] S512x2432.size inb_S512x7168_S512x2432_0_2432).toLoadRect (View.loadsAt_vmem h_S512x2432))
  let v12 : Vec F S32x2304 .fp8e4m3 ← Prog.lift (.load arg9 (Rect.unit (s := S32x7168) ![0, 4864] S32x2304.size inb_S32x7168_S32x2304_0_4864).toLoadRect (View.loadsAt_vmem h_S32x2304))
  let v14 : Vec F S512x2304 .fp8e4m3 ← Prog.lift (.load arg4 (Rect.unit (s := S512x7168) ![0, 4864] S512x2304.size inb_S512x7168_S512x2304_0_4864).toLoadRect (View.loadsAt_vmem h_S512x2304))
  let v17 : Vec F S1x512 .f32 ← Prog.lift (.load arg5 (Rect.unit (s := S1x512) ![0, 0] S1x512.size inb_S1x512_S1x512_0_0).toLoadRect (View.loadsAt_vmem h_S1x512))
  let v19 : Vec F S1x512 .f32 ← Prog.lift (.load arg6 (Rect.unit (s := S1x512) ![0, 0] S1x512.size inb_S1x512_S1x512_0_0).toLoadRect (View.loadsAt_vmem h_S1x512))
  let v21 : Vec F S8x1 .f32 ← Prog.lift (.load arg10 (Rect.unit (s := S32x1) ![0, 0] S8x1.size inb_S32x1_S8x1_0_0).toLoadRect (View.loadsAt_vmem h_S8x1))
  let v23 : Vec F S8x1 .f32 ← Prog.lift (.load arg3 (Rect.unit (s := S32x1) ![0, 0] S8x1.size inb_S32x1_S8x1_0_0).toLoadRect (View.loadsAt_vmem h_S8x1))
  let v25 : Vec F S1x8x128 .f32 ← Prog.lift (.load arg12 (Rect.unit (s := S8x32x128) ![0, 0, 0] S1x8x128.size inb_S8x32x128_S1x8x128_0_0_0).toLoadRect (View.loadsAt_vmem h_S1x8x128))
  pure ⟨arg0, k0_pay3536 v3 v5 v7 v9 v12 v14, k0_pay3537 v17, k0_pay3538 v19, k0_pay3539 v21, k0_pay3540 v23, k0_pay3541 v25⟩

/-- The body before its last conditional region. -/
def pre (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) : Prog (TpuEff nD τ sig (Elt F) Λ₀ .tc) PUnit := do
  let ⟨arg0, v1444, v1446, v1448⟩ : Σ' (arg0 : BitVec 32) (v1444 : IVec S8x128 32) (v1446 : FVec F S8x128 .f32), IVec S8x128 32 ← k0_part385 i arg1 harg1 arg2 harg2 arg3 harg3 arg4 harg4 arg5 harg5 arg6 harg6 arg7 harg7 arg8 harg8 arg9 harg9 arg10 harg10 arg11 harg11 arg12 harg12 arg13 harg13
  let c0_552 : Index := 0#32
  let v1488 : Vec F S1x8x128 .i32 ← Prog.lift (.load arg13 (Rect.unit (s := S8x32x128) ![6, 24, 0] S1x8x128.size inb_S8x32x128_S1x8x128_6_24_0).toLoadRect (View.loadsAt_vmem h_S1x8x128))
  have v1489 : IVec S8x128 32 := shapeCast S8x128 v1488 shapeCasts_S1x8x128_S8x128
  have v1490 : IVec S1x8x128 32 := shapeCast S1x8x128 v1444 shapeCasts_S8x128_S1x8x128
  Prog.lift (.store arg13 (Rect.unit (s := S8x32x128) ![6, 24, 0] S1x8x128.size inb_S8x32x128_S1x8x128_6_24_0) v1490 Finset.univ (View.stores_vmem_bits_univ h_S1x8x128 rfl) (.inl rfl))
  let c7_553 : Index := 7#32
  let c24_554 : Index := 24#32
  let c0_555 : Index := 0#32
  let v1491 : Vec F S1x8x128 .f32 ← Prog.lift (.load arg12 (Rect.unit (s := S8x32x128) ![7, 24, 0] S1x8x128.size inb_S8x32x128_S1x8x128_7_24_0).toLoadRect (View.loadsAt_vmem h_S1x8x128))
  have v1492 : FVec F S8x128 .f32 := shapeCast S8x128 v1491 shapeCasts_S1x8x128_S8x128
  have v1493 : FVec F S1x8x128 .f32 := shapeCast S1x8x128 v1446 shapeCasts_S8x128_S1x8x128
  Prog.lift (.store arg12 (Rect.unit (s := S8x32x128) ![7, 24, 0] S1x8x128.size inb_S8x32x128_S1x8x128_7_24_0) v1493 Finset.univ (View.stores_vmem_bits_univ h_S1x8x128 rfl) (.inl rfl))
  let c7_556 : Index := 7#32
  let c24_557 : Index := 24#32
  let c0_558 : Index := 0#32
  let v1494 : Vec F S1x8x128 .i32 ← Prog.lift (.load arg13 (Rect.unit (s := S8x32x128) ![7, 24, 0] S1x8x128.size inb_S8x32x128_S1x8x128_7_24_0).toLoadRect (View.loadsAt_vmem h_S1x8x128))
  have v1495 : IVec S8x128 32 := shapeCast S8x128 v1494 shapeCasts_S1x8x128_S8x128
  have v1496 : IVec S1x8x128 32 := shapeCast S1x8x128 v1448 shapeCasts_S8x128_S1x8x128
  Prog.lift (.store arg13 (Rect.unit (s := S8x32x128) ![7, 24, 0] S1x8x128.size inb_S8x32x128_S1x8x128_7_24_0) v1496 Finset.univ (View.stores_vmem_bits_univ h_S1x8x128 rfl) (.inl rfl))
  let c62_i32 : BitVec 32 := 62#32
  let v1497 : BitVec 1 := Scalar.cmpi .eq arg0 c62_i32
  let v1498 : BitVec 32 := Scalar.extui v1497
  let c0_i32_559 : BitVec 32 := 0#32
  let v1499 : BitVec 1 := Scalar.cmpi .ne v1498 c0_i32_559
  pure ⟨⟩

/-- The last conditional region: the merge of the lanes' lists. -/
def fin (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) : Prog (TpuEff nD τ sig (Elt F) Λ₀ .tc) PUnit := do
  if k0_h2 : k0_cond2 i = 1#1 then do
    let ⟨v1501, v1503, v1505, v1507, v1509, v1511, v1513, v1515, v1517, v1519, v1521, v1523⟩ : Σ' (v1501 : FVec F S32x128 .f32) (v1503 : FVec F S32x128 .f32) (v1505 : FVec F S32x128 .f32) (v1507 : FVec F S32x128 .f32) (v1509 : FVec F S32x128 .f32) (v1511 : FVec F S32x128 .f32) (v1513 : FVec F S32x128 .f32) (v1515 : FVec F S32x128 .f32) (v1517 : IVec S32x128 32) (v1519 : IVec S32x128 32) (v1521 : IVec S32x128 32), IVec S32x128 32 ← k0_part346 i arg1 harg1 arg2 harg2 arg3 harg3 arg4 harg4 arg5 harg5 arg6 harg6 arg7 harg7 arg8 harg8 arg9 harg9 arg10 harg10 arg11 harg11 arg12 harg12 arg13 harg13
    let ⟨v1533, v1539, v1543, v1544, v1545, v1546, v1547, v1548, v1549, v1550, v1551, v1552, v1553, v1554, v1555, v1556, v1558, v1560, v1564, v1565⟩ : Σ' (v1533 : FVec F S32x1 .f32) (v1539 : IVec S32x1 32) (v1543 : FVec F S32x128 .f32) (v1544 : IVec S32x128 32) (v1545 : FVec F S32x128 .f32) (v1546 : IVec S32x128 32) (v1547 : FVec F S32x128 .f32) (v1548 : IVec S32x128 32) (v1549 : FVec F S32x128 .f32) (v1550 : IVec S32x128 32) (v1551 : FVec F S32x128 .f32) (v1552 : IVec S32x128 32) (v1553 : FVec F S32x128 .f32) (v1554 : IVec S32x128 32) (v1555 : FVec F S32x128 .f32) (v1556 : IVec S32x128 32) (v1558 : FVec F S32x1 .f32) (v1560 : IVec S32x128 1) (v1564 : IVec S32x1 32), IVec S32x128 32 ← k0_part347 i arg1 harg1 arg2 harg2 arg3 harg3 arg4 harg4 arg5 harg5 arg6 harg6 arg7 harg7 arg8 harg8 arg9 harg9 arg10 harg10 arg11 harg11 arg12 harg12 arg13 harg13 v1501 v1503 v1505 v1507 v1509 v1511 v1513 v1515 v1517 v1519 v1521 v1523
    let ⟨v1581, v1587, v1602, v1608, v1612, v1613, v1614, v1615, v1616, v1617, v1618, v1619⟩ : Σ' (v1581 : FVec F S32x1 .f32) (v1587 : IVec S32x1 32) (v1602 : FVec F S32x1 .f32) (v1608 : IVec S32x1 32) (v1612 : FVec F S32x128 .f32) (v1613 : IVec S32x128 32) (v1614 : FVec F S32x128 .f32) (v1615 : IVec S32x128 32) (v1616 : FVec F S32x128 .f32) (v1617 : IVec S32x128 32) (v1618 : FVec F S32x128 .f32), IVec S32x128 32 ← k0_part348 i arg1 harg1 arg2 harg2 arg3 harg3 arg4 harg4 arg5 harg5 arg6 harg6 arg7 harg7 arg8 harg8 arg9 harg9 arg10 harg10 arg11 harg11 arg12 harg12 arg13 harg13 v1543 v1544 v1545 v1546 v1547 v1548 v1549 v1550 v1551 v1552 v1553 v1554 v1555 v1556 v1560 v1565
    let ⟨v1621, v1627, v1638, v1644, v1653, v1659, v1664, v1666, v1668, c2147483647_i32_629⟩ : Σ' (v1621 : FVec F S32x1 .f32) (v1627 : IVec S32x1 32) (v1638 : FVec F S32x1 .f32) (v1644 : IVec S32x1 32) (v1653 : FVec F S32x1 .f32) (v1659 : IVec S32x1 32) (v1664 : IVec S32x128 32) (v1666 : FVec F S32x1 .f32) (v1668 : IVec S32x128 1), BitVec 32 ← k0_part349 i arg1 harg1 arg2 harg2 arg3 harg3 arg4 harg4 arg5 harg5 arg6 harg6 arg7 harg7 arg8 harg8 arg9 harg9 arg10 harg10 arg11 harg11 arg12 harg12 arg13 harg13 v1612 v1613 v1614 v1615 v1616 v1617 v1618 v1619
    have v1669 : IVec S32x128 32 := broadcast S32x128 c2147483647_i32_629
    have v1670 : IVec S32x128 32 := select v1668 v1664 v1669
    have cst_630 : IVec S32 32 := constantI S32 32 2147483647#32
    have v1671 : IVec S32 32 := multiReductionI .minsi [1] S32 v1670 2147483647#32 reduces_S32x128_S32 rfl
    have v1672 : IVec S32x1 32 := shapeCast S32x1 v1671 shapeCasts_S32_S32x1
    have v1673 : FVec F S32x8 .f32 := concatenate S32x8 1 [⟨S32x1, v1533⟩, ⟨S32x1, v1558⟩, ⟨S32x1, v1581⟩, ⟨S32x1, v1602⟩, ⟨S32x1, v1621⟩, ⟨S32x1, v1638⟩, ⟨S32x1, v1653⟩, ⟨S32x1, v1666⟩] concatenates_S32x1_S32x1_S32x1_S32x1_S32x1_S32x1_S32x1_S32x1_S32x8_d1
    let c0_631 : Index := 0#32
    let c0_632 : Index := 0#32
    let v1674 : Vec F S32x8 .f32 ← Prog.lift (.load arg7 (Rect.unit (s := S32x8) ![0, 0] S32x8.size inb_S32x8_S32x8_0_0).toLoadRect (View.loadsAt_vmem h_S32x8))
    Prog.lift (.store arg7 (Rect.unit (s := S32x8) ![0, 0] S32x8.size inb_S32x8_S32x8_0_0) v1673 Finset.univ (View.stores_vmem_bits_univ h_S32x8 rfl) (.inl rfl))
    have v1675 : IVec S32x8 32 := concatenate S32x8 1 [⟨S32x1, v1539⟩, ⟨S32x1, v1564⟩, ⟨S32x1, v1587⟩, ⟨S32x1, v1608⟩, ⟨S32x1, v1627⟩, ⟨S32x1, v1644⟩, ⟨S32x1, v1659⟩, ⟨S32x1, v1672⟩] concatenates_S32x1_S32x1_S32x1_S32x1_S32x1_S32x1_S32x1_S32x1_S32x8_d1
    let c0_633 : Index := 0#32
    let c0_634 : Index := 0#32
    let v1676 : Vec F S32x8 .i32 ← Prog.lift (.load arg8 (Rect.unit (s := S32x8) ![0, 0] S32x8.size inb_S32x8_S32x8_0_0).toLoadRect (View.loadsAt_vmem h_S32x8))
    Prog.lift (.store arg8 (Rect.unit (s := S32x8) ![0, 0] S32x8.size inb_S32x8_S32x8_0_0) v1675 Finset.univ (View.stores_vmem_bits_univ h_S32x8 rfl) (.inl rfl))
    pure ⟨⟩
  else do
    pure ⟨⟩
  pure ⟨⟩

theorem part350_pos (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h : k0_cond1 i = 1#1) :
    k0_part350 (F := F) i arg1 harg1 arg2 harg2 arg3 harg3 arg4 harg4 arg5 harg5 arg6 harg6 arg7 harg7 arg8 harg8 arg9 harg9 arg10 harg10 arg11 harg11 arg12 harg12 arg13 harg13 = front i arg1 harg1 arg2 harg2 arg3 harg3 arg4 harg4 arg5 harg5 arg6 harg6 arg7 harg7 arg8 harg8 arg9 harg9 arg10 harg10 arg11 harg11 arg12 harg12 arg13 harg13 >>= fun _ => loads i arg1 harg1 arg2 harg2 arg3 harg3 arg4 harg4 arg5 harg5 arg6 harg6 arg7 harg7 arg8 harg8 arg9 harg9 arg10 harg10 arg11 harg11 arg12 harg12 arg13 harg13 := by
  rw [k0_part350_eq_skeleton]; unfold k0_part350_skel front loads
  simp only [dif_pos h, Prog.bind_assoc]
  rfl

theorem part350_neg (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h : ¬ k0_cond1 i = 1#1) :
    k0_part350 (F := F) i arg1 harg1 arg2 harg2 arg3 harg3 arg4 harg4 arg5 harg5 arg6 harg6 arg7 harg7 arg8 harg8 arg9 harg9 arg10 harg10 arg11 harg11 arg12 harg12 arg13 harg13 = loads i arg1 harg1 arg2 harg2 arg3 harg3 arg4 harg4 arg5 harg5 arg6 harg6 arg7 harg7 arg8 harg8 arg9 harg9 arg10 harg10 arg11 harg11 arg12 harg12 arg13 harg13 := by
  rw [k0_part350_eq_skeleton]; unfold k0_part350_skel loads
  simp only [dif_neg h]

theorem body_eq (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) :
    cc0_fp8_head_top8 (F := F) i arg1 harg1 arg2 harg2 arg3 harg3 arg4 harg4 arg5 harg5 arg6 harg6 arg7 harg7 arg8 harg8 arg9 harg9 arg10 harg10 arg11 harg11 arg12 harg12 arg13 harg13 = pre i arg1 harg1 arg2 harg2 arg3 harg3 arg4 harg4 arg5 harg5 arg6 harg6 arg7 harg7 arg8 harg8 arg9 harg9 arg10 harg10 arg11 harg11 arg12 harg12 arg13 harg13 >>= fun _ => fin i arg1 harg1 arg2 harg2 arg3 harg3 arg4 harg4 arg5 harg5 arg6 harg6 arg7 harg7 arg8 harg8 arg9 harg9 arg10 harg10 arg11 harg11 arg12 harg12 arg13 harg13 := by
  unfold cc0_fp8_head_top8 pre fin
  simp only [Prog.bind_assoc]
  rfl

end Cert.Ideal

end
-- ==== Proof.IdealFront.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.IdealParts

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first region run on whole buffers: what it leaves in the codes, the scale, the table of seen tokens and the two lists. -/
def runFront (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1)
    (X1 : Vec F S32x7168 .bf16) (X2 : Vec F S32x64 .i32) :
    { W : Vec F S32x7168 .fp8e4m3 × Vec F S32x1 .f32 × Vec F S8x32x128 .i32 × Vec F S8x32x128 .f32 × Vec F S8x32x128 .i32 //
      ∀ (f9 : Bf (F := F) c arg9) (f10 : Bf (F := F) c arg10) (f11 : Bf (F := F) c arg11) (f12 : Bf (F := F) c arg12) (f13 : Bf (F := F) c arg13) (E : Set ℕ) (Q : PUnit → sProp 𝕄),
        iprop(pr c arg1 X1 ∗ pr c arg2 X2 ∗ pt c arg9 f9 ∗ pt c arg10 f10 ∗ pt c arg11 f11 ∗ pt c arg12 f12 ∗ pt c arg13 f13 ∗ (iprop(pr c arg1 X1 ∗ pr c arg2 X2 ∗ ow c arg9 W.1 ∗ ow c arg10 W.2.1 ∗ ow c arg11 W.2.2.1 ∗ ow c arg12 W.2.2.2.1 ∗ ow c arg13 W.2.2.2.2) -∗ Q ⟨⟩))
          ⊢ wp frame (wpE (defs₀ (F := F)) Variants.none c none) E (front (F := F) i arg1 harg1 arg2 harg2 arg3 harg3 arg4 harg4 arg5 harg5 arg6 harg6 arg7 harg7 arg8 harg8 arg9 harg9 arg10 harg10 arg11 harg11 arg12 harg12 arg13 harg13) Q } := by
  refine ⟨⟨?_, ?_, ?_, ?_, ?_⟩, fun f9 f10 f11 f12 f13 E Q => ?run⟩
  case run =>
    unfold front
    iintro ⟨H1, H2, H9, H10, H11, H12, H13, Hk⟩
    sl_exec_parts!
    sl_step
    iapply Hk
    isplitl [H1]
    · iexact H1
    isplitl [H2]
    · iexact H2
    isplitl [H9]
    · iapply ow_of (F := F); iexact H9
    isplitl [H10]
    · iapply ow_of (F := F); iexact H10
    isplitl [H11]
    · iapply ow_of (F := F); iexact H11
    isplitl [H12]
    · iapply ow_of (F := F); iexact H12
    iapply ow_of (F := F); iexact H13

end Cert.Ideal

end
-- ==== Proof.IdealFin.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.IdealParts

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last region run on whole buffers: the top values and their indices. -/
def runFin (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : k0_cond2 i = 1#1)
    (X12 : Vec F S8x32x128 .f32) (X13 : Vec F S8x32x128 .i32) :
    { W : Vec F S32x8 .f32 × Vec F S32x8 .i32 //
      ∀ (f7 : Bf (F := F) c arg7) (f8 : Bf (F := F) c arg8) (E : Set ℕ) (Q : PUnit → sProp 𝕄),
        iprop(pt c arg7 f7 ∗ pt c arg8 f8 ∗ pr c arg12 X12 ∗ pr c arg13 X13 ∗ (iprop(ow c arg7 W.1 ∗ ow c arg8 W.2 ∗ pr c arg12 X12 ∗ pr c arg13 X13) -∗ Q ⟨⟩))
          ⊢ wp frame (wpE (defs₀ (F := F)) Variants.none c none) E (fin (F := F) i arg1 harg1 arg2 harg2 arg3 harg3 arg4 harg4 arg5 harg5 arg6 harg6 arg7 harg7 arg8 harg8 arg9 harg9 arg10 harg10 arg11 harg11 arg12 harg12 arg13 harg13) Q } := by
  refine ⟨⟨?_, ?_⟩, fun f7 f8 E Q => ?run⟩
  case run =>
    unfold fin
    iintro ⟨H7, H8, H12, H13, Hk⟩
    sl_exec_parts!
    sl_step
    iapply Hk
    isplitl [H7]
    · iapply ow_of (F := F); iexact H7
    isplitl [H8]
    · iapply ow_of (F := F); iexact H8
    isplitl [H12]
    · iexact H12
    iexact H13

end Cert.Ideal

end
-- ==== Proof.IdealLoads.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.IdealParts

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loads and the product of the block, run on whole buffers: the values they return. -/
def runLoads (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole)
    (X3 : Vec F S32x1 .f32) (X4 : Vec F S512x7168 .fp8e4m3) (X5 : Vec F S1x512 .f32) (X6 : Vec F S1x512 .f32) (X9 : Vec F S32x7168 .fp8e4m3) (X10 : Vec F S32x1 .f32) (X12 : Vec F S8x32x128 .f32) :
    { W : (Σ' (arg0 : BitVec 32) (v16 : FVec F S32x512 .f32) (v18 : FVec F S1x512 .f32) (v20 : FVec F S1x512 .f32) (v22 : FVec F S8x1 .f32) (v24 : FVec F S8x1 .f32), FVec F S8x128 .f32) //
      ∀ (E : Set ℕ) (Q : (Σ' (arg0 : BitVec 32) (v16 : FVec F S32x512 .f32) (v18 : FVec F S1x512 .f32) (v20 : FVec F S1x512 .f32) (v22 : FVec F S8x1 .f32) (v24 : FVec F S8x1 .f32), FVec F S8x128 .f32) → sProp 𝕄),
        iprop(pr c arg3 X3 ∗ pr c arg4 X4 ∗ pr c arg5 X5 ∗ pr c arg6 X6 ∗ pr c arg9 X9 ∗ pr c arg10 X10 ∗ pr c arg12 X12 ∗ (iprop(pr c arg3 X3 ∗ pr c arg4 X4 ∗ pr c arg5 X5 ∗ pr c arg6 X6 ∗ pr c arg9 X9 ∗ pr c arg10 X10 ∗ pr c arg12 X12) -∗ Q W))
          ⊢ wp frame (wpE (defs₀ (F := F)) Variants.none c none) E (loads (F := F) i arg1 harg1 arg2 harg2 arg3 harg3 arg4 harg4 arg5 harg5 arg6 harg6 arg7 harg7 arg8 harg8 arg9 harg9 arg10 harg10 arg11 harg11 arg12 harg12 arg13 harg13) Q } := by
  refine ⟨⟨BitVec.ofNat 32 (i 0).val, ?_, ?_, ?_, ?_, ?_, ?_⟩, fun E Q => ?run⟩
  case run =>
    unfold loads
    iintro ⟨H3, H4, H5, H6, H9, H10, H12, Hk⟩
    sl_exec_parts!
    sl_step
    iapply Hk
    isplitl [H3]
    · iexact H3
    isplitl [H4]
    · iexact H4
    isplitl [H5]
    · iexact H5
    isplitl [H6]
    · iexact H6
    isplitl [H9]
    · iexact H9
    isplitl [H10]
    · iexact H10
    iexact H12

end Cert.Ideal

end
-- ==== Proof.IdealMain.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.IdealParts

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body before its last region, given what its head returns: what the insertions leave in the two lists. -/
def runMain (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole)
    (v16 : FVec F S32x512 .f32) (v18 : FVec F S1x512 .f32) (v20 : FVec F S1x512 .f32) (v22 : FVec F S8x1 .f32) (v24 : FVec F S8x1 .f32) (v26 : FVec F S8x128 .f32)
    (X3 : Vec F S32x1 .f32) (X10 : Vec F S32x1 .f32) (X11 : Vec F S8x32x128 .i32) (X12 : Vec F S8x32x128 .f32) (X13 : Vec F S8x32x128 .i32) :
    { W : Vec F S8x32x128 .f32 × Vec F S8x32x128 .i32 //
      ∀ (E : Set ℕ) (R S : sProp 𝕄) (Q : PUnit → sProp 𝕄),
        (R ⊢ wp frame (wpE (defs₀ (F := F)) Variants.none c none) E (k0_part350 (F := F) i arg1 harg1 arg2 harg2 arg3 harg3 arg4 harg4 arg5 harg5 arg6 harg6 arg7 harg7 arg8 harg8 arg9 harg9 arg10 harg10 arg11 harg11 arg12 harg12 arg13 harg13)
          (fun r => iprop(⌜r = ⟨BitVec.ofNat 32 (i 0).val, v16, v18, v20, v22, v24, v26⟩⌝ ∗ pr c arg3 X3 ∗ pr c arg10 X10 ∗ pr c arg11 X11 ∗ pr c arg12 X12 ∗ pr c arg13 X13 ∗ S))) →
        (iprop(R ∗ (iprop(pr c arg3 X3 ∗ pr c arg10 X10 ∗ pr c arg11 X11 ∗ ow c arg12 W.1 ∗ ow c arg13 W.2 ∗ S) -∗ Q ⟨⟩))
          ⊢ wp frame (wpE (defs₀ (F := F)) Variants.none c none) E (pre (F := F) i arg1 harg1 arg2 harg2 arg3 harg3 arg4 harg4 arg5 harg5 arg6 harg6 arg7 harg7 arg8 harg8 arg9 harg9 arg10 harg10 arg11 harg11 arg12 harg12 arg13 harg13) Q) } := by
  refine ⟨⟨?_, ?_⟩, fun E R S Q hcut => ?run⟩
  case run =>
    unfold pre
    iintro ⟨HR, Hk⟩
    sl_exec_parts!
    cases hk0_part350_0
    sl_step
    iapply Hk
    isplitl [Hk0_part350_1]
    · iexact Hk0_part350_1
    isplitl [Hk0_part350_2]
    · iexact Hk0_part350_2
    isplitl [Hk0_part350_3]
    · iexact Hk0_part350_3
    isplitl [Hk0_part350_4]
    · iapply ow_of (F := F); iexact Hk0_part350_4
    isplitl [Hk0_part350_5]
    · iapply ow_of (F := F); iexact Hk0_part350_5
    iexact Hk0_part350_6

end Cert.Ideal

end
-- ==== Proof.IdealBody.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.IdealFront
public import proofs.«01_k».proof.Proof.IdealFin
public import proofs.«01_k».proof.Proof.IdealLoads
public import proofs.«01_k».proof.Proof.IdealMain

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body carries from point to point: the codes, the scale, the table of seen tokens, the lists' values and their indices. -/
abbrev St (F : FTy → Type) : Type := Vec F S32x7168 .fp8e4m3 × Vec F S32x1 .f32 × Vec F S8x32x128 .i32 × Vec F S8x32x128 .f32 × Vec F S8x32x128 .i32

/-- The two lists after the insertions of one point. -/
def stepV (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (X3 : Vec F S32x1 .f32) (X4 : Vec F S512x7168 .fp8e4m3) (X5 : Vec F S1x512 .f32) (X6 : Vec F S1x512 .f32) (s : St F) : Vec F S8x32x128 .f32 × Vec F S8x32x128 .i32 :=
  (runMain c i arg1 harg1 arg2 harg2 arg3 harg3 arg4 harg4 arg5 harg5 arg6 harg6 arg7 harg7 arg8 harg8 arg9 harg9 arg10 harg10 arg11 harg11 arg12 harg12 arg13 harg13 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.2 X3 s.2.1 s.2.2.1 s.2.2.2.1 s.2.2.2.2).1

/-- The state after the first region. -/
def frontV (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1) (X1 : Vec F S32x7168 .bf16) (X2 : Vec F S32x64 .i32) : St F :=
  (runFront c i arg1 harg1 arg2 harg2 arg3 harg3 arg4 harg4 arg5 harg5 arg6 harg6 arg7 harg7 arg8 harg8 arg9 harg9 arg10 harg10 arg11 harg11 arg12 harg12 arg13 harg13 h1 X1 X2).1

theorem pre_later (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : ¬ k0_cond1 i = 1#1) (X3 : Vec F S32x1 .f32) (X4 : Vec F S512x7168 .fp8e4m3) (X5 : Vec F S1x512 .f32) (X6 : Vec F S1x512 .f32) (s : St F) (E : Set ℕ) (Q : PUnit → sProp 𝕄) :
    iprop(ow c arg3 X3 ∗ ow c arg4 X4 ∗ ow c arg5 X5 ∗ ow c arg6 X6 ∗ ow c arg9 s.1 ∗ ow c arg10 s.2.1 ∗ ow c arg11 s.2.2.1 ∗ ow c arg12 s.2.2.2.1 ∗ ow c arg13 s.2.2.2.2 ∗ (iprop(ow c arg3 X3 ∗ ow c arg4 X4 ∗ ow c arg5 X5 ∗ ow c arg6 X6 ∗ ow c arg9 s.1 ∗ ow c arg10 s.2.1 ∗ ow c arg11 s.2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2) -∗ Q ⟨⟩))
      ⊢ wp frame (wpE (defs₀ (F := F)) Variants.none c none) E (pre (F := F) i arg1 harg1 arg2 harg2 arg3 harg3 arg4 harg4 arg5 harg5 arg6 harg6 arg7 harg7 arg8 harg8 arg9 harg9 arg10 harg10 arg11 harg11 arg12 harg12 arg13 harg13) Q := by
  simp only [pr_eq]
  iintro ⟨H3, H4, H5, H6, H9, H10, H11, H12, H13, Hk⟩
  iapply ((runMain c i arg1 harg1 arg2 harg2 arg3 harg3 arg4 harg4 arg5 harg5 arg6 harg6 arg7 harg7 arg8 harg8 arg9 harg9 arg10 harg10 arg11 harg11 arg12 harg12 arg13 harg13 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.2 X3 s.2.1 s.2.2.1 s.2.2.2.1 s.2.2.2.2).2 E
    iprop(pr c arg3 X3 ∗ pr c arg4 X4 ∗ pr c arg5 X5 ∗ pr c arg6 X6 ∗ pr c arg9 s.1 ∗ pr c arg10 s.2.1 ∗ pr c arg11 s.2.2.1 ∗ pr c arg12 s.2.2.2.1 ∗ pr c arg13 s.2.2.2.2)
    iprop(pr c arg4 X4 ∗ pr c arg5 X5 ∗ pr c arg6 X6 ∗ pr c arg9 s.1) Q ?_)
  case _ =>
    rw [part350_neg (h := h1)]
    iintro ⟨H3, H4, H5, H6, H9, H10, H11, H12, H13⟩
    iapply ((runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).2 E)
    isplitl [H3]
    · iexact H3
    isplitl [H4]
    · iexact H4
    isplitl [H5]
    · iexact H5
    isplitl [H6]
    · iexact H6
    isplitl [H9]
    · iexact H9
    isplitl [H10]
    · iexact H10
    isplitl [H12]
    · iexact H12
    iintro ⟨H3, H4, H5, H6, H9, H10, H12⟩
    isplitr
    · ipureintro; rfl
    isplitl [H3]
    · iexact H3
    isplitl [H10]
    · iexact H10
    isplitl [H11]
    · iexact H11
    isplitl [H12]
    · iexact H12
    isplitl [H13]
    · iexact H13
    isplitl [H4]
    · iexact H4
    isplitl [H5]
    · iexact H5
    isplitl [H6]
    · iexact H6
    iexact H9
  isplitl [H3 H4 H5 H6 H9 H10 H11 H12 H13]
  · isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    iexact H13
  simp only [pr_eq]
  iintro ⟨H3, H10, H11, H12, H13, H4, H5, H6, H9⟩
  iapply Hk
  unfold stepV
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  iexact H13

theorem pre_first (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1) (X1 : Vec F S32x7168 .bf16) (X2 : Vec F S32x64 .i32) (X3 : Vec F S32x1 .f32) (X4 : Vec F S512x7168 .fp8e4m3) (X5 : Vec F S1x512 .f32) (X6 : Vec F S1x512 .f32) (f9 : Bf (F := F) c arg9) (f10 : Bf (F := F) c arg10) (f11 : Bf (F := F) c arg11) (f12 : Bf (F := F) c arg12) (f13 : Bf (F := F) c arg13) (E : Set ℕ) (Q : PUnit → sProp 𝕄) :
    iprop(ow c arg1 X1 ∗ ow c arg2 X2 ∗ ow c arg3 X3 ∗ ow c arg4 X4 ∗ ow c arg5 X5 ∗ ow c arg6 X6 ∗ pt c arg9 f9 ∗ pt c arg10 f10 ∗ pt c arg11 f11 ∗ pt c arg12 f12 ∗ pt c arg13 f13 ∗ (iprop(ow c arg1 X1 ∗ ow c arg2 X2 ∗ ow c arg3 X3 ∗ ow c arg4 X4 ∗ ow c arg5 X5 ∗ ow c arg6 X6 ∗ ow c arg9 (frontV c i arg1 harg1 arg2 harg2 arg3 harg3 arg4 harg4 arg5 harg5 arg6 harg6 arg7 harg7 arg8 harg8 arg9 harg9 arg10 harg10 arg11 harg11 arg12 harg12 arg13 harg13 h1 X1 X2).1 ∗ ow c arg10 (frontV c i arg1 harg1 arg2 harg2 arg3 harg3 arg4 harg4 arg5 harg5 arg6 harg6 arg7 harg7 arg8 harg8 arg9 harg9 arg10 harg10 arg11 harg11 arg12 harg12 arg13 harg13 h1 X1 X2).2.1 ∗ ow c arg11 (frontV c i arg1 harg1 arg2 harg2 arg3 harg3 arg4 harg4 arg5 harg5 arg6 harg6 arg7 harg7 arg8 harg8 arg9 harg9 arg10 harg10 arg11 harg11 arg12 harg12 arg13 harg13 h1 X1 X2).2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).2) -∗ Q ⟨⟩))
      ⊢ wp frame (wpE (defs₀ (F := F)) Variants.none c none) E (pre (F := F) i arg1 harg1 arg2 harg2 arg3 harg3 arg4 harg4 arg5 harg5 arg6 harg6 arg7 harg7 arg8 harg8 arg9 harg9 arg10 harg10 arg11 harg11 arg12 harg12 arg13 harg13) Q := by
  simp only [pr_eq]
  iintro ⟨H1, H2, H3, H4, H5, H6, H9, H10, H11, H12, H13, Hk⟩
  iapply ((runMain c i arg1 harg1 arg2 harg2 arg3 harg3 arg4 harg4 arg5 harg5 arg6 harg6 arg7 harg7 arg8 harg8 arg9 harg9 arg10 harg10 arg11 harg11 arg12 harg12 arg13 harg13 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.2.2.2 X3 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.2).2 E
    iprop(pr c arg1 X1 ∗ pr c arg2 X2 ∗ pr c arg3 X3 ∗ pr c arg4 X4 ∗ pr c arg5 X5 ∗ pr c arg6 X6 ∗ pt c arg9 f9 ∗ pt c arg10 f10 ∗ pt c arg11 f11 ∗ pt c arg12 f12 ∗ pt c arg13 f13)
    iprop(pr c arg1 X1 ∗ pr c arg2 X2 ∗ pr c arg4 X4 ∗ pr c arg5 X5 ∗ pr c arg6 X6 ∗ pr c arg9 (frontV c i arg1 harg1 arg2 harg2 arg3 harg3 arg4 harg4 arg5 harg5 arg6 harg6 arg7 harg7 arg8 harg8 arg9 harg9 arg10 harg10 arg11 harg11 arg12 harg12 arg13 harg13 h1 X1 X2).1) Q ?_)
  case _ =>
    rw [part350_pos (h := h1), wp_bind]
    iintro ⟨H1, H2, H3, H4, H5, H6, H9, H10, H11, H12, H13⟩
    iapply ((runFront c i arg1 harg1 arg2 harg2 arg3 harg3 arg4 harg4 arg5 harg5 arg6 harg6 arg7 harg7 arg8 harg8 arg9 harg9 arg10 harg10 arg11 harg11 arg12 harg12 arg13 harg13 h1 X1 X2).2 f9 f10 f11 f12 f13 E)
    isplitl [H1]
    · iexact H1
    isplitl [H2]
    · iexact H2
    isplitl [H9]
    · iexact H9
    isplitl [H10]
    · iexact H10
    isplitl [H11]
    · iexact H11
    isplitl [H12]
    · iexact H12
    isplitl [H13]
    · iexact H13
    simp only [pr_eq]
    iintro ⟨H1, H2, H9, H10, H11, H12, H13⟩
    iapply ((runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).2 E)
    unfold frontV
    isplitl [H3]
    · iexact H3
    isplitl [H4]
    · iexact H4
    isplitl [H5]
    · iexact H5
    isplitl [H6]
    · iexact H6
    isplitl [H9]
    · iexact H9
    isplitl [H10]
    · iexact H10
    isplitl [H12]
    · iexact H12
    iintro ⟨H3, H4, H5, H6, H9, H10, H12⟩
    isplitr
    · ipureintro; rfl
    isplitl [H3]
    · iexact H3
    isplitl [H10]
    · iexact H10
    isplitl [H11]
    · iexact H11
    isplitl [H12]
    · iexact H12
    isplitl [H13]
    · iexact H13
    isplitl [H1]
    · iexact H1
    isplitl [H2]
    · iexact H2
    isplitl [H4]
    · iexact H4
    isplitl [H5]
    · iexact H5
    isplitl [H6]
    · iexact H6
    iexact H9
  isplitl [H1 H2 H3 H4 H5 H6 H9 H10 H11 H12 H13]
  · isplitl [H1]
    · iexact H1
    isplitl [H2]
    · iexact H2
    isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    iexact H13
  simp only [pr_eq]
  iintro ⟨H3, H10, H11, H12, H13, H1, H2, H4, H5, H6, H9⟩
  iapply Hk
  unfold stepV
  isplitl [H1]
  · iexact H1
  isplitl [H2]
  · iexact H2
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  iexact H13

theorem fin_skip (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : ¬ k0_cond2 i = 1#1) (E : Set ℕ) (Q : PUnit → sProp 𝕄) :
    Q ⟨⟩ ⊢ wp frame (wpE (defs₀ (F := F)) Variants.none c none) E (fin (F := F) i arg1 harg1 arg2 harg2 arg3 harg3 arg4 harg4 arg5 harg5 arg6 harg6 arg7 harg7 arg8 harg8 arg9 harg9 arg10 harg10 arg11 harg11 arg12 harg12 arg13 harg13) Q := by
  unfold fin
  rw [dif_neg h2]
  iintro H
  sl_step
  iexact H

/-- The body at the first point. -/
theorem body_first (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1) (h2 : ¬ k0_cond2 i = 1#1) (X1 : Vec F S32x7168 .bf16) (X2 : Vec F S32x64 .i32) (X3 : Vec F S32x1 .f32) (X4 : Vec F S512x7168 .fp8e4m3) (X5 : Vec F S1x512 .f32) (X6 : Vec F S1x512 .f32) (f9 : Bf (F := F) c arg9) (f10 : Bf (F := F) c arg10) (f11 : Bf (F := F) c arg11) (f12 : Bf (F := F) c arg12) (f13 : Bf (F := F) c arg13) (E : Set ℕ) (Q : PUnit → sProp 𝕄) :
    iprop(ow c arg1 X1 ∗ ow c arg2 X2 ∗ ow c arg3 X3 ∗ ow c arg4 X4 ∗ ow c arg5 X5 ∗ ow c arg6 X6 ∗ pt c arg9 f9 ∗ pt c arg10 f10 ∗ pt c arg11 f11 ∗ pt c arg12 f12 ∗ pt c arg13 f13 ∗ (iprop(ow c arg1 X1 ∗ ow c arg2 X2 ∗ ow c arg3 X3 ∗ ow c arg4 X4 ∗ ow c arg5 X5 ∗ ow c arg6 X6 ∗ ow c arg9 (frontV c i arg1 harg1 arg2 harg2 arg3 harg3 arg4 harg4 arg5 harg5 arg6 harg6 arg7 harg7 arg8 harg8 arg9 harg9 arg10 harg10 arg11 harg11 arg12 harg12 arg13 harg13 h1 X1 X2).1 ∗ ow c arg10 (frontV c i arg1 harg1 arg2 harg2 arg3 harg3 arg4 harg4 arg5 harg5 arg6 harg6 arg7 harg7 arg8 harg8 arg9 harg9 arg10 harg10 arg11 harg11 arg12 harg12 arg13 harg13 h1 X1 X2).2.1 ∗ ow c arg11 (frontV c i arg1 harg1 arg2 harg2 arg3 harg3 arg4 harg4 arg5 harg5 arg6 harg6 arg7 harg7 arg8 harg8 arg9 harg9 arg10 harg10 arg11 harg11 arg12 harg12 arg13 harg13 h1 X1 X2).2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).2) -∗ Q ⟨⟩))
      ⊢ wp frame (wpE (defs₀ (F := F)) Variants.none c none) E (cc0_fp8_head_top8 (F := F) i arg1 harg1 arg2 harg2 arg3 harg3 arg4 harg4 arg5 harg5 arg6 harg6 arg7 harg7 arg8 harg8 arg9 harg9 arg10 harg10 arg11 harg11 arg12 harg12 arg13 harg13) Q := by
  rw [body_eq, wp_bind]
  iintro ⟨H1, H2, H3, H4, H5, H6, H9, H10, H11, H12, H13, Hk⟩
  iapply (pre_first c i arg1 harg1 arg2 harg2 arg3 harg3 arg4 harg4 arg5 harg5 arg6 harg6 arg7 harg7 arg8 harg8 arg9 harg9 arg10 harg10 arg11 harg11 arg12 harg12 arg13 harg13 h1 X1 X2 X3 X4 X5 X6 f9 f10 f11 f12 f13 E _)
  isplitl [H1]
  · iexact H1
  isplitl [H2]
  · iexact H2
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  iintro H
  iapply (fin_skip (h2 := h2))
  iapply Hk
  iexact H

/-- The body at a point that is neither the first nor the last. -/
theorem body_mid (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : ¬ k0_cond1 i = 1#1) (h2 : ¬ k0_cond2 i = 1#1) (X3 : Vec F S32x1 .f32) (X4 : Vec F S512x7168 .fp8e4m3) (X5 : Vec F S1x512 .f32) (X6 : Vec F S1x512 .f32) (s : St F) (E : Set ℕ) (Q : PUnit → sProp 𝕄) :
    iprop(ow c arg3 X3 ∗ ow c arg4 X4 ∗ ow c arg5 X5 ∗ ow c arg6 X6 ∗ ow c arg9 s.1 ∗ ow c arg10 s.2.1 ∗ ow c arg11 s.2.2.1 ∗ ow c arg12 s.2.2.2.1 ∗ ow c arg13 s.2.2.2.2 ∗ (iprop(ow c arg3 X3 ∗ ow c arg4 X4 ∗ ow c arg5 X5 ∗ ow c arg6 X6 ∗ ow c arg9 s.1 ∗ ow c arg10 s.2.1 ∗ ow c arg11 s.2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2) -∗ Q ⟨⟩))
      ⊢ wp frame (wpE (defs₀ (F := F)) Variants.none c none) E (cc0_fp8_head_top8 (F := F) i arg1 harg1 arg2 harg2 arg3 harg3 arg4 harg4 arg5 harg5 arg6 harg6 arg7 harg7 arg8 harg8 arg9 harg9 arg10 harg10 arg11 harg11 arg12 harg12 arg13 harg13) Q := by
  rw [body_eq, wp_bind]
  iintro ⟨H3, H4, H5, H6, H9, H10, H11, H12, H13, Hk⟩
  iapply (pre_later c i arg1 harg1 arg2 harg2 arg3 harg3 arg4 harg4 arg5 harg5 arg6 harg6 arg7 harg7 arg8 harg8 arg9 harg9 arg10 harg10 arg11 harg11 arg12 harg12 arg13 harg13 h1 X3 X4 X5 X6 s E _)
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  iintro H
  iapply (fin_skip (h2 := h2))
  iapply Hk
  iexact H

/-- The top values and indices the last region leaves, from the lists. -/
def finV (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : k0_cond2 i = 1#1) (X12 : Vec F S8x32x128 .f32) (X13 : Vec F S8x32x128 .i32) : Vec F S32x8 .f32 × Vec F S32x8 .i32 := (runFin c i arg1 harg1 arg2 harg2 arg3 harg3 arg4 harg4 arg5 harg5 arg6 harg6 arg7 harg7 arg8 harg8 arg9 harg9 arg10 harg10 arg11 harg11 arg12 harg12 arg13 harg13 h2 X12 X13).1

theorem fin_run (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : k0_cond2 i = 1#1) (X12 : Vec F S8x32x128 .f32) (X13 : Vec F S8x32x128 .i32) (f7 : Bf (F := F) c arg7) (f8 : Bf (F := F) c arg8) (E : Set ℕ) (Q : PUnit → sProp 𝕄) :
    iprop(pt c arg7 f7 ∗ pt c arg8 f8 ∗ ow c arg12 X12 ∗ ow c arg13 X13 ∗ (iprop(ow c arg7 (finV c i arg1 harg1 arg2 harg2 arg3 harg3 arg4 harg4 arg5 harg5 arg6 harg6 arg7 harg7 arg8 harg8 arg9 harg9 arg10 harg10 arg11 harg11 arg12 harg12 arg13 harg13 h2 X12 X13).1 ∗ ow c arg8 (finV c i arg1 harg1 arg2 harg2 arg3 harg3 arg4 harg4 arg5 harg5 arg6 harg6 arg7 harg7 arg8 harg8 arg9 harg9 arg10 harg10 arg11 harg11 arg12 harg12 arg13 harg13 h2 X12 X13).2 ∗ ow c arg12 X12 ∗ ow c arg13 X13) -∗ Q ⟨⟩))
      ⊢ wp frame (wpE (defs₀ (F := F)) Variants.none c none) E (fin (F := F) i arg1 harg1 arg2 harg2 arg3 harg3 arg4 harg4 arg5 harg5 arg6 harg6 arg7 harg7 arg8 harg8 arg9 harg9 arg10 harg10 arg11 harg11 arg12 harg12 arg13 harg13) Q := by
  rw [pr_eq c arg12 X12, pr_eq c arg13 X13]
  exact (runFin c i arg1 harg1 arg2 harg2 arg3 harg3 arg4 harg4 arg5 harg5 arg6 harg6 arg7 harg7 arg8 harg8 arg9 harg9 arg10 harg10 arg11 harg11 arg12 harg12 arg13 harg13 h2 X12 X13).2 f7 f8 E Q

/-- The body at the last point. -/
theorem body_last (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : ¬ k0_cond1 i = 1#1) (h2 : k0_cond2 i = 1#1) (X3 : Vec F S32x1 .f32) (X4 : Vec F S512x7168 .fp8e4m3) (X5 : Vec F S1x512 .f32) (X6 : Vec F S1x512 .f32) (s : St F) (f7 : Bf (F := F) c arg7) (f8 : Bf (F := F) c arg8) (E : Set ℕ) (Q : PUnit → sProp 𝕄) :
    iprop(ow c arg3 X3 ∗ ow c arg4 X4 ∗ ow c arg5 X5 ∗ ow c arg6 X6 ∗ ow c arg9 s.1 ∗ ow c arg10 s.2.1 ∗ ow c arg11 s.2.2.1 ∗ ow c arg12 s.2.2.2.1 ∗ ow c arg13 s.2.2.2.2 ∗ pt c arg7 f7 ∗ pt c arg8 f8 ∗ (iprop(ow c arg3 X3 ∗ ow c arg4 X4 ∗ ow c arg5 X5 ∗ ow c arg6 X6 ∗ ow c arg9 s.1 ∗ ow c arg10 s.2.1 ∗ ow c arg11 s.2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2 ∗ ow c arg7 (finV c i arg1 harg1 arg2 harg2 arg3 harg3 arg4 harg4 arg5 harg5 arg6 harg6 arg7 harg7 arg8 harg8 arg9 harg9 arg10 harg10 arg11 harg11 arg12 harg12 arg13 harg13 h2 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2).1 ∗ ow c arg8 (finV c i arg1 harg1 arg2 harg2 arg3 harg3 arg4 harg4 arg5 harg5 arg6 harg6 arg7 harg7 arg8 harg8 arg9 harg9 arg10 harg10 arg11 harg11 arg12 harg12 arg13 harg13 h2 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2).2) -∗ Q ⟨⟩))
      ⊢ wp frame (wpE (defs₀ (F := F)) Variants.none c none) E (cc0_fp8_head_top8 (F := F) i arg1 harg1 arg2 harg2 arg3 harg3 arg4 harg4 arg5 harg5 arg6 harg6 arg7 harg7 arg8 harg8 arg9 harg9 arg10 harg10 arg11 harg11 arg12 harg12 arg13 harg13) Q := by
  rw [body_eq, wp_bind]
  iintro ⟨H3, H4, H5, H6, H9, H10, H11, H12, H13, H7, H8, Hk⟩
  iapply (pre_later c i arg1 harg1 arg2 harg2 arg3 harg3 arg4 harg4 arg5 harg5 arg6 harg6 arg7 harg7 arg8 harg8 arg9 harg9 arg10 harg10 arg11 harg11 arg12 harg12 arg13 harg13 h1 X3 X4 X5 X6 s E _)
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  iintro ⟨H3, H4, H5, H6, H9, H10, H11, H12, H13⟩
  iapply (fin_run c i arg1 harg1 arg2 harg2 arg3 harg3 arg4 harg4 arg5 harg5 arg6 harg6 arg7 harg7 arg8 harg8 arg9 harg9 arg10 harg10 arg11 harg11 arg12 harg12 arg13 harg13 h2 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2 f7 f8 E)
  isplitl [H7]
  · iexact H7
  isplitl [H8]
  · iexact H8
  isplitl [H12]
  · iexact H12
  isplitl [H13]
  · iexact H13
  iintro ⟨H7, H8, H12, H13⟩
  iapply Hk
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  isplitl [H7]
  · iexact H7
  iexact H8

end Cert.Ideal

end
-- ==== Proof.IdealCert.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.IdealBody

@[expose] public section

set_option maxRecDepth 65536

noncomputable section

namespace Cert.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt63 (t : Fin cfg0.N) : t.val < 63 := by
  have h : t.val < grid0.N := t.isLt
  rwa [N_0] at h

/-- Where the two conditions hold: the first point, the last point. -/
theorem cond1_iff (t : Fin cfg0.N) : k0_cond1 (grid0.coords t) = 1#1 ↔ t.val = 0 := by
  have key : ∀ t : Fin grid0.N, k0_cond1 (grid0.coords t) = 1#1 ↔ t.val = 0 := by decide +kernel
  exact key t
theorem cond2_iff (t : Fin cfg0.N) : k0_cond2 (grid0.coords t) = 1#1 ↔ t.val = 62 := by
  have key : ∀ t : Fin grid0.N, k0_cond2 (grid0.coords t) = 1#1 ↔ t.val = 62 := by decide +kernel
  exact key t

/-- The two lists after point `t`'s insertions, from the state before it. -/
def stepAt (c : Dev nD) (t : Fin cfg0.N) (s : St F) : Vec F S8x32x128 .f32 × Vec F S8x32x128 .i32 :=
  stepV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (iblk m c 2 t) (iblk m c 3 t) (iblk m c 4 t) (iblk m c 5 t) s

/-- The state the first region leaves, at a point where it runs. -/
def frontAt (c : Dev nD) (t : Fin cfg0.N) (h : k0_cond1 (grid0.coords t) = 1#1) : St F :=
  frontV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h (iblk m c 0 t) (iblk m c 1 t)

/-- What the last region leaves, at a point where it runs. -/
def finAt (c : Dev nD) (t : Fin cfg0.N) (h : k0_cond2 (grid0.coords t) = 1#1) (s : St F) : Vec F S32x8 .f32 × Vec F S32x8 .i32 :=
  finV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h s.2.2.2.1 s.2.2.2.2

/-- The state with its two lists replaced. -/
def St.lists (s : St F) (p : Vec F S8x32x128 .f32 × Vec F S8x32x128 .i32) : St F := (s.1, s.2.1, s.2.2.1, p.1, p.2)

/-- The state after point `n`. -/
def stateAt (c : Dev nD) : (n : ℕ) → n < cfg0.N → St F
  | 0, h => (frontAt m c ⟨0, h⟩ ((cond1_iff _).mpr rfl)).lists (stepAt m c ⟨0, h⟩ (frontAt m c ⟨0, h⟩ ((cond1_iff _).mpr rfl)))
  | n + 1, h => (stateAt c n (Nat.lt_of_succ_lt h)).lists (stepAt m c ⟨n + 1, h⟩ (stateAt c n (Nat.lt_of_succ_lt h)))

theorem stateAt_zero (c : Dev nD) (h : 0 < cfg0.N) : stateAt m c 0 h
    = (frontAt m c ⟨0, h⟩ ((cond1_iff _).mpr rfl)).lists (stepAt m c ⟨0, h⟩ (frontAt m c ⟨0, h⟩ ((cond1_iff _).mpr rfl))) := rfl
theorem stateAt_succ (c : Dev nD) (n : ℕ) (h : n + 1 < cfg0.N) : stateAt m c (n + 1) h
    = (stateAt m c n (Nat.lt_of_succ_lt h)).lists (stepAt m c ⟨n + 1, h⟩ (stateAt m c n (Nat.lt_of_succ_lt h))) := rfl

theorem lt62 : 61 + 1 < cfg0.N := by show 62 < grid0.N; rw [N_0]; decide

/-- The top values and indices: what the last region leaves at the last point. -/
def topAt (c : Dev nD) : Vec F S32x8 .f32 × Vec F S32x8 .i32 :=
  finAt c ⟨61 + 1, lt62⟩ ((cond2_iff _).mpr rfl) (stateAt m c (61 + 1) lt62)

theorem topAt_eq (c : Dev nD) (n : ℕ) (h : n + 1 < cfg0.N) (hl : n + 1 = 62) :
    topAt m c = finAt c ⟨n + 1, h⟩ ((cond2_iff _).mpr hl) (stateAt m c (n + 1) h) := by
  obtain rfl : n = 61 := by omega
  rfl

/-- What the kernel's own buffers hold before point `t` (`t = 0`: anything). -/
def carried (c : Dev nD) : (n : ℕ) → n ≤ cfg0.N → sProp 𝕄
  | 0, _ => Pipeline.ΦA spec0 c
  | n + 1, h => iprop((ow c (Memref.whole cc0_scratch0) (stateAt m c n h).2.2.1 ∗ ow c (Memref.whole cc0_scratch1) (stateAt m c n h).2.2.2.1
      ∗ ow c (Memref.whole cc0_scratch2) (stateAt m c n h).2.2.2.2) ∗ ∃ r, prngReg c r)

/-- The proof data: every array as the region finds it; after the body each input at its block, the codes and the scale as
    computed at the first point, the top values and indices as computed at the last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (topAt m c).1
    | ⟨7, _⟩ => (topAt m c).2
    | ⟨8, _⟩ => (stateAt m c t.val t.isLt).1
    | ⟨9, _⟩ => (stateAt m c t.val t.isLt).2.1
  Φ t := carried m c t.val (Nat.lt_succ_iff.mp t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (topAt m c).1 := by dsimp only [dats]
theorem after_7 (c : Dev nD) (t : Fin cfg0.N) : (dats m 0 c).after 7 t = (topAt m c).2 := by dsimp only [dats]
theorem after_8 (c : Dev nD) (t : Fin cfg0.N) : (dats m 0 c).after 8 t = (stateAt m c t.val t.isLt).1 := by dsimp only [dats]
theorem after_9 (c : Dev nD) (t : Fin cfg0.N) : (dats m 0 c).after 9 t = (stateAt m c t.val t.isLt).2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem idle_6 (t : Fin cfg0.N) : cfg0.idle 6 (cfg0.grid.coords t) = !(k0_cond2 (grid0.coords t) == 1#1) := rfl
theorem idle_7 (t : Fin cfg0.N) : cfg0.idle 7 (cfg0.grid.coords t) = !(k0_cond2 (grid0.coords t) == 1#1) := rfl
theorem idle_8 (t : Fin cfg0.N) : cfg0.idle 8 (cfg0.grid.coords t) = !(k0_cond1 (grid0.coords t) == 1#1) := rfl
theorem fresh_8 : ∀ n, n < cfg0.N → cfg0.fresh 8 (n + 1) = decide (n = 62)
  | 0, h => by
    rw [Pipeline.Cfg.fresh_succ cfg0 8 0 h, idle_8, (cond1_iff ⟨0, h⟩).mpr rfl]
    have hf : (cfg0.win 8).flush ⟨0, h⟩ = false := by
      rw [Bool.eq_false_iff]; intro hc; have := (flush0_8 _).mp hc; simp at this
    rw [hf]; rfl
  | n + 1, h => by
    rw [Pipeline.Cfg.fresh_succ cfg0 8 (n + 1) h, fresh_8 n (Nat.lt_of_succ_lt h)]
    have h3 : n + 1 < 63 := lt63 ⟨n + 1, h⟩
    have hn : decide (n = 62) = false := by simp; omega
    rw [hn, Bool.and_false, Bool.or_false, Bool.eq_iff_iff, flush0_8, decide_eq_true_iff]
    show (n + 1) % 63 = 62 ↔ _
    omega
theorem before_8 (c : Dev nD) (n : ℕ) (h : n + 1 < cfg0.N) (d) : (dats m 0 c).before 8 ⟨n + 1, h⟩ d = (dats m 0 c).after 8 ⟨n, Nat.lt_of_succ_lt h⟩ := by
  have h3 : n + 1 < 63 := lt63 ⟨n + 1, h⟩
  rw [(dats m 0 c).before_out_traj 8 rfl (fun _ _ => rfl) (fun t ht _ _ => ?_) (n + 1) ⟨n + 1, h⟩ rfl d]
  · rw [if_neg (by rw [fresh_8 n (Nat.lt_of_succ_lt h)]; simp; omega)]; rfl
  · obtain ⟨tv, htv⟩ := t
    cases tv with
    | zero => exact absurd rfl ht
    | succ j => rw [after_8, after_8]; rfl
theorem idle_9 (t : Fin cfg0.N) : cfg0.idle 9 (cfg0.grid.coords t) = !(k0_cond1 (grid0.coords t) == 1#1) := rfl
theorem fresh_9 : ∀ n, n < cfg0.N → cfg0.fresh 9 (n + 1) = decide (n = 62)
  | 0, h => by
    rw [Pipeline.Cfg.fresh_succ cfg0 9 0 h, idle_9, (cond1_iff ⟨0, h⟩).mpr rfl]
    have hf : (cfg0.win 9).flush ⟨0, h⟩ = false := by
      rw [Bool.eq_false_iff]; intro hc; have := (flush0_9 _).mp hc; simp at this
    rw [hf]; rfl
  | n + 1, h => by
    rw [Pipeline.Cfg.fresh_succ cfg0 9 (n + 1) h, fresh_9 n (Nat.lt_of_succ_lt h)]
    have h3 : n + 1 < 63 := lt63 ⟨n + 1, h⟩
    have hn : decide (n = 62) = false := by simp; omega
    rw [hn, Bool.and_false, Bool.or_false, Bool.eq_iff_iff, flush0_9, decide_eq_true_iff]
    show (n + 1) % 63 = 62 ↔ _
    omega
theorem before_9 (c : Dev nD) (n : ℕ) (h : n + 1 < cfg0.N) (d) : (dats m 0 c).before 9 ⟨n + 1, h⟩ d = (dats m 0 c).after 9 ⟨n, Nat.lt_of_succ_lt h⟩ := by
  have h3 : n + 1 < 63 := lt63 ⟨n + 1, h⟩
  rw [(dats m 0 c).before_out_traj 9 rfl (fun _ _ => rfl) (fun t ht _ _ => ?_) (n + 1) ⟨n + 1, h⟩ rfl d]
  · rw [if_neg (by rw [fresh_9 n (Nat.lt_of_succ_lt h)]; simp; omega)]; rfl
  · obtain ⟨tv, htv⟩ := t
    cases tv with
    | zero => exact absurd rfl ht
    | succ j => rw [after_9, after_9]; rfl

theorem whole_eq (c : Dev nD) (b : Ref sig .tc) (f : b.ty.Contents (Elt F)) :
    pt c (Memref.whole b) f = (((c : Thread nD τ).loc b) ↦{fullShare} f : sProp 𝕄) := by
  unfold pt; simp only [Memref.view_whole, View.set_whole]

theorem pr_of (c : Dev nD) {sp : Space} {S : Shape} {e : EltTy} (M : Memref sig .tc sp S e) (X : Vec F S e) :
    ow (F := F) c M X ⊢ pr c M X := by rw [pr_eq]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- What it leaves in a window that is written at one point only: as found, or what the proof data says. -/
def leaves (c : Dev nD) (w : Fin 10) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ leaves m c 6 t ∗ leaves m c 7 t ∗ leaves m c 8 t ∗ leaves m c 9 t)

theorem leaves_live (c : Dev nD) (w : Fin 10) (t : Fin cfg0.N) (h : cfg0.idle w (cfg0.grid.coords t) = false) :
    leaves m c w t = owns (c : Thread nD τ) ((cfg0.win w).stage (cfg0.slots t w)) fullShare ((dats m 0 c).after w t) := by
  unfold leaves; rw [h]
theorem leaves_idle (c : Dev nD) (w : Fin 10) (t : Fin cfg0.N) (h : cfg0.idle w (cfg0.grid.coords t) = true) (hf : (cfg0.win w).flush t = false) :
    leaves m c w t = iprop(∃ d, owns (c : Thread nD τ) ((cfg0.win w).stage (cfg0.slots t w)) fullShare ((dats m 0 c).before w t d)) := by
  unfold leaves; rw [h, hf]
theorem leaves_flushed (c : Dev nD) (w : Fin 10) (t : Fin cfg0.N) (h : cfg0.idle w (cfg0.grid.coords t) = true) (hf : (cfg0.win w).flush t = true) :
    leaves m c w t = owns (c : Thread nD τ) ((cfg0.win w).stage (cfg0.slots t w)) fullShare ((dats m 0 c).after w t) := by
  unfold leaves; rw [h, hf]

set_option maxHeartbeats 1000000 in
theorem sound_first (c : Dev nD) (h : 0 < cfg0.N) :
    bodyPre m c ⟨0, h⟩ ⊢ wp frame (wpE (defs₀ (F := F)) Variants.none c none) Set.univ (bodyAt0 ⟨0, h⟩) (fun _ => bodyPost m c ⟨0, h⟩) := by
  have h1 : k0_cond1 (grid0.coords ⟨0, h⟩) = 1#1 := (cond1_iff _).mpr rfl
  have h2 : ¬ k0_cond2 (grid0.coords ⟨0, h⟩) = 1#1 := fun e => by have := (cond2_iff _).mp e; simp at this
  have i6 : cfg0.idle 6 (cfg0.grid.coords ⟨0, h⟩) = true := by rw [idle_6]; simp [h2]
  have i7 : cfg0.idle 7 (cfg0.grid.coords ⟨0, h⟩) = true := by rw [idle_7]; simp [h2]
  have i8 : cfg0.idle 8 (cfg0.grid.coords ⟨0, h⟩) = false := by rw [idle_8]; simp [h1]
  have i9 : cfg0.idle 9 (cfg0.grid.coords ⟨0, h⟩) = false := by rw [idle_9]; simp [h1]
  have g6 : (cfg0.win 6).flush ⟨0, h⟩ = false := by rw [Bool.eq_false_iff]; intro hc; have := (flush0_6 _).mp hc; simp at this
  have g7 : (cfg0.win 7).flush ⟨0, h⟩ = false := by rw [Bool.eq_false_iff]; intro hc; have := (flush0_7 _).mp hc; simp at this
  unfold bodyPre bodyPost bodyAt0
  simp only [before_0, before_1, before_2, before_3, before_4, before_5]
  rw [show (dats m 0 c).owesAt () (Fin.succ ⟨0, h⟩) = (dats m 0 c).owesAt () (Fin.castSucc ⟨0, h⟩) from rfl,
    after_0, after_1, after_2, after_3, after_4, after_5]
  rw [leaves_idle m c 6 _ i6 g6, leaves_idle m c 7 _ i7 g7, leaves_live m c 8 _ i8, leaves_live m c 9 _ i9, after_8, after_9]
  rw [show (dats m 0 c).Φ (Fin.castSucc ⟨0, h⟩) = Pipeline.ΦA spec0 c from rfl,
    show (dats m 0 c).Φ (Fin.succ ⟨0, h⟩) = carried m c 1 h from rfl]
  unfold Pipeline.ΦA carried
  rw [scopedRest0_eq]
  simp only [stateAt_zero, St.lists, stepAt, frontAt]
  iintro ⟨⟨⟨⟨%g11, H11⟩, ⟨%g12, H12⟩, ⟨%g13, H13⟩⟩, Hp⟩, Ho, ⟨%d0, H0⟩, ⟨%d1, H1⟩, ⟨%d2, H2⟩, ⟨%d3, H3⟩, ⟨%d4, H4⟩, ⟨%d5, H5⟩, H6, H7, ⟨%d8, H8⟩, ⟨%d9, H9⟩⟩
  iapply (body_first c (grid0.coords ⟨0, h⟩) (win0_0.stage (cfg0.slots ⟨0, h⟩ 0)) (hstage0_0 ((cfg0.slots ⟨0, h⟩ 0).cast nbuf0_0)) (win0_1.stage (cfg0.slots ⟨0, h⟩ 1)) (hstage0_1 ((cfg0.slots ⟨0, h⟩ 1).cast nbuf0_1)) (win0_2.stage (cfg0.slots ⟨0, h⟩ 2)) (hstage0_2 ((cfg0.slots ⟨0, h⟩ 2).cast nbuf0_2)) (win0_3.stage (cfg0.slots ⟨0, h⟩ 3)) (hstage0_3 ((cfg0.slots ⟨0, h⟩ 3).cast nbuf0_3)) (win0_4.stage (cfg0.slots ⟨0, h⟩ 4)) (hstage0_4 ((cfg0.slots ⟨0, h⟩ 4).cast nbuf0_4)) (win0_5.stage (cfg0.slots ⟨0, h⟩ 5)) (hstage0_5 ((cfg0.slots ⟨0, h⟩ 5).cast nbuf0_5)) (win0_6.stage (cfg0.slots ⟨0, h⟩ 6)) (hstage0_6 ((cfg0.slots ⟨0, h⟩ 6).cast nbuf0_6)) (win0_7.stage (cfg0.slots ⟨0, h⟩ 7)) (hstage0_7 ((cfg0.slots ⟨0, h⟩ 7).cast nbuf0_7)) (win0_8.stage (cfg0.slots ⟨0, h⟩ 8)) (hstage0_8 ((cfg0.slots ⟨0, h⟩ 8).cast nbuf0_8)) (win0_9.stage (cfg0.slots ⟨0, h⟩ 9)) (hstage0_9 ((cfg0.slots ⟨0, h⟩ 9).cast nbuf0_9)) (Memref.whole cc0_scratch0) (Memref.isWhole_whole _) (Memref.whole cc0_scratch1) (Memref.isWhole_whole _) (Memref.whole cc0_scratch2) (Memref.isWhole_whole _) h1 h2 (iblk m c 0 ⟨0, h⟩) (iblk m c 1 ⟨0, h⟩) (iblk m c 2 ⟨0, h⟩) (iblk m c 3 ⟨0, h⟩) (iblk m c 4 ⟨0, h⟩) (iblk m c 5 ⟨0, h⟩) ((st0_8 ⟨0, h⟩).view.rep ((dats m 0 c).before 8 ⟨0, h⟩ d8)) ((st0_9 ⟨0, h⟩).view.rep ((dats m 0 c).before 9 ⟨0, h⟩ d9)) g11 g12 g13 Set.univ _)
  isplitl [H0]
  · iexact H0
  isplitl [H1]
  · iexact H1
  isplitl [H2]
  · iexact H2
  isplitl [H3]
  · iexact H3
  isplitl [H4]
  · iexact H4
  isplitl [H5]
  · iexact H5
  isplitl [H8]
  · iapply (pr_of (F := F)); iexact H8
  isplitl [H9]
  · iapply (pr_of (F := F)); iexact H9
  isplitl [H11]
  · rw [whole_eq]; iexact H11
  isplitl [H12]
  · rw [whole_eq]; iexact H12
  isplitl [H13]
  · rw [whole_eq]; iexact H13
  iintro ⟨H0, H1, H2, H3, H4, H5, H8, H9, H11, H12, H13⟩
  isplitl [H11 H12 H13 Hp]
  · isplitr [Hp]
    · isplitl [H11]; · iexact H11
      isplitl [H12]; · iexact H12
      iexact H13
    · iexact Hp
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

set_option maxHeartbeats 1000000 in
theorem sound_mid (c : Dev nD) (n : ℕ) (h : n + 1 < cfg0.N) (hl : n + 1 ≠ 62) :
    bodyPre m c ⟨n + 1, h⟩ ⊢ wp frame (wpE (defs₀ (F := F)) Variants.none c none) Set.univ (bodyAt0 ⟨n + 1, h⟩) (fun _ => bodyPost m c ⟨n + 1, h⟩) := by
  have h3 : n + 1 < 63 := lt63 ⟨n + 1, h⟩
  have h1 : ¬ k0_cond1 (grid0.coords ⟨n + 1, h⟩) = 1#1 := fun e => absurd ((cond1_iff _).mp e) (Nat.succ_ne_zero n)
  have i8 : cfg0.idle 8 (cfg0.grid.coords ⟨n + 1, h⟩) = true := by rw [idle_8]; simp [h1]
  have i9 : cfg0.idle 9 (cfg0.grid.coords ⟨n + 1, h⟩) = true := by rw [idle_9]; simp [h1]
  have h2 : ¬ k0_cond2 (grid0.coords ⟨n + 1, h⟩) = 1#1 := fun e => hl ((cond2_iff _).mp e)
  have i6 : cfg0.idle 6 (cfg0.grid.coords ⟨n + 1, h⟩) = true := by rw [idle_6]; simp [h2]
  have i7 : cfg0.idle 7 (cfg0.grid.coords ⟨n + 1, h⟩) = true := by rw [idle_7]; simp [h2]
  have g6 : (cfg0.win 6).flush ⟨n + 1, h⟩ = false := by
    rw [Bool.eq_false_iff]; intro hc; have h4 : (n + 1) % 63 = 62 := (flush0_6 _).mp hc; omega
  have g7 : (cfg0.win 7).flush ⟨n + 1, h⟩ = false := by
    rw [Bool.eq_false_iff]; intro hc; have h4 : (n + 1) % 63 = 62 := (flush0_7 _).mp hc; omega
  have g8 : (cfg0.win 8).flush ⟨n + 1, h⟩ = false := by
    rw [Bool.eq_false_iff]; intro hc; have h4 : (n + 1) % 63 = 62 := (flush0_8 _).mp hc; omega
  have g9 : (cfg0.win 9).flush ⟨n + 1, h⟩ = false := by
    rw [Bool.eq_false_iff]; intro hc; have h4 : (n + 1) % 63 = 62 := (flush0_9 _).mp hc; omega
  unfold bodyPre bodyPost bodyAt0
  simp only [before_0, before_1, before_2, before_3, before_4, before_5]
  rw [show (dats m 0 c).owesAt () (Fin.succ ⟨n + 1, h⟩) = (dats m 0 c).owesAt () (Fin.castSucc ⟨n + 1, h⟩) from rfl,
    after_0, after_1, after_2, after_3, after_4, after_5]
  rw [leaves_idle m c 6 _ i6 g6, leaves_idle m c 7 _ i7 g7, leaves_idle m c 8 _ i8 g8, leaves_idle m c 9 _ i9 g9]
  simp only [before_8, before_9, after_8, after_9]
  rw [show (dats m 0 c).Φ (Fin.castSucc ⟨n + 1, h⟩) = carried m c (n + 1) (Nat.le_of_lt h) from rfl,
    show (dats m 0 c).Φ (Fin.succ ⟨n + 1, h⟩) = carried m c (n + 2) h from rfl]
  unfold carried
  skip
  simp only [stateAt_succ m c n h]
  simp only [St.lists, stepAt]
  iintro ⟨⟨⟨H11, H12, H13⟩, Hp⟩, Ho, ⟨%d0, H0⟩, ⟨%d1, H1⟩, ⟨%d2, H2⟩, ⟨%d3, H3⟩, ⟨%d4, H4⟩, ⟨%d5, H5⟩, H6, H7, ⟨%d8, H8⟩, ⟨%d9, H9⟩⟩
  iapply (body_mid c (grid0.coords ⟨n + 1, h⟩) (win0_0.stage (cfg0.slots ⟨n + 1, h⟩ 0)) (hstage0_0 ((cfg0.slots ⟨n + 1, h⟩ 0).cast nbuf0_0)) (win0_1.stage (cfg0.slots ⟨n + 1, h⟩ 1)) (hstage0_1 ((cfg0.slots ⟨n + 1, h⟩ 1).cast nbuf0_1)) (win0_2.stage (cfg0.slots ⟨n + 1, h⟩ 2)) (hstage0_2 ((cfg0.slots ⟨n + 1, h⟩ 2).cast nbuf0_2)) (win0_3.stage (cfg0.slots ⟨n + 1, h⟩ 3)) (hstage0_3 ((cfg0.slots ⟨n + 1, h⟩ 3).cast nbuf0_3)) (win0_4.stage (cfg0.slots ⟨n + 1, h⟩ 4)) (hstage0_4 ((cfg0.slots ⟨n + 1, h⟩ 4).cast nbuf0_4)) (win0_5.stage (cfg0.slots ⟨n + 1, h⟩ 5)) (hstage0_5 ((cfg0.slots ⟨n + 1, h⟩ 5).cast nbuf0_5)) (win0_6.stage (cfg0.slots ⟨n + 1, h⟩ 6)) (hstage0_6 ((cfg0.slots ⟨n + 1, h⟩ 6).cast nbuf0_6)) (win0_7.stage (cfg0.slots ⟨n + 1, h⟩ 7)) (hstage0_7 ((cfg0.slots ⟨n + 1, h⟩ 7).cast nbuf0_7)) (win0_8.stage (cfg0.slots ⟨n + 1, h⟩ 8)) (hstage0_8 ((cfg0.slots ⟨n + 1, h⟩ 8).cast nbuf0_8)) (win0_9.stage (cfg0.slots ⟨n + 1, h⟩ 9)) (hstage0_9 ((cfg0.slots ⟨n + 1, h⟩ 9).cast nbuf0_9)) (Memref.whole cc0_scratch0) (Memref.isWhole_whole _) (Memref.whole cc0_scratch1) (Memref.isWhole_whole _) (Memref.whole cc0_scratch2) (Memref.isWhole_whole _) h1 h2 (iblk m c 2 ⟨n + 1, h⟩) (iblk m c 3 ⟨n + 1, h⟩) (iblk m c 4 ⟨n + 1, h⟩) (iblk m c 5 ⟨n + 1, h⟩) (stateAt m c n (Nat.lt_of_succ_lt h)) Set.univ _)
  isplitl [H2]
  · iexact H2
  isplitl [H3]
  · iexact H3
  isplitl [H4]
  · iexact H4
  isplitl [H5]
  · iexact H5
  isplitl [H8]
  · iexact H8
  isplitl [H9]
  · iexact H9
  isplitl [H11]
  · iexact H11
  isplitl [H12]
  · iexact H12
  isplitl [H13]
  · iexact H13
  iintro ⟨H2, H3, H4, H5, H8, H9, H11, H12, H13⟩
  isplitl [H11 H12 H13 Hp]
  · isplitr [Hp]
    · isplitl [H11]; · iexact H11
      isplitl [H12]; · iexact H12
      iexact H13
    · iexact Hp
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists d8; iexact H8
  iexists d9; iexact H9

set_option maxHeartbeats 1000000 in
theorem sound_last (c : Dev nD) (n : ℕ) (h : n + 1 < cfg0.N) (hl : n + 1 = 62) :
    bodyPre m c ⟨n + 1, h⟩ ⊢ wp frame (wpE (defs₀ (F := F)) Variants.none c none) Set.univ (bodyAt0 ⟨n + 1, h⟩) (fun _ => bodyPost m c ⟨n + 1, h⟩) := by
  have h3 : n + 1 < 63 := lt63 ⟨n + 1, h⟩
  have h1 : ¬ k0_cond1 (grid0.coords ⟨n + 1, h⟩) = 1#1 := fun e => absurd ((cond1_iff _).mp e) (Nat.succ_ne_zero n)
  have i8 : cfg0.idle 8 (cfg0.grid.coords ⟨n + 1, h⟩) = true := by rw [idle_8]; simp [h1]
  have i9 : cfg0.idle 9 (cfg0.grid.coords ⟨n + 1, h⟩) = true := by rw [idle_9]; simp [h1]
  have h2 : k0_cond2 (grid0.coords ⟨n + 1, h⟩) = 1#1 := (cond2_iff _).mpr hl
  have i6 : cfg0.idle 6 (cfg0.grid.coords ⟨n + 1, h⟩) = false := by rw [idle_6]; simp [h2]
  have i7 : cfg0.idle 7 (cfg0.grid.coords ⟨n + 1, h⟩) = false := by rw [idle_7]; simp [h2]
  have g8 : (cfg0.win 8).flush ⟨n + 1, h⟩ = true := (flush0_8 _).mpr (by show (n + 1) % 63 = 62; omega)
  have g9 : (cfg0.win 9).flush ⟨n + 1, h⟩ = true := (flush0_9 _).mpr (by show (n + 1) % 63 = 62; omega)
  unfold bodyPre bodyPost bodyAt0
  simp only [before_0, before_1, before_2, before_3, before_4, before_5]
  rw [show (dats m 0 c).owesAt () (Fin.succ ⟨n + 1, h⟩) = (dats m 0 c).owesAt () (Fin.castSucc ⟨n + 1, h⟩) from rfl,
    after_0, after_1, after_2, after_3, after_4, after_5]
  rw [leaves_live m c 6 _ i6, leaves_live m c 7 _ i7, leaves_flushed m c 8 _ i8 g8, leaves_flushed m c 9 _ i9 g9, after_6, after_7, after_8, after_9]
  simp only [before_8, before_9, after_8, after_9]
  rw [show (dats m 0 c).Φ (Fin.castSucc ⟨n + 1, h⟩) = carried m c (n + 1) (Nat.le_of_lt h) from rfl,
    show (dats m 0 c).Φ (Fin.succ ⟨n + 1, h⟩) = carried m c (n + 2) h from rfl]
  unfold carried
  rw [topAt_eq m c n h hl]; unfold finAt
  simp only [stateAt_succ m c n h]
  simp only [St.lists, stepAt]
  iintro ⟨⟨⟨H11, H12, H13⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_last c (grid0.coords ⟨n + 1, h⟩) (win0_0.stage (cfg0.slots ⟨n + 1, h⟩ 0)) (hstage0_0 ((cfg0.slots ⟨n + 1, h⟩ 0).cast nbuf0_0)) (win0_1.stage (cfg0.slots ⟨n + 1, h⟩ 1)) (hstage0_1 ((cfg0.slots ⟨n + 1, h⟩ 1).cast nbuf0_1)) (win0_2.stage (cfg0.slots ⟨n + 1, h⟩ 2)) (hstage0_2 ((cfg0.slots ⟨n + 1, h⟩ 2).cast nbuf0_2)) (win0_3.stage (cfg0.slots ⟨n + 1, h⟩ 3)) (hstage0_3 ((cfg0.slots ⟨n + 1, h⟩ 3).cast nbuf0_3)) (win0_4.stage (cfg0.slots ⟨n + 1, h⟩ 4)) (hstage0_4 ((cfg0.slots ⟨n + 1, h⟩ 4).cast nbuf0_4)) (win0_5.stage (cfg0.slots ⟨n + 1, h⟩ 5)) (hstage0_5 ((cfg0.slots ⟨n + 1, h⟩ 5).cast nbuf0_5)) (win0_6.stage (cfg0.slots ⟨n + 1, h⟩ 6)) (hstage0_6 ((cfg0.slots ⟨n + 1, h⟩ 6).cast nbuf0_6)) (win0_7.stage (cfg0.slots ⟨n + 1, h⟩ 7)) (hstage0_7 ((cfg0.slots ⟨n + 1, h⟩ 7).cast nbuf0_7)) (win0_8.stage (cfg0.slots ⟨n + 1, h⟩ 8)) (hstage0_8 ((cfg0.slots ⟨n + 1, h⟩ 8).cast nbuf0_8)) (win0_9.stage (cfg0.slots ⟨n + 1, h⟩ 9)) (hstage0_9 ((cfg0.slots ⟨n + 1, h⟩ 9).cast nbuf0_9)) (Memref.whole cc0_scratch0) (Memref.isWhole_whole _) (Memref.whole cc0_scratch1) (Memref.isWhole_whole _) (Memref.whole cc0_scratch2) (Memref.isWhole_whole _) h1 h2 (iblk m c 2 ⟨n + 1, h⟩) (iblk m c 3 ⟨n + 1, h⟩) (iblk m c 4 ⟨n + 1, h⟩) (iblk m c 5 ⟨n + 1, h⟩) (stateAt m c n (Nat.lt_of_succ_lt h)) ((st0_6 ⟨n + 1, h⟩).view.rep ((dats m 0 c).before 6 ⟨n + 1, h⟩ d6)) ((st0_7 ⟨n + 1, h⟩).view.rep ((dats m 0 c).before 7 ⟨n + 1, h⟩ d7)) Set.univ _)
  isplitl [H2]
  · iexact H2
  isplitl [H3]
  · iexact H3
  isplitl [H4]
  · iexact H4
  isplitl [H5]
  · iexact H5
  isplitl [H8]
  · iexact H8
  isplitl [H9]
  · iexact H9
  isplitl [H11]
  · iexact H11
  isplitl [H12]
  · iexact H12
  isplitl [H13]
  · iexact H13
  isplitl [H6]
  · iapply (pr_of (F := F)); iexact H6
  isplitl [H7]
  · iapply (pr_of (F := F)); iexact H7
  iintro ⟨H2, H3, H4, H5, H8, H9, H11, H12, H13, H6, H7⟩
  isplitl [H11 H12 H13 Hp]
  · isplitr [Hp]
    · isplitl [H11]; · iexact H11
      isplitl [H12]; · iexact H12
      iexact H13
    · iexact Hp
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

theorem sound_body (c : Dev nD) (t : Fin cfg0.N) :
    bodyPre m c t ⊢ wp frame (wpE (defs₀ (F := F)) Variants.none c none) Set.univ (bodyAt0 t) (fun _ => bodyPost m c t) := by
  obtain ⟨n, h⟩ := t
  cases n with
  | zero => exact sound_first m c h
  | succ n =>
    by_cases hl : n + 1 = 62
    · exact sound_last m c n h hl
    · exact sound_mid m c n h hl

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem carried_last (c : Dev nD) : (dats m 0 c).Φ (Fin.last cfg0.N) ⊢ (Pipeline.ΦA spec0 c : sProp 𝕄) := by
  rw [show (dats m 0 c).Φ (Fin.last cfg0.N) = carried m c 63 (by show 63 ≤ grid0.N; rw [N_0]) from by
    show carried m c grid0.N _ = _
    congr 1]
  unfold Pipeline.ΦA carried
  rw [scopedRest0_eq]
  simp only [ow, owns_whole_eq]
  iintro ⟨⟨⟨%f11, -, H11⟩, ⟨%f12, -, H12⟩, ⟨%f13, -, H13⟩⟩, Hp⟩
  isplitr [Hp]
  · isplitl [H11]; · iexists f11; iexact H11
    isplitl [H12]; · iexists f12; iexact H12
    iexists f13; iexact H13
  · iexact Hp

set_option backward.isDefEq.respectTransparency.types false in
set_option maxHeartbeats 800000 in
/-- The run of the whole program: every array ends as the proof data says, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := carried_last m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Ideal

end
-- ==== Proof.ExactParts.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type; the buffer held at contents `f`; and held at the vector `X`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
abbrev pr (c : Dev nD) {sp : Space} {S : Shape} {e : EltTy} (M : Memref sig .tc sp S e) (X : Vec F S e) : sProp 𝕄 :=
  M.view.loc (c : Thread nD τ) ↦[M.view.set]{fullShare} M.view.rep X
abbrev ow (c : Dev nD) {sp : Space} {S : Shape} {e : EltTy} (M : Memref sig .tc sp S e) (X : Vec F S e) : sProp 𝕄 :=
  owns (c : Thread nD τ) M fullShare X

theorem ow_of (c : Dev nD) {sp : Space} {S : Shape} {e : EltTy} (M : Memref sig .tc sp S e) (f : Bf (F := F) c M) :
    pt c M f ⊢ ow (F := F) c M (M.view.read (Elt F) f) := by
  unfold ow owns; iintro H; iexists f; isplitr
  · ipureintro; rfl
  · iexact H

theorem pr_eq (c : Dev nD) {sp : Space} {S : Shape} {e : EltTy} (M : Memref sig .tc sp S e) (X : Vec F S e) :
    ow (F := F) c M X = pr c M X := owns_eq_rep (c : Thread nD τ) M fullShare X

/-- The first conditional region of the body: the quantiser, the table of seen tokens, the empty lists. -/
def front (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) : Prog (TpuEff nD τ sig (Elt F) Λ₀ .tc) PUnit := do
  let ⟨v1547, v1548, v4020, v4041, v4046, v4051, v4056, v4061, v4066, v4071, v4075⟩ : Σ' (v1547 : Vec F S8x64 .i32) (v1548 : IVec S8x128 32) (v4020 : IVec S8x128 32) (v4041 : IVec S8x128 32) (v4046 : IVec S8x128 32) (v4051 : IVec S8x128 32) (v4056 : IVec S8x128 32) (v4061 : IVec S8x128 32) (v4066 : IVec S8x128 32) (v4071 : IVec S8x128 32), IVec S8x128 32 ← k0_part340 i arg1 harg1 arg2 harg2 arg3 harg3 arg4 harg4 arg5 harg5 arg6 harg6 arg7 harg7 arg8 harg8 arg9 harg9 arg10 harg10 arg11 harg11 arg12 harg12 arg13 harg13
  let ⟨v5165, v5166, v6595, v6600, v6605, v6610, v6615, v6620, v6625, v6630, v6635, v6638, v6640⟩ : Σ' (v5165 : Vec F S8x64 .i32) (v5166 : IVec S8x128 32) (v6595 : IVec S8x128 32) (v6600 : IVec S8x128 32) (v6605 : IVec S8x128 32) (v6610 : IVec S8x128 32) (v6615 : IVec S8x128 32) (v6620 : IVec S8x128 32) (v6625 : IVec S8x128 32) (v6630 : IVec S8x128 32) (v6635 : IVec S8x128 32) (v6638 : IVec S8x128 1), IVec S8x128 32 ← k0_part341 i arg1 harg1 arg2 harg2 arg3 harg3 arg4 harg4 arg5 harg5 arg6 harg6 arg7 harg7 arg8 harg8 arg9 harg9 arg10 harg10 arg11 harg11 arg12 harg12 arg13 harg13 v1547 v1548 v4020 v4041 v4046 v4051 v4056 v4061 v4066 v4071 v4075
  let ⟨v8783, v8784, v9149, v9154, v9159, v9164, v9169, v9174, v9179, v9184, v9198, v9200, v9202, v9203⟩ : Σ' (v8783 : Vec F S8x64 .i32) (v8784 : IVec S8x128 32) (v9149 : IVec S8x128 32) (v9154 : IVec S8x128 32) (v9159 : IVec S8x128 32) (v9164 : IVec S8x128 32) (v9169 : IVec S8x128 32) (v9174 : IVec S8x128 32) (v9179 : IVec S8x128 32) (v9184 : IVec S8x128 32) (v9198 : IVec S8x128 32) (v9200 : IVec S8x128 32) (v9202 : IVec S8x128 1), IVec S8x128 32 ← k0_part342 i arg1 harg1 arg2 harg2 arg3 harg3 arg4 harg4 arg5 harg5 arg6 harg6 arg7 harg7 arg8 harg8 arg9 harg9 arg10 harg10 arg11 harg11 arg12 harg12 arg13 harg13 v5165 v5166 v6595 v6600 v6605 v6610 v6615 v6620 v6625 v6630 v6635 v6638 v6640
  let ⟨v11735, v11740, v11745, v11750, v11755, v11760, v11774, v11776, v11781, v11786, v11788⟩ : Σ' (v11735 : IVec S8x128 32) (v11740 : IVec S8x128 32) (v11745 : IVec S8x128 32) (v11750 : IVec S8x128 32) (v11755 : IVec S8x128 32) (v11760 : IVec S8x128 32) (v11774 : IVec S8x128 32) (v11776 : IVec S8x128 32) (v11781 : IVec S8x128 32) (v11786 : IVec S8x128 32), IVec S8x128 1 ← k0_part343 i arg1 harg1 arg2 harg2 arg3 harg3 arg4 harg4 arg5 harg5 arg6 harg6 arg7 harg7 arg8 harg8 arg9 harg9 arg10 harg10 arg11 harg11 arg12 harg12 arg13 harg13 v8783 v8784 v9149 v9154 v9159 v9164 v9169 v9174 v9179 v9184 v9198 v9200 v9202 v9203
  let ⟨v12401, v12402, v14299, v14304, v14309, v14314, v14328, v14330, v14335, v14340, v14345, v14350, v14352⟩ : Σ' (v12401 : Vec F S8x64 .i32) (v12402 : IVec S8x128 32) (v14299 : IVec S8x128 32) (v14304 : IVec S8x128 32) (v14309 : IVec S8x128 32) (v14314 : IVec S8x128 32) (v14328 : IVec S8x128 32) (v14330 : IVec S8x128 32) (v14335 : IVec S8x128 32) (v14340 : IVec S8x128 32) (v14345 : IVec S8x128 32) (v14350 : IVec S8x128 32), IVec S8x128 1 ← k0_part344 i arg1 harg1 arg2 harg2 arg3 harg3 arg4 harg4 arg5 harg5 arg6 harg6 arg7 harg7 arg8 harg8 arg9 harg9 arg10 harg10 arg11 harg11 arg12 harg12 arg13 harg13 v8783 v8784 v11735 v11740 v11745 v11750 v11755 v11760 v11774 v11776 v11781 v11786 v11788
  k0_part345 i arg1 harg1 arg2 harg2 arg3 harg3 arg4 harg4 arg5 harg5 arg6 harg6 arg7 harg7 arg8 harg8 arg9 harg9 arg10 harg10 arg11 harg11 arg12 harg12 arg13 harg13 v12401 v12402 v14299 v14304 v14309 v14314 v14328 v14330 v14335 v14340 v14345 v14350 v14352
  pure ⟨⟩

/-- What follows that region up to the first row group: the loads, the product of the block, and the first loads. -/
def loads (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) :
    Prog (TpuEff nD τ sig (Elt F) Λ₀ .tc) (Σ' (arg0 : BitVec 32) (v16 : FVec F S32x512 .f32) (v18 : FVec F S1x512 .f32) (v20 : FVec F S1x512 .f32) (v22 : FVec F S8x1 .f32) (v24 : FVec F S8x1 .f32), FVec F S8x128 .f32) := do
  let arg0 : BitVec 32 := BitVec.ofNat 32 (i 0).val
  let v3 : Vec F S32x2432 .fp8e4m3 ← Prog.lift (.load arg9 (Rect.unit (s := S32x7168) ![0, 0] S32x2432.size inb_S32x7168_S32x2432_0_0).toLoadRect (View.loadsAt_vmem h_S32x2432))
  let v5 : Vec F S512x2432 .fp8e4m3 ← Prog.lift (.load arg4 (Rect.unit (s := S512x7168) ![0, 0] S512x2432.size inb_S512x7168_S512x2432_0_0).toLoadRect (View.loadsAt_vmem h_S512x2432))
  let v7 : Vec F S32x2432 .fp8e4m3 ← Prog.lift (.load arg9 (Rect.unit (s := S32x7168) ![0, 2432] S32x2432.size inb_S32x7168_S32x2432_0_2432).toLoadRect (View.loadsAt_vmem h_S32x2432))
  let v9 : Vec F S512x2432 .fp8e4m3 ← Prog.lift (.load arg4 (Rect.unit (s := S512x7168) ![0, 2432] S512x2432.size inb_S512x7168_S512x2432_0_2432).toLoadRect (View.loadsAt_vmem h_S512x2432))
  let v12 : Vec F S32x2304 .fp8e4m3 ← Prog.lift (.load arg9 (Rect.unit (s := S32x7168) ![0, 4864] S32x2304.size inb_S32x7168_S32x2304_0_4864).toLoadRect (View.loadsAt_vmem h_S32x2304))
  let v14 : Vec F S512x2304 .fp8e4m3 ← Prog.lift (.load arg4 (Rect.unit (s := S512x7168) ![0, 4864] S512x2304.size inb_S512x7168_S512x2304_0_4864).toLoadRect (View.loadsAt_vmem h_S512x2304))
  let v17 : Vec F S1x512 .f32 ← Prog.lift (.load arg5 (Rect.unit (s := S1x512) ![0, 0] S1x512.size inb_S1x512_S1x512_0_0).toLoadRect (View.loadsAt_vmem h_S1x512))
  let v19 : Vec F S1x512 .f32 ← Prog.lift (.load arg6 (Rect.unit (s := S1x512) ![0, 0] S1x512.size inb_S1x512_S1x512_0_0).toLoadRect (View.loadsAt_vmem h_S1x512))
  let v21 : Vec F S8x1 .f32 ← Prog.lift (.load arg10 (Rect.unit (s := S32x1) ![0, 0] S8x1.size inb_S32x1_S8x1_0_0).toLoadRect (View.loadsAt_vmem h_S8x1))
  let v23 : Vec F S8x1 .f32 ← Prog.lift (.load arg3 (Rect.unit (s := S32x1) ![0, 0] S8x1.size inb_S32x1_S8x1_0_0).toLoadRect (View.loadsAt_vmem h_S8x1))
  let v25 : Vec F S1x8x128 .f32 ← Prog.lift (.load arg12 (Rect.unit (s := S8x32x128) ![0, 0, 0] S1x8x128.size inb_S8x32x128_S1x8x128_0_0_0).toLoadRect (View.loadsAt_vmem h_S1x8x128))
  pure ⟨arg0, k0_pay3536 v3 v5 v7 v9 v12 v14, k0_pay3537 v17, k0_pay3538 v19, k0_pay3539 v21, k0_pay3540 v23, k0_pay3541 v25⟩

/-- The body before its last conditional region. -/
def pre (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) : Prog (TpuEff nD τ sig (Elt F) Λ₀ .tc) PUnit := do
  let ⟨arg0, v1444, v1446, v1448⟩ : Σ' (arg0 : BitVec 32) (v1444 : IVec S8x128 32) (v1446 : FVec F S8x128 .f32), IVec S8x128 32 ← k0_part385 i arg1 harg1 arg2 harg2 arg3 harg3 arg4 harg4 arg5 harg5 arg6 harg6 arg7 harg7 arg8 harg8 arg9 harg9 arg10 harg10 arg11 harg11 arg12 harg12 arg13 harg13
  let c0_552 : Index := 0#32
  let v1488 : Vec F S1x8x128 .i32 ← Prog.lift (.load arg13 (Rect.unit (s := S8x32x128) ![6, 24, 0] S1x8x128.size inb_S8x32x128_S1x8x128_6_24_0).toLoadRect (View.loadsAt_vmem h_S1x8x128))
  have v1489 : IVec S8x128 32 := shapeCast S8x128 v1488 shapeCasts_S1x8x128_S8x128
  have v1490 : IVec S1x8x128 32 := shapeCast S1x8x128 v1444 shapeCasts_S8x128_S1x8x128
  Prog.lift (.store arg13 (Rect.unit (s := S8x32x128) ![6, 24, 0] S1x8x128.size inb_S8x32x128_S1x8x128_6_24_0) v1490 Finset.univ (View.stores_vmem_bits_univ h_S1x8x128 rfl) (.inl rfl))
  let c7_553 : Index := 7#32
  let c24_554 : Index := 24#32
  let c0_555 : Index := 0#32
  let v1491 : Vec F S1x8x128 .f32 ← Prog.lift (.load arg12 (Rect.unit (s := S8x32x128) ![7, 24, 0] S1x8x128.size inb_S8x32x128_S1x8x128_7_24_0).toLoadRect (View.loadsAt_vmem h_S1x8x128))
  have v1492 : FVec F S8x128 .f32 := shapeCast S8x128 v1491 shapeCasts_S1x8x128_S8x128
  have v1493 : FVec F S1x8x128 .f32 := shapeCast S1x8x128 v1446 shapeCasts_S8x128_S1x8x128
  Prog.lift (.store arg12 (Rect.unit (s := S8x32x128) ![7, 24, 0] S1x8x128.size inb_S8x32x128_S1x8x128_7_24_0) v1493 Finset.univ (View.stores_vmem_bits_univ h_S1x8x128 rfl) (.inl rfl))
  let c7_556 : Index := 7#32
  let c24_557 : Index := 24#32
  let c0_558 : Index := 0#32
  let v1494 : Vec F S1x8x128 .i32 ← Prog.lift (.load arg13 (Rect.unit (s := S8x32x128) ![7, 24, 0] S1x8x128.size inb_S8x32x128_S1x8x128_7_24_0).toLoadRect (View.loadsAt_vmem h_S1x8x128))
  have v1495 : IVec S8x128 32 := shapeCast S8x128 v1494 shapeCasts_S1x8x128_S8x128
  have v1496 : IVec S1x8x128 32 := shapeCast S1x8x128 v1448 shapeCasts_S8x128_S1x8x128
  Prog.lift (.store arg13 (Rect.unit (s := S8x32x128) ![7, 24, 0] S1x8x128.size inb_S8x32x128_S1x8x128_7_24_0) v1496 Finset.univ (View.stores_vmem_bits_univ h_S1x8x128 rfl) (.inl rfl))
  let c62_i32 : BitVec 32 := 62#32
  let v1497 : BitVec 1 := Scalar.cmpi .eq arg0 c62_i32
  let v1498 : BitVec 32 := Scalar.extui v1497
  let c0_i32_559 : BitVec 32 := 0#32
  let v1499 : BitVec 1 := Scalar.cmpi .ne v1498 c0_i32_559
  pure ⟨⟩

/-- The last conditional region: the merge of the lanes' lists. -/
def fin (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) : Prog (TpuEff nD τ sig (Elt F) Λ₀ .tc) PUnit := do
  if k0_h2 : k0_cond2 i = 1#1 then do
    let ⟨v1501, v1503, v1505, v1507, v1509, v1511, v1513, v1515, v1517, v1519, v1521, v1523⟩ : Σ' (v1501 : FVec F S32x128 .f32) (v1503 : FVec F S32x128 .f32) (v1505 : FVec F S32x128 .f32) (v1507 : FVec F S32x128 .f32) (v1509 : FVec F S32x128 .f32) (v1511 : FVec F S32x128 .f32) (v1513 : FVec F S32x128 .f32) (v1515 : FVec F S32x128 .f32) (v1517 : IVec S32x128 32) (v1519 : IVec S32x128 32) (v1521 : IVec S32x128 32), IVec S32x128 32 ← k0_part346 i arg1 harg1 arg2 harg2 arg3 harg3 arg4 harg4 arg5 harg5 arg6 harg6 arg7 harg7 arg8 harg8 arg9 harg9 arg10 harg10 arg11 harg11 arg12 harg12 arg13 harg13
    let ⟨v1533, v1539, v1543, v1544, v1545, v1546, v1547, v1548, v1549, v1550, v1551, v1552, v1553, v1554, v1555, v1556, v1558, v1560, v1564, v1565⟩ : Σ' (v1533 : FVec F S32x1 .f32) (v1539 : IVec S32x1 32) (v1543 : FVec F S32x128 .f32) (v1544 : IVec S32x128 32) (v1545 : FVec F S32x128 .f32) (v1546 : IVec S32x128 32) (v1547 : FVec F S32x128 .f32) (v1548 : IVec S32x128 32) (v1549 : FVec F S32x128 .f32) (v1550 : IVec S32x128 32) (v1551 : FVec F S32x128 .f32) (v1552 : IVec S32x128 32) (v1553 : FVec F S32x128 .f32) (v1554 : IVec S32x128 32) (v1555 : FVec F S32x128 .f32) (v1556 : IVec S32x128 32) (v1558 : FVec F S32x1 .f32) (v1560 : IVec S32x128 1) (v1564 : IVec S32x1 32), IVec S32x128 32 ← k0_part347 i arg1 harg1 arg2 harg2 arg3 harg3 arg4 harg4 arg5 harg5 arg6 harg6 arg7 harg7 arg8 harg8 arg9 harg9 arg10 harg10 arg11 harg11 arg12 harg12 arg13 harg13 v1501 v1503 v1505 v1507 v1509 v1511 v1513 v1515 v1517 v1519 v1521 v1523
    let ⟨v1581, v1587, v1602, v1608, v1612, v1613, v1614, v1615, v1616, v1617, v1618, v1619⟩ : Σ' (v1581 : FVec F S32x1 .f32) (v1587 : IVec S32x1 32) (v1602 : FVec F S32x1 .f32) (v1608 : IVec S32x1 32) (v1612 : FVec F S32x128 .f32) (v1613 : IVec S32x128 32) (v1614 : FVec F S32x128 .f32) (v1615 : IVec S32x128 32) (v1616 : FVec F S32x128 .f32) (v1617 : IVec S32x128 32) (v1618 : FVec F S32x128 .f32), IVec S32x128 32 ← k0_part348 i arg1 harg1 arg2 harg2 arg3 harg3 arg4 harg4 arg5 harg5 arg6 harg6 arg7 harg7 arg8 harg8 arg9 harg9 arg10 harg10 arg11 harg11 arg12 harg12 arg13 harg13 v1543 v1544 v1545 v1546 v1547 v1548 v1549 v1550 v1551 v1552 v1553 v1554 v1555 v1556 v1560 v1565
    let ⟨v1621, v1627, v1638, v1644, v1653, v1659, v1664, v1666, v1668, c2147483647_i32_629⟩ : Σ' (v1621 : FVec F S32x1 .f32) (v1627 : IVec S32x1 32) (v1638 : FVec F S32x1 .f32) (v1644 : IVec S32x1 32) (v1653 : FVec F S32x1 .f32) (v1659 : IVec S32x1 32) (v1664 : IVec S32x128 32) (v1666 : FVec F S32x1 .f32) (v1668 : IVec S32x128 1), BitVec 32 ← k0_part349 i arg1 harg1 arg2 harg2 arg3 harg3 arg4 harg4 arg5 harg5 arg6 harg6 arg7 harg7 arg8 harg8 arg9 harg9 arg10 harg10 arg11 harg11 arg12 harg12 arg13 harg13 v1612 v1613 v1614 v1615 v1616 v1617 v1618 v1619
    have v1669 : IVec S32x128 32 := broadcast S32x128 c2147483647_i32_629
    have v1670 : IVec S32x128 32 := select v1668 v1664 v1669
    have cst_630 : IVec S32 32 := constantI S32 32 2147483647#32
    have v1671 : IVec S32 32 := multiReductionI .minsi [1] S32 v1670 2147483647#32 reduces_S32x128_S32 rfl
    have v1672 : IVec S32x1 32 := shapeCast S32x1 v1671 shapeCasts_S32_S32x1
    have v1673 : FVec F S32x8 .f32 := concatenate S32x8 1 [⟨S32x1, v1533⟩, ⟨S32x1, v1558⟩, ⟨S32x1, v1581⟩, ⟨S32x1, v1602⟩, ⟨S32x1, v1621⟩, ⟨S32x1, v1638⟩, ⟨S32x1, v1653⟩, ⟨S32x1, v1666⟩] concatenates_S32x1_S32x1_S32x1_S32x1_S32x1_S32x1_S32x1_S32x1_S32x8_d1
    let c0_631 : Index := 0#32
    let c0_632 : Index := 0#32
    let v1674 : Vec F S32x8 .f32 ← Prog.lift (.load arg7 (Rect.unit (s := S32x8) ![0, 0] S32x8.size inb_S32x8_S32x8_0_0).toLoadRect (View.loadsAt_vmem h_S32x8))
    Prog.lift (.store arg7 (Rect.unit (s := S32x8) ![0, 0] S32x8.size inb_S32x8_S32x8_0_0) v1673 Finset.univ (View.stores_vmem_bits_univ h_S32x8 rfl) (.inl rfl))
    have v1675 : IVec S32x8 32 := concatenate S32x8 1 [⟨S32x1, v1539⟩, ⟨S32x1, v1564⟩, ⟨S32x1, v1587⟩, ⟨S32x1, v1608⟩, ⟨S32x1, v1627⟩, ⟨S32x1, v1644⟩, ⟨S32x1, v1659⟩, ⟨S32x1, v1672⟩] concatenates_S32x1_S32x1_S32x1_S32x1_S32x1_S32x1_S32x1_S32x1_S32x8_d1
    let c0_633 : Index := 0#32
    let c0_634 : Index := 0#32
    let v1676 : Vec F S32x8 .i32 ← Prog.lift (.load arg8 (Rect.unit (s := S32x8) ![0, 0] S32x8.size inb_S32x8_S32x8_0_0).toLoadRect (View.loadsAt_vmem h_S32x8))
    Prog.lift (.store arg8 (Rect.unit (s := S32x8) ![0, 0] S32x8.size inb_S32x8_S32x8_0_0) v1675 Finset.univ (View.stores_vmem_bits_univ h_S32x8 rfl) (.inl rfl))
    pure ⟨⟩
  else do
    pure ⟨⟩
  pure ⟨⟩

theorem part350_pos (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h : k0_cond1 i = 1#1) :
    k0_part350 (F := F) i arg1 harg1 arg2 harg2 arg3 harg3 arg4 harg4 arg5 harg5 arg6 harg6 arg7 harg7 arg8 harg8 arg9 harg9 arg10 harg10 arg11 harg11 arg12 harg12 arg13 harg13 = front i arg1 harg1 arg2 harg2 arg3 harg3 arg4 harg4 arg5 harg5 arg6 harg6 arg7 harg7 arg8 harg8 arg9 harg9 arg10 harg10 arg11 harg11 arg12 harg12 arg13 harg13 >>= fun _ => loads i arg1 harg1 arg2 harg2 arg3 harg3 arg4 harg4 arg5 harg5 arg6 harg6 arg7 harg7 arg8 harg8 arg9 harg9 arg10 harg10 arg11 harg11 arg12 harg12 arg13 harg13 := by
  rw [k0_part350_eq_skeleton]; unfold k0_part350_skel front loads
  simp only [dif_pos h, Prog.bind_assoc]
  rfl

theorem part350_neg (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h : ¬ k0_cond1 i = 1#1) :
    k0_part350 (F := F) i arg1 harg1 arg2 harg2 arg3 harg3 arg4 harg4 arg5 harg5 arg6 harg6 arg7 harg7 arg8 harg8 arg9 harg9 arg10 harg10 arg11 harg11 arg12 harg12 arg13 harg13 = loads i arg1 harg1 arg2 harg2 arg3 harg3 arg4 harg4 arg5 harg5 arg6 harg6 arg7 harg7 arg8 harg8 arg9 harg9 arg10 harg10 arg11 harg11 arg12 harg12 arg13 harg13 := by
  rw [k0_part350_eq_skeleton]; unfold k0_part350_skel loads
  simp only [dif_neg h]

theorem body_eq (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) :
    cc0_fp8_head_top8 (F := F) i arg1 harg1 arg2 harg2 arg3 harg3 arg4 harg4 arg5 harg5 arg6 harg6 arg7 harg7 arg8 harg8 arg9 harg9 arg10 harg10 arg11 harg11 arg12 harg12 arg13 harg13 = pre i arg1 harg1 arg2 harg2 arg3 harg3 arg4 harg4 arg5 harg5 arg6 harg6 arg7 harg7 arg8 harg8 arg9 harg9 arg10 harg10 arg11 harg11 arg12 harg12 arg13 harg13 >>= fun _ => fin i arg1 harg1 arg2 harg2 arg3 harg3 arg4 harg4 arg5 harg5 arg6 harg6 arg7 harg7 arg8 harg8 arg9 harg9 arg10 harg10 arg11 harg11 arg12 harg12 arg13 harg13 := by
  unfold cc0_fp8_head_top8 pre fin
  simp only [Prog.bind_assoc]
  rfl

end Cert.Exact

end
-- ==== Proof.ExactFront.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.ExactParts

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first region run on whole buffers: what it leaves in the codes, the scale, the table of seen tokens and the two lists. -/
def runFront (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1)
    (X1 : Vec F S32x7168 .bf16) (X2 : Vec F S32x64 .i32) :
    { W : Vec F S32x7168 .fp8e4m3 × Vec F S32x1 .f32 × Vec F S8x32x128 .i32 × Vec F S8x32x128 .f32 × Vec F S8x32x128 .i32 //
      ∀ (f9 : Bf (F := F) c arg9) (f10 : Bf (F := F) c arg10) (f11 : Bf (F := F) c arg11) (f12 : Bf (F := F) c arg12) (f13 : Bf (F := F) c arg13) (E : Set ℕ) (Q : PUnit → sProp 𝕄),
        iprop(pr c arg1 X1 ∗ pr c arg2 X2 ∗ pt c arg9 f9 ∗ pt c arg10 f10 ∗ pt c arg11 f11 ∗ pt c arg12 f12 ∗ pt c arg13 f13 ∗ (iprop(pr c arg1 X1 ∗ pr c arg2 X2 ∗ ow c arg9 W.1 ∗ ow c arg10 W.2.1 ∗ ow c arg11 W.2.2.1 ∗ ow c arg12 W.2.2.2.1 ∗ ow c arg13 W.2.2.2.2) -∗ Q ⟨⟩))
          ⊢ wp frame (wpE (defs₀ (F := F)) Variants.none c none) E (front (F := F) i arg1 harg1 arg2 harg2 arg3 harg3 arg4 harg4 arg5 harg5 arg6 harg6 arg7 harg7 arg8 harg8 arg9 harg9 arg10 harg10 arg11 harg11 arg12 harg12 arg13 harg13) Q } := by
  refine ⟨⟨?_, ?_, ?_, ?_, ?_⟩, fun f9 f10 f11 f12 f13 E Q => ?run⟩
  case run =>
    unfold front
    iintro ⟨H1, H2, H9, H10, H11, H12, H13, Hk⟩
    sl_exec_parts!
    sl_step
    iapply Hk
    isplitl [H1]
    · iexact H1
    isplitl [H2]
    · iexact H2
    isplitl [H9]
    · iapply ow_of (F := F); iexact H9
    isplitl [H10]
    · iapply ow_of (F := F); iexact H10
    isplitl [H11]
    · iapply ow_of (F := F); iexact H11
    isplitl [H12]
    · iapply ow_of (F := F); iexact H12
    iapply ow_of (F := F); iexact H13

end Cert.Exact

end
-- ==== Proof.ExactFin.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.ExactParts

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last region run on whole buffers: the top values and their indices. -/
def runFin (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : k0_cond2 i = 1#1)
    (X12 : Vec F S8x32x128 .f32) (X13 : Vec F S8x32x128 .i32) :
    { W : Vec F S32x8 .f32 × Vec F S32x8 .i32 //
      ∀ (f7 : Bf (F := F) c arg7) (f8 : Bf (F := F) c arg8) (E : Set ℕ) (Q : PUnit → sProp 𝕄),
        iprop(pt c arg7 f7 ∗ pt c arg8 f8 ∗ pr c arg12 X12 ∗ pr c arg13 X13 ∗ (iprop(ow c arg7 W.1 ∗ ow c arg8 W.2 ∗ pr c arg12 X12 ∗ pr c arg13 X13) -∗ Q ⟨⟩))
          ⊢ wp frame (wpE (defs₀ (F := F)) Variants.none c none) E (fin (F := F) i arg1 harg1 arg2 harg2 arg3 harg3 arg4 harg4 arg5 harg5 arg6 harg6 arg7 harg7 arg8 harg8 arg9 harg9 arg10 harg10 arg11 harg11 arg12 harg12 arg13 harg13) Q } := by
  refine ⟨⟨?_, ?_⟩, fun f7 f8 E Q => ?run⟩
  case run =>
    unfold fin
    iintro ⟨H7, H8, H12, H13, Hk⟩
    sl_exec_parts!
    sl_step
    iapply Hk
    isplitl [H7]
    · iapply ow_of (F := F); iexact H7
    isplitl [H8]
    · iapply ow_of (F := F); iexact H8
    isplitl [H12]
    · iexact H12
    iexact H13

end Cert.Exact

end
-- ==== Proof.ExactLoads.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.ExactParts

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loads and the product of the block, run on whole buffers: the values they return. -/
def runLoads (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole)
    (X3 : Vec F S32x1 .f32) (X4 : Vec F S512x7168 .fp8e4m3) (X5 : Vec F S1x512 .f32) (X6 : Vec F S1x512 .f32) (X9 : Vec F S32x7168 .fp8e4m3) (X10 : Vec F S32x1 .f32) (X12 : Vec F S8x32x128 .f32) :
    { W : (Σ' (arg0 : BitVec 32) (v16 : FVec F S32x512 .f32) (v18 : FVec F S1x512 .f32) (v20 : FVec F S1x512 .f32) (v22 : FVec F S8x1 .f32) (v24 : FVec F S8x1 .f32), FVec F S8x128 .f32) //
      ∀ (E : Set ℕ) (Q : (Σ' (arg0 : BitVec 32) (v16 : FVec F S32x512 .f32) (v18 : FVec F S1x512 .f32) (v20 : FVec F S1x512 .f32) (v22 : FVec F S8x1 .f32) (v24 : FVec F S8x1 .f32), FVec F S8x128 .f32) → sProp 𝕄),
        iprop(pr c arg3 X3 ∗ pr c arg4 X4 ∗ pr c arg5 X5 ∗ pr c arg6 X6 ∗ pr c arg9 X9 ∗ pr c arg10 X10 ∗ pr c arg12 X12 ∗ (iprop(pr c arg3 X3 ∗ pr c arg4 X4 ∗ pr c arg5 X5 ∗ pr c arg6 X6 ∗ pr c arg9 X9 ∗ pr c arg10 X10 ∗ pr c arg12 X12) -∗ Q W))
          ⊢ wp frame (wpE (defs₀ (F := F)) Variants.none c none) E (loads (F := F) i arg1 harg1 arg2 harg2 arg3 harg3 arg4 harg4 arg5 harg5 arg6 harg6 arg7 harg7 arg8 harg8 arg9 harg9 arg10 harg10 arg11 harg11 arg12 harg12 arg13 harg13) Q } := by
  refine ⟨⟨BitVec.ofNat 32 (i 0).val, ?_, ?_, ?_, ?_, ?_, ?_⟩, fun E Q => ?run⟩
  case run =>
    unfold loads
    iintro ⟨H3, H4, H5, H6, H9, H10, H12, Hk⟩
    sl_exec_parts!
    sl_step
    iapply Hk
    isplitl [H3]
    · iexact H3
    isplitl [H4]
    · iexact H4
    isplitl [H5]
    · iexact H5
    isplitl [H6]
    · iexact H6
    isplitl [H9]
    · iexact H9
    isplitl [H10]
    · iexact H10
    iexact H12

end Cert.Exact

end
-- ==== Proof.ExactMain.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.ExactParts

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body before its last region, given what its head returns: what the insertions leave in the two lists. -/
def runMain (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole)
    (v16 : FVec F S32x512 .f32) (v18 : FVec F S1x512 .f32) (v20 : FVec F S1x512 .f32) (v22 : FVec F S8x1 .f32) (v24 : FVec F S8x1 .f32) (v26 : FVec F S8x128 .f32)
    (X3 : Vec F S32x1 .f32) (X10 : Vec F S32x1 .f32) (X11 : Vec F S8x32x128 .i32) (X12 : Vec F S8x32x128 .f32) (X13 : Vec F S8x32x128 .i32) :
    { W : Vec F S8x32x128 .f32 × Vec F S8x32x128 .i32 //
      ∀ (E : Set ℕ) (R S : sProp 𝕄) (Q : PUnit → sProp 𝕄),
        (R ⊢ wp frame (wpE (defs₀ (F := F)) Variants.none c none) E (k0_part350 (F := F) i arg1 harg1 arg2 harg2 arg3 harg3 arg4 harg4 arg5 harg5 arg6 harg6 arg7 harg7 arg8 harg8 arg9 harg9 arg10 harg10 arg11 harg11 arg12 harg12 arg13 harg13)
          (fun r => iprop(⌜r = ⟨BitVec.ofNat 32 (i 0).val, v16, v18, v20, v22, v24, v26⟩⌝ ∗ pr c arg3 X3 ∗ pr c arg10 X10 ∗ pr c arg11 X11 ∗ pr c arg12 X12 ∗ pr c arg13 X13 ∗ S))) →
        (iprop(R ∗ (iprop(pr c arg3 X3 ∗ pr c arg10 X10 ∗ pr c arg11 X11 ∗ ow c arg12 W.1 ∗ ow c arg13 W.2 ∗ S) -∗ Q ⟨⟩))
          ⊢ wp frame (wpE (defs₀ (F := F)) Variants.none c none) E (pre (F := F) i arg1 harg1 arg2 harg2 arg3 harg3 arg4 harg4 arg5 harg5 arg6 harg6 arg7 harg7 arg8 harg8 arg9 harg9 arg10 harg10 arg11 harg11 arg12 harg12 arg13 harg13) Q) } := by
  refine ⟨⟨?_, ?_⟩, fun E R S Q hcut => ?run⟩
  case run =>
    unfold pre
    iintro ⟨HR, Hk⟩
    sl_exec_parts!
    cases hk0_part350_0
    sl_step
    iapply Hk
    isplitl [Hk0_part350_1]
    · iexact Hk0_part350_1
    isplitl [Hk0_part350_2]
    · iexact Hk0_part350_2
    isplitl [Hk0_part350_3]
    · iexact Hk0_part350_3
    isplitl [Hk0_part350_4]
    · iapply ow_of (F := F); iexact Hk0_part350_4
    isplitl [Hk0_part350_5]
    · iapply ow_of (F := F); iexact Hk0_part350_5
    iexact Hk0_part350_6

end Cert.Exact

end
-- ==== Proof.ExactBody.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.ExactFront
public import proofs.«01_k».proof.Proof.ExactFin
public import proofs.«01_k».proof.Proof.ExactLoads
public import proofs.«01_k».proof.Proof.ExactMain

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body carries from point to point: the codes, the scale, the table of seen tokens, the lists' values and their indices. -/
abbrev St (F : FTy → Type) : Type := Vec F S32x7168 .fp8e4m3 × Vec F S32x1 .f32 × Vec F S8x32x128 .i32 × Vec F S8x32x128 .f32 × Vec F S8x32x128 .i32

/-- The two lists after the insertions of one point. -/
def stepV (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (X3 : Vec F S32x1 .f32) (X4 : Vec F S512x7168 .fp8e4m3) (X5 : Vec F S1x512 .f32) (X6 : Vec F S1x512 .f32) (s : St F) : Vec F S8x32x128 .f32 × Vec F S8x32x128 .i32 :=
  (runMain c i arg1 harg1 arg2 harg2 arg3 harg3 arg4 harg4 arg5 harg5 arg6 harg6 arg7 harg7 arg8 harg8 arg9 harg9 arg10 harg10 arg11 harg11 arg12 harg12 arg13 harg13 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.2 X3 s.2.1 s.2.2.1 s.2.2.2.1 s.2.2.2.2).1

/-- The state after the first region. -/
def frontV (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1) (X1 : Vec F S32x7168 .bf16) (X2 : Vec F S32x64 .i32) : St F :=
  (runFront c i arg1 harg1 arg2 harg2 arg3 harg3 arg4 harg4 arg5 harg5 arg6 harg6 arg7 harg7 arg8 harg8 arg9 harg9 arg10 harg10 arg11 harg11 arg12 harg12 arg13 harg13 h1 X1 X2).1

theorem pre_later (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : ¬ k0_cond1 i = 1#1) (X3 : Vec F S32x1 .f32) (X4 : Vec F S512x7168 .fp8e4m3) (X5 : Vec F S1x512 .f32) (X6 : Vec F S1x512 .f32) (s : St F) (E : Set ℕ) (Q : PUnit → sProp 𝕄) :
    iprop(ow c arg3 X3 ∗ ow c arg4 X4 ∗ ow c arg5 X5 ∗ ow c arg6 X6 ∗ ow c arg9 s.1 ∗ ow c arg10 s.2.1 ∗ ow c arg11 s.2.2.1 ∗ ow c arg12 s.2.2.2.1 ∗ ow c arg13 s.2.2.2.2 ∗ (iprop(ow c arg3 X3 ∗ ow c arg4 X4 ∗ ow c arg5 X5 ∗ ow c arg6 X6 ∗ ow c arg9 s.1 ∗ ow c arg10 s.2.1 ∗ ow c arg11 s.2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2) -∗ Q ⟨⟩))
      ⊢ wp frame (wpE (defs₀ (F := F)) Variants.none c none) E (pre (F := F) i arg1 harg1 arg2 harg2 arg3 harg3 arg4 harg4 arg5 harg5 arg6 harg6 arg7 harg7 arg8 harg8 arg9 harg9 arg10 harg10 arg11 harg11 arg12 harg12 arg13 harg13) Q := by
  simp only [pr_eq]
  iintro ⟨H3, H4, H5, H6, H9, H10, H11, H12, H13, Hk⟩
  iapply ((runMain c i arg1 harg1 arg2 harg2 arg3 harg3 arg4 harg4 arg5 harg5 arg6 harg6 arg7 harg7 arg8 harg8 arg9 harg9 arg10 harg10 arg11 harg11 arg12 harg12 arg13 harg13 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).1.2.2.2.2.2.2 X3 s.2.1 s.2.2.1 s.2.2.2.1 s.2.2.2.2).2 E
    iprop(pr c arg3 X3 ∗ pr c arg4 X4 ∗ pr c arg5 X5 ∗ pr c arg6 X6 ∗ pr c arg9 s.1 ∗ pr c arg10 s.2.1 ∗ pr c arg11 s.2.2.1 ∗ pr c arg12 s.2.2.2.1 ∗ pr c arg13 s.2.2.2.2)
    iprop(pr c arg4 X4 ∗ pr c arg5 X5 ∗ pr c arg6 X6 ∗ pr c arg9 s.1) Q ?_)
  case _ =>
    rw [part350_neg (h := h1)]
    iintro ⟨H3, H4, H5, H6, H9, H10, H11, H12, H13⟩
    iapply ((runLoads c i arg1 harg1 arg2 harg2 arg3 harg3 arg4 harg4 arg5 harg5 arg6 harg6 arg7 harg7 arg8 harg8 arg9 harg9 arg10 harg10 arg11 harg11 arg12 harg12 arg13 harg13 X3 X4 X5 X6 s.1 s.2.1 s.2.2.2.1).2 E)
    isplitl [H3]
    · iexact H3
    isplitl [H4]
    · iexact H4
    isplitl [H5]
    · iexact H5
    isplitl [H6]
    · iexact H6
    isplitl [H9]
    · iexact H9
    isplitl [H10]
    · iexact H10
    isplitl [H12]
    · iexact H12
    iintro ⟨H3, H4, H5, H6, H9, H10, H12⟩
    isplitr
    · ipureintro; rfl
    isplitl [H3]
    · iexact H3
    isplitl [H10]
    · iexact H10
    isplitl [H11]
    · iexact H11
    isplitl [H12]
    · iexact H12
    isplitl [H13]
    · iexact H13
    isplitl [H4]
    · iexact H4
    isplitl [H5]
    · iexact H5
    isplitl [H6]
    · iexact H6
    iexact H9
  isplitl [H3 H4 H5 H6 H9 H10 H11 H12 H13]
  · isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    iexact H13
  simp only [pr_eq]
  iintro ⟨H3, H10, H11, H12, H13, H4, H5, H6, H9⟩
  iapply Hk
  unfold stepV
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  iexact H13

theorem pre_first (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1) (X1 : Vec F S32x7168 .bf16) (X2 : Vec F S32x64 .i32) (X3 : Vec F S32x1 .f32) (X4 : Vec F S512x7168 .fp8e4m3) (X5 : Vec F S1x512 .f32) (X6 : Vec F S1x512 .f32) (f9 : Bf (F := F) c arg9) (f10 : Bf (F := F) c arg10) (f11 : Bf (F := F) c arg11) (f12 : Bf (F := F) c arg12) (f13 : Bf (F := F) c arg13) (E : Set ℕ) (Q : PUnit → sProp 𝕄) :
    iprop(ow c arg1 X1 ∗ ow c arg2 X2 ∗ ow c arg3 X3 ∗ ow c arg4 X4 ∗ ow c arg5 X5 ∗ ow c arg6 X6 ∗ pt c arg9 f9 ∗ pt c arg10 f10 ∗ pt c arg11 f11 ∗ pt c arg12 f12 ∗ pt c arg13 f13 ∗ (iprop(ow c arg1 X1 ∗ ow c arg2 X2 ∗ ow c arg3 X3 ∗ ow c arg4 X4 ∗ ow c arg5 X5 ∗ ow c arg6 X6 ∗ ow c arg9 (frontV c i arg1 harg1 arg2 harg2 arg3 harg3 arg4 harg4 arg5 harg5 arg6 harg6 arg7 harg7 arg8 harg8 arg9 harg9 arg10 harg10 arg11 harg11 arg12 harg12 arg13 harg13 h1 X1 X2).1 ∗ ow c arg10 (frontV c i arg1 harg1 arg2 harg2 arg3 harg3 arg4 harg4 arg5 harg5 arg6 harg6 arg7 harg7 arg8 harg8 arg9 harg9 arg10 harg10 arg11 harg11 arg12 harg12 arg13 harg13 h1 X1 X2).2.1 ∗ ow c arg11 (frontV c i arg1 harg1 arg2 harg2 arg3 harg3 arg4 harg4 arg5 harg5 arg6 harg6 arg7 harg7 arg8 harg8 arg9 harg9 arg10 harg10 arg11 harg11 arg12 harg12 arg13 harg13 h1 X1 X2).2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).2) -∗ Q ⟨⟩))
      ⊢ wp frame (wpE (defs₀ (F := F)) Variants.none c none) E (pre (F := F) i arg1 harg1 arg2 harg2 arg3 harg3 arg4 harg4 arg5 harg5 arg6 harg6 arg7 harg7 arg8 harg8 arg9 harg9 arg10 harg10 arg11 harg11 arg12 harg12 arg13 harg13) Q := by
  simp only [pr_eq]
  iintro ⟨H1, H2, H3, H4, H5, H6, H9, H10, H11, H12, H13, Hk⟩
  iapply ((runMain c i arg1 harg1 arg2 harg2 arg3 harg3 arg4 harg4 arg5 harg5 arg6 harg6 arg7 harg7 arg8 harg8 arg9 harg9 arg10 harg10 arg11 harg11 arg12 harg12 arg13 harg13 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.2.2.1 (runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).1.2.2.2.2.2.2 X3 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.2).2 E
    iprop(pr c arg1 X1 ∗ pr c arg2 X2 ∗ pr c arg3 X3 ∗ pr c arg4 X4 ∗ pr c arg5 X5 ∗ pr c arg6 X6 ∗ pt c arg9 f9 ∗ pt c arg10 f10 ∗ pt c arg11 f11 ∗ pt c arg12 f12 ∗ pt c arg13 f13)
    iprop(pr c arg1 X1 ∗ pr c arg2 X2 ∗ pr c arg4 X4 ∗ pr c arg5 X5 ∗ pr c arg6 X6 ∗ pr c arg9 (frontV c i arg1 harg1 arg2 harg2 arg3 harg3 arg4 harg4 arg5 harg5 arg6 harg6 arg7 harg7 arg8 harg8 arg9 harg9 arg10 harg10 arg11 harg11 arg12 harg12 arg13 harg13 h1 X1 X2).1) Q ?_)
  case _ =>
    rw [part350_pos (h := h1), wp_bind]
    iintro ⟨H1, H2, H3, H4, H5, H6, H9, H10, H11, H12, H13⟩
    iapply ((runFront c i arg1 harg1 arg2 harg2 arg3 harg3 arg4 harg4 arg5 harg5 arg6 harg6 arg7 harg7 arg8 harg8 arg9 harg9 arg10 harg10 arg11 harg11 arg12 harg12 arg13 harg13 h1 X1 X2).2 f9 f10 f11 f12 f13 E)
    isplitl [H1]
    · iexact H1
    isplitl [H2]
    · iexact H2
    isplitl [H9]
    · iexact H9
    isplitl [H10]
    · iexact H10
    isplitl [H11]
    · iexact H11
    isplitl [H12]
    · iexact H12
    isplitl [H13]
    · iexact H13
    simp only [pr_eq]
    iintro ⟨H1, H2, H9, H10, H11, H12, H13⟩
    iapply ((runLoads c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2).1 (frontV c i arg1 harg1 arg2 harg2 arg3 harg3 arg4 harg4 arg5 harg5 arg6 harg6 arg7 harg7 arg8 harg8 arg9 harg9 arg10 harg10 arg11 harg11 arg12 harg12 arg13 harg13 h1 X1 X2).2.1 (frontV c i arg1 harg1 arg2 harg2 arg3 harg3 arg4 harg4 arg5 harg5 arg6 harg6 arg7 harg7 arg8 harg8 arg9 harg9 arg10 harg10 arg11 harg11 arg12 harg12 arg13 harg13 h1 X1 X2).2.2.2.1).2 E)
    unfold frontV
    isplitl [H3]
    · iexact H3
    isplitl [H4]
    · iexact H4
    isplitl [H5]
    · iexact H5
    isplitl [H6]
    · iexact H6
    isplitl [H9]
    · iexact H9
    isplitl [H10]
    · iexact H10
    isplitl [H12]
    · iexact H12
    iintro ⟨H3, H4, H5, H6, H9, H10, H12⟩
    isplitr
    · ipureintro; rfl
    isplitl [H3]
    · iexact H3
    isplitl [H10]
    · iexact H10
    isplitl [H11]
    · iexact H11
    isplitl [H12]
    · iexact H12
    isplitl [H13]
    · iexact H13
    isplitl [H1]
    · iexact H1
    isplitl [H2]
    · iexact H2
    isplitl [H4]
    · iexact H4
    isplitl [H5]
    · iexact H5
    isplitl [H6]
    · iexact H6
    iexact H9
  isplitl [H1 H2 H3 H4 H5 H6 H9 H10 H11 H12 H13]
  · isplitl [H1]
    · iexact H1
    isplitl [H2]
    · iexact H2
    isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    iexact H13
  simp only [pr_eq]
  iintro ⟨H3, H10, H11, H12, H13, H1, H2, H4, H5, H6, H9⟩
  iapply Hk
  unfold stepV
  isplitl [H1]
  · iexact H1
  isplitl [H2]
  · iexact H2
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  iexact H13

theorem fin_skip (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : ¬ k0_cond2 i = 1#1) (E : Set ℕ) (Q : PUnit → sProp 𝕄) :
    Q ⟨⟩ ⊢ wp frame (wpE (defs₀ (F := F)) Variants.none c none) E (fin (F := F) i arg1 harg1 arg2 harg2 arg3 harg3 arg4 harg4 arg5 harg5 arg6 harg6 arg7 harg7 arg8 harg8 arg9 harg9 arg10 harg10 arg11 harg11 arg12 harg12 arg13 harg13) Q := by
  unfold fin
  rw [dif_neg h2]
  iintro H
  sl_step
  iexact H

/-- The body at the first point. -/
theorem body_first (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : k0_cond1 i = 1#1) (h2 : ¬ k0_cond2 i = 1#1) (X1 : Vec F S32x7168 .bf16) (X2 : Vec F S32x64 .i32) (X3 : Vec F S32x1 .f32) (X4 : Vec F S512x7168 .fp8e4m3) (X5 : Vec F S1x512 .f32) (X6 : Vec F S1x512 .f32) (f9 : Bf (F := F) c arg9) (f10 : Bf (F := F) c arg10) (f11 : Bf (F := F) c arg11) (f12 : Bf (F := F) c arg12) (f13 : Bf (F := F) c arg13) (E : Set ℕ) (Q : PUnit → sProp 𝕄) :
    iprop(ow c arg1 X1 ∗ ow c arg2 X2 ∗ ow c arg3 X3 ∗ ow c arg4 X4 ∗ ow c arg5 X5 ∗ ow c arg6 X6 ∗ pt c arg9 f9 ∗ pt c arg10 f10 ∗ pt c arg11 f11 ∗ pt c arg12 f12 ∗ pt c arg13 f13 ∗ (iprop(ow c arg1 X1 ∗ ow c arg2 X2 ∗ ow c arg3 X3 ∗ ow c arg4 X4 ∗ ow c arg5 X5 ∗ ow c arg6 X6 ∗ ow c arg9 (frontV c i arg1 harg1 arg2 harg2 arg3 harg3 arg4 harg4 arg5 harg5 arg6 harg6 arg7 harg7 arg8 harg8 arg9 harg9 arg10 harg10 arg11 harg11 arg12 harg12 arg13 harg13 h1 X1 X2).1 ∗ ow c arg10 (frontV c i arg1 harg1 arg2 harg2 arg3 harg3 arg4 harg4 arg5 harg5 arg6 harg6 arg7 harg7 arg8 harg8 arg9 harg9 arg10 harg10 arg11 harg11 arg12 harg12 arg13 harg13 h1 X1 X2).2.1 ∗ ow c arg11 (frontV c i arg1 harg1 arg2 harg2 arg3 harg3 arg4 harg4 arg5 harg5 arg6 harg6 arg7 harg7 arg8 harg8 arg9 harg9 arg10 harg10 arg11 harg11 arg12 harg12 arg13 harg13 h1 X1 X2).2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 (frontV c i arg1 harg1 arg2 harg2 arg3 harg3 arg4 harg4 arg5 harg5 arg6 harg6 arg7 harg7 arg8 harg8 arg9 harg9 arg10 harg10 arg11 harg11 arg12 harg12 arg13 harg13 h1 X1 X2)).2) -∗ Q ⟨⟩))
      ⊢ wp frame (wpE (defs₀ (F := F)) Variants.none c none) E (cc0_fp8_head_top8 (F := F) i arg1 harg1 arg2 harg2 arg3 harg3 arg4 harg4 arg5 harg5 arg6 harg6 arg7 harg7 arg8 harg8 arg9 harg9 arg10 harg10 arg11 harg11 arg12 harg12 arg13 harg13) Q := by
  rw [body_eq, wp_bind]
  iintro ⟨H1, H2, H3, H4, H5, H6, H9, H10, H11, H12, H13, Hk⟩
  iapply (pre_first c i arg1 harg1 arg2 harg2 arg3 harg3 arg4 harg4 arg5 harg5 arg6 harg6 arg7 harg7 arg8 harg8 arg9 harg9 arg10 harg10 arg11 harg11 arg12 harg12 arg13 harg13 h1 X1 X2 X3 X4 X5 X6 f9 f10 f11 f12 f13 E _)
  isplitl [H1]
  · iexact H1
  isplitl [H2]
  · iexact H2
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  iintro H
  iapply (fin_skip (h2 := h2))
  iapply Hk
  iexact H

/-- The body at a point that is neither the first nor the last. -/
theorem body_mid (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : ¬ k0_cond1 i = 1#1) (h2 : ¬ k0_cond2 i = 1#1) (X3 : Vec F S32x1 .f32) (X4 : Vec F S512x7168 .fp8e4m3) (X5 : Vec F S1x512 .f32) (X6 : Vec F S1x512 .f32) (s : St F) (E : Set ℕ) (Q : PUnit → sProp 𝕄) :
    iprop(ow c arg3 X3 ∗ ow c arg4 X4 ∗ ow c arg5 X5 ∗ ow c arg6 X6 ∗ ow c arg9 s.1 ∗ ow c arg10 s.2.1 ∗ ow c arg11 s.2.2.1 ∗ ow c arg12 s.2.2.2.1 ∗ ow c arg13 s.2.2.2.2 ∗ (iprop(ow c arg3 X3 ∗ ow c arg4 X4 ∗ ow c arg5 X5 ∗ ow c arg6 X6 ∗ ow c arg9 s.1 ∗ ow c arg10 s.2.1 ∗ ow c arg11 s.2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2) -∗ Q ⟨⟩))
      ⊢ wp frame (wpE (defs₀ (F := F)) Variants.none c none) E (cc0_fp8_head_top8 (F := F) i arg1 harg1 arg2 harg2 arg3 harg3 arg4 harg4 arg5 harg5 arg6 harg6 arg7 harg7 arg8 harg8 arg9 harg9 arg10 harg10 arg11 harg11 arg12 harg12 arg13 harg13) Q := by
  rw [body_eq, wp_bind]
  iintro ⟨H3, H4, H5, H6, H9, H10, H11, H12, H13, Hk⟩
  iapply (pre_later c i arg1 harg1 arg2 harg2 arg3 harg3 arg4 harg4 arg5 harg5 arg6 harg6 arg7 harg7 arg8 harg8 arg9 harg9 arg10 harg10 arg11 harg11 arg12 harg12 arg13 harg13 h1 X3 X4 X5 X6 s E _)
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  iintro H
  iapply (fin_skip (h2 := h2))
  iapply Hk
  iexact H

/-- The top values and indices the last region leaves, from the lists. -/
def finV (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : k0_cond2 i = 1#1) (X12 : Vec F S8x32x128 .f32) (X13 : Vec F S8x32x128 .i32) : Vec F S32x8 .f32 × Vec F S32x8 .i32 := (runFin c i arg1 harg1 arg2 harg2 arg3 harg3 arg4 harg4 arg5 harg5 arg6 harg6 arg7 harg7 arg8 harg8 arg9 harg9 arg10 harg10 arg11 harg11 arg12 harg12 arg13 harg13 h2 X12 X13).1

theorem fin_run (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h2 : k0_cond2 i = 1#1) (X12 : Vec F S8x32x128 .f32) (X13 : Vec F S8x32x128 .i32) (f7 : Bf (F := F) c arg7) (f8 : Bf (F := F) c arg8) (E : Set ℕ) (Q : PUnit → sProp 𝕄) :
    iprop(pt c arg7 f7 ∗ pt c arg8 f8 ∗ ow c arg12 X12 ∗ ow c arg13 X13 ∗ (iprop(ow c arg7 (finV c i arg1 harg1 arg2 harg2 arg3 harg3 arg4 harg4 arg5 harg5 arg6 harg6 arg7 harg7 arg8 harg8 arg9 harg9 arg10 harg10 arg11 harg11 arg12 harg12 arg13 harg13 h2 X12 X13).1 ∗ ow c arg8 (finV c i arg1 harg1 arg2 harg2 arg3 harg3 arg4 harg4 arg5 harg5 arg6 harg6 arg7 harg7 arg8 harg8 arg9 harg9 arg10 harg10 arg11 harg11 arg12 harg12 arg13 harg13 h2 X12 X13).2 ∗ ow c arg12 X12 ∗ ow c arg13 X13) -∗ Q ⟨⟩))
      ⊢ wp frame (wpE (defs₀ (F := F)) Variants.none c none) E (fin (F := F) i arg1 harg1 arg2 harg2 arg3 harg3 arg4 harg4 arg5 harg5 arg6 harg6 arg7 harg7 arg8 harg8 arg9 harg9 arg10 harg10 arg11 harg11 arg12 harg12 arg13 harg13) Q := by
  rw [pr_eq c arg12 X12, pr_eq c arg13 X13]
  exact (runFin c i arg1 harg1 arg2 harg2 arg3 harg3 arg4 harg4 arg5 harg5 arg6 harg6 arg7 harg7 arg8 harg8 arg9 harg9 arg10 harg10 arg11 harg11 arg12 harg12 arg13 harg13 h2 X12 X13).2 f7 f8 E Q

/-- The body at the last point. -/
theorem body_last (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole) (h1 : ¬ k0_cond1 i = 1#1) (h2 : k0_cond2 i = 1#1) (X3 : Vec F S32x1 .f32) (X4 : Vec F S512x7168 .fp8e4m3) (X5 : Vec F S1x512 .f32) (X6 : Vec F S1x512 .f32) (s : St F) (f7 : Bf (F := F) c arg7) (f8 : Bf (F := F) c arg8) (E : Set ℕ) (Q : PUnit → sProp 𝕄) :
    iprop(ow c arg3 X3 ∗ ow c arg4 X4 ∗ ow c arg5 X5 ∗ ow c arg6 X6 ∗ ow c arg9 s.1 ∗ ow c arg10 s.2.1 ∗ ow c arg11 s.2.2.1 ∗ ow c arg12 s.2.2.2.1 ∗ ow c arg13 s.2.2.2.2 ∗ pt c arg7 f7 ∗ pt c arg8 f8 ∗ (iprop(ow c arg3 X3 ∗ ow c arg4 X4 ∗ ow c arg5 X5 ∗ ow c arg6 X6 ∗ ow c arg9 s.1 ∗ ow c arg10 s.2.1 ∗ ow c arg11 s.2.2.1 ∗ ow c arg12 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 ∗ ow c arg13 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2 ∗ ow c arg7 (finV c i arg1 harg1 arg2 harg2 arg3 harg3 arg4 harg4 arg5 harg5 arg6 harg6 arg7 harg7 arg8 harg8 arg9 harg9 arg10 harg10 arg11 harg11 arg12 harg12 arg13 harg13 h2 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2).1 ∗ ow c arg8 (finV c i arg1 harg1 arg2 harg2 arg3 harg3 arg4 harg4 arg5 harg5 arg6 harg6 arg7 harg7 arg8 harg8 arg9 harg9 arg10 harg10 arg11 harg11 arg12 harg12 arg13 harg13 h2 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2).2) -∗ Q ⟨⟩))
      ⊢ wp frame (wpE (defs₀ (F := F)) Variants.none c none) E (cc0_fp8_head_top8 (F := F) i arg1 harg1 arg2 harg2 arg3 harg3 arg4 harg4 arg5 harg5 arg6 harg6 arg7 harg7 arg8 harg8 arg9 harg9 arg10 harg10 arg11 harg11 arg12 harg12 arg13 harg13) Q := by
  rw [body_eq, wp_bind]
  iintro ⟨H3, H4, H5, H6, H9, H10, H11, H12, H13, H7, H8, Hk⟩
  iapply (pre_later c i arg1 harg1 arg2 harg2 arg3 harg3 arg4 harg4 arg5 harg5 arg6 harg6 arg7 harg7 arg8 harg8 arg9 harg9 arg10 harg10 arg11 harg11 arg12 harg12 arg13 harg13 h1 X3 X4 X5 X6 s E _)
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  iintro ⟨H3, H4, H5, H6, H9, H10, H11, H12, H13⟩
  iapply (fin_run c i arg1 harg1 arg2 harg2 arg3 harg3 arg4 harg4 arg5 harg5 arg6 harg6 arg7 harg7 arg8 harg8 arg9 harg9 arg10 harg10 arg11 harg11 arg12 harg12 arg13 harg13 h2 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).1 (stepV c i arg1 harg1 arg2 harg2 arg3 harg3 arg4 harg4 arg5 harg5 arg6 harg6 arg7 harg7 arg8 harg8 arg9 harg9 arg10 harg10 arg11 harg11 arg12 harg12 arg13 harg13 X3 X4 X5 X6 s).2 f7 f8 E)
  isplitl [H7]
  · iexact H7
  isplitl [H8]
  · iexact H8
  isplitl [H12]
  · iexact H12
  isplitl [H13]
  · iexact H13
  iintro ⟨H7, H8, H12, H13⟩
  iapply Hk
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  isplitl [H13]
  · iexact H13
  isplitl [H7]
  · iexact H7
  iexact H8

end Cert.Exact

end
-- ==== Proof.ExactCert.lean ====
module

public import proofs.«01_k».proof.Proof.Gen.Kernel.Skeleton
public import proofs.«01_k».proof.Proof.Gen.Kernel.Points
public import proofs.«01_k».proof.Proof.Gen.Kernel.Launch
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Pipeline.TableIdle
public import Idealize.ShloMosaic.Lib.Tactic
public import Idealize.ShloMosaic.Lib.WordCmp

public import proofs.«01_k».proof.Proof.ExactBody

@[expose] public section

set_option maxRecDepth 65536

noncomputable section

namespace Cert.Exact

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt63 (t : Fin cfg0.N) : t.val < 63 := by
  have h : t.val < grid0.N := t.isLt
  rwa [N_0] at h

/-- Where the two conditions hold: the first point, the last point. -/
theorem cond1_iff (t : Fin cfg0.N) : k0_cond1 (grid0.coords t) = 1#1 ↔ t.val = 0 := by
  have key : ∀ t : Fin grid0.N, k0_cond1 (grid0.coords t) = 1#1 ↔ t.val = 0 := by decide +kernel
  exact key t
theorem cond2_iff (t : Fin cfg0.N) : k0_cond2 (grid0.coords t) = 1#1 ↔ t.val = 62 := by
  have key : ∀ t : Fin grid0.N, k0_cond2 (grid0.coords t) = 1#1 ↔ t.val = 62 := by decide +kernel
  exact key t

/-- The two lists after point `t`'s insertions, from the state before it. -/
def stepAt (c : Dev nD) (t : Fin cfg0.N) (s : St F) : Vec F S8x32x128 .f32 × Vec F S8x32x128 .i32 :=
  stepV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (iblk m c 2 t) (iblk m c 3 t) (iblk m c 4 t) (iblk m c 5 t) s

/-- The state the first region leaves, at a point where it runs. -/
def frontAt (c : Dev nD) (t : Fin cfg0.N) (h : k0_cond1 (grid0.coords t) = 1#1) : St F :=
  frontV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h (iblk m c 0 t) (iblk m c 1 t)

/-- What the last region leaves, at a point where it runs. -/
def finAt (c : Dev nD) (t : Fin cfg0.N) (h : k0_cond2 (grid0.coords t) = 1#1) (s : St F) : Vec F S32x8 .f32 × Vec F S32x8 .i32 :=
  finV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h s.2.2.2.1 s.2.2.2.2

/-- The state with its two lists replaced. -/
def St.lists (s : St F) (p : Vec F S8x32x128 .f32 × Vec F S8x32x128 .i32) : St F := (s.1, s.2.1, s.2.2.1, p.1, p.2)

/-- The state after point `n`. -/
def stateAt (c : Dev nD) : (n : ℕ) → n < cfg0.N → St F
  | 0, h => (frontAt m c ⟨0, h⟩ ((cond1_iff _).mpr rfl)).lists (stepAt m c ⟨0, h⟩ (frontAt m c ⟨0, h⟩ ((cond1_iff _).mpr rfl)))
  | n + 1, h => (stateAt c n (Nat.lt_of_succ_lt h)).lists (stepAt m c ⟨n + 1, h⟩ (stateAt c n (Nat.lt_of_succ_lt h)))

theorem stateAt_zero (c : Dev nD) (h : 0 < cfg0.N) : stateAt m c 0 h
    = (frontAt m c ⟨0, h⟩ ((cond1_iff _).mpr rfl)).lists (stepAt m c ⟨0, h⟩ (frontAt m c ⟨0, h⟩ ((cond1_iff _).mpr rfl))) := rfl
theorem stateAt_succ (c : Dev nD) (n : ℕ) (h : n + 1 < cfg0.N) : stateAt m c (n + 1) h
    = (stateAt m c n (Nat.lt_of_succ_lt h)).lists (stepAt m c ⟨n + 1, h⟩ (stateAt m c n (Nat.lt_of_succ_lt h))) := rfl

theorem lt62 : 61 + 1 < cfg0.N := by show 62 < grid0.N; rw [N_0]; decide

/-- The top values and indices: what the last region leaves at the last point. -/
def topAt (c : Dev nD) : Vec F S32x8 .f32 × Vec F S32x8 .i32 :=
  finAt c ⟨61 + 1, lt62⟩ ((cond2_iff _).mpr rfl) (stateAt m c (61 + 1) lt62)

theorem topAt_eq (c : Dev nD) (n : ℕ) (h : n + 1 < cfg0.N) (hl : n + 1 = 62) :
    topAt m c = finAt c ⟨n + 1, h⟩ ((cond2_iff _).mpr hl) (stateAt m c (n + 1) h) := by
  obtain rfl : n = 61 := by omega
  rfl

/-- What the kernel's own buffers hold before point `t` (`t = 0`: anything). -/
def carried (c : Dev nD) : (n : ℕ) → n ≤ cfg0.N → sProp 𝕄
  | 0, _ => Pipeline.ΦA spec0 c
  | n + 1, h => iprop((ow c (Memref.whole cc0_scratch0) (stateAt m c n h).2.2.1 ∗ ow c (Memref.whole cc0_scratch1) (stateAt m c n h).2.2.2.1
      ∗ ow c (Memref.whole cc0_scratch2) (stateAt m c n h).2.2.2.2) ∗ ∃ r, prngReg c r)

/-- The proof data: every array as the region finds it; after the body each input at its block, the codes and the scale as
    computed at the first point, the top values and indices as computed at the last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (topAt m c).1
    | ⟨7, _⟩ => (topAt m c).2
    | ⟨8, _⟩ => (stateAt m c t.val t.isLt).1
    | ⟨9, _⟩ => (stateAt m c t.val t.isLt).2.1
  Φ t := carried m c t.val (Nat.lt_succ_iff.mp t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (topAt m c).1 := by dsimp only [dats]
theorem after_7 (c : Dev nD) (t : Fin cfg0.N) : (dats m 0 c).after 7 t = (topAt m c).2 := by dsimp only [dats]
theorem after_8 (c : Dev nD) (t : Fin cfg0.N) : (dats m 0 c).after 8 t = (stateAt m c t.val t.isLt).1 := by dsimp only [dats]
theorem after_9 (c : Dev nD) (t : Fin cfg0.N) : (dats m 0 c).after 9 t = (stateAt m c t.val t.isLt).2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem idle_6 (t : Fin cfg0.N) : cfg0.idle 6 (cfg0.grid.coords t) = !(k0_cond2 (grid0.coords t) == 1#1) := rfl
theorem idle_7 (t : Fin cfg0.N) : cfg0.idle 7 (cfg0.grid.coords t) = !(k0_cond2 (grid0.coords t) == 1#1) := rfl
theorem idle_8 (t : Fin cfg0.N) : cfg0.idle 8 (cfg0.grid.coords t) = !(k0_cond1 (grid0.coords t) == 1#1) := rfl
theorem fresh_8 : ∀ n, n < cfg0.N → cfg0.fresh 8 (n + 1) = decide (n = 62)
  | 0, h => by
    rw [Pipeline.Cfg.fresh_succ cfg0 8 0 h, idle_8, (cond1_iff ⟨0, h⟩).mpr rfl]
    have hf : (cfg0.win 8).flush ⟨0, h⟩ = false := by
      rw [Bool.eq_false_iff]; intro hc; have := (flush0_8 _).mp hc; simp at this
    rw [hf]; rfl
  | n + 1, h => by
    rw [Pipeline.Cfg.fresh_succ cfg0 8 (n + 1) h, fresh_8 n (Nat.lt_of_succ_lt h)]
    have h3 : n + 1 < 63 := lt63 ⟨n + 1, h⟩
    have hn : decide (n = 62) = false := by simp; omega
    rw [hn, Bool.and_false, Bool.or_false, Bool.eq_iff_iff, flush0_8, decide_eq_true_iff]
    show (n + 1) % 63 = 62 ↔ _
    omega
theorem before_8 (c : Dev nD) (n : ℕ) (h : n + 1 < cfg0.N) (d) : (dats m 0 c).before 8 ⟨n + 1, h⟩ d = (dats m 0 c).after 8 ⟨n, Nat.lt_of_succ_lt h⟩ := by
  have h3 : n + 1 < 63 := lt63 ⟨n + 1, h⟩
  rw [(dats m 0 c).before_out_traj 8 rfl (fun _ _ => rfl) (fun t ht _ _ => ?_) (n + 1) ⟨n + 1, h⟩ rfl d]
  · rw [if_neg (by rw [fresh_8 n (Nat.lt_of_succ_lt h)]; simp; omega)]; rfl
  · obtain ⟨tv, htv⟩ := t
    cases tv with
    | zero => exact absurd rfl ht
    | succ j => rw [after_8, after_8]; rfl
theorem idle_9 (t : Fin cfg0.N) : cfg0.idle 9 (cfg0.grid.coords t) = !(k0_cond1 (grid0.coords t) == 1#1) := rfl
theorem fresh_9 : ∀ n, n < cfg0.N → cfg0.fresh 9 (n + 1) = decide (n = 62)
  | 0, h => by
    rw [Pipeline.Cfg.fresh_succ cfg0 9 0 h, idle_9, (cond1_iff ⟨0, h⟩).mpr rfl]
    have hf : (cfg0.win 9).flush ⟨0, h⟩ = false := by
      rw [Bool.eq_false_iff]; intro hc; have := (flush0_9 _).mp hc; simp at this
    rw [hf]; rfl
  | n + 1, h => by
    rw [Pipeline.Cfg.fresh_succ cfg0 9 (n + 1) h, fresh_9 n (Nat.lt_of_succ_lt h)]
    have h3 : n + 1 < 63 := lt63 ⟨n + 1, h⟩
    have hn : decide (n = 62) = false := by simp; omega
    rw [hn, Bool.and_false, Bool.or_false, Bool.eq_iff_iff, flush0_9, decide_eq_true_iff]
    show (n + 1) % 63 = 62 ↔ _
    omega
theorem before_9 (c : Dev nD) (n : ℕ) (h : n + 1 < cfg0.N) (d) : (dats m 0 c).before 9 ⟨n + 1, h⟩ d = (dats m 0 c).after 9 ⟨n, Nat.lt_of_succ_lt h⟩ := by
  have h3 : n + 1 < 63 := lt63 ⟨n + 1, h⟩
  rw [(dats m 0 c).before_out_traj 9 rfl (fun _ _ => rfl) (fun t ht _ _ => ?_) (n + 1) ⟨n + 1, h⟩ rfl d]
  · rw [if_neg (by rw [fresh_9 n (Nat.lt_of_succ_lt h)]; simp; omega)]; rfl
  · obtain ⟨tv, htv⟩ := t
    cases tv with
    | zero => exact absurd rfl ht
    | succ j => rw [after_9, after_9]; rfl

theorem whole_eq (c : Dev nD) (b : Ref sig .tc) (f : b.ty.Contents (Elt F)) :
    pt c (Memref.whole b) f = (((c : Thread nD τ).loc b) ↦{fullShare} f : sProp 𝕄) := by
  unfold pt; simp only [Memref.view_whole, View.set_whole]

theorem pr_of (c : Dev nD) {sp : Space} {S : Shape} {e : EltTy} (M : Memref sig .tc sp S e) (X : Vec F S e) :
    ow (F := F) c M X ⊢ pr c M X := by rw [pr_eq]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- What it leaves in a window that is written at one point only: as found, or what the proof data says. -/
def leaves (c : Dev nD) (w : Fin 10) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ leaves m c 6 t ∗ leaves m c 7 t ∗ leaves m c 8 t ∗ leaves m c 9 t)

theorem leaves_live (c : Dev nD) (w : Fin 10) (t : Fin cfg0.N) (h : cfg0.idle w (cfg0.grid.coords t) = false) :
    leaves m c w t = owns (c : Thread nD τ) ((cfg0.win w).stage (cfg0.slots t w)) fullShare ((dats m 0 c).after w t) := by
  unfold leaves; rw [h]
theorem leaves_idle (c : Dev nD) (w : Fin 10) (t : Fin cfg0.N) (h : cfg0.idle w (cfg0.grid.coords t) = true) (hf : (cfg0.win w).flush t = false) :
    leaves m c w t = iprop(∃ d, owns (c : Thread nD τ) ((cfg0.win w).stage (cfg0.slots t w)) fullShare ((dats m 0 c).before w t d)) := by
  unfold leaves; rw [h, hf]
theorem leaves_flushed (c : Dev nD) (w : Fin 10) (t : Fin cfg0.N) (h : cfg0.idle w (cfg0.grid.coords t) = true) (hf : (cfg0.win w).flush t = true) :
    leaves m c w t = owns (c : Thread nD τ) ((cfg0.win w).stage (cfg0.slots t w)) fullShare ((dats m 0 c).after w t) := by
  unfold leaves; rw [h, hf]

set_option maxHeartbeats 1000000 in
theorem sound_first (c : Dev nD) (h : 0 < cfg0.N) :
    bodyPre m c ⟨0, h⟩ ⊢ wp frame (wpE (defs₀ (F := F)) Variants.none c none) Set.univ (bodyAt0 ⟨0, h⟩) (fun _ => bodyPost m c ⟨0, h⟩) := by
  have h1 : k0_cond1 (grid0.coords ⟨0, h⟩) = 1#1 := (cond1_iff _).mpr rfl
  have h2 : ¬ k0_cond2 (grid0.coords ⟨0, h⟩) = 1#1 := fun e => by have := (cond2_iff _).mp e; simp at this
  have i6 : cfg0.idle 6 (cfg0.grid.coords ⟨0, h⟩) = true := by rw [idle_6]; simp [h2]
  have i7 : cfg0.idle 7 (cfg0.grid.coords ⟨0, h⟩) = true := by rw [idle_7]; simp [h2]
  have i8 : cfg0.idle 8 (cfg0.grid.coords ⟨0, h⟩) = false := by rw [idle_8]; simp [h1]
  have i9 : cfg0.idle 9 (cfg0.grid.coords ⟨0, h⟩) = false := by rw [idle_9]; simp [h1]
  have g6 : (cfg0.win 6).flush ⟨0, h⟩ = false := by rw [Bool.eq_false_iff]; intro hc; have := (flush0_6 _).mp hc; simp at this
  have g7 : (cfg0.win 7).flush ⟨0, h⟩ = false := by rw [Bool.eq_false_iff]; intro hc; have := (flush0_7 _).mp hc; simp at this
  unfold bodyPre bodyPost bodyAt0
  simp only [before_0, before_1, before_2, before_3, before_4, before_5]
  rw [show (dats m 0 c).owesAt () (Fin.succ ⟨0, h⟩) = (dats m 0 c).owesAt () (Fin.castSucc ⟨0, h⟩) from rfl,
    after_0, after_1, after_2, after_3, after_4, after_5]
  rw [leaves_idle m c 6 _ i6 g6, leaves_idle m c 7 _ i7 g7, leaves_live m c 8 _ i8, leaves_live m c 9 _ i9, after_8, after_9]
  rw [show (dats m 0 c).Φ (Fin.castSucc ⟨0, h⟩) = Pipeline.ΦA spec0 c from rfl,
    show (dats m 0 c).Φ (Fin.succ ⟨0, h⟩) = carried m c 1 h from rfl]
  unfold Pipeline.ΦA carried
  rw [scopedRest0_eq]
  simp only [stateAt_zero, St.lists, stepAt, frontAt]
  iintro ⟨⟨⟨⟨%g11, H11⟩, ⟨%g12, H12⟩, ⟨%g13, H13⟩⟩, Hp⟩, Ho, ⟨%d0, H0⟩, ⟨%d1, H1⟩, ⟨%d2, H2⟩, ⟨%d3, H3⟩, ⟨%d4, H4⟩, ⟨%d5, H5⟩, H6, H7, ⟨%d8, H8⟩, ⟨%d9, H9⟩⟩
  iapply (body_first c (grid0.coords ⟨0, h⟩) (win0_0.stage (cfg0.slots ⟨0, h⟩ 0)) (hstage0_0 ((cfg0.slots ⟨0, h⟩ 0).cast nbuf0_0)) (win0_1.stage (cfg0.slots ⟨0, h⟩ 1)) (hstage0_1 ((cfg0.slots ⟨0, h⟩ 1).cast nbuf0_1)) (win0_2.stage (cfg0.slots ⟨0, h⟩ 2)) (hstage0_2 ((cfg0.slots ⟨0, h⟩ 2).cast nbuf0_2)) (win0_3.stage (cfg0.slots ⟨0, h⟩ 3)) (hstage0_3 ((cfg0.slots ⟨0, h⟩ 3).cast nbuf0_3)) (win0_4.stage (cfg0.slots ⟨0, h⟩ 4)) (hstage0_4 ((cfg0.slots ⟨0, h⟩ 4).cast nbuf0_4)) (win0_5.stage (cfg0.slots ⟨0, h⟩ 5)) (hstage0_5 ((cfg0.slots ⟨0, h⟩ 5).cast nbuf0_5)) (win0_6.stage (cfg0.slots ⟨0, h⟩ 6)) (hstage0_6 ((cfg0.slots ⟨0, h⟩ 6).cast nbuf0_6)) (win0_7.stage (cfg0.slots ⟨0, h⟩ 7)) (hstage0_7 ((cfg0.slots ⟨0, h⟩ 7).cast nbuf0_7)) (win0_8.stage (cfg0.slots ⟨0, h⟩ 8)) (hstage0_8 ((cfg0.slots ⟨0, h⟩ 8).cast nbuf0_8)) (win0_9.stage (cfg0.slots ⟨0, h⟩ 9)) (hstage0_9 ((cfg0.slots ⟨0, h⟩ 9).cast nbuf0_9)) (Memref.whole cc0_scratch0) (Memref.isWhole_whole _) (Memref.whole cc0_scratch1) (Memref.isWhole_whole _) (Memref.whole cc0_scratch2) (Memref.isWhole_whole _) h1 h2 (iblk m c 0 ⟨0, h⟩) (iblk m c 1 ⟨0, h⟩) (iblk m c 2 ⟨0, h⟩) (iblk m c 3 ⟨0, h⟩) (iblk m c 4 ⟨0, h⟩) (iblk m c 5 ⟨0, h⟩) ((st0_8 ⟨0, h⟩).view.rep ((dats m 0 c).before 8 ⟨0, h⟩ d8)) ((st0_9 ⟨0, h⟩).view.rep ((dats m 0 c).before 9 ⟨0, h⟩ d9)) g11 g12 g13 Set.univ _)
  isplitl [H0]
  · iexact H0
  isplitl [H1]
  · iexact H1
  isplitl [H2]
  · iexact H2
  isplitl [H3]
  · iexact H3
  isplitl [H4]
  · iexact H4
  isplitl [H5]
  · iexact H5
  isplitl [H8]
  · iapply (pr_of (F := F)); iexact H8
  isplitl [H9]
  · iapply (pr_of (F := F)); iexact H9
  isplitl [H11]
  · rw [whole_eq]; iexact H11
  isplitl [H12]
  · rw [whole_eq]; iexact H12
  isplitl [H13]
  · rw [whole_eq]; iexact H13
  iintro ⟨H0, H1, H2, H3, H4, H5, H8, H9, H11, H12, H13⟩
  isplitl [H11 H12 H13 Hp]
  · isplitr [Hp]
    · isplitl [H11]; · iexact H11
      isplitl [H12]; · iexact H12
      iexact H13
    · iexact Hp
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

set_option maxHeartbeats 1000000 in
theorem sound_mid (c : Dev nD) (n : ℕ) (h : n + 1 < cfg0.N) (hl : n + 1 ≠ 62) :
    bodyPre m c ⟨n + 1, h⟩ ⊢ wp frame (wpE (defs₀ (F := F)) Variants.none c none) Set.univ (bodyAt0 ⟨n + 1, h⟩) (fun _ => bodyPost m c ⟨n + 1, h⟩) := by
  have h3 : n + 1 < 63 := lt63 ⟨n + 1, h⟩
  have h1 : ¬ k0_cond1 (grid0.coords ⟨n + 1, h⟩) = 1#1 := fun e => absurd ((cond1_iff _).mp e) (Nat.succ_ne_zero n)
  have i8 : cfg0.idle 8 (cfg0.grid.coords ⟨n + 1, h⟩) = true := by rw [idle_8]; simp [h1]
  have i9 : cfg0.idle 9 (cfg0.grid.coords ⟨n + 1, h⟩) = true := by rw [idle_9]; simp [h1]
  have h2 : ¬ k0_cond2 (grid0.coords ⟨n + 1, h⟩) = 1#1 := fun e => hl ((cond2_iff _).mp e)
  have i6 : cfg0.idle 6 (cfg0.grid.coords ⟨n + 1, h⟩) = true := by rw [idle_6]; simp [h2]
  have i7 : cfg0.idle 7 (cfg0.grid.coords ⟨n + 1, h⟩) = true := by rw [idle_7]; simp [h2]
  have g6 : (cfg0.win 6).flush ⟨n + 1, h⟩ = false := by
    rw [Bool.eq_false_iff]; intro hc; have h4 : (n + 1) % 63 = 62 := (flush0_6 _).mp hc; omega
  have g7 : (cfg0.win 7).flush ⟨n + 1, h⟩ = false := by
    rw [Bool.eq_false_iff]; intro hc; have h4 : (n + 1) % 63 = 62 := (flush0_7 _).mp hc; omega
  have g8 : (cfg0.win 8).flush ⟨n + 1, h⟩ = false := by
    rw [Bool.eq_false_iff]; intro hc; have h4 : (n + 1) % 63 = 62 := (flush0_8 _).mp hc; omega
  have g9 : (cfg0.win 9).flush ⟨n + 1, h⟩ = false := by
    rw [Bool.eq_false_iff]; intro hc; have h4 : (n + 1) % 63 = 62 := (flush0_9 _).mp hc; omega
  unfold bodyPre bodyPost bodyAt0
  simp only [before_0, before_1, before_2, before_3, before_4, before_5]
  rw [show (dats m 0 c).owesAt () (Fin.succ ⟨n + 1, h⟩) = (dats m 0 c).owesAt () (Fin.castSucc ⟨n + 1, h⟩) from rfl,
    after_0, after_1, after_2, after_3, after_4, after_5]
  rw [leaves_idle m c 6 _ i6 g6, leaves_idle m c 7 _ i7 g7, leaves_idle m c 8 _ i8 g8, leaves_idle m c 9 _ i9 g9]
  simp only [before_8, before_9, after_8, after_9]
  rw [show (dats m 0 c).Φ (Fin.castSucc ⟨n + 1, h⟩) = carried m c (n + 1) (Nat.le_of_lt h) from rfl,
    show (dats m 0 c).Φ (Fin.succ ⟨n + 1, h⟩) = carried m c (n + 2) h from rfl]
  unfold carried
  skip
  simp only [stateAt_succ m c n h]
  simp only [St.lists, stepAt]
  iintro ⟨⟨⟨H11, H12, H13⟩, Hp⟩, Ho, ⟨%d0, H0⟩, ⟨%d1, H1⟩, ⟨%d2, H2⟩, ⟨%d3, H3⟩, ⟨%d4, H4⟩, ⟨%d5, H5⟩, H6, H7, ⟨%d8, H8⟩, ⟨%d9, H9⟩⟩
  iapply (body_mid c (grid0.coords ⟨n + 1, h⟩) (win0_0.stage (cfg0.slots ⟨n + 1, h⟩ 0)) (hstage0_0 ((cfg0.slots ⟨n + 1, h⟩ 0).cast nbuf0_0)) (win0_1.stage (cfg0.slots ⟨n + 1, h⟩ 1)) (hstage0_1 ((cfg0.slots ⟨n + 1, h⟩ 1).cast nbuf0_1)) (win0_2.stage (cfg0.slots ⟨n + 1, h⟩ 2)) (hstage0_2 ((cfg0.slots ⟨n + 1, h⟩ 2).cast nbuf0_2)) (win0_3.stage (cfg0.slots ⟨n + 1, h⟩ 3)) (hstage0_3 ((cfg0.slots ⟨n + 1, h⟩ 3).cast nbuf0_3)) (win0_4.stage (cfg0.slots ⟨n + 1, h⟩ 4)) (hstage0_4 ((cfg0.slots ⟨n + 1, h⟩ 4).cast nbuf0_4)) (win0_5.stage (cfg0.slots ⟨n + 1, h⟩ 5)) (hstage0_5 ((cfg0.slots ⟨n + 1, h⟩ 5).cast nbuf0_5)) (win0_6.stage (cfg0.slots ⟨n + 1, h⟩ 6)) (hstage0_6 ((cfg0.slots ⟨n + 1, h⟩ 6).cast nbuf0_6)) (win0_7.stage (cfg0.slots ⟨n + 1, h⟩ 7)) (hstage0_7 ((cfg0.slots ⟨n + 1, h⟩ 7).cast nbuf0_7)) (win0_8.stage (cfg0.slots ⟨n + 1, h⟩ 8)) (hstage0_8 ((cfg0.slots ⟨n + 1, h⟩ 8).cast nbuf0_8)) (win0_9.stage (cfg0.slots ⟨n + 1, h⟩ 9)) (hstage0_9 ((cfg0.slots ⟨n + 1, h⟩ 9).cast nbuf0_9)) (Memref.whole cc0_scratch0) (Memref.isWhole_whole _) (Memref.whole cc0_scratch1) (Memref.isWhole_whole _) (Memref.whole cc0_scratch2) (Memref.isWhole_whole _) h1 h2 (iblk m c 2 ⟨n + 1, h⟩) (iblk m c 3 ⟨n + 1, h⟩) (iblk m c 4 ⟨n + 1, h⟩) (iblk m c 5 ⟨n + 1, h⟩) (stateAt m c n (Nat.lt_of_succ_lt h)) Set.univ _)
  isplitl [H2]
  · iexact H2
  isplitl [H3]
  · iexact H3
  isplitl [H4]
  · iexact H4
  isplitl [H5]
  · iexact H5
  isplitl [H8]
  · iexact H8
  isplitl [H9]
  · iexact H9
  isplitl [H11]
  · iexact H11
  isplitl [H12]
  · iexact H12
  isplitl [H13]
  · iexact H13
  iintro ⟨H2, H3, H4, H5, H8, H9, H11, H12, H13⟩
  isplitl [H11 H12 H13 Hp]
  · isplitr [Hp]
    · isplitl [H11]; · iexact H11
      isplitl [H12]; · iexact H12
      iexact H13
    · iexact Hp
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists d8; iexact H8
  iexists d9; iexact H9

set_option maxHeartbeats 1000000 in
theorem sound_last (c : Dev nD) (n : ℕ) (h : n + 1 < cfg0.N) (hl : n + 1 = 62) :
    bodyPre m c ⟨n + 1, h⟩ ⊢ wp frame (wpE (defs₀ (F := F)) Variants.none c none) Set.univ (bodyAt0 ⟨n + 1, h⟩) (fun _ => bodyPost m c ⟨n + 1, h⟩) := by
  have h3 : n + 1 < 63 := lt63 ⟨n + 1, h⟩
  have h1 : ¬ k0_cond1 (grid0.coords ⟨n + 1, h⟩) = 1#1 := fun e => absurd ((cond1_iff _).mp e) (Nat.succ_ne_zero n)
  have i8 : cfg0.idle 8 (cfg0.grid.coords ⟨n + 1, h⟩) = true := by rw [idle_8]; simp [h1]
  have i9 : cfg0.idle 9 (cfg0.grid.coords ⟨n + 1, h⟩) = true := by rw [idle_9]; simp [h1]
  have h2 : k0_cond2 (grid0.coords ⟨n + 1, h⟩) = 1#1 := (cond2_iff _).mpr hl
  have i6 : cfg0.idle 6 (cfg0.grid.coords ⟨n + 1, h⟩) = false := by rw [idle_6]; simp [h2]
  have i7 : cfg0.idle 7 (cfg0.grid.coords ⟨n + 1, h⟩) = false := by rw [idle_7]; simp [h2]
  have g8 : (cfg0.win 8).flush ⟨n + 1, h⟩ = true := (flush0_8 _).mpr (by show (n + 1) % 63 = 62; omega)
  have g9 : (cfg0.win 9).flush ⟨n + 1, h⟩ = true := (flush0_9 _).mpr (by show (n + 1) % 63 = 62; omega)
  unfold bodyPre bodyPost bodyAt0
  simp only [before_0, before_1, before_2, before_3, before_4, before_5]
  rw [show (dats m 0 c).owesAt () (Fin.succ ⟨n + 1, h⟩) = (dats m 0 c).owesAt () (Fin.castSucc ⟨n + 1, h⟩) from rfl,
    after_0, after_1, after_2, after_3, after_4, after_5]
  rw [leaves_live m c 6 _ i6, leaves_live m c 7 _ i7, leaves_flushed m c 8 _ i8 g8, leaves_flushed m c 9 _ i9 g9, after_6, after_7, after_8, after_9]
  simp only [before_8, before_9, after_8, after_9]
  rw [show (dats m 0 c).Φ (Fin.castSucc ⟨n + 1, h⟩) = carried m c (n + 1) (Nat.le_of_lt h) from rfl,
    show (dats m 0 c).Φ (Fin.succ ⟨n + 1, h⟩) = carried m c (n + 2) h from rfl]
  unfold carried
  rw [topAt_eq m c n h hl]; unfold finAt
  simp only [stateAt_succ m c n h]
  simp only [St.lists, stepAt]
  iintro ⟨⟨⟨H11, H12, H13⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_last c (grid0.coords ⟨n + 1, h⟩) (win0_0.stage (cfg0.slots ⟨n + 1, h⟩ 0)) (hstage0_0 ((cfg0.slots ⟨n + 1, h⟩ 0).cast nbuf0_0)) (win0_1.stage (cfg0.slots ⟨n + 1, h⟩ 1)) (hstage0_1 ((cfg0.slots ⟨n + 1, h⟩ 1).cast nbuf0_1)) (win0_2.stage (cfg0.slots ⟨n + 1, h⟩ 2)) (hstage0_2 ((cfg0.slots ⟨n + 1, h⟩ 2).cast nbuf0_2)) (win0_3.stage (cfg0.slots ⟨n + 1, h⟩ 3)) (hstage0_3 ((cfg0.slots ⟨n + 1, h⟩ 3).cast nbuf0_3)) (win0_4.stage (cfg0.slots ⟨n + 1, h⟩ 4)) (hstage0_4 ((cfg0.slots ⟨n + 1, h⟩ 4).cast nbuf0_4)) (win0_5.stage (cfg0.slots ⟨n + 1, h⟩ 5)) (hstage0_5 ((cfg0.slots ⟨n + 1, h⟩ 5).cast nbuf0_5)) (win0_6.stage (cfg0.slots ⟨n + 1, h⟩ 6)) (hstage0_6 ((cfg0.slots ⟨n + 1, h⟩ 6).cast nbuf0_6)) (win0_7.stage (cfg0.slots ⟨n + 1, h⟩ 7)) (hstage0_7 ((cfg0.slots ⟨n + 1, h⟩ 7).cast nbuf0_7)) (win0_8.stage (cfg0.slots ⟨n + 1, h⟩ 8)) (hstage0_8 ((cfg0.slots ⟨n + 1, h⟩ 8).cast nbuf0_8)) (win0_9.stage (cfg0.slots ⟨n + 1, h⟩ 9)) (hstage0_9 ((cfg0.slots ⟨n + 1, h⟩ 9).cast nbuf0_9)) (Memref.whole cc0_scratch0) (Memref.isWhole_whole _) (Memref.whole cc0_scratch1) (Memref.isWhole_whole _) (Memref.whole cc0_scratch2) (Memref.isWhole_whole _) h1 h2 (iblk m c 2 ⟨n + 1, h⟩) (iblk m c 3 ⟨n + 1, h⟩) (iblk m c 4 ⟨n + 1, h⟩) (iblk m c 5 ⟨n + 1, h⟩) (stateAt m c n (Nat.lt_of_succ_lt h)) ((st0_6 ⟨n + 1, h⟩).view.rep ((dats m 0 c).before 6 ⟨n + 1, h⟩ d6)) ((st0_7 ⟨n + 1, h⟩).view.rep ((dats m 0 c).before 7 ⟨n + 1, h⟩ d7)) Set.univ _)
  isplitl [H2]
  · iexact H2
  isplitl [H3]
  · iexact H3
  isplitl [H4]
  · iexact H4
  isplitl [H5]
  · iexact H5
  isplitl [H8]
  · iexact H8
  isplitl [H9]
  · iexact H9
  isplitl [H11]
  · iexact H11
  isplitl [H12]
  · iexact H12
  isplitl [H13]
  · iexact H13
  isplitl [H6]
  · iapply (pr_of (F := F)); iexact H6
  isplitl [H7]
  · iapply (pr_of (F := F)); iexact H7
  iintro ⟨H2, H3, H4, H5, H8, H9, H11, H12, H13, H6, H7⟩
  isplitl [H11 H12 H13 Hp]
  · isplitr [Hp]
    · isplitl [H11]; · iexact H11
      isplitl [H12]; · iexact H12
      iexact H13
    · iexact Hp
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

theorem sound_body (c : Dev nD) (t : Fin cfg0.N) :
    bodyPre m c t ⊢ wp frame (wpE (defs₀ (F := F)) Variants.none c none) Set.univ (bodyAt0 t) (fun _ => bodyPost m c t) := by
  obtain ⟨n, h⟩ := t
  cases n with
  | zero => exact sound_first m c h
  | succ n =>
    by_cases hl : n + 1 = 62
    · exact sound_last m c n h hl
    · exact sound_mid m c n h hl

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem carried_last (c : Dev nD) : (dats m 0 c).Φ (Fin.last cfg0.N) ⊢ (Pipeline.ΦA spec0 c : sProp 𝕄) := by
  rw [show (dats m 0 c).Φ (Fin.last cfg0.N) = carried m c 63 (by show 63 ≤ grid0.N; rw [N_0]) from by
    show carried m c grid0.N _ = _
    congr 1]
  unfold Pipeline.ΦA carried
  rw [scopedRest0_eq]
  simp only [ow, owns_whole_eq]
  iintro ⟨⟨⟨%f11, -, H11⟩, ⟨%f12, -, H12⟩, ⟨%f13, -, H13⟩⟩, Hp⟩
  isplitr [Hp]
  · isplitl [H11]; · iexists f11; iexact H11
    isplitl [H12]; · iexists f12; iexact H12
    iexists f13; iexact H13
  · iexact Hp

set_option backward.isDefEq.respectTransparency.types false in
set_option maxHeartbeats 800000 in
/-- The run of the whole program: every array ends as the proof data says, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := carried_last m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Exact

end
-- ==== Proof.KerSeen.lean ====
module

public import proofs.«01_k».proof.Proof.IdealFront

/-! The table of seen tokens: per word and lane, the bits of the history, joined one column after another. -/

open Idealize Idealize.ShloMosaic
open Cert.KernelIdeal Cert.KernelIdeal.Gen

@[expose] public section

set_option maxRecDepth 65536

noncomputable section

namespace Cert.Ideal

variable {F : FTy → Type} [FloatOps F]

theorem slices_col (h : Fin 64) : S8x64.Slices ![0, h.val] S8x1 := by revert h; decide

/-- A column of the history in every lane. -/
def histV (ids : Vec F S8x64 .i32) (h : Fin 64) : IVec S8x128 32 :=
  broadcastTo S8x128 (shapeCast S8x1 (extractStridedSlice S8x1 ![0, h.val] ids (slices_col h)) shapeCasts_S8x1_S8x1) broadcasts_S8x1_S8x128

/-- The bit a column sets in the word `w`. -/
def wordV (w : BitVec 32) (ids : Vec F S8x64 .i32) (h : Fin 64) : IVec S8x128 32 :=
  select (cmpi .eq (shrsi (shrsi (histV ids h) (broadcast S8x128 7#32)) (broadcast S8x128 5#32)) (broadcast S8x128 w))
    (select (cmpi .eq (andi (histV ids h) (broadcast S8x128 127#32)) (iota .tc S8x128 32 [1] iota_S8x128_d1_w32))
      (shli (broadcast S8x128 1#32) (andi (shrsi (histV ids h) (broadcast S8x128 7#32)) (broadcast S8x128 31#32))) (broadcast S8x128 0#32))
    (broadcast S8x128 0#32)

/-- The word `w` after the first `n` columns. -/
def seenV (w : BitVec 32) (ids : Vec F S8x64 .i32) : (n : ℕ) → n ≤ 64 → IVec S8x128 32
  | 0, _ => broadcast S8x128 0#32
  | n + 1, h => ori (seenV w ids n (Nat.le_of_succ_le h)) (wordV w ids ⟨n, h⟩)

/-- Eight rows of the history. -/
def idsV (arg2 : Memref sig .tc .vmem S32x64 .i32) (X2 : Vec F S32x64 .i32) (off : Fin 2 → ℕ)
    (h : ∀ a, off a + S8x64.size a ≤ S32x64.size a) : Vec F S8x64 .i32 :=
  View.readAt (Elt F) arg2.view (Rect.unit (s := S32x64) off S8x64.size h).toLoadRect (arg2.view.rep X2)

variable (arg2 : Memref sig .tc .vmem S32x64 .i32) (X2 : Vec F S32x64 .i32)

set_option maxHeartbeats 1000000 in
theorem words0 : runFront.sl.H11_8 (F := F) arg2 X2 = [⟨Rect.unit ![7, 0, 0] S1x8x128.size inb_S8x32x128_S1x8x128_7_0_0, shapeCast S1x8x128 (seenV 7#32 (idsV (F := F) arg2 X2 ![0, 0] inb_S32x64_S8x64_0_0) 64 (Nat.le_refl _)) shapeCasts_S8x128_S1x8x128⟩, ⟨Rect.unit ![6, 0, 0] S1x8x128.size inb_S8x32x128_S1x8x128_6_0_0, shapeCast S1x8x128 (seenV 6#32 (idsV (F := F) arg2 X2 ![0, 0] inb_S32x64_S8x64_0_0) 64 (Nat.le_refl _)) shapeCasts_S8x128_S1x8x128⟩, ⟨Rect.unit ![5, 0, 0] S1x8x128.size inb_S8x32x128_S1x8x128_5_0_0, shapeCast S1x8x128 (seenV 5#32 (idsV (F := F) arg2 X2 ![0, 0] inb_S32x64_S8x64_0_0) 64 (Nat.le_refl _)) shapeCasts_S8x128_S1x8x128⟩, ⟨Rect.unit ![4, 0, 0] S1x8x128.size inb_S8x32x128_S1x8x128_4_0_0, shapeCast S1x8x128 (seenV 4#32 (idsV (F := F) arg2 X2 ![0, 0] inb_S32x64_S8x64_0_0) 64 (Nat.le_refl _)) shapeCasts_S8x128_S1x8x128⟩, ⟨Rect.unit ![3, 0, 0] S1x8x128.size inb_S8x32x128_S1x8x128_3_0_0, shapeCast S1x8x128 (seenV 3#32 (idsV (F := F) arg2 X2 ![0, 0] inb_S32x64_S8x64_0_0) 64 (Nat.le_refl _)) shapeCasts_S8x128_S1x8x128⟩, ⟨Rect.unit ![2, 0, 0] S1x8x128.size inb_S8x32x128_S1x8x128_2_0_0, shapeCast S1x8x128 (seenV 2#32 (idsV (F := F) arg2 X2 ![0, 0] inb_S32x64_S8x64_0_0) 64 (Nat.le_refl _)) shapeCasts_S8x128_S1x8x128⟩, ⟨Rect.unit ![1, 0, 0] S1x8x128.size inb_S8x32x128_S1x8x128_1_0_0, shapeCast S1x8x128 (seenV 1#32 (idsV (F := F) arg2 X2 ![0, 0] inb_S32x64_S8x64_0_0) 64 (Nat.le_refl _)) shapeCasts_S8x128_S1x8x128⟩, ⟨Rect.unit ![0, 0, 0] S1x8x128.size inb_S8x32x128_S1x8x128_0_0_0, shapeCast S1x8x128 (seenV 0#32 (idsV (F := F) arg2 X2 ![0, 0] inb_S32x64_S8x64_0_0) 64 (Nat.le_refl _)) shapeCasts_S8x128_S1x8x128⟩] := rfl

set_option maxHeartbeats 1000000 in
theorem words1 : runFront.sl.H11_16 (F := F) arg2 X2 = [⟨Rect.unit ![7, 8, 0] S1x8x128.size inb_S8x32x128_S1x8x128_7_8_0, shapeCast S1x8x128 (seenV 7#32 (idsV (F := F) arg2 X2 ![8, 0] inb_S32x64_S8x64_8_0) 64 (Nat.le_refl _)) shapeCasts_S8x128_S1x8x128⟩, ⟨Rect.unit ![6, 8, 0] S1x8x128.size inb_S8x32x128_S1x8x128_6_8_0, shapeCast S1x8x128 (seenV 6#32 (idsV (F := F) arg2 X2 ![8, 0] inb_S32x64_S8x64_8_0) 64 (Nat.le_refl _)) shapeCasts_S8x128_S1x8x128⟩, ⟨Rect.unit ![5, 8, 0] S1x8x128.size inb_S8x32x128_S1x8x128_5_8_0, shapeCast S1x8x128 (seenV 5#32 (idsV (F := F) arg2 X2 ![8, 0] inb_S32x64_S8x64_8_0) 64 (Nat.le_refl _)) shapeCasts_S8x128_S1x8x128⟩, ⟨Rect.unit ![4, 8, 0] S1x8x128.size inb_S8x32x128_S1x8x128_4_8_0, shapeCast S1x8x128 (seenV 4#32 (idsV (F := F) arg2 X2 ![8, 0] inb_S32x64_S8x64_8_0) 64 (Nat.le_refl _)) shapeCasts_S8x128_S1x8x128⟩, ⟨Rect.unit ![3, 8, 0] S1x8x128.size inb_S8x32x128_S1x8x128_3_8_0, shapeCast S1x8x128 (seenV 3#32 (idsV (F := F) arg2 X2 ![8, 0] inb_S32x64_S8x64_8_0) 64 (Nat.le_refl _)) shapeCasts_S8x128_S1x8x128⟩, ⟨Rect.unit ![2, 8, 0] S1x8x128.size inb_S8x32x128_S1x8x128_2_8_0, shapeCast S1x8x128 (seenV 2#32 (idsV (F := F) arg2 X2 ![8, 0] inb_S32x64_S8x64_8_0) 64 (Nat.le_refl _)) shapeCasts_S8x128_S1x8x128⟩, ⟨Rect.unit ![1, 8, 0] S1x8x128.size inb_S8x32x128_S1x8x128_1_8_0, shapeCast S1x8x128 (seenV 1#32 (idsV (F := F) arg2 X2 ![8, 0] inb_S32x64_S8x64_8_0) 64 (Nat.le_refl _)) shapeCasts_S8x128_S1x8x128⟩, ⟨Rect.unit ![0, 8, 0] S1x8x128.size inb_S8x32x128_S1x8x128_0_8_0, shapeCast S1x8x128 (seenV 0#32 (idsV (F := F) arg2 X2 ![8, 0] inb_S32x64_S8x64_8_0) 64 (Nat.le_refl _)) shapeCasts_S8x128_S1x8x128⟩] ++ runFront.sl.H11_8 (F := F) arg2 X2 := rfl

set_option maxHeartbeats 1000000 in
theorem words2 : runFront.sl.H11_24 (F := F) arg2 X2 = [⟨Rect.unit ![7, 16, 0] S1x8x128.size inb_S8x32x128_S1x8x128_7_16_0, shapeCast S1x8x128 (seenV 7#32 (idsV (F := F) arg2 X2 ![16, 0] inb_S32x64_S8x64_16_0) 64 (Nat.le_refl _)) shapeCasts_S8x128_S1x8x128⟩, ⟨Rect.unit ![6, 16, 0] S1x8x128.size inb_S8x32x128_S1x8x128_6_16_0, shapeCast S1x8x128 (seenV 6#32 (idsV (F := F) arg2 X2 ![16, 0] inb_S32x64_S8x64_16_0) 64 (Nat.le_refl _)) shapeCasts_S8x128_S1x8x128⟩, ⟨Rect.unit ![5, 16, 0] S1x8x128.size inb_S8x32x128_S1x8x128_5_16_0, shapeCast S1x8x128 (seenV 5#32 (idsV (F := F) arg2 X2 ![16, 0] inb_S32x64_S8x64_16_0) 64 (Nat.le_refl _)) shapeCasts_S8x128_S1x8x128⟩, ⟨Rect.unit ![4, 16, 0] S1x8x128.size inb_S8x32x128_S1x8x128_4_16_0, shapeCast S1x8x128 (seenV 4#32 (idsV (F := F) arg2 X2 ![16, 0] inb_S32x64_S8x64_16_0) 64 (Nat.le_refl _)) shapeCasts_S8x128_S1x8x128⟩, ⟨Rect.unit ![3, 16, 0] S1x8x128.size inb_S8x32x128_S1x8x128_3_16_0, shapeCast S1x8x128 (seenV 3#32 (idsV (F := F) arg2 X2 ![16, 0] inb_S32x64_S8x64_16_0) 64 (Nat.le_refl _)) shapeCasts_S8x128_S1x8x128⟩, ⟨Rect.unit ![2, 16, 0] S1x8x128.size inb_S8x32x128_S1x8x128_2_16_0, shapeCast S1x8x128 (seenV 2#32 (idsV (F := F) arg2 X2 ![16, 0] inb_S32x64_S8x64_16_0) 64 (Nat.le_refl _)) shapeCasts_S8x128_S1x8x128⟩, ⟨Rect.unit ![1, 16, 0] S1x8x128.size inb_S8x32x128_S1x8x128_1_16_0, shapeCast S1x8x128 (seenV 1#32 (idsV (F := F) arg2 X2 ![16, 0] inb_S32x64_S8x64_16_0) 64 (Nat.le_refl _)) shapeCasts_S8x128_S1x8x128⟩, ⟨Rect.unit ![0, 16, 0] S1x8x128.size inb_S8x32x128_S1x8x128_0_16_0, shapeCast S1x8x128 (seenV 0#32 (idsV (F := F) arg2 X2 ![16, 0] inb_S32x64_S8x64_16_0) 64 (Nat.le_refl _)) shapeCasts_S8x128_S1x8x128⟩] ++ runFront.sl.H11_16 (F := F) arg2 X2 := rfl

set_option maxHeartbeats 1000000 in
theorem words3 : runFront.sl.H11_32 (F := F) arg2 X2 = [⟨Rect.unit ![7, 24, 0] S1x8x128.size inb_S8x32x128_S1x8x128_7_24_0, shapeCast S1x8x128 (seenV 7#32 (idsV (F := F) arg2 X2 ![24, 0] inb_S32x64_S8x64_24_0) 64 (Nat.le_refl _)) shapeCasts_S8x128_S1x8x128⟩, ⟨Rect.unit ![6, 24, 0] S1x8x128.size inb_S8x32x128_S1x8x128_6_24_0, shapeCast S1x8x128 (seenV 6#32 (idsV (F := F) arg2 X2 ![24, 0] inb_S32x64_S8x64_24_0) 64 (Nat.le_refl _)) shapeCasts_S8x128_S1x8x128⟩, ⟨Rect.unit ![5, 24, 0] S1x8x128.size inb_S8x32x128_S1x8x128_5_24_0, shapeCast S1x8x128 (seenV 5#32 (idsV (F := F) arg2 X2 ![24, 0] inb_S32x64_S8x64_24_0) 64 (Nat.le_refl _)) shapeCasts_S8x128_S1x8x128⟩, ⟨Rect.unit ![4, 24, 0] S1x8x128.size inb_S8x32x128_S1x8x128_4_24_0, shapeCast S1x8x128 (seenV 4#32 (idsV (F := F) arg2 X2 ![24, 0] inb_S32x64_S8x64_24_0) 64 (Nat.le_refl _)) shapeCasts_S8x128_S1x8x128⟩, ⟨Rect.unit ![3, 24, 0] S1x8x128.size inb_S8x32x128_S1x8x128_3_24_0, shapeCast S1x8x128 (seenV 3#32 (idsV (F := F) arg2 X2 ![24, 0] inb_S32x64_S8x64_24_0) 64 (Nat.le_refl _)) shapeCasts_S8x128_S1x8x128⟩, ⟨Rect.unit ![2, 24, 0] S1x8x128.size inb_S8x32x128_S1x8x128_2_24_0, shapeCast S1x8x128 (seenV 2#32 (idsV (F := F) arg2 X2 ![24, 0] inb_S32x64_S8x64_24_0) 64 (Nat.le_refl _)) shapeCasts_S8x128_S1x8x128⟩, ⟨Rect.unit ![1, 24, 0] S1x8x128.size inb_S8x32x128_S1x8x128_1_24_0, shapeCast S1x8x128 (seenV 1#32 (idsV (F := F) arg2 X2 ![24, 0] inb_S32x64_S8x64_24_0) 64 (Nat.le_refl _)) shapeCasts_S8x128_S1x8x128⟩, ⟨Rect.unit ![0, 24, 0] S1x8x128.size inb_S8x32x128_S1x8x128_0_24_0, shapeCast S1x8x128 (seenV 0#32 (idsV (F := F) arg2 X2 ![24, 0] inb_S32x64_S8x64_24_0) 64 (Nat.le_refl _)) shapeCasts_S8x128_S1x8x128⟩] ++ runFront.sl.H11_24 (F := F) arg2 X2 := rfl

end Cert.Ideal

end

end
-- ==== Proof.KerTop.lean ====
module

public import proofs.«01_k».proof.Proof.IdealFin

/-! The last region: eight rounds, each taking the best of the heads of the lists of the 128 lanes and moving that list up by one. -/

open Idealize Idealize.ShloMosaic
open Cert.KernelIdeal Cert.KernelIdeal.Gen

@[expose] public section

set_option maxRecDepth 65536

noncomputable section

namespace Cert.Ideal

variable {F : FTy → Type} [FloatOps F]

/-- The best head's value. -/
def topV (v : FVec F S32x128 .f32) : FVec F S32x1 .f32 :=
  shapeCast S32x1 (multiReduction .maximumf [1] S32 v 0xFF800000#32 reduces_S32x128_S32 (.inl rfl) rfl) shapeCasts_S32_S32x1

/-- The heads whose value is the best. -/
def atV (v : FVec F S32x128 .f32) : IVec S32x128 1 := cmpf .oeq v (broadcastTo S32x128 (topV v) broadcasts_S32x1_S32x128)

/-- The smallest index among them. -/
def topI (v : FVec F S32x128 .f32) (k : IVec S32x128 32) : IVec S32x1 32 :=
  shapeCast S32x1 (multiReductionI .minsi [1] S32 (select (atV v) k (broadcast S32x128 2147483647#32)) 2147483647#32 reduces_S32x128_S32 rfl)
    shapeCasts_S32_S32x1

/-- The heads that are taken. -/
def hitV (v : FVec F S32x128 .f32) (k : IVec S32x128 32) : IVec S32x128 1 :=
  andi (atV v) (cmpi .eq k (broadcastTo S32x128 (topI v k) broadcasts_S32x1_S32x128))

/-- A round on the values. -/
def popV (v : ℕ → FVec F S32x128 .f32) (k : ℕ → IVec S32x128 32) (j : ℕ) : FVec F S32x128 .f32 := select (hitV (v 0) (k 0)) (v (j + 1)) (v j)

/-- A round on the indices. -/
def popI (v : ℕ → FVec F S32x128 .f32) (k : ℕ → IVec S32x128 32) (j : ℕ) : IVec S32x128 32 := select (hitV (v 0) (k 0)) (k (j + 1)) (k j)

/-- The lists after `n` rounds. -/
def rounds (v : ℕ → FVec F S32x128 .f32) (k : ℕ → IVec S32x128 32) : ℕ → (ℕ → FVec F S32x128 .f32) × (ℕ → IVec S32x128 32)
  | 0 => (v, k)
  | n + 1 => (popV (rounds v k n).1 (rounds v k n).2, popI (rounds v k n).1 (rounds v k n).2)

/-- One slot of all rows. -/
def slotT {e : EltTy} (r : Memref sig .tc .vmem S8x32x128 e) (X : Vec F S8x32x128 e) (off : Fin 3 → ℕ)
    (h : ∀ a, off a + S1x32x128.size a ≤ S8x32x128.size a) : Vec F S32x128 e :=
  shapeCast S32x128 (View.readAt (Elt F) r.view (Rect.unit (s := S8x32x128) off S1x32x128.size h).toLoadRect (r.view.rep X)) shapeCasts_S1x32x128_S32x128

/-- Rounds after rounds. -/
theorem rounds_add (v : ℕ → FVec F S32x128 .f32) (k : ℕ → IVec S32x128 32) (n : ℕ) :
    ∀ q, rounds (rounds v k n).1 (rounds v k n).2 q = rounds v k (n + q)
  | 0 => rfl
  | q + 1 => by
    show (popV _ _, popI _ _) = (popV _ _, popI _ _)
    rw [rounds_add v k n q]; rfl

section Stages

variable (v : ℕ → FVec F S32x128 .f32) (k : ℕ → IVec S32x128 32)

theorem a_r_20 : k0_pay3490 (v 0) (k 0) (v 1) (atV (v 0)) (broadcastTo S32x128 (topI (v 0) (k 0)) broadcasts_S32x1_S32x128) = topV ((rounds v k 1).1 0) := rfl
theorem a_r_21 : k0_pay3492 (v 0) (k 0) (v 1) (k 1) (atV (v 0)) (broadcastTo S32x128 (topI (v 0) (k 0)) broadcasts_S32x1_S32x128) = topI ((rounds v k 1).1 0) ((rounds v k 1).2 0) := rfl
theorem a_r_22 : k0_pay3502 (v 0) (k 0) (v 1) (k 1) (v 2) (atV (v 0)) (broadcastTo S32x128 (topI (v 0) (k 0)) broadcasts_S32x1_S32x128) = topV ((rounds v k 2).1 0) := rfl
theorem a_r_23 : k0_pay3504 (v 0) (k 0) (v 1) (k 1) (v 2) (k 2) (atV (v 0)) (broadcastTo S32x128 (topI (v 0) (k 0)) broadcasts_S32x1_S32x128) = topI ((rounds v k 2).1 0) ((rounds v k 2).2 0) := rfl
theorem a_r_24 : k0_pay3506 (v 0) (k 0) (v 1) (k 1) (v 2) (k 2) (v 3) (atV (v 0)) (broadcastTo S32x128 (topI (v 0) (k 0)) broadcasts_S32x1_S32x128) = (rounds v k 3).1 0 := rfl
theorem a_r_25 : k0_pay3507 (v 0) (k 0) (v 1) (k 1) (v 2) (k 2) (k 3) (atV (v 0)) (broadcastTo S32x128 (topI (v 0) (k 0)) broadcasts_S32x1_S32x128) = (rounds v k 3).2 0 := rfl
theorem a_r_26 : k0_pay3508 (v 0) (k 0) (v 1) (k 1) (v 2) (k 2) (v 3) (v 4) (atV (v 0)) (broadcastTo S32x128 (topI (v 0) (k 0)) broadcasts_S32x1_S32x128) = (rounds v k 3).1 1 := rfl
theorem a_r_27 : k0_pay3509 (v 0) (k 0) (v 1) (k 1) (v 2) (k 2) (k 3) (k 4) (atV (v 0)) (broadcastTo S32x128 (topI (v 0) (k 0)) broadcasts_S32x1_S32x128) = (rounds v k 3).2 1 := rfl
theorem a_r_28 : k0_pay3510 (v 0) (k 0) (v 1) (k 1) (v 2) (k 2) (v 3) (v 4) (v 5) (atV (v 0)) (broadcastTo S32x128 (topI (v 0) (k 0)) broadcasts_S32x1_S32x128) = (rounds v k 3).1 2 := rfl
theorem a_r_29 : k0_pay3511 (v 0) (k 0) (v 1) (k 1) (v 2) (k 2) (k 3) (k 4) (k 5) (atV (v 0)) (broadcastTo S32x128 (topI (v 0) (k 0)) broadcasts_S32x1_S32x128) = (rounds v k 3).2 2 := rfl
theorem a_r_30 : k0_pay3512 (v 0) (k 0) (v 1) (k 1) (v 2) (k 2) (v 3) (v 4) (v 5) (v 6) (atV (v 0)) (broadcastTo S32x128 (topI (v 0) (k 0)) broadcasts_S32x1_S32x128) = (rounds v k 3).1 3 := rfl
theorem a_r_31 : k0_pay3513 (v 0) (k 0) (v 1) (k 1) (v 2) (k 2) (k 3) (k 4) (k 5) (k 6) (atV (v 0)) (broadcastTo S32x128 (topI (v 0) (k 0)) broadcasts_S32x1_S32x128) = (rounds v k 3).2 3 := rfl
theorem a_r_32 : k0_pay3514 (v 0) = topV (v 0) := rfl
theorem a_r_33 : k0_pay3516 (v 0) (k 0) = topI (v 0) (k 0) := rfl
theorem a_r_34 : k0_pay3522 (v 0) (k 0) (v 1) = topV ((rounds v k 1).1 0) := rfl
theorem a_r_35 : k0_pay3524 (v 0) (k 0) (v 1) (k 1) = topI ((rounds v k 1).1 0) ((rounds v k 1).2 0) := rfl
theorem a_r_36 : k0_pay3528 (v 0) (k 0) (v 1) (k 1) (v 2) = topV ((rounds v k 2).1 0) := rfl
theorem a_r_37 : k0_pay3530 (v 0) (k 0) (v 1) (k 1) (v 2) (k 2) = topI ((rounds v k 2).1 0) ((rounds v k 2).2 0) := rfl
theorem a_r_38 : k0_pay3533 (v 0) (k 0) (v 1) (k 1) (v 2) (k 2) (k 3) = (rounds v k 3).2 0 := rfl
theorem a_r_39 : k0_pay3534 (v 0) (k 0) (v 1) (k 1) (v 2) (k 2) (v 3) = topV ((rounds v k 3).1 0) := rfl
theorem a_r_40 : k0_pay3535 (v 0) (k 0) (v 1) (k 1) (v 2) (k 2) (v 3) = atV ((rounds v k 3).1 0) := rfl

end Stages

variable (arg12 : Memref sig .tc .vmem S8x32x128 .f32) (arg13 : Memref sig .tc .vmem S8x32x128 .i32)
  (X12 : Vec F S8x32x128 .f32) (X13 : Vec F S8x32x128 .i32)

/-- The slots at the last region's start. -/
def headV : ℕ → FVec F S32x128 .f32
  | 0 => slotT arg12 X12 ![0, 0, 0] inb_S8x32x128_S1x32x128_0_0_0
  | 1 => slotT arg12 X12 ![1, 0, 0] inb_S8x32x128_S1x32x128_1_0_0
  | 2 => slotT arg12 X12 ![2, 0, 0] inb_S8x32x128_S1x32x128_2_0_0
  | 3 => slotT arg12 X12 ![3, 0, 0] inb_S8x32x128_S1x32x128_3_0_0
  | 4 => slotT arg12 X12 ![4, 0, 0] inb_S8x32x128_S1x32x128_4_0_0
  | 5 => slotT arg12 X12 ![5, 0, 0] inb_S8x32x128_S1x32x128_5_0_0
  | 6 => slotT arg12 X12 ![6, 0, 0] inb_S8x32x128_S1x32x128_6_0_0
  | _ => slotT arg12 X12 ![7, 0, 0] inb_S8x32x128_S1x32x128_7_0_0
/-- The slots at the last region's start. -/
def headI : ℕ → IVec S32x128 32
  | 0 => slotT (F := F) arg13 X13 ![0, 0, 0] inb_S8x32x128_S1x32x128_0_0_0
  | 1 => slotT (F := F) arg13 X13 ![1, 0, 0] inb_S8x32x128_S1x32x128_1_0_0
  | 2 => slotT (F := F) arg13 X13 ![2, 0, 0] inb_S8x32x128_S1x32x128_2_0_0
  | 3 => slotT (F := F) arg13 X13 ![3, 0, 0] inb_S8x32x128_S1x32x128_3_0_0
  | 4 => slotT (F := F) arg13 X13 ![4, 0, 0] inb_S8x32x128_S1x32x128_4_0_0
  | 5 => slotT (F := F) arg13 X13 ![5, 0, 0] inb_S8x32x128_S1x32x128_5_0_0
  | 6 => slotT (F := F) arg13 X13 ![6, 0, 0] inb_S8x32x128_S1x32x128_6_0_0
  | _ => slotT (F := F) arg13 X13 ![7, 0, 0] inb_S8x32x128_S1x32x128_7_0_0

theorem k_r : runFin.sl.r arg12 X12 = topV ((rounds (headV arg12 X12) (headI (F := F) arg13 X13) 0).1 0) := rfl
theorem k_r_1 : runFin.sl.r_1 arg12 arg13 X12 X13 = topI ((rounds (headV arg12 X12) (headI (F := F) arg13 X13) 0).1 0) ((rounds (headV arg12 X12) (headI (F := F) arg13 X13) 0).2 0) := rfl
theorem k_r_2 : runFin.sl.r_2 arg12 arg13 X12 X13 = (rounds (headV arg12 X12) (headI (F := F) arg13 X13) 1).1 0 := rfl
theorem k_r_3 : runFin.sl.r_3 arg12 arg13 X12 X13 = (rounds (headV arg12 X12) (headI (F := F) arg13 X13) 1).2 0 := rfl
theorem k_r_4 : runFin.sl.r_4 arg12 arg13 X12 X13 = (rounds (headV arg12 X12) (headI (F := F) arg13 X13) 1).1 1 := rfl
theorem k_r_5 : runFin.sl.r_5 arg12 arg13 X12 X13 = (rounds (headV arg12 X12) (headI (F := F) arg13 X13) 1).2 1 := rfl
theorem k_r_6 : runFin.sl.r_6 arg12 arg13 X12 X13 = (rounds (headV arg12 X12) (headI (F := F) arg13 X13) 1).1 2 := rfl
theorem k_r_7 : runFin.sl.r_7 arg12 arg13 X12 X13 = (rounds (headV arg12 X12) (headI (F := F) arg13 X13) 1).2 2 := rfl
theorem k_r_8 : runFin.sl.r_8 arg12 arg13 X12 X13 = (rounds (headV arg12 X12) (headI (F := F) arg13 X13) 1).1 3 := rfl
theorem k_r_9 : runFin.sl.r_9 arg12 arg13 X12 X13 = (rounds (headV arg12 X12) (headI (F := F) arg13 X13) 1).2 3 := rfl
theorem k_r_10 : runFin.sl.r_10 arg12 arg13 X12 X13 = (rounds (headV arg12 X12) (headI (F := F) arg13 X13) 1).1 4 := rfl
theorem k_r_11 : runFin.sl.r_11 arg12 arg13 X12 X13 = (rounds (headV arg12 X12) (headI (F := F) arg13 X13) 1).2 4 := rfl
theorem k_r_12 : runFin.sl.r_12 arg12 arg13 X12 X13 = (rounds (headV arg12 X12) (headI (F := F) arg13 X13) 1).1 5 := rfl
theorem k_r_13 : runFin.sl.r_13 arg12 arg13 X12 X13 = (rounds (headV arg12 X12) (headI (F := F) arg13 X13) 1).2 5 := rfl
theorem k_r_14 : runFin.sl.r_14 arg12 arg13 X12 X13 = (rounds (headV arg12 X12) (headI (F := F) arg13 X13) 1).1 6 := rfl
theorem k_r_15 : runFin.sl.r_15 arg12 arg13 X12 X13 = (rounds (headV arg12 X12) (headI (F := F) arg13 X13) 1).2 6 := rfl
theorem k_r_16 : runFin.sl.r_16 arg12 arg13 X12 X13 = topV ((rounds (headV arg12 X12) (headI (F := F) arg13 X13) 1).1 0) := rfl
theorem k_r_17 : runFin.sl.r_17 arg12 arg13 X12 X13 = atV ((rounds (headV arg12 X12) (headI (F := F) arg13 X13) 1).1 0) := rfl
theorem k_r_18 : runFin.sl.r_18 arg12 arg13 X12 X13 = topI ((rounds (headV arg12 X12) (headI (F := F) arg13 X13) 1).1 0) ((rounds (headV arg12 X12) (headI (F := F) arg13 X13) 1).2 0) := rfl
theorem k_r_19 : runFin.sl.r_19 arg12 arg13 X12 X13 = broadcastTo S32x128 (topI ((rounds (headV arg12 X12) (headI (F := F) arg13 X13) 1).1 0) ((rounds (headV arg12 X12) (headI (F := F) arg13 X13) 1).2 0)) broadcasts_S32x1_S32x128 := rfl
theorem k_r_20 : runFin.sl.r_20 arg12 arg13 X12 X13 = topV ((rounds (headV arg12 X12) (headI (F := F) arg13 X13) 2).1 0) := by
  show k0_pay3490 (runFin.sl.r_2 arg12 arg13 X12 X13) (runFin.sl.r_3 arg12 arg13 X12 X13) (runFin.sl.r_4 arg12 arg13 X12 X13) (runFin.sl.r_17 arg12 arg13 X12 X13) (runFin.sl.r_19 arg12 arg13 X12 X13) = _
  rw [k_r_2, k_r_3, k_r_4, k_r_17, k_r_19, a_r_20, rounds_add]
theorem k_r_21 : runFin.sl.r_21 arg12 arg13 X12 X13 = topI ((rounds (headV arg12 X12) (headI (F := F) arg13 X13) 2).1 0) ((rounds (headV arg12 X12) (headI (F := F) arg13 X13) 2).2 0) := by
  show k0_pay3492 (runFin.sl.r_2 arg12 arg13 X12 X13) (runFin.sl.r_3 arg12 arg13 X12 X13) (runFin.sl.r_4 arg12 arg13 X12 X13) (runFin.sl.r_5 arg12 arg13 X12 X13) (runFin.sl.r_17 arg12 arg13 X12 X13) (runFin.sl.r_19 arg12 arg13 X12 X13) = _
  rw [k_r_2, k_r_3, k_r_4, k_r_5, k_r_17, k_r_19, a_r_21, rounds_add]
theorem k_r_22 : runFin.sl.r_22 arg12 arg13 X12 X13 = topV ((rounds (headV arg12 X12) (headI (F := F) arg13 X13) 3).1 0) := by
  show k0_pay3502 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_17 arg12 arg13 X12 X13) (runFin.sl.r_19 arg12 arg13 X12 X13) = _
  rw [k_r_2, k_r_3, k_r_4, k_r_5, k_r_6, k_r_17, k_r_19, a_r_22, rounds_add]
theorem k_r_23 : runFin.sl.r_23 arg12 arg13 X12 X13 = topI ((rounds (headV arg12 X12) (headI (F := F) arg13 X13) 3).1 0) ((rounds (headV arg12 X12) (headI (F := F) arg13 X13) 3).2 0) := by
  show k0_pay3504 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_17 arg12 arg13 X12 X13) (runFin.sl.r_19 arg12 arg13 X12 X13) = _
  rw [k_r_2, k_r_3, k_r_4, k_r_5, k_r_6, k_r_7, k_r_17, k_r_19, a_r_23, rounds_add]
theorem k_r_24 : runFin.sl.r_24 arg12 arg13 X12 X13 = (rounds (headV arg12 X12) (headI (F := F) arg13 X13) 4).1 0 := by
  show k0_pay3506 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_8 arg12 arg13 X12 X13) (runFin.sl.r_17 arg12 arg13 X12 X13) (runFin.sl.r_19 arg12 arg13 X12 X13) = _
  rw [k_r_2, k_r_3, k_r_4, k_r_5, k_r_6, k_r_7, k_r_8, k_r_17, k_r_19, a_r_24, rounds_add]
theorem k_r_25 : runFin.sl.r_25 arg12 arg13 X12 X13 = (rounds (headV arg12 X12) (headI (F := F) arg13 X13) 4).2 0 := by
  show k0_pay3507 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_9 arg12 arg13 X12 X13) (runFin.sl.r_17 arg12 arg13 X12 X13) (runFin.sl.r_19 arg12 arg13 X12 X13) = _
  rw [k_r_2, k_r_3, k_r_4, k_r_5, k_r_6, k_r_7, k_r_9, k_r_17, k_r_19, a_r_25, rounds_add]
theorem k_r_26 : runFin.sl.r_26 arg12 arg13 X12 X13 = (rounds (headV arg12 X12) (headI (F := F) arg13 X13) 4).1 1 := by
  show k0_pay3508 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_8 arg12 arg13 X12 X13) (runFin.sl.r_10 arg12 arg13 X12 X13) (runFin.sl.r_17 arg12 arg13 X12 X13) (runFin.sl.r_19 arg12 arg13 X12 X13) = _
  rw [k_r_2, k_r_3, k_r_4, k_r_5, k_r_6, k_r_7, k_r_8, k_r_10, k_r_17, k_r_19, a_r_26, rounds_add]
theorem k_r_27 : runFin.sl.r_27 arg12 arg13 X12 X13 = (rounds (headV arg12 X12) (headI (F := F) arg13 X13) 4).2 1 := by
  show k0_pay3509 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_9 arg12 arg13 X12 X13) (runFin.sl.r_11 arg12 arg13 X12 X13) (runFin.sl.r_17 arg12 arg13 X12 X13) (runFin.sl.r_19 arg12 arg13 X12 X13) = _
  rw [k_r_2, k_r_3, k_r_4, k_r_5, k_r_6, k_r_7, k_r_9, k_r_11, k_r_17, k_r_19, a_r_27, rounds_add]
theorem k_r_28 : runFin.sl.r_28 arg12 arg13 X12 X13 = (rounds (headV arg12 X12) (headI (F := F) arg13 X13) 4).1 2 := by
  show k0_pay3510 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_8 arg12 arg13 X12 X13) (runFin.sl.r_10 arg12 arg13 X12 X13) (runFin.sl.r_12 arg12 arg13 X12 X13) (runFin.sl.r_17 arg12 arg13 X12 X13) (runFin.sl.r_19 arg12 arg13 X12 X13) = _
  rw [k_r_2, k_r_3, k_r_4, k_r_5, k_r_6, k_r_7, k_r_8, k_r_10, k_r_12, k_r_17, k_r_19, a_r_28, rounds_add]
theorem k_r_29 : runFin.sl.r_29 arg12 arg13 X12 X13 = (rounds (headV arg12 X12) (headI (F := F) arg13 X13) 4).2 2 := by
  show k0_pay3511 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_9 arg12 arg13 X12 X13) (runFin.sl.r_11 arg12 arg13 X12 X13) (runFin.sl.r_13 arg12 arg13 X12 X13) (runFin.sl.r_17 arg12 arg13 X12 X13) (runFin.sl.r_19 arg12 arg13 X12 X13) = _
  rw [k_r_2, k_r_3, k_r_4, k_r_5, k_r_6, k_r_7, k_r_9, k_r_11, k_r_13, k_r_17, k_r_19, a_r_29, rounds_add]
theorem k_r_30 : runFin.sl.r_30 arg12 arg13 X12 X13 = (rounds (headV arg12 X12) (headI (F := F) arg13 X13) 4).1 3 := by
  show k0_pay3512 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_8 arg12 arg13 X12 X13) (runFin.sl.r_10 arg12 arg13 X12 X13) (runFin.sl.r_12 arg12 arg13 X12 X13) (runFin.sl.r_14 arg12 arg13 X12 X13) (runFin.sl.r_17 arg12 arg13 X12 X13) (runFin.sl.r_19 arg12 arg13 X12 X13) = _
  rw [k_r_2, k_r_3, k_r_4, k_r_5, k_r_6, k_r_7, k_r_8, k_r_10, k_r_12, k_r_14, k_r_17, k_r_19, a_r_30, rounds_add]
theorem k_r_31 : runFin.sl.r_31 arg12 arg13 X12 X13 = (rounds (headV arg12 X12) (headI (F := F) arg13 X13) 4).2 3 := by
  show k0_pay3513 (runFin.sl.r_2 arg12 arg13 X12 X13) (runFin.sl.r_3 arg12 arg13 X12 X13) (runFin.sl.r_4 arg12 arg13 X12 X13) (runFin.sl.r_5 arg12 arg13 X12 X13) (runFin.sl.r_6 arg12 arg13 X12 X13) (runFin.sl.r_7 arg12 arg13 X12 X13) (runFin.sl.r_9 arg12 arg13 X12 X13) (runFin.sl.r_11 arg12 arg13 X12 X13) (runFin.sl.r_13 arg12 arg13 X12 X13) (runFin.sl.r_15 arg12 arg13 X12 X13) (runFin.sl.r_17 arg12 arg13 X12 X13) (runFin.sl.r_19 arg12 arg13 X12 X13) = _
  rw [k_r_2, k_r_3, k_r_4, k_r_5, k_r_6, k_r_7, k_r_9, k_r_11, k_r_13, k_r_15, k_r_17, k_r_19, a_r_31, rounds_add]
theorem k_r_32 : runFin.sl.r_32 arg12 arg13 X12 X13 = topV ((rounds (headV arg12 X12) (headI (F := F) arg13 X13) 4).1 0) := by
  show k0_pay3514 (runFin.sl.r_24 arg12 arg13 X12 X13) = _
  rw [k_r_24, a_r_32]
theorem k_r_33 : runFin.sl.r_33 arg12 arg13 X12 X13 = topI ((rounds (headV arg12 X12) (headI (F := F) arg13 X13) 4).1 0) ((rounds (headV arg12 X12) (headI (F := F) arg13 X13) 4).2 0) := by
  show k0_pay3516 (runFin.sl.r_24 arg12 arg13 X12 X13) (runFin.sl.r_25 arg12 arg13 X12 X13) = _
  rw [k_r_24, k_r_25, a_r_33]
theorem k_r_34 : runFin.sl.r_34 arg12 arg13 X12 X13 = topV ((rounds (headV arg12 X12) (headI (F := F) arg13 X13) 5).1 0) := by
  show k0_pay3522 (runFin.sl.r_24 arg12 arg13 X12 X13) (runFin.sl.r_25 arg12 arg13 X12 X13) (runFin.sl.r_26 arg12 arg13 X12 X13) = _
  rw [k_r_24, k_r_25, k_r_26, a_r_34, rounds_add]
theorem k_r_35 : runFin.sl.r_35 arg12 arg13 X12 X13 = topI ((rounds (headV arg12 X12) (headI (F := F) arg13 X13) 5).1 0) ((rounds (headV arg12 X12) (headI (F := F) arg13 X13) 5).2 0) := by
  show k0_pay3524 (runFin.sl.r_24 arg12 arg13 X12 X13) (runFin.sl.r_25 arg12 arg13 X12 X13) (runFin.sl.r_26 arg12 arg13 X12 X13) (runFin.sl.r_27 arg12 arg13 X12 X13) = _
  rw [k_r_24, k_r_25, k_r_26, k_r_27, a_r_35, rounds_add]
theorem k_r_36 : runFin.sl.r_36 arg12 arg13 X12 X13 = topV ((rounds (headV arg12 X12) (headI (F := F) arg13 X13) 6).1 0) := by
  show k0_pay3528 (runFin.sl.r_24 arg12 arg13 X12 X13) (runFin.sl.r_25 arg12 arg13 X12 X13) (runFin.sl.r_26 arg12 arg13 X12 X13) (runFin.sl.r_27 arg12 arg13 X12 X13) (runFin.sl.r_28 arg12 arg13 X12 X13) = _
  rw [k_r_24, k_r_25, k_r_26, k_r_27, k_r_28, a_r_36, rounds_add]
theorem k_r_37 : runFin.sl.r_37 arg12 arg13 X12 X13 = topI ((rounds (headV arg12 X12) (headI (F := F) arg13 X13) 6).1 0) ((rounds (headV arg12 X12) (headI (F := F) arg13 X13) 6).2 0) := by
  show k0_pay3530 (runFin.sl.r_24 arg12 arg13 X12 X13) (runFin.sl.r_25 arg12 arg13 X12 X13) (runFin.sl.r_26 arg12 arg13 X12 X13) (runFin.sl.r_27 arg12 arg13 X12 X13) (runFin.sl.r_28 arg12 arg13 X12 X13) (runFin.sl.r_29 arg12 arg13 X12 X13) = _
  rw [k_r_24, k_r_25, k_r_26, k_r_27, k_r_28, k_r_29, a_r_37, rounds_add]
theorem k_r_38 : runFin.sl.r_38 arg12 arg13 X12 X13 = (rounds (headV arg12 X12) (headI (F := F) arg13 X13) 7).2 0 := by
  show k0_pay3533 (runFin.sl.r_24 arg12 arg13 X12 X13) (runFin.sl.r_25 arg12 arg13 X12 X13) (runFin.sl.r_26 arg12 arg13 X12 X13) (runFin.sl.r_27 arg12 arg13 X12 X13) (runFin.sl.r_28 arg12 arg13 X12 X13) (runFin.sl.r_29 arg12 arg13 X12 X13) (runFin.sl.r_31 arg12 arg13 X12 X13) = _
  rw [k_r_24, k_r_25, k_r_26, k_r_27, k_r_28, k_r_29, k_r_31, a_r_38, rounds_add]
theorem k_r_39 : runFin.sl.r_39 arg12 arg13 X12 X13 = topV ((rounds (headV arg12 X12) (headI (F := F) arg13 X13) 7).1 0) := by
  show k0_pay3534 (runFin.sl.r_24 arg12 arg13 X12 X13) (runFin.sl.r_25 arg12 arg13 X12 X13) (runFin.sl.r_26 arg12 arg13 X12 X13) (runFin.sl.r_27 arg12 arg13 X12 X13) (runFin.sl.r_28 arg12 arg13 X12 X13) (runFin.sl.r_29 arg12 arg13 X12 X13) (runFin.sl.r_30 arg12 arg13 X12 X13) = _
  rw [k_r_24, k_r_25, k_r_26, k_r_27, k_r_28, k_r_29, k_r_30, a_r_39, rounds_add]
theorem k_r_40 : runFin.sl.r_40 arg12 arg13 X12 X13 = atV ((rounds (headV arg12 X12) (headI (F := F) arg13 X13) 7).1 0) := by
  show k0_pay3535 (runFin.sl.r_24 arg12 arg13 X12 X13) (runFin.sl.r_25 arg12 arg13 X12 X13) (runFin.sl.r_26 arg12 arg13 X12 X13) (runFin.sl.r_27 arg12 arg13 X12 X13) (runFin.sl.r_28 arg12 arg13 X12 X13) (runFin.sl.r_29 arg12 arg13 X12 X13) (runFin.sl.r_30 arg12 arg13 X12 X13) = _
  rw [k_r_24, k_r_25, k_r_26, k_r_27, k_r_28, k_r_29, k_r_30, a_r_40, rounds_add]

end Cert.Ideal

end

end
-- ==== Proof.KerTops.lean ====
module

public import proofs.«01_k».proof.Proof.KerTop

/-! The last region: eight rounds, each taking the best of the heads of the lists of the 128 lanes and moving that list up by one. -/

open Idealize Idealize.ShloMosaic
open Cert.KernelIdeal Cert.KernelIdeal.Gen

@[expose] public section

set_option maxRecDepth 65536

noncomputable section

namespace Cert.Ideal

variable {F : FTy → Type} [FloatOps F]

variable (arg12 : Memref sig .tc .vmem S8x32x128 .f32) (arg13 : Memref sig .tc .vmem S8x32x128 .i32)
  (X12 : Vec F S8x32x128 .f32) (X13 : Vec F S8x32x128 .i32)

theorem topsV : runFin.sl.H7_1 arg12 arg13 X12 X13 = [⟨Rect.unit ![0, 0] S32x8.size inb_S32x8_S32x8_0_0,
    concatenate S32x8 1 [⟨S32x1, topV ((rounds (headV arg12 X12) (headI (F := F) arg13 X13) 0).1 0)⟩, ⟨S32x1, topV ((rounds (headV arg12 X12) (headI (F := F) arg13 X13) 1).1 0)⟩, ⟨S32x1, topV ((rounds (headV arg12 X12) (headI (F := F) arg13 X13) 2).1 0)⟩, ⟨S32x1, topV ((rounds (headV arg12 X12) (headI (F := F) arg13 X13) 3).1 0)⟩, ⟨S32x1, topV ((rounds (headV arg12 X12) (headI (F := F) arg13 X13) 4).1 0)⟩, ⟨S32x1, topV ((rounds (headV arg12 X12) (headI (F := F) arg13 X13) 5).1 0)⟩, ⟨S32x1, topV ((rounds (headV arg12 X12) (headI (F := F) arg13 X13) 6).1 0)⟩, ⟨S32x1, topV ((rounds (headV arg12 X12) (headI (F := F) arg13 X13) 7).1 0)⟩] concatenates_S32x1_S32x1_S32x1_S32x1_S32x1_S32x1_S32x1_S32x1_S32x8_d1⟩] := by
  show [(⟨Rect.unit ![0, 0] S32x8.size inb_S32x8_S32x8_0_0, concatenate S32x8 1 [⟨S32x1, runFin.sl.r arg12 X12⟩, ⟨S32x1, runFin.sl.r_16 arg12 arg13 X12 X13⟩, ⟨S32x1, runFin.sl.r_20 arg12 arg13 X12 X13⟩, ⟨S32x1, runFin.sl.r_22 arg12 arg13 X12 X13⟩, ⟨S32x1, runFin.sl.r_32 arg12 arg13 X12 X13⟩, ⟨S32x1, runFin.sl.r_34 arg12 arg13 X12 X13⟩, ⟨S32x1, runFin.sl.r_36 arg12 arg13 X12 X13⟩, ⟨S32x1, runFin.sl.r_39 arg12 arg13 X12 X13⟩] concatenates_S32x1_S32x1_S32x1_S32x1_S32x1_S32x1_S32x1_S32x1_S32x8_d1⟩ : View.Piece (Elt F) S32x8 .f32)] = _
  rw [k_r, k_r_16, k_r_20, k_r_22, k_r_32, k_r_34, k_r_36, k_r_39]

theorem topsI : runFin.sl.H8_1 arg12 arg13 X12 X13 = [⟨Rect.unit ![0, 0] S32x8.size inb_S32x8_S32x8_0_0,
    concatenate S32x8 1 [⟨S32x1, topI ((rounds (headV arg12 X12) (headI (F := F) arg13 X13) 0).1 0) ((rounds (headV arg12 X12) (headI (F := F) arg13 X13) 0).2 0)⟩, ⟨S32x1, topI ((rounds (headV arg12 X12) (headI (F := F) arg13 X13) 1).1 0) ((rounds (headV arg12 X12) (headI (F := F) arg13 X13) 1).2 0)⟩, ⟨S32x1, topI ((rounds (headV arg12 X12) (headI (F := F) arg13 X13) 2).1 0) ((rounds (headV arg12 X12) (headI (F := F) arg13 X13) 2).2 0)⟩, ⟨S32x1, topI ((rounds (headV arg12 X12) (headI (F := F) arg13 X13) 3).1 0) ((rounds (headV arg12 X12) (headI (F := F) arg13 X13) 3).2 0)⟩, ⟨S32x1, topI ((rounds (headV arg12 X12) (headI (F := F) arg13 X13) 4).1 0) ((rounds (headV arg12 X12) (headI (F := F) arg13 X13) 4).2 0)⟩, ⟨S32x1, topI ((rounds (headV arg12 X12) (headI (F := F) arg13 X13) 5).1 0) ((rounds (headV arg12 X12) (headI (F := F) arg13 X13) 5).2 0)⟩, ⟨S32x1, topI ((rounds (headV arg12 X12) (headI (F := F) arg13 X13) 6).1 0) ((rounds (headV arg12 X12) (headI (F := F) arg13 X13) 6).2 0)⟩, ⟨S32x1, topI ((rounds (headV arg12 X12) (headI (F := F) arg13 X13) 7).1 0) ((rounds (headV arg12 X12) (headI (F := F) arg13 X13) 7).2 0)⟩] concatenates_S32x1_S32x1_S32x1_S32x1_S32x1_S32x1_S32x1_S32x1_S32x8_d1⟩] := by
  show [(⟨Rect.unit ![0, 0] S32x8.size inb_S32x8_S32x8_0_0, concatenate S32x8 1 [⟨S32x1, runFin.sl.r_1 arg12 arg13 X12 X13⟩, ⟨S32x1, runFin.sl.r_18 arg12 arg13 X12 X13⟩, ⟨S32x1, runFin.sl.r_21 arg12 arg13 X12 X13⟩, ⟨S32x1, runFin.sl.r_23 arg12 arg13 X12 X13⟩, ⟨S32x1, runFin.sl.r_33 arg12 arg13 X12 X13⟩, ⟨S32x1, runFin.sl.r_35 arg12 arg13 X12 X13⟩, ⟨S32x1, runFin.sl.r_37 arg12 arg13 X12 X13⟩, ⟨S32x1, shapeCast S32x1 (multiReductionI .minsi [1] S32 (select (runFin.sl.r_40 arg12 arg13 X12 X13) (runFin.sl.r_38 arg12 arg13 X12 X13) (broadcast S32x128 2147483647#32)) 2147483647#32 reduces_S32x128_S32 rfl) shapeCasts_S32_S32x1⟩] concatenates_S32x1_S32x1_S32x1_S32x1_S32x1_S32x1_S32x1_S32x1_S32x8_d1⟩ : View.Piece (Elt F) S32x8 .i32)] = _
  rw [k_r_1, k_r_18, k_r_21, k_r_23, k_r_33, k_r_35, k_r_37, k_r_40, k_r_38]
  rfl

end Cert.Ideal

end

end
-- ==== Proof.KerNet.lean ====
module

public import proofs.«01_k».proof.Proof.IdealMain
public import proofs.«01_k».proof.Proof.IdealLoads

/-! The insertions of one point, as one network of whole-tile operations: for each group of eight rows, the four tiles of the
point's block are inserted one after another into the eight sorted slots of every lane. -/

open Idealize Idealize.ShloMosaic
open Cert.KernelIdeal Cert.KernelIdeal.Gen

@[expose] public section

set_option maxRecDepth 65536

noncomputable section

namespace Cert.Ideal

variable {F : FTy → Type} [FloatOps F]

/-- The slots' values after one insertion. -/
def insV (v : ℕ → FVec F S8x128 .f32) (x : FVec F S8x128 .f32) : ℕ → FVec F S8x128 .f32
  | 0 => maximumf (v 0) x
  | j + 1 => maximumf (v (j + 1)) (minimumf (v j) x)

/-- The slots' indices after one insertion. -/
def insI (v : ℕ → FVec F S8x128 .f32) (k : ℕ → IVec S8x128 32) (x : FVec F S8x128 .f32) (n : IVec S8x128 32) : ℕ → IVec S8x128 32
  | 0 => select (cmpf .ogt x (v 0)) n (k 0)
  | j + 1 => select (cmpf .ogt x (v (j + 1))) (select (cmpf .ogt x (v j)) (k j) n) (k (j + 1))

/-- The bit of one tile in the table of seen tokens. -/
def bitV (arg0 t : BitVec 32) (raw : Vec F S1x8x128 .i32) : IVec S8x128 32 :=
  andi (shrsi (shapeCast S8x128 raw shapeCasts_S1x8x128_S8x128) (broadcast S8x128 (Scalar.andi (Scalar.addi (Scalar.muli arg0 4#32) t) 31#32)))
    (broadcast S8x128 1#32)

/-- The token numbers of one tile. -/
def tokV (arg0 t : BitVec 32) : IVec S8x128 32 :=
  addi (iota .tc S8x128 32 [1] iota_S8x128_d1_w32) (broadcast S8x128 (Scalar.muli (Scalar.addi (Scalar.muli arg0 4#32) t) 128#32))

/-- The logits of one tile before the penalty. -/
def logV (o q : ℕ) (h : S32x512.Slices ![o, q] S8x128) (h' : S1x512.Slices ![0, q] S1x128) (acc : FVec F S32x512 .f32) (ws b : FVec F S1x512 .f32)
    (xs : FVec F S8x1 .f32) : FVec F S8x128 .f32 :=
  addf (mulf (mulf (extractStridedSlice S8x128 ![o, q] acc h) (broadcastTo S8x128 xs broadcasts_S8x1_S8x128))
      (broadcastTo S8x128 (extractStridedSlice S1x128 ![0, q] ws h') broadcasts_S1x128_S8x128))
    (broadcastTo S8x128 (extractStridedSlice S1x128 ![0, q] b h') broadcasts_S1x128_S8x128)

/-- The logits of one tile. -/
def penV (l : FVec F S8x128 .f32) (pen : FVec F S8x1 .f32) (bit : IVec S8x128 32) : FVec F S8x128 .f32 :=
  select (cmpi .ne bit (broadcast S8x128 0#32))
    (select (cmpf .ogt l (broadcast S8x128 (Scalar.ofBits .f32 0x00000000#32))) (divf l (broadcastTo S8x128 pen broadcasts_S8x1_S8x128))
      (mulf l (broadcastTo S8x128 pen broadcasts_S8x1_S8x128))) l

variable (i : grid0.Coords) (arg3 : Memref sig .tc .vmem S32x1 .f32) (arg10 : Memref sig .tc .vmem S32x1 .f32)
  (arg11 : Memref sig .tc .vmem S8x32x128 .i32) (arg12 : Memref sig .tc .vmem S8x32x128 .f32) (arg13 : Memref sig .tc .vmem S8x32x128 .i32)
  (X3 : Vec F S32x1 .f32) (X10 : Vec F S32x1 .f32) (X11 : Vec F S8x32x128 .i32) (X12 : Vec F S8x32x128 .f32) (X13 : Vec F S8x32x128 .i32)
  (v16 : FVec F S32x512 .f32) (v18 v20 : FVec F S1x512 .f32)

/-- Eight rows of one slot. -/
def slotV {e : EltTy} (r : Memref sig .tc .vmem S8x32x128 e) (X : Vec F S8x32x128 e) (off : Fin 3 → ℕ)
    (h : ∀ a, off a + S1x8x128.size a ≤ S8x32x128.size a) : Vec F S1x8x128 e :=
  View.readAt (Elt F) r.view (Rect.unit (s := S8x32x128) off S1x8x128.size h).toLoadRect (r.view.rep X)

/-- Eight rows of a column. -/
def colV (r : Memref sig .tc .vmem S32x1 .f32) (X : Vec F S32x1 .f32) (off : Fin 2 → ℕ)
    (h : ∀ a, off a + S8x1.size a ≤ S32x1.size a) : FVec F S8x1 .f32 :=
  shapeCast S8x1 (View.readAt (Elt F) r.view (Rect.unit (s := S32x1) off S8x1.size h).toLoadRect (r.view.rep X)) shapeCasts_S8x1_S8x1

/-- Rows 0 to 7: the slots' values before the point. -/
def old0 : ℕ → FVec F S8x128 .f32
  | 0 => shapeCast S8x128 (slotV arg12 X12 ![0, 0, 0] inb_S8x32x128_S1x8x128_0_0_0) shapeCasts_S1x8x128_S8x128
  | 1 => shapeCast S8x128 (slotV arg12 X12 ![1, 0, 0] inb_S8x32x128_S1x8x128_1_0_0) shapeCasts_S1x8x128_S8x128
  | 2 => shapeCast S8x128 (slotV arg12 X12 ![2, 0, 0] inb_S8x32x128_S1x8x128_2_0_0) shapeCasts_S1x8x128_S8x128
  | 3 => shapeCast S8x128 (slotV arg12 X12 ![3, 0, 0] inb_S8x32x128_S1x8x128_3_0_0) shapeCasts_S1x8x128_S8x128
  | 4 => shapeCast S8x128 (slotV arg12 X12 ![4, 0, 0] inb_S8x32x128_S1x8x128_4_0_0) shapeCasts_S1x8x128_S8x128
  | 5 => shapeCast S8x128 (slotV arg12 X12 ![5, 0, 0] inb_S8x32x128_S1x8x128_5_0_0) shapeCasts_S1x8x128_S8x128
  | 6 => shapeCast S8x128 (slotV arg12 X12 ![6, 0, 0] inb_S8x32x128_S1x8x128_6_0_0) shapeCasts_S1x8x128_S8x128
  | _ => shapeCast S8x128 (slotV arg12 X12 ![7, 0, 0] inb_S8x32x128_S1x8x128_7_0_0) shapeCasts_S1x8x128_S8x128
/-- Rows 0 to 7: the slots' indices before the point. -/
def oldI0 : ℕ → IVec S8x128 32
  | 0 => shapeCast S8x128 (slotV arg13 X13 ![0, 0, 0] inb_S8x32x128_S1x8x128_0_0_0) shapeCasts_S1x8x128_S8x128
  | 1 => shapeCast S8x128 (slotV arg13 X13 ![1, 0, 0] inb_S8x32x128_S1x8x128_1_0_0) shapeCasts_S1x8x128_S8x128
  | 2 => shapeCast S8x128 (slotV arg13 X13 ![2, 0, 0] inb_S8x32x128_S1x8x128_2_0_0) shapeCasts_S1x8x128_S8x128
  | 3 => shapeCast S8x128 (slotV arg13 X13 ![3, 0, 0] inb_S8x32x128_S1x8x128_3_0_0) shapeCasts_S1x8x128_S8x128
  | 4 => shapeCast S8x128 (slotV arg13 X13 ![4, 0, 0] inb_S8x32x128_S1x8x128_4_0_0) shapeCasts_S1x8x128_S8x128
  | 5 => shapeCast S8x128 (slotV arg13 X13 ![5, 0, 0] inb_S8x32x128_S1x8x128_5_0_0) shapeCasts_S1x8x128_S8x128
  | 6 => shapeCast S8x128 (slotV arg13 X13 ![6, 0, 0] inb_S8x32x128_S1x8x128_6_0_0) shapeCasts_S1x8x128_S8x128
  | _ => shapeCast S8x128 (slotV arg13 X13 ![7, 0, 0] inb_S8x32x128_S1x8x128_7_0_0) shapeCasts_S1x8x128_S8x128
/-- Rows 0 to 7: the logits of tile 0. -/
def new0_0 : FVec F S8x128 .f32 :=
  penV (logV 0 0 slices_S32x512_o0_0_S8x128 slices_S1x512_o0_0_S1x128 v16 v18 v20 (colV arg10 X10 ![0, 0] inb_S32x1_S8x1_0_0))
    (colV arg3 X3 ![0, 0] inb_S32x1_S8x1_0_0)
    (bitV (F := F) (BitVec.ofNat 32 (i 0).val) 0#32 (slotV arg11 X11 (k0_off1 i 0#32) (k0_off1_inb i 0)))
/-- Rows 0 to 7: the logits of tile 1. -/
def new0_1 : FVec F S8x128 .f32 :=
  penV (logV 0 128 slices_S32x512_o0_128_S8x128 slices_S1x512_o0_128_S1x128 v16 v18 v20 (colV arg10 X10 ![0, 0] inb_S32x1_S8x1_0_0))
    (colV arg3 X3 ![0, 0] inb_S32x1_S8x1_0_0)
    (bitV (F := F) (BitVec.ofNat 32 (i 0).val) 1#32 (slotV arg11 X11 (k0_off1 i 1#32) (k0_off1_inb i 1)))
/-- Rows 0 to 7: the logits of tile 2. -/
def new0_2 : FVec F S8x128 .f32 :=
  penV (logV 0 256 slices_S32x512_o0_256_S8x128 slices_S1x512_o0_256_S1x128 v16 v18 v20 (colV arg10 X10 ![0, 0] inb_S32x1_S8x1_0_0))
    (colV arg3 X3 ![0, 0] inb_S32x1_S8x1_0_0)
    (bitV (F := F) (BitVec.ofNat 32 (i 0).val) 2#32 (slotV arg11 X11 (k0_off1 i 2#32) (k0_off1_inb i 2)))
/-- Rows 0 to 7: the logits of tile 3. -/
def new0_3 : FVec F S8x128 .f32 :=
  penV (logV 0 384 slices_S32x512_o0_384_S8x128 slices_S1x512_o0_384_S1x128 v16 v18 v20 (colV arg10 X10 ![0, 0] inb_S32x1_S8x1_0_0))
    (colV arg3 X3 ![0, 0] inb_S32x1_S8x1_0_0)
    (bitV (F := F) (BitVec.ofNat 32 (i 0).val) 3#32 (slotV arg11 X11 (k0_off1 i 3#32) (k0_off1_inb i 3)))
/-- Rows 8 to 15: the slots' values before the point. -/
def old1 : ℕ → FVec F S8x128 .f32
  | 0 => shapeCast S8x128 (slotV arg12 X12 ![0, 8, 0] inb_S8x32x128_S1x8x128_0_8_0) shapeCasts_S1x8x128_S8x128
  | 1 => shapeCast S8x128 (slotV arg12 X12 ![1, 8, 0] inb_S8x32x128_S1x8x128_1_8_0) shapeCasts_S1x8x128_S8x128
  | 2 => shapeCast S8x128 (slotV arg12 X12 ![2, 8, 0] inb_S8x32x128_S1x8x128_2_8_0) shapeCasts_S1x8x128_S8x128
  | 3 => shapeCast S8x128 (slotV arg12 X12 ![3, 8, 0] inb_S8x32x128_S1x8x128_3_8_0) shapeCasts_S1x8x128_S8x128
  | 4 => shapeCast S8x128 (slotV arg12 X12 ![4, 8, 0] inb_S8x32x128_S1x8x128_4_8_0) shapeCasts_S1x8x128_S8x128
  | 5 => shapeCast S8x128 (slotV arg12 X12 ![5, 8, 0] inb_S8x32x128_S1x8x128_5_8_0) shapeCasts_S1x8x128_S8x128
  | 6 => shapeCast S8x128 (slotV arg12 X12 ![6, 8, 0] inb_S8x32x128_S1x8x128_6_8_0) shapeCasts_S1x8x128_S8x128
  | _ => shapeCast S8x128 (slotV arg12 X12 ![7, 8, 0] inb_S8x32x128_S1x8x128_7_8_0) shapeCasts_S1x8x128_S8x128
/-- Rows 8 to 15: the slots' indices before the point. -/
def oldI1 : ℕ → IVec S8x128 32
  | 0 => shapeCast S8x128 (slotV arg13 X13 ![0, 8, 0] inb_S8x32x128_S1x8x128_0_8_0) shapeCasts_S1x8x128_S8x128
  | 1 => shapeCast S8x128 (slotV arg13 X13 ![1, 8, 0] inb_S8x32x128_S1x8x128_1_8_0) shapeCasts_S1x8x128_S8x128
  | 2 => shapeCast S8x128 (slotV arg13 X13 ![2, 8, 0] inb_S8x32x128_S1x8x128_2_8_0) shapeCasts_S1x8x128_S8x128
  | 3 => shapeCast S8x128 (slotV arg13 X13 ![3, 8, 0] inb_S8x32x128_S1x8x128_3_8_0) shapeCasts_S1x8x128_S8x128
  | 4 => shapeCast S8x128 (slotV arg13 X13 ![4, 8, 0] inb_S8x32x128_S1x8x128_4_8_0) shapeCasts_S1x8x128_S8x128
  | 5 => shapeCast S8x128 (slotV arg13 X13 ![5, 8, 0] inb_S8x32x128_S1x8x128_5_8_0) shapeCasts_S1x8x128_S8x128
  | 6 => shapeCast S8x128 (slotV arg13 X13 ![6, 8, 0] inb_S8x32x128_S1x8x128_6_8_0) shapeCasts_S1x8x128_S8x128
  | _ => shapeCast S8x128 (slotV arg13 X13 ![7, 8, 0] inb_S8x32x128_S1x8x128_7_8_0) shapeCasts_S1x8x128_S8x128
/-- Rows 8 to 15: the logits of tile 0. -/
def new1_0 : FVec F S8x128 .f32 :=
  penV (logV 8 0 slices_S32x512_o8_0_S8x128 slices_S1x512_o0_0_S1x128 v16 v18 v20 (colV arg10 X10 ![8, 0] inb_S32x1_S8x1_8_0))
    (colV arg3 X3 ![8, 0] inb_S32x1_S8x1_8_0)
    (bitV (F := F) (BitVec.ofNat 32 (i 0).val) 0#32 (slotV arg11 X11 (k0_off2 i 0#32) (k0_off2_inb i 0)))
/-- Rows 8 to 15: the logits of tile 1. -/
def new1_1 : FVec F S8x128 .f32 :=
  penV (logV 8 128 slices_S32x512_o8_128_S8x128 slices_S1x512_o0_128_S1x128 v16 v18 v20 (colV arg10 X10 ![8, 0] inb_S32x1_S8x1_8_0))
    (colV arg3 X3 ![8, 0] inb_S32x1_S8x1_8_0)
    (bitV (F := F) (BitVec.ofNat 32 (i 0).val) 1#32 (slotV arg11 X11 (k0_off2 i 1#32) (k0_off2_inb i 1)))
/-- Rows 8 to 15: the logits of tile 2. -/
def new1_2 : FVec F S8x128 .f32 :=
  penV (logV 8 256 slices_S32x512_o8_256_S8x128 slices_S1x512_o0_256_S1x128 v16 v18 v20 (colV arg10 X10 ![8, 0] inb_S32x1_S8x1_8_0))
    (colV arg3 X3 ![8, 0] inb_S32x1_S8x1_8_0)
    (bitV (F := F) (BitVec.ofNat 32 (i 0).val) 2#32 (slotV arg11 X11 (k0_off2 i 2#32) (k0_off2_inb i 2)))
/-- Rows 8 to 15: the logits of tile 3. -/
def new1_3 : FVec F S8x128 .f32 :=
  penV (logV 8 384 slices_S32x512_o8_384_S8x128 slices_S1x512_o0_384_S1x128 v16 v18 v20 (colV arg10 X10 ![8, 0] inb_S32x1_S8x1_8_0))
    (colV arg3 X3 ![8, 0] inb_S32x1_S8x1_8_0)
    (bitV (F := F) (BitVec.ofNat 32 (i 0).val) 3#32 (slotV arg11 X11 (k0_off2 i 3#32) (k0_off2_inb i 3)))
/-- Rows 16 to 23: the slots' values before the point. -/
def old2 : ℕ → FVec F S8x128 .f32
  | 0 => shapeCast S8x128 (slotV arg12 X12 ![0, 16, 0] inb_S8x32x128_S1x8x128_0_16_0) shapeCasts_S1x8x128_S8x128
  | 1 => shapeCast S8x128 (slotV arg12 X12 ![1, 16, 0] inb_S8x32x128_S1x8x128_1_16_0) shapeCasts_S1x8x128_S8x128
  | 2 => shapeCast S8x128 (slotV arg12 X12 ![2, 16, 0] inb_S8x32x128_S1x8x128_2_16_0) shapeCasts_S1x8x128_S8x128
  | 3 => shapeCast S8x128 (slotV arg12 X12 ![3, 16, 0] inb_S8x32x128_S1x8x128_3_16_0) shapeCasts_S1x8x128_S8x128
  | 4 => shapeCast S8x128 (slotV arg12 X12 ![4, 16, 0] inb_S8x32x128_S1x8x128_4_16_0) shapeCasts_S1x8x128_S8x128
  | 5 => shapeCast S8x128 (slotV arg12 X12 ![5, 16, 0] inb_S8x32x128_S1x8x128_5_16_0) shapeCasts_S1x8x128_S8x128
  | 6 => shapeCast S8x128 (slotV arg12 X12 ![6, 16, 0] inb_S8x32x128_S1x8x128_6_16_0) shapeCasts_S1x8x128_S8x128
  | _ => shapeCast S8x128 (slotV arg12 X12 ![7, 16, 0] inb_S8x32x128_S1x8x128_7_16_0) shapeCasts_S1x8x128_S8x128
/-- Rows 16 to 23: the slots' indices before the point. -/
def oldI2 : ℕ → IVec S8x128 32
  | 0 => shapeCast S8x128 (slotV arg13 X13 ![0, 16, 0] inb_S8x32x128_S1x8x128_0_16_0) shapeCasts_S1x8x128_S8x128
  | 1 => shapeCast S8x128 (slotV arg13 X13 ![1, 16, 0] inb_S8x32x128_S1x8x128_1_16_0) shapeCasts_S1x8x128_S8x128
  | 2 => shapeCast S8x128 (slotV arg13 X13 ![2, 16, 0] inb_S8x32x128_S1x8x128_2_16_0) shapeCasts_S1x8x128_S8x128
  | 3 => shapeCast S8x128 (slotV arg13 X13 ![3, 16, 0] inb_S8x32x128_S1x8x128_3_16_0) shapeCasts_S1x8x128_S8x128
  | 4 => shapeCast S8x128 (slotV arg13 X13 ![4, 16, 0] inb_S8x32x128_S1x8x128_4_16_0) shapeCasts_S1x8x128_S8x128
  | 5 => shapeCast S8x128 (slotV arg13 X13 ![5, 16, 0] inb_S8x32x128_S1x8x128_5_16_0) shapeCasts_S1x8x128_S8x128
  | 6 => shapeCast S8x128 (slotV arg13 X13 ![6, 16, 0] inb_S8x32x128_S1x8x128_6_16_0) shapeCasts_S1x8x128_S8x128
  | _ => shapeCast S8x128 (slotV arg13 X13 ![7, 16, 0] inb_S8x32x128_S1x8x128_7_16_0) shapeCasts_S1x8x128_S8x128
/-- Rows 16 to 23: the logits of tile 0. -/
def new2_0 : FVec F S8x128 .f32 :=
  penV (logV 16 0 slices_S32x512_o16_0_S8x128 slices_S1x512_o0_0_S1x128 v16 v18 v20 (colV arg10 X10 ![16, 0] inb_S32x1_S8x1_16_0))
    (colV arg3 X3 ![16, 0] inb_S32x1_S8x1_16_0)
    (bitV (F := F) (BitVec.ofNat 32 (i 0).val) 0#32 (slotV arg11 X11 (k0_off3 i 0#32) (k0_off3_inb i 0)))
/-- Rows 16 to 23: the logits of tile 1. -/
def new2_1 : FVec F S8x128 .f32 :=
  penV (logV 16 128 slices_S32x512_o16_128_S8x128 slices_S1x512_o0_128_S1x128 v16 v18 v20 (colV arg10 X10 ![16, 0] inb_S32x1_S8x1_16_0))
    (colV arg3 X3 ![16, 0] inb_S32x1_S8x1_16_0)
    (bitV (F := F) (BitVec.ofNat 32 (i 0).val) 1#32 (slotV arg11 X11 (k0_off3 i 1#32) (k0_off3_inb i 1)))
/-- Rows 16 to 23: the logits of tile 2. -/
def new2_2 : FVec F S8x128 .f32 :=
  penV (logV 16 256 slices_S32x512_o16_256_S8x128 slices_S1x512_o0_256_S1x128 v16 v18 v20 (colV arg10 X10 ![16, 0] inb_S32x1_S8x1_16_0))
    (colV arg3 X3 ![16, 0] inb_S32x1_S8x1_16_0)
    (bitV (F := F) (BitVec.ofNat 32 (i 0).val) 2#32 (slotV arg11 X11 (k0_off3 i 2#32) (k0_off3_inb i 2)))
/-- Rows 16 to 23: the logits of tile 3. -/
def new2_3 : FVec F S8x128 .f32 :=
  penV (logV 16 384 slices_S32x512_o16_384_S8x128 slices_S1x512_o0_384_S1x128 v16 v18 v20 (colV arg10 X10 ![16, 0] inb_S32x1_S8x1_16_0))
    (colV arg3 X3 ![16, 0] inb_S32x1_S8x1_16_0)
    (bitV (F := F) (BitVec.ofNat 32 (i 0).val) 3#32 (slotV arg11 X11 (k0_off3 i 3#32) (k0_off3_inb i 3)))
/-- Rows 24 to 31: the slots' values before the point. -/
def old3 : ℕ → FVec F S8x128 .f32
  | 0 => shapeCast S8x128 (slotV arg12 X12 ![0, 24, 0] inb_S8x32x128_S1x8x128_0_24_0) shapeCasts_S1x8x128_S8x128
  | 1 => shapeCast S8x128 (slotV arg12 X12 ![1, 24, 0] inb_S8x32x128_S1x8x128_1_24_0) shapeCasts_S1x8x128_S8x128
  | 2 => shapeCast S8x128 (slotV arg12 X12 ![2, 24, 0] inb_S8x32x128_S1x8x128_2_24_0) shapeCasts_S1x8x128_S8x128
  | 3 => shapeCast S8x128 (slotV arg12 X12 ![3, 24, 0] inb_S8x32x128_S1x8x128_3_24_0) shapeCasts_S1x8x128_S8x128
  | 4 => shapeCast S8x128 (slotV arg12 X12 ![4, 24, 0] inb_S8x32x128_S1x8x128_4_24_0) shapeCasts_S1x8x128_S8x128
  | 5 => shapeCast S8x128 (slotV arg12 X12 ![5, 24, 0] inb_S8x32x128_S1x8x128_5_24_0) shapeCasts_S1x8x128_S8x128
  | 6 => shapeCast S8x128 (slotV arg12 X12 ![6, 24, 0] inb_S8x32x128_S1x8x128_6_24_0) shapeCasts_S1x8x128_S8x128
  | _ => shapeCast S8x128 (slotV arg12 X12 ![7, 24, 0] inb_S8x32x128_S1x8x128_7_24_0) shapeCasts_S1x8x128_S8x128
/-- Rows 24 to 31: the slots' indices before the point. -/
def oldI3 : ℕ → IVec S8x128 32
  | 0 => shapeCast S8x128 (slotV arg13 X13 ![0, 24, 0] inb_S8x32x128_S1x8x128_0_24_0) shapeCasts_S1x8x128_S8x128
  | 1 => shapeCast S8x128 (slotV arg13 X13 ![1, 24, 0] inb_S8x32x128_S1x8x128_1_24_0) shapeCasts_S1x8x128_S8x128
  | 2 => shapeCast S8x128 (slotV arg13 X13 ![2, 24, 0] inb_S8x32x128_S1x8x128_2_24_0) shapeCasts_S1x8x128_S8x128
  | 3 => shapeCast S8x128 (slotV arg13 X13 ![3, 24, 0] inb_S8x32x128_S1x8x128_3_24_0) shapeCasts_S1x8x128_S8x128
  | 4 => shapeCast S8x128 (slotV arg13 X13 ![4, 24, 0] inb_S8x32x128_S1x8x128_4_24_0) shapeCasts_S1x8x128_S8x128
  | 5 => shapeCast S8x128 (slotV arg13 X13 ![5, 24, 0] inb_S8x32x128_S1x8x128_5_24_0) shapeCasts_S1x8x128_S8x128
  | 6 => shapeCast S8x128 (slotV arg13 X13 ![6, 24, 0] inb_S8x32x128_S1x8x128_6_24_0) shapeCasts_S1x8x128_S8x128
  | _ => shapeCast S8x128 (slotV arg13 X13 ![7, 24, 0] inb_S8x32x128_S1x8x128_7_24_0) shapeCasts_S1x8x128_S8x128
/-- Rows 24 to 31: the logits of tile 0. -/
def new3_0 : FVec F S8x128 .f32 :=
  penV (logV 24 0 slices_S32x512_o24_0_S8x128 slices_S1x512_o0_0_S1x128 v16 v18 v20 (colV arg10 X10 ![24, 0] inb_S32x1_S8x1_24_0))
    (colV arg3 X3 ![24, 0] inb_S32x1_S8x1_24_0)
    (bitV (F := F) (BitVec.ofNat 32 (i 0).val) 0#32 (slotV arg11 X11 (k0_off4 i 0#32) (k0_off4_inb i 0)))
/-- Rows 24 to 31: the logits of tile 1. -/
def new3_1 : FVec F S8x128 .f32 :=
  penV (logV 24 128 slices_S32x512_o24_128_S8x128 slices_S1x512_o0_128_S1x128 v16 v18 v20 (colV arg10 X10 ![24, 0] inb_S32x1_S8x1_24_0))
    (colV arg3 X3 ![24, 0] inb_S32x1_S8x1_24_0)
    (bitV (F := F) (BitVec.ofNat 32 (i 0).val) 1#32 (slotV arg11 X11 (k0_off4 i 1#32) (k0_off4_inb i 1)))
/-- Rows 24 to 31: the logits of tile 2. -/
def new3_2 : FVec F S8x128 .f32 :=
  penV (logV 24 256 slices_S32x512_o24_256_S8x128 slices_S1x512_o0_256_S1x128 v16 v18 v20 (colV arg10 X10 ![24, 0] inb_S32x1_S8x1_24_0))
    (colV arg3 X3 ![24, 0] inb_S32x1_S8x1_24_0)
    (bitV (F := F) (BitVec.ofNat 32 (i 0).val) 2#32 (slotV arg11 X11 (k0_off4 i 2#32) (k0_off4_inb i 2)))
/-- Rows 24 to 31: the logits of tile 3. -/
def new3_3 : FVec F S8x128 .f32 :=
  penV (logV 24 384 slices_S32x512_o24_384_S8x128 slices_S1x512_o0_384_S1x128 v16 v18 v20 (colV arg10 X10 ![24, 0] inb_S32x1_S8x1_24_0))
    (colV arg3 X3 ![24, 0] inb_S32x1_S8x1_24_0)
    (bitV (F := F) (BitVec.ofNat 32 (i 0).val) 3#32 (slotV arg11 X11 (k0_off4 i 3#32) (k0_off4_inb i 3)))
/-- Rows 0 to 7: the slots' values after the point. -/
def net0 : ℕ → FVec F S8x128 .f32 :=
  insV (insV (insV (insV (old0 arg12 X12) (new0_0 i arg3 arg10 arg11 X3 X10 X11 v16 v18 v20)) (new0_1 i arg3 arg10 arg11 X3 X10 X11 v16 v18 v20)) (new0_2 i arg3 arg10 arg11 X3 X10 X11 v16 v18 v20)) (new0_3 i arg3 arg10 arg11 X3 X10 X11 v16 v18 v20)
/-- Rows 0 to 7: the slots' indices after the point. -/
def netI0 : ℕ → IVec S8x128 32 :=
  insI (insV (insV (insV (old0 arg12 X12) (new0_0 i arg3 arg10 arg11 X3 X10 X11 v16 v18 v20)) (new0_1 i arg3 arg10 arg11 X3 X10 X11 v16 v18 v20)) (new0_2 i arg3 arg10 arg11 X3 X10 X11 v16 v18 v20))
    (insI (insV (insV (old0 arg12 X12) (new0_0 i arg3 arg10 arg11 X3 X10 X11 v16 v18 v20)) (new0_1 i arg3 arg10 arg11 X3 X10 X11 v16 v18 v20))
      (insI (insV (old0 arg12 X12) (new0_0 i arg3 arg10 arg11 X3 X10 X11 v16 v18 v20))
        (insI (old0 arg12 X12) (oldI0 (F := F) arg13 X13) (new0_0 i arg3 arg10 arg11 X3 X10 X11 v16 v18 v20) (tokV (BitVec.ofNat 32 (i 0).val) 0#32))
        (new0_1 i arg3 arg10 arg11 X3 X10 X11 v16 v18 v20) (tokV (BitVec.ofNat 32 (i 0).val) 1#32))
      (new0_2 i arg3 arg10 arg11 X3 X10 X11 v16 v18 v20) (tokV (BitVec.ofNat 32 (i 0).val) 2#32))
    (new0_3 i arg3 arg10 arg11 X3 X10 X11 v16 v18 v20) (tokV (BitVec.ofNat 32 (i 0).val) 3#32)
/-- Rows 8 to 15: the slots' values after the point. -/
def net1 : ℕ → FVec F S8x128 .f32 :=
  insV (insV (insV (insV (old1 arg12 X12) (new1_0 i arg3 arg10 arg11 X3 X10 X11 v16 v18 v20)) (new1_1 i arg3 arg10 arg11 X3 X10 X11 v16 v18 v20)) (new1_2 i arg3 arg10 arg11 X3 X10 X11 v16 v18 v20)) (new1_3 i arg3 arg10 arg11 X3 X10 X11 v16 v18 v20)
/-- Rows 8 to 15: the slots' indices after the point. -/
def netI1 : ℕ → IVec S8x128 32 :=
  insI (insV (insV (insV (old1 arg12 X12) (new1_0 i arg3 arg10 arg11 X3 X10 X11 v16 v18 v20)) (new1_1 i arg3 arg10 arg11 X3 X10 X11 v16 v18 v20)) (new1_2 i arg3 arg10 arg11 X3 X10 X11 v16 v18 v20))
    (insI (insV (insV (old1 arg12 X12) (new1_0 i arg3 arg10 arg11 X3 X10 X11 v16 v18 v20)) (new1_1 i arg3 arg10 arg11 X3 X10 X11 v16 v18 v20))
      (insI (insV (old1 arg12 X12) (new1_0 i arg3 arg10 arg11 X3 X10 X11 v16 v18 v20))
        (insI (old1 arg12 X12) (oldI1 (F := F) arg13 X13) (new1_0 i arg3 arg10 arg11 X3 X10 X11 v16 v18 v20) (tokV (BitVec.ofNat 32 (i 0).val) 0#32))
        (new1_1 i arg3 arg10 arg11 X3 X10 X11 v16 v18 v20) (tokV (BitVec.ofNat 32 (i 0).val) 1#32))
      (new1_2 i arg3 arg10 arg11 X3 X10 X11 v16 v18 v20) (tokV (BitVec.ofNat 32 (i 0).val) 2#32))
    (new1_3 i arg3 arg10 arg11 X3 X10 X11 v16 v18 v20) (tokV (BitVec.ofNat 32 (i 0).val) 3#32)
/-- Rows 16 to 23: the slots' values after the point. -/
def net2 : ℕ → FVec F S8x128 .f32 :=
  insV (insV (insV (insV (old2 arg12 X12) (new2_0 i arg3 arg10 arg11 X3 X10 X11 v16 v18 v20)) (new2_1 i arg3 arg10 arg11 X3 X10 X11 v16 v18 v20)) (new2_2 i arg3 arg10 arg11 X3 X10 X11 v16 v18 v20)) (new2_3 i arg3 arg10 arg11 X3 X10 X11 v16 v18 v20)
/-- Rows 16 to 23: the slots' indices after the point. -/
def netI2 : ℕ → IVec S8x128 32 :=
  insI (insV (insV (insV (old2 arg12 X12) (new2_0 i arg3 arg10 arg11 X3 X10 X11 v16 v18 v20)) (new2_1 i arg3 arg10 arg11 X3 X10 X11 v16 v18 v20)) (new2_2 i arg3 arg10 arg11 X3 X10 X11 v16 v18 v20))
    (insI (insV (insV (old2 arg12 X12) (new2_0 i arg3 arg10 arg11 X3 X10 X11 v16 v18 v20)) (new2_1 i arg3 arg10 arg11 X3 X10 X11 v16 v18 v20))
      (insI (insV (old2 arg12 X12) (new2_0 i arg3 arg10 arg11 X3 X10 X11 v16 v18 v20))
        (insI (old2 arg12 X12) (oldI2 (F := F) arg13 X13) (new2_0 i arg3 arg10 arg11 X3 X10 X11 v16 v18 v20) (tokV (BitVec.ofNat 32 (i 0).val) 0#32))
        (new2_1 i arg3 arg10 arg11 X3 X10 X11 v16 v18 v20) (tokV (BitVec.ofNat 32 (i 0).val) 1#32))
      (new2_2 i arg3 arg10 arg11 X3 X10 X11 v16 v18 v20) (tokV (BitVec.ofNat 32 (i 0).val) 2#32))
    (new2_3 i arg3 arg10 arg11 X3 X10 X11 v16 v18 v20) (tokV (BitVec.ofNat 32 (i 0).val) 3#32)
/-- Rows 24 to 31: the slots' values after the point. -/
def net3 : ℕ → FVec F S8x128 .f32 :=
  insV (insV (insV (insV (old3 arg12 X12) (new3_0 i arg3 arg10 arg11 X3 X10 X11 v16 v18 v20)) (new3_1 i arg3 arg10 arg11 X3 X10 X11 v16 v18 v20)) (new3_2 i arg3 arg10 arg11 X3 X10 X11 v16 v18 v20)) (new3_3 i arg3 arg10 arg11 X3 X10 X11 v16 v18 v20)
/-- Rows 24 to 31: the slots' indices after the point. -/
def netI3 : ℕ → IVec S8x128 32 :=
  insI (insV (insV (insV (old3 arg12 X12) (new3_0 i arg3 arg10 arg11 X3 X10 X11 v16 v18 v20)) (new3_1 i arg3 arg10 arg11 X3 X10 X11 v16 v18 v20)) (new3_2 i arg3 arg10 arg11 X3 X10 X11 v16 v18 v20))
    (insI (insV (insV (old3 arg12 X12) (new3_0 i arg3 arg10 arg11 X3 X10 X11 v16 v18 v20)) (new3_1 i arg3 arg10 arg11 X3 X10 X11 v16 v18 v20))
      (insI (insV (old3 arg12 X12) (new3_0 i arg3 arg10 arg11 X3 X10 X11 v16 v18 v20))
        (insI (old3 arg12 X12) (oldI3 (F := F) arg13 X13) (new3_0 i arg3 arg10 arg11 X3 X10 X11 v16 v18 v20) (tokV (BitVec.ofNat 32 (i 0).val) 0#32))
        (new3_1 i arg3 arg10 arg11 X3 X10 X11 v16 v18 v20) (tokV (BitVec.ofNat 32 (i 0).val) 1#32))
      (new3_2 i arg3 arg10 arg11 X3 X10 X11 v16 v18 v20) (tokV (BitVec.ofNat 32 (i 0).val) 2#32))
    (new3_3 i arg3 arg10 arg11 X3 X10 X11 v16 v18 v20) (tokV (BitVec.ofNat 32 (i 0).val) 3#32)

end Cert.Ideal

end

end
-- ==== Proof.KerNetEq.lean ====
module

public import proofs.«01_k».proof.Proof.KerNet

/-! The generated values of the insertions are the network's. -/

open Idealize Idealize.ShloMosaic
open Cert.KernelIdeal Cert.KernelIdeal.Gen

@[expose] public section

set_option maxRecDepth 65536

noncomputable section

namespace Cert.Ideal

variable {F : FTy → Type} [FloatOps F]

variable (i : grid0.Coords) (arg3 : Memref sig .tc .vmem S32x1 .f32) (arg10 : Memref sig .tc .vmem S32x1 .f32)
  (arg11 : Memref sig .tc .vmem S8x32x128 .i32) (arg12 : Memref sig .tc .vmem S8x32x128 .f32) (arg13 : Memref sig .tc .vmem S8x32x128 .i32)
  (X3 : Vec F S32x1 .f32) (X10 : Vec F S32x1 .f32) (X11 : Vec F S8x32x128 .i32) (X12 : Vec F S8x32x128 .f32) (X13 : Vec F S8x32x128 .i32)
  (v16 : FVec F S32x512 .f32) (v18 v20 : FVec F S1x512 .f32)

theorem piecesV : runMain.sl.Hk0_part350_4_32 i arg3 arg10 arg11 arg12 X3 X10 X11 X12 (BitVec.ofNat 32 (i 0).val) v16 v18 v20 (colV arg10 X10 ![0, 0] inb_S32x1_S8x1_0_0) (colV arg3 X3 ![0, 0] inb_S32x1_S8x1_0_0) (old0 arg12 X12 0)
    = [⟨Rect.unit ![7, 24, 0] S1x8x128.size inb_S8x32x128_S1x8x128_7_24_0, shapeCast S1x8x128 (net3 i arg3 arg10 arg11 arg12 X3 X10 X11 X12 v16 v18 v20 7) shapeCasts_S8x128_S1x8x128⟩, ⟨Rect.unit ![6, 24, 0] S1x8x128.size inb_S8x32x128_S1x8x128_6_24_0, shapeCast S1x8x128 (net3 i arg3 arg10 arg11 arg12 X3 X10 X11 X12 v16 v18 v20 6) shapeCasts_S8x128_S1x8x128⟩, ⟨Rect.unit ![5, 24, 0] S1x8x128.size inb_S8x32x128_S1x8x128_5_24_0, shapeCast S1x8x128 (net3 i arg3 arg10 arg11 arg12 X3 X10 X11 X12 v16 v18 v20 5) shapeCasts_S8x128_S1x8x128⟩, ⟨Rect.unit ![4, 24, 0] S1x8x128.size inb_S8x32x128_S1x8x128_4_24_0, shapeCast S1x8x128 (net3 i arg3 arg10 arg11 arg12 X3 X10 X11 X12 v16 v18 v20 4) shapeCasts_S8x128_S1x8x128⟩, ⟨Rect.unit ![3, 24, 0] S1x8x128.size inb_S8x32x128_S1x8x128_3_24_0, shapeCast S1x8x128 (net3 i arg3 arg10 arg11 arg12 X3 X10 X11 X12 v16 v18 v20 3) shapeCasts_S8x128_S1x8x128⟩, ⟨Rect.unit ![2, 24, 0] S1x8x128.size inb_S8x32x128_S1x8x128_2_24_0, shapeCast S1x8x128 (net3 i arg3 arg10 arg11 arg12 X3 X10 X11 X12 v16 v18 v20 2) shapeCasts_S8x128_S1x8x128⟩, ⟨Rect.unit ![1, 24, 0] S1x8x128.size inb_S8x32x128_S1x8x128_1_24_0, shapeCast S1x8x128 (net3 i arg3 arg10 arg11 arg12 X3 X10 X11 X12 v16 v18 v20 1) shapeCasts_S8x128_S1x8x128⟩, ⟨Rect.unit ![0, 24, 0] S1x8x128.size inb_S8x32x128_S1x8x128_0_24_0, shapeCast S1x8x128 (net3 i arg3 arg10 arg11 arg12 X3 X10 X11 X12 v16 v18 v20 0) shapeCasts_S8x128_S1x8x128⟩, ⟨Rect.unit ![7, 16, 0] S1x8x128.size inb_S8x32x128_S1x8x128_7_16_0, shapeCast S1x8x128 (net2 i arg3 arg10 arg11 arg12 X3 X10 X11 X12 v16 v18 v20 7) shapeCasts_S8x128_S1x8x128⟩, ⟨Rect.unit ![6, 16, 0] S1x8x128.size inb_S8x32x128_S1x8x128_6_16_0, shapeCast S1x8x128 (net2 i arg3 arg10 arg11 arg12 X3 X10 X11 X12 v16 v18 v20 6) shapeCasts_S8x128_S1x8x128⟩, ⟨Rect.unit ![5, 16, 0] S1x8x128.size inb_S8x32x128_S1x8x128_5_16_0, shapeCast S1x8x128 (net2 i arg3 arg10 arg11 arg12 X3 X10 X11 X12 v16 v18 v20 5) shapeCasts_S8x128_S1x8x128⟩, ⟨Rect.unit ![4, 16, 0] S1x8x128.size inb_S8x32x128_S1x8x128_4_16_0, shapeCast S1x8x128 (net2 i arg3 arg10 arg11 arg12 X3 X10 X11 X12 v16 v18 v20 4) shapeCasts_S8x128_S1x8x128⟩, ⟨Rect.unit ![3, 16, 0] S1x8x128.size inb_S8x32x128_S1x8x128_3_16_0, shapeCast S1x8x128 (net2 i arg3 arg10 arg11 arg12 X3 X10 X11 X12 v16 v18 v20 3) shapeCasts_S8x128_S1x8x128⟩, ⟨Rect.unit ![2, 16, 0] S1x8x128.size inb_S8x32x128_S1x8x128_2_16_0, shapeCast S1x8x128 (net2 i arg3 arg10 arg11 arg12 X3 X10 X11 X12 v16 v18 v20 2) shapeCasts_S8x128_S1x8x128⟩, ⟨Rect.unit ![1, 16, 0] S1x8x128.size inb_S8x32x128_S1x8x128_1_16_0, shapeCast S1x8x128 (net2 i arg3 arg10 arg11 arg12 X3 X10 X11 X12 v16 v18 v20 1) shapeCasts_S8x128_S1x8x128⟩, ⟨Rect.unit ![0, 16, 0] S1x8x128.size inb_S8x32x128_S1x8x128_0_16_0, shapeCast S1x8x128 (net2 i arg3 arg10 arg11 arg12 X3 X10 X11 X12 v16 v18 v20 0) shapeCasts_S8x128_S1x8x128⟩, ⟨Rect.unit ![7, 8, 0] S1x8x128.size inb_S8x32x128_S1x8x128_7_8_0, shapeCast S1x8x128 (net1 i arg3 arg10 arg11 arg12 X3 X10 X11 X12 v16 v18 v20 7) shapeCasts_S8x128_S1x8x128⟩, ⟨Rect.unit ![6, 8, 0] S1x8x128.size inb_S8x32x128_S1x8x128_6_8_0, shapeCast S1x8x128 (net1 i arg3 arg10 arg11 arg12 X3 X10 X11 X12 v16 v18 v20 6) shapeCasts_S8x128_S1x8x128⟩, ⟨Rect.unit ![5, 8, 0] S1x8x128.size inb_S8x32x128_S1x8x128_5_8_0, shapeCast S1x8x128 (net1 i arg3 arg10 arg11 arg12 X3 X10 X11 X12 v16 v18 v20 5) shapeCasts_S8x128_S1x8x128⟩, ⟨Rect.unit ![4, 8, 0] S1x8x128.size inb_S8x32x128_S1x8x128_4_8_0, shapeCast S1x8x128 (net1 i arg3 arg10 arg11 arg12 X3 X10 X11 X12 v16 v18 v20 4) shapeCasts_S8x128_S1x8x128⟩, ⟨Rect.unit ![3, 8, 0] S1x8x128.size inb_S8x32x128_S1x8x128_3_8_0, shapeCast S1x8x128 (net1 i arg3 arg10 arg11 arg12 X3 X10 X11 X12 v16 v18 v20 3) shapeCasts_S8x128_S1x8x128⟩, ⟨Rect.unit ![2, 8, 0] S1x8x128.size inb_S8x32x128_S1x8x128_2_8_0, shapeCast S1x8x128 (net1 i arg3 arg10 arg11 arg12 X3 X10 X11 X12 v16 v18 v20 2) shapeCasts_S8x128_S1x8x128⟩, ⟨Rect.unit ![1, 8, 0] S1x8x128.size inb_S8x32x128_S1x8x128_1_8_0, shapeCast S1x8x128 (net1 i arg3 arg10 arg11 arg12 X3 X10 X11 X12 v16 v18 v20 1) shapeCasts_S8x128_S1x8x128⟩, ⟨Rect.unit ![0, 8, 0] S1x8x128.size inb_S8x32x128_S1x8x128_0_8_0, shapeCast S1x8x128 (net1 i arg3 arg10 arg11 arg12 X3 X10 X11 X12 v16 v18 v20 0) shapeCasts_S8x128_S1x8x128⟩, ⟨Rect.unit ![7, 0, 0] S1x8x128.size inb_S8x32x128_S1x8x128_7_0_0, shapeCast S1x8x128 (net0 i arg3 arg10 arg11 arg12 X3 X10 X11 X12 v16 v18 v20 7) shapeCasts_S8x128_S1x8x128⟩, ⟨Rect.unit ![6, 0, 0] S1x8x128.size inb_S8x32x128_S1x8x128_6_0_0, shapeCast S1x8x128 (net0 i arg3 arg10 arg11 arg12 X3 X10 X11 X12 v16 v18 v20 6) shapeCasts_S8x128_S1x8x128⟩, ⟨Rect.unit ![5, 0, 0] S1x8x128.size inb_S8x32x128_S1x8x128_5_0_0, shapeCast S1x8x128 (net0 i arg3 arg10 arg11 arg12 X3 X10 X11 X12 v16 v18 v20 5) shapeCasts_S8x128_S1x8x128⟩, ⟨Rect.unit ![4, 0, 0] S1x8x128.size inb_S8x32x128_S1x8x128_4_0_0, shapeCast S1x8x128 (net0 i arg3 arg10 arg11 arg12 X3 X10 X11 X12 v16 v18 v20 4) shapeCasts_S8x128_S1x8x128⟩, ⟨Rect.unit ![3, 0, 0] S1x8x128.size inb_S8x32x128_S1x8x128_3_0_0, shapeCast S1x8x128 (net0 i arg3 arg10 arg11 arg12 X3 X10 X11 X12 v16 v18 v20 3) shapeCasts_S8x128_S1x8x128⟩, ⟨Rect.unit ![2, 0, 0] S1x8x128.size inb_S8x32x128_S1x8x128_2_0_0, shapeCast S1x8x128 (net0 i arg3 arg10 arg11 arg12 X3 X10 X11 X12 v16 v18 v20 2) shapeCasts_S8x128_S1x8x128⟩, ⟨Rect.unit ![1, 0, 0] S1x8x128.size inb_S8x32x128_S1x8x128_1_0_0, shapeCast S1x8x128 (net0 i arg3 arg10 arg11 arg12 X3 X10 X11 X12 v16 v18 v20 1) shapeCasts_S8x128_S1x8x128⟩, ⟨Rect.unit ![0, 0, 0] S1x8x128.size inb_S8x32x128_S1x8x128_0_0_0, shapeCast S1x8x128 (net0 i arg3 arg10 arg11 arg12 X3 X10 X11 X12 v16 v18 v20 0) shapeCasts_S8x128_S1x8x128⟩] := rfl

theorem piecesI : runMain.sl.Hk0_part350_5_32 i arg3 arg10 arg11 arg12 arg13 X3 X10 X11 X12 X13 (BitVec.ofNat 32 (i 0).val) v16 v18 v20 (colV arg10 X10 ![0, 0] inb_S32x1_S8x1_0_0) (colV arg3 X3 ![0, 0] inb_S32x1_S8x1_0_0) (old0 arg12 X12 0)
    = [⟨Rect.unit ![7, 24, 0] S1x8x128.size inb_S8x32x128_S1x8x128_7_24_0, shapeCast S1x8x128 (netI3 i arg3 arg10 arg11 arg12 arg13 X3 X10 X11 X12 X13 v16 v18 v20 7) shapeCasts_S8x128_S1x8x128⟩, ⟨Rect.unit ![6, 24, 0] S1x8x128.size inb_S8x32x128_S1x8x128_6_24_0, shapeCast S1x8x128 (netI3 i arg3 arg10 arg11 arg12 arg13 X3 X10 X11 X12 X13 v16 v18 v20 6) shapeCasts_S8x128_S1x8x128⟩, ⟨Rect.unit ![5, 24, 0] S1x8x128.size inb_S8x32x128_S1x8x128_5_24_0, shapeCast S1x8x128 (netI3 i arg3 arg10 arg11 arg12 arg13 X3 X10 X11 X12 X13 v16 v18 v20 5) shapeCasts_S8x128_S1x8x128⟩, ⟨Rect.unit ![4, 24, 0] S1x8x128.size inb_S8x32x128_S1x8x128_4_24_0, shapeCast S1x8x128 (netI3 i arg3 arg10 arg11 arg12 arg13 X3 X10 X11 X12 X13 v16 v18 v20 4) shapeCasts_S8x128_S1x8x128⟩, ⟨Rect.unit ![3, 24, 0] S1x8x128.size inb_S8x32x128_S1x8x128_3_24_0, shapeCast S1x8x128 (netI3 i arg3 arg10 arg11 arg12 arg13 X3 X10 X11 X12 X13 v16 v18 v20 3) shapeCasts_S8x128_S1x8x128⟩, ⟨Rect.unit ![2, 24, 0] S1x8x128.size inb_S8x32x128_S1x8x128_2_24_0, shapeCast S1x8x128 (netI3 i arg3 arg10 arg11 arg12 arg13 X3 X10 X11 X12 X13 v16 v18 v20 2) shapeCasts_S8x128_S1x8x128⟩, ⟨Rect.unit ![1, 24, 0] S1x8x128.size inb_S8x32x128_S1x8x128_1_24_0, shapeCast S1x8x128 (netI3 i arg3 arg10 arg11 arg12 arg13 X3 X10 X11 X12 X13 v16 v18 v20 1) shapeCasts_S8x128_S1x8x128⟩, ⟨Rect.unit ![0, 24, 0] S1x8x128.size inb_S8x32x128_S1x8x128_0_24_0, shapeCast S1x8x128 (netI3 i arg3 arg10 arg11 arg12 arg13 X3 X10 X11 X12 X13 v16 v18 v20 0) shapeCasts_S8x128_S1x8x128⟩, ⟨Rect.unit ![7, 16, 0] S1x8x128.size inb_S8x32x128_S1x8x128_7_16_0, shapeCast S1x8x128 (netI2 i arg3 arg10 arg11 arg12 arg13 X3 X10 X11 X12 X13 v16 v18 v20 7) shapeCasts_S8x128_S1x8x128⟩, ⟨Rect.unit ![6, 16, 0] S1x8x128.size inb_S8x32x128_S1x8x128_6_16_0, shapeCast S1x8x128 (netI2 i arg3 arg10 arg11 arg12 arg13 X3 X10 X11 X12 X13 v16 v18 v20 6) shapeCasts_S8x128_S1x8x128⟩, ⟨Rect.unit ![5, 16, 0] S1x8x128.size inb_S8x32x128_S1x8x128_5_16_0, shapeCast S1x8x128 (netI2 i arg3 arg10 arg11 arg12 arg13 X3 X10 X11 X12 X13 v16 v18 v20 5) shapeCasts_S8x128_S1x8x128⟩, ⟨Rect.unit ![4, 16, 0] S1x8x128.size inb_S8x32x128_S1x8x128_4_16_0, shapeCast S1x8x128 (netI2 i arg3 arg10 arg11 arg12 arg13 X3 X10 X11 X12 X13 v16 v18 v20 4) shapeCasts_S8x128_S1x8x128⟩, ⟨Rect.unit ![3, 16, 0] S1x8x128.size inb_S8x32x128_S1x8x128_3_16_0, shapeCast S1x8x128 (netI2 i arg3 arg10 arg11 arg12 arg13 X3 X10 X11 X12 X13 v16 v18 v20 3) shapeCasts_S8x128_S1x8x128⟩, ⟨Rect.unit ![2, 16, 0] S1x8x128.size inb_S8x32x128_S1x8x128_2_16_0, shapeCast S1x8x128 (netI2 i arg3 arg10 arg11 arg12 arg13 X3 X10 X11 X12 X13 v16 v18 v20 2) shapeCasts_S8x128_S1x8x128⟩, ⟨Rect.unit ![1, 16, 0] S1x8x128.size inb_S8x32x128_S1x8x128_1_16_0, shapeCast S1x8x128 (netI2 i arg3 arg10 arg11 arg12 arg13 X3 X10 X11 X12 X13 v16 v18 v20 1) shapeCasts_S8x128_S1x8x128⟩, ⟨Rect.unit ![0, 16, 0] S1x8x128.size inb_S8x32x128_S1x8x128_0_16_0, shapeCast S1x8x128 (netI2 i arg3 arg10 arg11 arg12 arg13 X3 X10 X11 X12 X13 v16 v18 v20 0) shapeCasts_S8x128_S1x8x128⟩, ⟨Rect.unit ![7, 8, 0] S1x8x128.size inb_S8x32x128_S1x8x128_7_8_0, shapeCast S1x8x128 (netI1 i arg3 arg10 arg11 arg12 arg13 X3 X10 X11 X12 X13 v16 v18 v20 7) shapeCasts_S8x128_S1x8x128⟩, ⟨Rect.unit ![6, 8, 0] S1x8x128.size inb_S8x32x128_S1x8x128_6_8_0, shapeCast S1x8x128 (netI1 i arg3 arg10 arg11 arg12 arg13 X3 X10 X11 X12 X13 v16 v18 v20 6) shapeCasts_S8x128_S1x8x128⟩, ⟨Rect.unit ![5, 8, 0] S1x8x128.size inb_S8x32x128_S1x8x128_5_8_0, shapeCast S1x8x128 (netI1 i arg3 arg10 arg11 arg12 arg13 X3 X10 X11 X12 X13 v16 v18 v20 5) shapeCasts_S8x128_S1x8x128⟩, ⟨Rect.unit ![4, 8, 0] S1x8x128.size inb_S8x32x128_S1x8x128_4_8_0, shapeCast S1x8x128 (netI1 i arg3 arg10 arg11 arg12 arg13 X3 X10 X11 X12 X13 v16 v18 v20 4) shapeCasts_S8x128_S1x8x128⟩, ⟨Rect.unit ![3, 8, 0] S1x8x128.size inb_S8x32x128_S1x8x128_3_8_0, shapeCast S1x8x128 (netI1 i arg3 arg10 arg11 arg12 arg13 X3 X10 X11 X12 X13 v16 v18 v20 3) shapeCasts_S8x128_S1x8x128⟩, ⟨Rect.unit ![2, 8, 0] S1x8x128.size inb_S8x32x128_S1x8x128_2_8_0, shapeCast S1x8x128 (netI1 i arg3 arg10 arg11 arg12 arg13 X3 X10 X11 X12 X13 v16 v18 v20 2) shapeCasts_S8x128_S1x8x128⟩, ⟨Rect.unit ![1, 8, 0] S1x8x128.size inb_S8x32x128_S1x8x128_1_8_0, shapeCast S1x8x128 (netI1 i arg3 arg10 arg11 arg12 arg13 X3 X10 X11 X12 X13 v16 v18 v20 1) shapeCasts_S8x128_S1x8x128⟩, ⟨Rect.unit ![0, 8, 0] S1x8x128.size inb_S8x32x128_S1x8x128_0_8_0, shapeCast S1x8x128 (netI1 i arg3 arg10 arg11 arg12 arg13 X3 X10 X11 X12 X13 v16 v18 v20 0) shapeCasts_S8x128_S1x8x128⟩, ⟨Rect.unit ![7, 0, 0] S1x8x128.size inb_S8x32x128_S1x8x128_7_0_0, shapeCast S1x8x128 (netI0 i arg3 arg10 arg11 arg12 arg13 X3 X10 X11 X12 X13 v16 v18 v20 7) shapeCasts_S8x128_S1x8x128⟩, ⟨Rect.unit ![6, 0, 0] S1x8x128.size inb_S8x32x128_S1x8x128_6_0_0, shapeCast S1x8x128 (netI0 i arg3 arg10 arg11 arg12 arg13 X3 X10 X11 X12 X13 v16 v18 v20 6) shapeCasts_S8x128_S1x8x128⟩, ⟨Rect.unit ![5, 0, 0] S1x8x128.size inb_S8x32x128_S1x8x128_5_0_0, shapeCast S1x8x128 (netI0 i arg3 arg10 arg11 arg12 arg13 X3 X10 X11 X12 X13 v16 v18 v20 5) shapeCasts_S8x128_S1x8x128⟩, ⟨Rect.unit ![4, 0, 0] S1x8x128.size inb_S8x32x128_S1x8x128_4_0_0, shapeCast S1x8x128 (netI0 i arg3 arg10 arg11 arg12 arg13 X3 X10 X11 X12 X13 v16 v18 v20 4) shapeCasts_S8x128_S1x8x128⟩, ⟨Rect.unit ![3, 0, 0] S1x8x128.size inb_S8x32x128_S1x8x128_3_0_0, shapeCast S1x8x128 (netI0 i arg3 arg10 arg11 arg12 arg13 X3 X10 X11 X12 X13 v16 v18 v20 3) shapeCasts_S8x128_S1x8x128⟩, ⟨Rect.unit ![2, 0, 0] S1x8x128.size inb_S8x32x128_S1x8x128_2_0_0, shapeCast S1x8x128 (netI0 i arg3 arg10 arg11 arg12 arg13 X3 X10 X11 X12 X13 v16 v18 v20 2) shapeCasts_S8x128_S1x8x128⟩, ⟨Rect.unit ![1, 0, 0] S1x8x128.size inb_S8x32x128_S1x8x128_1_0_0, shapeCast S1x8x128 (netI0 i arg3 arg10 arg11 arg12 arg13 X3 X10 X11 X12 X13 v16 v18 v20 1) shapeCasts_S8x128_S1x8x128⟩, ⟨Rect.unit ![0, 0, 0] S1x8x128.size inb_S8x32x128_S1x8x128_0_0_0, shapeCast S1x8x128 (netI0 i arg3 arg10 arg11 arg12 arg13 X3 X10 X11 X12 X13 v16 v18 v20 0) shapeCasts_S8x128_S1x8x128⟩] := rfl

end Cert.Ideal

end

end
-- ==== Proof.Lanes.lean ====
module

public import Idealize.ShloMosaic.PureOps.Ideal

/-! One lane's list of eight and what an insertion does to it, in plain numbers. -/

open Idealize Idealize.ShloMosaic

@[expose] public section

noncomputable section

namespace Cert.Lanes

/-- The slots' values after one insertion. -/
def ins (v : ℕ → EReal) (x : EReal) : ℕ → EReal
  | 0 => max (v 0) x
  | j + 1 => max (v (j + 1)) (min (v j) x)

/-- The slots' indices after one insertion. -/
def insK (v : ℕ → EReal) (k : ℕ → BitVec 32) (x : EReal) (n : BitVec 32) : ℕ → BitVec 32
  | 0 => if v 0 < x then n else k 0
  | j + 1 => if v (j + 1) < x then (if v j < x then k j else n) else k (j + 1)

/-- A logit with the penalty where the token was seen. -/
def penS (l p : EReal) (seen : Prop) [Decidable seen] : EReal :=
  if seen then (if 0 < l then Ideal.div l p else l * p) else l

end Cert.Lanes

end

end
-- ==== Proof.KerPieces.lean ====
module

public import proofs.«01_k».proof.Proof.IdealMain
public import Idealize.ShloMosaic.Lib.Pipeline.Value
public import Idealize.ShloMosaic.Lib.ValueIdx
public import Idealize.ShloMosaic.Lib.Pipeline.FrameBody

/-! Thirty-two stores, one per slot and group of eight rows, that together fill an array of eight slots. -/

open Idealize Idealize.ShloMosaic Idealize.ShloMosaic.ValueIdx
open Cert.KernelIdeal Cert.KernelIdeal.Gen

@[expose] public section

set_option maxRecDepth 65536

noncomputable section

namespace Cert.Ideal

variable {F : FTy → Type} [FloatOps F]

/-- Row `r` of the group of eight rows starting at `o`. -/
def rowOf (o : ℕ) (ho : o + 8 ≤ 32) (r : Fin 8) : Fin 32 := ⟨o + r.val, by omega⟩

/-- The stores, the last one first. -/
def pieces {e : EltTy} (P : ℕ → ℕ → Vec F S1x8x128 e) : List (View.Piece (Elt F) S8x32x128 e) :=
  [⟨Rect.unit (s := S8x32x128) ![7, 24, 0] S1x8x128.size inb_S8x32x128_S1x8x128_7_24_0, P 3 7⟩, ⟨Rect.unit (s := S8x32x128) ![6, 24, 0] S1x8x128.size inb_S8x32x128_S1x8x128_6_24_0, P 3 6⟩, ⟨Rect.unit (s := S8x32x128) ![5, 24, 0] S1x8x128.size inb_S8x32x128_S1x8x128_5_24_0, P 3 5⟩, ⟨Rect.unit (s := S8x32x128) ![4, 24, 0] S1x8x128.size inb_S8x32x128_S1x8x128_4_24_0, P 3 4⟩, ⟨Rect.unit (s := S8x32x128) ![3, 24, 0] S1x8x128.size inb_S8x32x128_S1x8x128_3_24_0, P 3 3⟩, ⟨Rect.unit (s := S8x32x128) ![2, 24, 0] S1x8x128.size inb_S8x32x128_S1x8x128_2_24_0, P 3 2⟩, ⟨Rect.unit (s := S8x32x128) ![1, 24, 0] S1x8x128.size inb_S8x32x128_S1x8x128_1_24_0, P 3 1⟩, ⟨Rect.unit (s := S8x32x128) ![0, 24, 0] S1x8x128.size inb_S8x32x128_S1x8x128_0_24_0, P 3 0⟩, ⟨Rect.unit (s := S8x32x128) ![7, 16, 0] S1x8x128.size inb_S8x32x128_S1x8x128_7_16_0, P 2 7⟩, ⟨Rect.unit (s := S8x32x128) ![6, 16, 0] S1x8x128.size inb_S8x32x128_S1x8x128_6_16_0, P 2 6⟩, ⟨Rect.unit (s := S8x32x128) ![5, 16, 0] S1x8x128.size inb_S8x32x128_S1x8x128_5_16_0, P 2 5⟩, ⟨Rect.unit (s := S8x32x128) ![4, 16, 0] S1x8x128.size inb_S8x32x128_S1x8x128_4_16_0, P 2 4⟩, ⟨Rect.unit (s := S8x32x128) ![3, 16, 0] S1x8x128.size inb_S8x32x128_S1x8x128_3_16_0, P 2 3⟩, ⟨Rect.unit (s := S8x32x128) ![2, 16, 0] S1x8x128.size inb_S8x32x128_S1x8x128_2_16_0, P 2 2⟩, ⟨Rect.unit (s := S8x32x128) ![1, 16, 0] S1x8x128.size inb_S8x32x128_S1x8x128_1_16_0, P 2 1⟩, ⟨Rect.unit (s := S8x32x128) ![0, 16, 0] S1x8x128.size inb_S8x32x128_S1x8x128_0_16_0, P 2 0⟩, ⟨Rect.unit (s := S8x32x128) ![7, 8, 0] S1x8x128.size inb_S8x32x128_S1x8x128_7_8_0, P 1 7⟩, ⟨Rect.unit (s := S8x32x128) ![6, 8, 0] S1x8x128.size inb_S8x32x128_S1x8x128_6_8_0, P 1 6⟩, ⟨Rect.unit (s := S8x32x128) ![5, 8, 0] S1x8x128.size inb_S8x32x128_S1x8x128_5_8_0, P 1 5⟩, ⟨Rect.unit (s := S8x32x128) ![4, 8, 0] S1x8x128.size inb_S8x32x128_S1x8x128_4_8_0, P 1 4⟩, ⟨Rect.unit (s := S8x32x128) ![3, 8, 0] S1x8x128.size inb_S8x32x128_S1x8x128_3_8_0, P 1 3⟩, ⟨Rect.unit (s := S8x32x128) ![2, 8, 0] S1x8x128.size inb_S8x32x128_S1x8x128_2_8_0, P 1 2⟩, ⟨Rect.unit (s := S8x32x128) ![1, 8, 0] S1x8x128.size inb_S8x32x128_S1x8x128_1_8_0, P 1 1⟩, ⟨Rect.unit (s := S8x32x128) ![0, 8, 0] S1x8x128.size inb_S8x32x128_S1x8x128_0_8_0, P 1 0⟩, ⟨Rect.unit (s := S8x32x128) ![7, 0, 0] S1x8x128.size inb_S8x32x128_S1x8x128_7_0_0, P 0 7⟩, ⟨Rect.unit (s := S8x32x128) ![6, 0, 0] S1x8x128.size inb_S8x32x128_S1x8x128_6_0_0, P 0 6⟩, ⟨Rect.unit (s := S8x32x128) ![5, 0, 0] S1x8x128.size inb_S8x32x128_S1x8x128_5_0_0, P 0 5⟩, ⟨Rect.unit (s := S8x32x128) ![4, 0, 0] S1x8x128.size inb_S8x32x128_S1x8x128_4_0_0, P 0 4⟩, ⟨Rect.unit (s := S8x32x128) ![3, 0, 0] S1x8x128.size inb_S8x32x128_S1x8x128_3_0_0, P 0 3⟩, ⟨Rect.unit (s := S8x32x128) ![2, 0, 0] S1x8x128.size inb_S8x32x128_S1x8x128_2_0_0, P 0 2⟩, ⟨Rect.unit (s := S8x32x128) ![1, 0, 0] S1x8x128.size inb_S8x32x128_S1x8x128_1_0_0, P 0 1⟩, ⟨Rect.unit (s := S8x32x128) ![0, 0, 0] S1x8x128.size inb_S8x32x128_S1x8x128_0_0_0, P 0 0⟩]

theorem mem_piece (j o : ℕ) (h : ∀ a, (![j, o, 0] : Fin 3 → ℕ) a + S1x8x128.size a ≤ S8x32x128.size a) (y : S8x32x128.Idx)
    (h0 : (y 0).val = j) (h1 : o ≤ (y 1).val) (h2 : (y 1).val < o + 8) :
    y ∈ (Rect.unit (s := S8x32x128) ![j, o, 0] S1x8x128.size h).set := by
  rw [Rect.mem_set_unit]
  intro a
  match a with
  | ⟨0, _⟩ => exact ⟨by show j ≤ (y 0).val; omega, by show (y 0).val < j + 1; omega⟩
  | ⟨1, _⟩ => exact ⟨h1, h2⟩
  | ⟨2, _⟩ => exact ⟨Nat.zero_le _, by show (y 2).val < 0 + 128; have : (y 2).val < 128 := (y 2).isLt; omega⟩

theorem cover {e : EltTy} (P : ℕ → ℕ → Vec F S1x8x128 e) (y : S8x32x128.Idx) : ∃ p ∈ pieces P, y ∈ p.1.set := by
  have h0 : (y 0).val < 8 := (y 0).isLt
  have h1 : (y 1).val < 32 := (y 1).isLt
  unfold pieces
  obtain ⟨g, hg⟩ : ∃ g, g = (y 1).val / 8 := ⟨_, rfl⟩
  obtain ⟨j, hj⟩ : ∃ j, j = (y 0).val := ⟨_, rfl⟩
  match g, j with
  | 3, 7 => exact ⟨_, .head _, mem_piece 7 24 inb_S8x32x128_S1x8x128_7_24_0 y (by omega) (by omega) (by omega)⟩
  | 3, 6 => exact ⟨_, .tail _ (.head _), mem_piece 6 24 inb_S8x32x128_S1x8x128_6_24_0 y (by omega) (by omega) (by omega)⟩
  | 3, 5 => exact ⟨_, .tail _ (.tail _ (.head _)), mem_piece 5 24 inb_S8x32x128_S1x8x128_5_24_0 y (by omega) (by omega) (by omega)⟩
  | 3, 4 => exact ⟨_, .tail _ (.tail _ (.tail _ (.head _))), mem_piece 4 24 inb_S8x32x128_S1x8x128_4_24_0 y (by omega) (by omega) (by omega)⟩
  | 3, 3 => exact ⟨_, .tail _ (.tail _ (.tail _ (.tail _ (.head _)))), mem_piece 3 24 inb_S8x32x128_S1x8x128_3_24_0 y (by omega) (by omega) (by omega)⟩
  | 3, 2 => exact ⟨_, .tail _ (.tail _ (.tail _ (.tail _ (.tail _ (.head _))))), mem_piece 2 24 inb_S8x32x128_S1x8x128_2_24_0 y (by omega) (by omega) (by omega)⟩
  | 3, 1 => exact ⟨_, .tail _ (.tail _ (.tail _ (.tail _ (.tail _ (.tail _ (.head _)))))), mem_piece 1 24 inb_S8x32x128_S1x8x128_1_24_0 y (by omega) (by omega) (by omega)⟩
  | 3, 0 => exact ⟨_, .tail _ (.tail _ (.tail _ (.tail _ (.tail _ (.tail _ (.tail _ (.head _))))))), mem_piece 0 24 inb_S8x32x128_S1x8x128_0_24_0 y (by omega) (by omega) (by omega)⟩
  | 2, 7 => exact ⟨_, .tail _ (.tail _ (.tail _ (.tail _ (.tail _ (.tail _ (.tail _ (.tail _ (.head _)))))))), mem_piece 7 16 inb_S8x32x128_S1x8x128_7_16_0 y (by omega) (by omega) (by omega)⟩
  | 2, 6 => exact ⟨_, .tail _ (.tail _ (.tail _ (.tail _ (.tail _ (.tail _ (.tail _ (.tail _ (.tail _ (.head _))))))))), mem_piece 6 16 inb_S8x32x128_S1x8x128_6_16_0 y (by omega) (by omega) (by omega)⟩
  | 2, 5 => exact ⟨_, .tail _ (.tail _ (.tail _ (.tail _ (.tail _ (.tail _ (.tail _ (.tail _ (.tail _ (.tail _ (.head _)))))))))), mem_piece 5 16 inb_S8x32x128_S1x8x128_5_16_0 y (by omega) (by omega) (by omega)⟩
  | 2, 4 => exact ⟨_, .tail _ (.tail _ (.tail _ (.tail _ (.tail _ (.tail _ (.tail _ (.tail _ (.tail _ (.tail _ (.tail _ (.head _))))))))))), mem_piece 4 16 inb_S8x32x128_S1x8x128_4_16_0 y (by omega) (by omega) (by omega)⟩
  | 2, 3 => exact ⟨_, .tail _ (.tail _ (.tail _ (.tail _ (.tail _ (.tail _ (.tail _ (.tail _ (.tail _ (.tail _ (.tail _ (.tail _ (.head _)))))))))))), mem_piece 3 16 inb_S8x32x128_S1x8x128_3_16_0 y (by omega) (by omega) (by omega)⟩
  | 2, 2 => exact ⟨_, .tail _ (.tail _ (.tail _ (.tail _ (.tail _ (.tail _ (.tail _ (.tail _ (.tail _ (.tail _ (.tail _ (.tail _ (.tail _ (.head _))))))))))))), mem_piece 2 16 inb_S8x32x128_S1x8x128_2_16_0 y (by omega) (by omega) (by omega)⟩
  | 2, 1 => exact ⟨_, .tail _ (.tail _ (.tail _ (.tail _ (.tail _ (.tail _ (.tail _ (.tail _ (.tail _ (.tail _ (.tail _ (.tail _ (.tail _ (.tail _ (.head _)))))))))))))), mem_piece 1 16 inb_S8x32x128_S1x8x128_1_16_0 y (by omega) (by omega) (by omega)⟩
  | 2, 0 => exact ⟨_, .tail _ (.tail _ (.tail _ (.tail _ (.tail _ (.tail _ (.tail _ (.tail _ (.tail _ (.tail _ (.tail _ (.tail _ (.tail _ (.tail _ (.tail _ (.head _))))))))))))))), mem_piece 0 16 inb_S8x32x128_S1x8x128_0_16_0 y (by omega) (by omega) (by omega)⟩
  | 1, 7 => exact ⟨_, .tail _ (.tail _ (.tail _ (.tail _ (.tail _ (.tail _ (.tail _ (.tail _ (.tail _ (.tail _ (.tail _ (.tail _ (.tail _ (.tail _ (.tail _ (.tail _ (.head _)))))))))))))))), mem_piece 7 8 inb_S8x32x128_S1x8x128_7_8_0 y (by omega) (by omega) (by omega)⟩
  | 1, 6 => exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_piece 6 8 inb_S8x32x128_S1x8x128_6_8_0 y (by omega) (by omega) (by omega)⟩
  | 1, 5 => exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_piece 5 8 inb_S8x32x128_S1x8x128_5_8_0 y (by omega) (by omega) (by omega)⟩
  | 1, 4 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_piece 4 8 inb_S8x32x128_S1x8x128_4_8_0 y (by omega) (by omega) (by omega)⟩
  | 1, 3 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_piece 3 8 inb_S8x32x128_S1x8x128_3_8_0 y (by omega) (by omega) (by omega)⟩
  | 1, 2 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_piece 2 8 inb_S8x32x128_S1x8x128_2_8_0 y (by omega) (by omega) (by omega)⟩
  | 1, 1 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_piece 1 8 inb_S8x32x128_S1x8x128_1_8_0 y (by omega) (by omega) (by omega)⟩
  | 1, 0 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_piece 0 8 inb_S8x32x128_S1x8x128_0_8_0 y (by omega) (by omega) (by omega)⟩
  | 0, 7 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), mem_piece 7 0 inb_S8x32x128_S1x8x128_7_0_0 y (by omega) (by omega) (by omega)⟩
  | 0, 6 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), mem_piece 6 0 inb_S8x32x128_S1x8x128_6_0_0 y (by omega) (by omega) (by omega)⟩
  | 0, 5 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), mem_piece 5 0 inb_S8x32x128_S1x8x128_5_0_0 y (by omega) (by omega) (by omega)⟩
  | 0, 4 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), mem_piece 4 0 inb_S8x32x128_S1x8x128_4_0_0 y (by omega) (by omega) (by omega)⟩
  | 0, 3 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), mem_piece 3 0 inb_S8x32x128_S1x8x128_3_0_0 y (by omega) (by omega) (by omega)⟩
  | 0, 2 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), mem_piece 2 0 inb_S8x32x128_S1x8x128_2_0_0 y (by omega) (by omega) (by omega)⟩
  | 0, 1 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), mem_piece 1 0 inb_S8x32x128_S1x8x128_1_0_0 y (by omega) (by omega) (by omega)⟩
  | 0, 0 => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), mem_piece 0 0 inb_S8x32x128_S1x8x128_0_0_0 y (by omega) (by omega) (by omega)⟩
  | g + 4, _ => omega
  | _, j + 8 => omega

theorem piece_emb (j o : ℕ) (hj : j < 8) (ho : o + 8 ≤ 32) (h : ∀ a, (![j, o, 0] : Fin 3 → ℕ) a + S1x8x128.size a ≤ S8x32x128.size a) (x : S1x8x128.Idx) :
    (Rect.unit (s := S8x32x128) ![j, o, 0] S1x8x128.size h).emb x = ix3 (⟨j, hj⟩ : Fin 8) (rowOf o ho (x 1)) (x 2) := by
  refine funext fun a => Fin.ext ?_
  match a with
  | ⟨0, _⟩ => have : (x 0).val < 1 := (x 0).isLt; show j + 1 * (x 0).val = j; omega
  | ⟨1, _⟩ => show o + 1 * (x 1).val = o + (x 1).val; omega
  | ⟨2, _⟩ => show 0 + 1 * (x 2).val = (x 2).val; omega

theorem pieces_canon {e : EltTy} [∀ e, Nonempty (Elt F e)] (P : ℕ → ℕ → Vec F S1x8x128 e) (G : S8x32x128.Idx → Elt F e)
    (h : ∀ (g j : ℕ) (hg : 8 * g + 8 ≤ 32) (hj : j < 8) (x : S1x8x128.Idx), P g j x = G (ix3 (⟨j, hj⟩ : Fin 8) (rowOf (8 * g) hg (x 1)) (x 2))) (y : S8x32x128.Idx) :
    View.canon (pieces P) y = G y := by
  refine View.canon_apply_of_pieces G _ ?_ y (cover P y)
  have key : ∀ (g j : ℕ) (hg : 8 * g + 8 ≤ 32) (hj : j < 8) (hb : ∀ a, (![j, 8 * g, 0] : Fin 3 → ℕ) a + S1x8x128.size a ≤ S8x32x128.size a) (x : S1x8x128.Idx),
      P g j x = G ((Rect.unit (s := S8x32x128) ![j, 8 * g, 0] S1x8x128.size hb).emb x) := by
    intro g j hg hj hb x
    rw [piece_emb j (8 * g) hj hg hb x]
    exact h g j hg hj x
  unfold pieces
  simp only [List.forall_mem_cons]
  refine ⟨key 3 7 (by omega) (by omega) _, key 3 6 (by omega) (by omega) _, key 3 5 (by omega) (by omega) _, key 3 4 (by omega) (by omega) _, key 3 3 (by omega) (by omega) _, key 3 2 (by omega) (by omega) _, key 3 1 (by omega) (by omega) _, key 3 0 (by omega) (by omega) _, key 2 7 (by omega) (by omega) _, key 2 6 (by omega) (by omega) _, key 2 5 (by omega) (by omega) _, key 2 4 (by omega) (by omega) _, key 2 3 (by omega) (by omega) _, key 2 2 (by omega) (by omega) _, key 2 1 (by omega) (by omega) _, key 2 0 (by omega) (by omega) _, key 1 7 (by omega) (by omega) _, key 1 6 (by omega) (by omega) _, key 1 5 (by omega) (by omega) _, key 1 4 (by omega) (by omega) _, key 1 3 (by omega) (by omega) _, key 1 2 (by omega) (by omega) _, key 1 1 (by omega) (by omega) _, key 1 0 (by omega) (by omega) _, key 0 7 (by omega) (by omega) _, key 0 6 (by omega) (by omega) _, key 0 5 (by omega) (by omega) _, key 0 4 (by omega) (by omega) _, key 0 3 (by omega) (by omega) _, key 0 2 (by omega) (by omega) _, key 0 1 (by omega) (by omega) _, key 0 0 (by omega) (by omega) _, fun p hp => absurd hp (List.not_mem_nil)⟩

end Cert.Ideal

end

end
-- ==== Proof.KerStep.lean ====
module

public import proofs.«01_k».proof.Proof.KerNetEq
public import proofs.«01_k».proof.Proof.Lanes
public import proofs.«01_k».proof.Proof.KerPieces
public import proofs.«01_k».proof.Proof.IdealBody
public import Idealize.ShloMosaic.Lib.Pipeline.Value
public import Idealize.ShloMosaic.Lib.ValueIdx
public import Idealize.ShloMosaic.Lib.VecWindow
public import Idealize.ShloMosaic.Lib.Pipeline.FrameBody
public import Idealize.ShloMosaic.PureOps.Ideal.Laws

/-! The insertions of one point, element by element, over the extended reals. -/

open Idealize Idealize.ShloMosaic Idealize.ShloMosaic.ValueIdx
open Cert.KernelIdeal Cert.KernelIdeal.Gen
open Cert.Lanes

@[expose] public section

set_option maxRecDepth 65536

noncomputable section

namespace Cert.Ideal

/-- Column `l` of tile `t`. -/
def colOf (t : Fin 4) (l : Fin 128) : Fin 512 := ⟨128 * t.val + l.val, by omega⟩

/-- The number of tile `t` of the point. -/
def tileW (arg0 : BitVec 32) (t : Fin 4) : BitVec 32 := Scalar.addi (Scalar.muli arg0 4#32) (BitVec.ofNat 32 t.val)

/-- One token's bit in its word. -/
def bitW (arg0 : BitVec 32) (t : Fin 4) (raw : BitVec 32) : BitVec 32 :=
  IntOp.andi (IntOp.shrsi .vector raw (Scalar.andi (tileW arg0 t) 31#32)) 1#32

/-- One token's number. -/
def tokW (arg0 : BitVec 32) (t : Fin 4) (l : Fin 128) : BitVec 32 :=
  IntOp.addi (BitVec.ofNat 32 l.val) (Scalar.muli (tileW arg0 t) 128#32)

theorem off_inb (i : grid0.Coords) (t : Fin 4) : k0_off1 i (BitVec.ofNat 32 t.val) 0 < 8 := by
  have := k0_off1_inb i t 0
  exact this

/-- The word of the table that holds tile `t` of the point. -/
def wordAt (i : grid0.Coords) (t : Fin 4) : Fin 8 := ⟨k0_off1 i (BitVec.ofNat 32 t.val) 0, off_inb i t⟩

theorem insV_apply (v : ℕ → FVec Ideal S8x128 .f32) (x : FVec Ideal S8x128 .f32) (y : S8x128.Idx) :
    ∀ j, insV v x j y = ins (fun j => v j y) (x y) j
  | 0 => rfl
  | _ + 1 => rfl

theorem select_gt (a b : EReal) (x y : BitVec 32) :
    Scalar.select (Ideal.cmp .ogt a b) x y = if b < a then x else y := by
  unfold Scalar.select Ideal.cmp
  by_cases h : b < a <;> simp [h]

theorem select_gt' (a b x y : EReal) :
    Scalar.select (Ideal.cmp .ogt a b) x y = if b < a then x else y := by
  unfold Scalar.select Ideal.cmp
  by_cases h : b < a <;> simp [h]

theorem insI_apply (v : ℕ → FVec Ideal S8x128 .f32) (k : ℕ → IVec S8x128 32) (x : FVec Ideal S8x128 .f32) (n : IVec S8x128 32) (y : S8x128.Idx) :
    ∀ j, insI v k x n j y = insK (fun j => v j y) (fun j => k j y) (x y) (n y) j
  | 0 => select_gt _ _ _ _
  | j + 1 => by
    show Scalar.select (Ideal.cmp .ogt (x y) (v (j + 1) y)) (Scalar.select (Ideal.cmp .ogt (x y) (v j y)) (k j y) (n y)) (k (j + 1) y) = _
    rw [select_gt, select_gt]; rfl

theorem slotV_apply {e : EltTy} (r : Memref sig .tc .vmem S8x32x128 e) (X : Vec Ideal S8x32x128 e) (j o : ℕ) (hj : j < 8) (ho : o + 8 ≤ 32)
    (h : ∀ a, (![j, o, 0] : Fin 3 → ℕ) a + S1x8x128.size a ≤ S8x32x128.size a) (y : S8x128.Idx) :
    shapeCast S8x128 (slotV (F := Ideal) r X ![j, o, 0] h) shapeCasts_S1x8x128_S8x128 y = X (ix3 (⟨j, hj⟩ : Fin 8) (rowOf o ho (y 0)) (y 1)) := by
  refine (shapeCast_dropUnit_apply ![8, 128] _ shapeCasts_S1x8x128_S8x128 y).trans ?_
  unfold slotV
  rw [View.readAt_rep]
  refine congrArg X (funext fun a => Fin.ext ?_)
  match a with
  | ⟨0, _⟩ => rfl
  | ⟨1, _⟩ => show o + 1 * (y 0).val = o + (y 0).val; omega
  | ⟨2, _⟩ => show 0 + 1 * (y 1).val = (y 1).val; omega

theorem colV_apply (r : Memref sig .tc .vmem S32x1 .f32) (X : Vec Ideal S32x1 .f32) (o : ℕ) (ho : o + 8 ≤ 32)
    (h : ∀ a, (![o, 0] : Fin 2 → ℕ) a + S8x1.size a ≤ S32x1.size a) (y : S8x128.Idx) :
    broadcastTo S8x128 (colV (F := Ideal) r X ![o, 0] h) broadcasts_S8x1_S8x128 y = X (ix2 (rowOf o ho (y 0)) (0 : Fin 1)) := by
  refine (broadcastTo_apply _ _ y (ix2 (y 0) (0 : Fin 1)) ?_).trans ?_
  · intro a
    match a with
    | ⟨0, _⟩ => rfl
    | ⟨1, _⟩ => rfl
  unfold colV
  refine (congrFun (shapeCast_self (s := S8x1) _ _) _).trans ?_
  rw [View.readAt_rep]
  refine congrArg X (funext fun a => Fin.ext ?_)
  match a with
  | ⟨0, _⟩ => show o + 1 * (y 0).val = o + (y 0).val; omega
  | ⟨1, _⟩ => rfl

theorem logV_apply (t : Fin 4) (o q : ℕ) (ho : o + 8 ≤ 32) (hq : q = 128 * t.val) (h : S32x512.Slices ![o, q] S8x128) (h' : S1x512.Slices ![0, q] S1x128) (acc : FVec Ideal S32x512 .f32)
    (ws b : FVec Ideal S1x512 .f32) (xs : FVec Ideal S8x1 .f32) (y : S8x128.Idx) :
    logV o q h h' acc ws b xs y = (acc (ix2 (rowOf o ho (y 0)) (colOf t (y 1))) * broadcastTo S8x128 xs broadcasts_S8x1_S8x128 y)
      * ws (ix2 (0 : Fin 1) (colOf t (y 1))) + b (ix2 (0 : Fin 1) (colOf t (y 1))) := by
  subst hq
  have e1 : extractStridedSlice S8x128 ![o, 128 * t.val] acc h y = acc (ix2 (rowOf o ho (y 0)) (colOf t (y 1))) := by
    refine congrArg acc (funext fun a => Fin.ext ?_)
    match a with
    | ⟨0, _⟩ => rfl
    | ⟨1, _⟩ => rfl
  have e2 : ∀ w : FVec Ideal S1x512 .f32, broadcastTo S8x128 (extractStridedSlice S1x128 ![0, 128 * t.val] w h') broadcasts_S1x128_S8x128 y
      = w (ix2 (0 : Fin 1) (colOf t (y 1))) := by
    intro w
    refine congrArg w (funext fun a => Fin.ext ?_)
    match a with
    | ⟨0, _⟩ => rfl
    | ⟨1, _⟩ => rfl
  show (extractStridedSlice S8x128 ![o, 128 * t.val] acc h y * _) * broadcastTo S8x128 (extractStridedSlice S1x128 ![0, 128 * t.val] ws h') broadcasts_S1x128_S8x128 y
    + broadcastTo S8x128 (extractStridedSlice S1x128 ![0, 128 * t.val] b h') broadcasts_S1x128_S8x128 y = _
  rw [e1, e2, e2]

theorem f32_zero : FloatOps.ofBits (F := Ideal) .f32 0x00000000#32 = (0 : EReal) := Ideal.ofBits_zero_f32

theorem penV_apply (l : FVec Ideal S8x128 .f32) (pen : FVec Ideal S8x1 .f32) (bit : IVec S8x128 32) (y : S8x128.Idx) :
    penV l pen bit y = penS (l y) (broadcastTo S8x128 pen broadcasts_S8x1_S8x128 y) (bit y ≠ 0#32) := by
  show Scalar.select (IntOp.cmpi .ne (bit y) 0#32) (Scalar.select (Ideal.cmp .ogt (l y) (FloatOps.ofBits (F := Ideal) .f32 0x00000000#32))
    (Ideal.div (l y) (broadcastTo S8x128 pen broadcasts_S8x1_S8x128 y)) (l y * broadcastTo S8x128 pen broadcasts_S8x1_S8x128 y)) (l y) = _
  rw [select_gt', f32_zero]
  unfold penS Scalar.select IntOp.cmpi
  by_cases h : bit y = 0#32
  · simp [h]
  · rw [if_pos h, if_pos]
    show BitVec.ofBool (bit y != 0#32) = 1#1
    rw [bne_iff_ne.mpr h]; rfl

/-- One token's logit in lane `l` of row `b`. -/
def newS (i : grid0.Coords) (X3 X10 : FVec Ideal S32x1 .f32) (X11 : IVec S8x32x128 32) (v16 : FVec Ideal S32x512 .f32) (v18 v20 : FVec Ideal S1x512 .f32)
    (b : Fin 32) (l : Fin 128) (t : Fin 4) : EReal :=
  penS ((v16 (ix2 b (colOf t l)) * X10 (ix2 b (0 : Fin 1))) * v18 (ix2 (0 : Fin 1) (colOf t l)) + v20 (ix2 (0 : Fin 1) (colOf t l))) (X3 (ix2 b (0 : Fin 1)))
    (bitW (BitVec.ofNat 32 (i 0).val) t (X11 (ix3 (wordAt i t) b l)) ≠ 0#32)

/-- A lane's slots. -/
def laneOf {α : Type} (X : S8x32x128.Idx → α) (b : Fin 32) (l : Fin 128) (j : ℕ) : α := X (ix3 (⟨min j 7, by omega⟩ : Fin 8) b l)

/-- The slots' values after the point's four insertions. -/
def ins4 (x : Fin 4 → EReal) (v : ℕ → EReal) : ℕ → EReal := ins (ins (ins (ins v (x 0)) (x 1)) (x 2)) (x 3)

/-- The slots' indices after the point's four insertions. -/
def insK4 (x : Fin 4 → EReal) (n : Fin 4 → BitVec 32) (v : ℕ → EReal) (k : ℕ → BitVec 32) : ℕ → BitVec 32 :=
  insK (ins (ins (ins v (x 0)) (x 1)) (x 2)) (insK (ins (ins v (x 0)) (x 1)) (insK (ins v (x 0)) (insK v k (x 0) (n 0)) (x 1) (n 1)) (x 2) (n 2)) (x 3) (n 3)

variable (i : grid0.Coords) (arg3 : Memref sig .tc .vmem S32x1 .f32) (arg10 : Memref sig .tc .vmem S32x1 .f32)
  (arg11 : Memref sig .tc .vmem S8x32x128 .i32) (arg12 : Memref sig .tc .vmem S8x32x128 .f32) (arg13 : Memref sig .tc .vmem S8x32x128 .i32)
  (X3 : Vec Ideal S32x1 .f32) (X10 : Vec Ideal S32x1 .f32) (X11 : Vec Ideal S8x32x128 .i32) (X12 : Vec Ideal S8x32x128 .f32) (X13 : Vec Ideal S8x32x128 .i32)
  (v16 : FVec Ideal S32x512 .f32) (v18 v20 : FVec Ideal S1x512 .f32)

theorem tokV_apply (arg0 : BitVec 32) (t : Fin 4) (y : S8x128.Idx) : tokV arg0 (BitVec.ofNat 32 t.val) y = tokW arg0 t (y 1) := by
  show IntOp.addi (iota .tc S8x128 32 [1] iota_S8x128_d1_w32 y) _ = _
  rw [iota_single_apply]
  rfl

theorem bitV_apply (t : Fin 4) (o : ℕ) (ho : o + 8 ≤ 32) (off : Fin 3 → ℕ) (hoff : off = ![k0_off1 i (BitVec.ofNat 32 t.val) 0, o, 0])
    (h : ∀ a, off a + S1x8x128.size a ≤ S8x32x128.size a) (y : S8x128.Idx) :
    bitV (F := Ideal) (BitVec.ofNat 32 (i 0).val) (BitVec.ofNat 32 t.val) (slotV arg11 X11 off h) y
      = bitW (BitVec.ofNat 32 (i 0).val) t (X11 (ix3 (wordAt i t) (rowOf o ho (y 0)) (y 1))) := by
  subst hoff
  have e := slotV_apply arg11 X11 (k0_off1 i (BitVec.ofNat 32 t.val) 0) o (off_inb i t) ho h y
  show IntOp.andi (IntOp.shrsi .vector (shapeCast S8x128 (slotV (F := Ideal) arg11 X11 _ h) shapeCasts_S1x8x128_S8x128 y) _) _ = _
  rw [e]; rfl

theorem new_apply (t : Fin 4) (o q : ℕ) (ho : o + 8 ≤ 32) (hq : q = 128 * t.val) (h : S32x512.Slices ![o, q] S8x128) (h' : S1x512.Slices ![0, q] S1x128)
    (hc : ∀ a, (![o, 0] : Fin 2 → ℕ) a + S8x1.size a ≤ S32x1.size a) (off : Fin 3 → ℕ) (hoff : off = ![k0_off1 i (BitVec.ofNat 32 t.val) 0, o, 0])
    (hb : ∀ a, off a + S1x8x128.size a ≤ S8x32x128.size a) (y : S8x128.Idx) :
    penV (logV o q h h' v16 v18 v20 (colV (F := Ideal) arg10 X10 ![o, 0] hc)) (colV (F := Ideal) arg3 X3 ![o, 0] hc)
      (bitV (F := Ideal) (BitVec.ofNat 32 (i 0).val) (BitVec.ofNat 32 t.val) (slotV arg11 X11 off hb)) y
      = newS i X3 X10 X11 v16 v18 v20 (rowOf o ho (y 0)) (y 1) t := by
  rw [penV_apply, logV_apply t o q ho hq, colV_apply arg10 X10 o ho, colV_apply arg3 X3 o ho]
  have e := bitV_apply i arg11 X11 t o ho off hoff hb y
  unfold newS penS
  simp only [e]

theorem new0_0_apply (y : S8x128.Idx) : new0_0 i arg3 arg10 arg11 X3 X10 X11 v16 v18 v20 y = newS i X3 X10 X11 v16 v18 v20 (rowOf 0 (by omega) (y 0)) (y 1) 0 :=
  new_apply i arg3 arg10 arg11 X3 X10 X11 v16 v18 v20 0 0 0 (by omega) rfl _ _ _ _ rfl _ y

theorem new0_1_apply (y : S8x128.Idx) : new0_1 i arg3 arg10 arg11 X3 X10 X11 v16 v18 v20 y = newS i X3 X10 X11 v16 v18 v20 (rowOf 0 (by omega) (y 0)) (y 1) 1 :=
  new_apply i arg3 arg10 arg11 X3 X10 X11 v16 v18 v20 1 0 128 (by omega) rfl _ _ _ _ rfl _ y

theorem new0_2_apply (y : S8x128.Idx) : new0_2 i arg3 arg10 arg11 X3 X10 X11 v16 v18 v20 y = newS i X3 X10 X11 v16 v18 v20 (rowOf 0 (by omega) (y 0)) (y 1) 2 :=
  new_apply i arg3 arg10 arg11 X3 X10 X11 v16 v18 v20 2 0 256 (by omega) rfl _ _ _ _ rfl _ y

theorem new0_3_apply (y : S8x128.Idx) : new0_3 i arg3 arg10 arg11 X3 X10 X11 v16 v18 v20 y = newS i X3 X10 X11 v16 v18 v20 (rowOf 0 (by omega) (y 0)) (y 1) 3 :=
  new_apply i arg3 arg10 arg11 X3 X10 X11 v16 v18 v20 3 0 384 (by omega) rfl _ _ _ _ rfl _ y

theorem old0_apply (y : S8x128.Idx) : (fun j => old0 arg12 X12 j y) = laneOf X12 (rowOf 0 (by omega) (y 0)) (y 1) := by
  funext j
  match j with
  | 0 => exact slotV_apply arg12 X12 0 0 (by omega) (by omega) _ y
  | 1 => exact slotV_apply arg12 X12 1 0 (by omega) (by omega) _ y
  | 2 => exact slotV_apply arg12 X12 2 0 (by omega) (by omega) _ y
  | 3 => exact slotV_apply arg12 X12 3 0 (by omega) (by omega) _ y
  | 4 => exact slotV_apply arg12 X12 4 0 (by omega) (by omega) _ y
  | 5 => exact slotV_apply arg12 X12 5 0 (by omega) (by omega) _ y
  | 6 => exact slotV_apply arg12 X12 6 0 (by omega) (by omega) _ y
  | n + 7 =>
    refine (slotV_apply arg12 X12 7 0 (by omega) (by omega) _ y).trans ?_
    unfold laneOf
    exact congrArg (fun q : Fin 8 => X12 (ix3 q (rowOf 0 (by omega) (y 0)) (y 1))) (Fin.ext (by show 7 = min (n + 7) 7; omega))

theorem oldI0_apply (y : S8x128.Idx) : (fun j => oldI0 (F := Ideal) arg13 X13 j y) = laneOf X13 (rowOf 0 (by omega) (y 0)) (y 1) := by
  funext j
  match j with
  | 0 => exact slotV_apply arg13 X13 0 0 (by omega) (by omega) _ y
  | 1 => exact slotV_apply arg13 X13 1 0 (by omega) (by omega) _ y
  | 2 => exact slotV_apply arg13 X13 2 0 (by omega) (by omega) _ y
  | 3 => exact slotV_apply arg13 X13 3 0 (by omega) (by omega) _ y
  | 4 => exact slotV_apply arg13 X13 4 0 (by omega) (by omega) _ y
  | 5 => exact slotV_apply arg13 X13 5 0 (by omega) (by omega) _ y
  | 6 => exact slotV_apply arg13 X13 6 0 (by omega) (by omega) _ y
  | n + 7 =>
    refine (slotV_apply arg13 X13 7 0 (by omega) (by omega) _ y).trans ?_
    unfold laneOf
    exact congrArg (fun q : Fin 8 => X13 (ix3 q (rowOf 0 (by omega) (y 0)) (y 1))) (Fin.ext (by show 7 = min (n + 7) 7; omega))

theorem net0_apply (j : ℕ) (y : S8x128.Idx) : net0 i arg3 arg10 arg11 arg12 X3 X10 X11 X12 v16 v18 v20 j y
    = ins4 (newS i X3 X10 X11 v16 v18 v20 (rowOf 0 (by omega) (y 0)) (y 1)) (laneOf X12 (rowOf 0 (by omega) (y 0)) (y 1)) j := by
  unfold net0
  simp only [insV_apply, new0_0_apply, new0_1_apply, new0_2_apply, new0_3_apply, old0_apply]
  rfl

theorem netI0_apply (j : ℕ) (y : S8x128.Idx) : netI0 i arg3 arg10 arg11 arg12 arg13 X3 X10 X11 X12 X13 v16 v18 v20 j y
    = insK4 (newS i X3 X10 X11 v16 v18 v20 (rowOf 0 (by omega) (y 0)) (y 1)) (fun t => tokW (BitVec.ofNat 32 (i 0).val) t (y 1))
      (laneOf X12 (rowOf 0 (by omega) (y 0)) (y 1)) (laneOf X13 (rowOf 0 (by omega) (y 0)) (y 1)) j := by
  unfold netI0
  simp only [insI_apply, insV_apply, new0_0_apply, new0_1_apply, new0_2_apply, new0_3_apply, old0_apply, oldI0_apply]
  have k0 := tokV_apply (BitVec.ofNat 32 (i 0).val) 0 y
  have k1 := tokV_apply (BitVec.ofNat 32 (i 0).val) 1 y
  have k2 := tokV_apply (BitVec.ofNat 32 (i 0).val) 2 y
  have k3 := tokV_apply (BitVec.ofNat 32 (i 0).val) 3 y
  change tokV _ 0#32 y = _ at k0
  change tokV _ 1#32 y = _ at k1
  change tokV _ 2#32 y = _ at k2
  change tokV _ 3#32 y = _ at k3
  rw [k0, k1, k2, k3]
  rfl

theorem new1_0_apply (y : S8x128.Idx) : new1_0 i arg3 arg10 arg11 X3 X10 X11 v16 v18 v20 y = newS i X3 X10 X11 v16 v18 v20 (rowOf 8 (by omega) (y 0)) (y 1) 0 :=
  new_apply i arg3 arg10 arg11 X3 X10 X11 v16 v18 v20 0 8 0 (by omega) rfl _ _ _ _ rfl _ y

theorem new1_1_apply (y : S8x128.Idx) : new1_1 i arg3 arg10 arg11 X3 X10 X11 v16 v18 v20 y = newS i X3 X10 X11 v16 v18 v20 (rowOf 8 (by omega) (y 0)) (y 1) 1 :=
  new_apply i arg3 arg10 arg11 X3 X10 X11 v16 v18 v20 1 8 128 (by omega) rfl _ _ _ _ rfl _ y

theorem new1_2_apply (y : S8x128.Idx) : new1_2 i arg3 arg10 arg11 X3 X10 X11 v16 v18 v20 y = newS i X3 X10 X11 v16 v18 v20 (rowOf 8 (by omega) (y 0)) (y 1) 2 :=
  new_apply i arg3 arg10 arg11 X3 X10 X11 v16 v18 v20 2 8 256 (by omega) rfl _ _ _ _ rfl _ y

theorem new1_3_apply (y : S8x128.Idx) : new1_3 i arg3 arg10 arg11 X3 X10 X11 v16 v18 v20 y = newS i X3 X10 X11 v16 v18 v20 (rowOf 8 (by omega) (y 0)) (y 1) 3 :=
  new_apply i arg3 arg10 arg11 X3 X10 X11 v16 v18 v20 3 8 384 (by omega) rfl _ _ _ _ rfl _ y

theorem old1_apply (y : S8x128.Idx) : (fun j => old1 arg12 X12 j y) = laneOf X12 (rowOf 8 (by omega) (y 0)) (y 1) := by
  funext j
  match j with
  | 0 => exact slotV_apply arg12 X12 0 8 (by omega) (by omega) _ y
  | 1 => exact slotV_apply arg12 X12 1 8 (by omega) (by omega) _ y
  | 2 => exact slotV_apply arg12 X12 2 8 (by omega) (by omega) _ y
  | 3 => exact slotV_apply arg12 X12 3 8 (by omega) (by omega) _ y
  | 4 => exact slotV_apply arg12 X12 4 8 (by omega) (by omega) _ y
  | 5 => exact slotV_apply arg12 X12 5 8 (by omega) (by omega) _ y
  | 6 => exact slotV_apply arg12 X12 6 8 (by omega) (by omega) _ y
  | n + 7 =>
    refine (slotV_apply arg12 X12 7 8 (by omega) (by omega) _ y).trans ?_
    unfold laneOf
    exact congrArg (fun q : Fin 8 => X12 (ix3 q (rowOf 8 (by omega) (y 0)) (y 1))) (Fin.ext (by show 7 = min (n + 7) 7; omega))

theorem oldI1_apply (y : S8x128.Idx) : (fun j => oldI1 (F := Ideal) arg13 X13 j y) = laneOf X13 (rowOf 8 (by omega) (y 0)) (y 1) := by
  funext j
  match j with
  | 0 => exact slotV_apply arg13 X13 0 8 (by omega) (by omega) _ y
  | 1 => exact slotV_apply arg13 X13 1 8 (by omega) (by omega) _ y
  | 2 => exact slotV_apply arg13 X13 2 8 (by omega) (by omega) _ y
  | 3 => exact slotV_apply arg13 X13 3 8 (by omega) (by omega) _ y
  | 4 => exact slotV_apply arg13 X13 4 8 (by omega) (by omega) _ y
  | 5 => exact slotV_apply arg13 X13 5 8 (by omega) (by omega) _ y
  | 6 => exact slotV_apply arg13 X13 6 8 (by omega) (by omega) _ y
  | n + 7 =>
    refine (slotV_apply arg13 X13 7 8 (by omega) (by omega) _ y).trans ?_
    unfold laneOf
    exact congrArg (fun q : Fin 8 => X13 (ix3 q (rowOf 8 (by omega) (y 0)) (y 1))) (Fin.ext (by show 7 = min (n + 7) 7; omega))

theorem net1_apply (j : ℕ) (y : S8x128.Idx) : net1 i arg3 arg10 arg11 arg12 X3 X10 X11 X12 v16 v18 v20 j y
    = ins4 (newS i X3 X10 X11 v16 v18 v20 (rowOf 8 (by omega) (y 0)) (y 1)) (laneOf X12 (rowOf 8 (by omega) (y 0)) (y 1)) j := by
  unfold net1
  simp only [insV_apply, new1_0_apply, new1_1_apply, new1_2_apply, new1_3_apply, old1_apply]
  rfl

theorem netI1_apply (j : ℕ) (y : S8x128.Idx) : netI1 i arg3 arg10 arg11 arg12 arg13 X3 X10 X11 X12 X13 v16 v18 v20 j y
    = insK4 (newS i X3 X10 X11 v16 v18 v20 (rowOf 8 (by omega) (y 0)) (y 1)) (fun t => tokW (BitVec.ofNat 32 (i 0).val) t (y 1))
      (laneOf X12 (rowOf 8 (by omega) (y 0)) (y 1)) (laneOf X13 (rowOf 8 (by omega) (y 0)) (y 1)) j := by
  unfold netI1
  simp only [insI_apply, insV_apply, new1_0_apply, new1_1_apply, new1_2_apply, new1_3_apply, old1_apply, oldI1_apply]
  have k0 := tokV_apply (BitVec.ofNat 32 (i 0).val) 0 y
  have k1 := tokV_apply (BitVec.ofNat 32 (i 0).val) 1 y
  have k2 := tokV_apply (BitVec.ofNat 32 (i 0).val) 2 y
  have k3 := tokV_apply (BitVec.ofNat 32 (i 0).val) 3 y
  change tokV _ 0#32 y = _ at k0
  change tokV _ 1#32 y = _ at k1
  change tokV _ 2#32 y = _ at k2
  change tokV _ 3#32 y = _ at k3
  rw [k0, k1, k2, k3]
  rfl

theorem new2_0_apply (y : S8x128.Idx) : new2_0 i arg3 arg10 arg11 X3 X10 X11 v16 v18 v20 y = newS i X3 X10 X11 v16 v18 v20 (rowOf 16 (by omega) (y 0)) (y 1) 0 :=
  new_apply i arg3 arg10 arg11 X3 X10 X11 v16 v18 v20 0 16 0 (by omega) rfl _ _ _ _ rfl _ y

theorem new2_1_apply (y : S8x128.Idx) : new2_1 i arg3 arg10 arg11 X3 X10 X11 v16 v18 v20 y = newS i X3 X10 X11 v16 v18 v20 (rowOf 16 (by omega) (y 0)) (y 1) 1 :=
  new_apply i arg3 arg10 arg11 X3 X10 X11 v16 v18 v20 1 16 128 (by omega) rfl _ _ _ _ rfl _ y

theorem new2_2_apply (y : S8x128.Idx) : new2_2 i arg3 arg10 arg11 X3 X10 X11 v16 v18 v20 y = newS i X3 X10 X11 v16 v18 v20 (rowOf 16 (by omega) (y 0)) (y 1) 2 :=
  new_apply i arg3 arg10 arg11 X3 X10 X11 v16 v18 v20 2 16 256 (by omega) rfl _ _ _ _ rfl _ y

theorem new2_3_apply (y : S8x128.Idx) : new2_3 i arg3 arg10 arg11 X3 X10 X11 v16 v18 v20 y = newS i X3 X10 X11 v16 v18 v20 (rowOf 16 (by omega) (y 0)) (y 1) 3 :=
  new_apply i arg3 arg10 arg11 X3 X10 X11 v16 v18 v20 3 16 384 (by omega) rfl _ _ _ _ rfl _ y

theorem old2_apply (y : S8x128.Idx) : (fun j => old2 arg12 X12 j y) = laneOf X12 (rowOf 16 (by omega) (y 0)) (y 1) := by
  funext j
  match j with
  | 0 => exact slotV_apply arg12 X12 0 16 (by omega) (by omega) _ y
  | 1 => exact slotV_apply arg12 X12 1 16 (by omega) (by omega) _ y
  | 2 => exact slotV_apply arg12 X12 2 16 (by omega) (by omega) _ y
  | 3 => exact slotV_apply arg12 X12 3 16 (by omega) (by omega) _ y
  | 4 => exact slotV_apply arg12 X12 4 16 (by omega) (by omega) _ y
  | 5 => exact slotV_apply arg12 X12 5 16 (by omega) (by omega) _ y
  | 6 => exact slotV_apply arg12 X12 6 16 (by omega) (by omega) _ y
  | n + 7 =>
    refine (slotV_apply arg12 X12 7 16 (by omega) (by omega) _ y).trans ?_
    unfold laneOf
    exact congrArg (fun q : Fin 8 => X12 (ix3 q (rowOf 16 (by omega) (y 0)) (y 1))) (Fin.ext (by show 7 = min (n + 7) 7; omega))

theorem oldI2_apply (y : S8x128.Idx) : (fun j => oldI2 (F := Ideal) arg13 X13 j y) = laneOf X13 (rowOf 16 (by omega) (y 0)) (y 1) := by
  funext j
  match j with
  | 0 => exact slotV_apply arg13 X13 0 16 (by omega) (by omega) _ y
  | 1 => exact slotV_apply arg13 X13 1 16 (by omega) (by omega) _ y
  | 2 => exact slotV_apply arg13 X13 2 16 (by omega) (by omega) _ y
  | 3 => exact slotV_apply arg13 X13 3 16 (by omega) (by omega) _ y
  | 4 => exact slotV_apply arg13 X13 4 16 (by omega) (by omega) _ y
  | 5 => exact slotV_apply arg13 X13 5 16 (by omega) (by omega) _ y
  | 6 => exact slotV_apply arg13 X13 6 16 (by omega) (by omega) _ y
  | n + 7 =>
    refine (slotV_apply arg13 X13 7 16 (by omega) (by omega) _ y).trans ?_
    unfold laneOf
    exact congrArg (fun q : Fin 8 => X13 (ix3 q (rowOf 16 (by omega) (y 0)) (y 1))) (Fin.ext (by show 7 = min (n + 7) 7; omega))

theorem net2_apply (j : ℕ) (y : S8x128.Idx) : net2 i arg3 arg10 arg11 arg12 X3 X10 X11 X12 v16 v18 v20 j y
    = ins4 (newS i X3 X10 X11 v16 v18 v20 (rowOf 16 (by omega) (y 0)) (y 1)) (laneOf X12 (rowOf 16 (by omega) (y 0)) (y 1)) j := by
  unfold net2
  simp only [insV_apply, new2_0_apply, new2_1_apply, new2_2_apply, new2_3_apply, old2_apply]
  rfl

theorem netI2_apply (j : ℕ) (y : S8x128.Idx) : netI2 i arg3 arg10 arg11 arg12 arg13 X3 X10 X11 X12 X13 v16 v18 v20 j y
    = insK4 (newS i X3 X10 X11 v16 v18 v20 (rowOf 16 (by omega) (y 0)) (y 1)) (fun t => tokW (BitVec.ofNat 32 (i 0).val) t (y 1))
      (laneOf X12 (rowOf 16 (by omega) (y 0)) (y 1)) (laneOf X13 (rowOf 16 (by omega) (y 0)) (y 1)) j := by
  unfold netI2
  simp only [insI_apply, insV_apply, new2_0_apply, new2_1_apply, new2_2_apply, new2_3_apply, old2_apply, oldI2_apply]
  have k0 := tokV_apply (BitVec.ofNat 32 (i 0).val) 0 y
  have k1 := tokV_apply (BitVec.ofNat 32 (i 0).val) 1 y
  have k2 := tokV_apply (BitVec.ofNat 32 (i 0).val) 2 y
  have k3 := tokV_apply (BitVec.ofNat 32 (i 0).val) 3 y
  change tokV _ 0#32 y = _ at k0
  change tokV _ 1#32 y = _ at k1
  change tokV _ 2#32 y = _ at k2
  change tokV _ 3#32 y = _ at k3
  rw [k0, k1, k2, k3]
  rfl

theorem new3_0_apply (y : S8x128.Idx) : new3_0 i arg3 arg10 arg11 X3 X10 X11 v16 v18 v20 y = newS i X3 X10 X11 v16 v18 v20 (rowOf 24 (by omega) (y 0)) (y 1) 0 :=
  new_apply i arg3 arg10 arg11 X3 X10 X11 v16 v18 v20 0 24 0 (by omega) rfl _ _ _ _ rfl _ y

theorem new3_1_apply (y : S8x128.Idx) : new3_1 i arg3 arg10 arg11 X3 X10 X11 v16 v18 v20 y = newS i X3 X10 X11 v16 v18 v20 (rowOf 24 (by omega) (y 0)) (y 1) 1 :=
  new_apply i arg3 arg10 arg11 X3 X10 X11 v16 v18 v20 1 24 128 (by omega) rfl _ _ _ _ rfl _ y

theorem new3_2_apply (y : S8x128.Idx) : new3_2 i arg3 arg10 arg11 X3 X10 X11 v16 v18 v20 y = newS i X3 X10 X11 v16 v18 v20 (rowOf 24 (by omega) (y 0)) (y 1) 2 :=
  new_apply i arg3 arg10 arg11 X3 X10 X11 v16 v18 v20 2 24 256 (by omega) rfl _ _ _ _ rfl _ y

theorem new3_3_apply (y : S8x128.Idx) : new3_3 i arg3 arg10 arg11 X3 X10 X11 v16 v18 v20 y = newS i X3 X10 X11 v16 v18 v20 (rowOf 24 (by omega) (y 0)) (y 1) 3 :=
  new_apply i arg3 arg10 arg11 X3 X10 X11 v16 v18 v20 3 24 384 (by omega) rfl _ _ _ _ rfl _ y

theorem old3_apply (y : S8x128.Idx) : (fun j => old3 arg12 X12 j y) = laneOf X12 (rowOf 24 (by omega) (y 0)) (y 1) := by
  funext j
  match j with
  | 0 => exact slotV_apply arg12 X12 0 24 (by omega) (by omega) _ y
  | 1 => exact slotV_apply arg12 X12 1 24 (by omega) (by omega) _ y
  | 2 => exact slotV_apply arg12 X12 2 24 (by omega) (by omega) _ y
  | 3 => exact slotV_apply arg12 X12 3 24 (by omega) (by omega) _ y
  | 4 => exact slotV_apply arg12 X12 4 24 (by omega) (by omega) _ y
  | 5 => exact slotV_apply arg12 X12 5 24 (by omega) (by omega) _ y
  | 6 => exact slotV_apply arg12 X12 6 24 (by omega) (by omega) _ y
  | n + 7 =>
    refine (slotV_apply arg12 X12 7 24 (by omega) (by omega) _ y).trans ?_
    unfold laneOf
    exact congrArg (fun q : Fin 8 => X12 (ix3 q (rowOf 24 (by omega) (y 0)) (y 1))) (Fin.ext (by show 7 = min (n + 7) 7; omega))

theorem oldI3_apply (y : S8x128.Idx) : (fun j => oldI3 (F := Ideal) arg13 X13 j y) = laneOf X13 (rowOf 24 (by omega) (y 0)) (y 1) := by
  funext j
  match j with
  | 0 => exact slotV_apply arg13 X13 0 24 (by omega) (by omega) _ y
  | 1 => exact slotV_apply arg13 X13 1 24 (by omega) (by omega) _ y
  | 2 => exact slotV_apply arg13 X13 2 24 (by omega) (by omega) _ y
  | 3 => exact slotV_apply arg13 X13 3 24 (by omega) (by omega) _ y
  | 4 => exact slotV_apply arg13 X13 4 24 (by omega) (by omega) _ y
  | 5 => exact slotV_apply arg13 X13 5 24 (by omega) (by omega) _ y
  | 6 => exact slotV_apply arg13 X13 6 24 (by omega) (by omega) _ y
  | n + 7 =>
    refine (slotV_apply arg13 X13 7 24 (by omega) (by omega) _ y).trans ?_
    unfold laneOf
    exact congrArg (fun q : Fin 8 => X13 (ix3 q (rowOf 24 (by omega) (y 0)) (y 1))) (Fin.ext (by show 7 = min (n + 7) 7; omega))

theorem net3_apply (j : ℕ) (y : S8x128.Idx) : net3 i arg3 arg10 arg11 arg12 X3 X10 X11 X12 v16 v18 v20 j y
    = ins4 (newS i X3 X10 X11 v16 v18 v20 (rowOf 24 (by omega) (y 0)) (y 1)) (laneOf X12 (rowOf 24 (by omega) (y 0)) (y 1)) j := by
  unfold net3
  simp only [insV_apply, new3_0_apply, new3_1_apply, new3_2_apply, new3_3_apply, old3_apply]
  rfl

theorem netI3_apply (j : ℕ) (y : S8x128.Idx) : netI3 i arg3 arg10 arg11 arg12 arg13 X3 X10 X11 X12 X13 v16 v18 v20 j y
    = insK4 (newS i X3 X10 X11 v16 v18 v20 (rowOf 24 (by omega) (y 0)) (y 1)) (fun t => tokW (BitVec.ofNat 32 (i 0).val) t (y 1))
      (laneOf X12 (rowOf 24 (by omega) (y 0)) (y 1)) (laneOf X13 (rowOf 24 (by omega) (y 0)) (y 1)) j := by
  unfold netI3
  simp only [insI_apply, insV_apply, new3_0_apply, new3_1_apply, new3_2_apply, new3_3_apply, old3_apply, oldI3_apply]
  have k0 := tokV_apply (BitVec.ofNat 32 (i 0).val) 0 y
  have k1 := tokV_apply (BitVec.ofNat 32 (i 0).val) 1 y
  have k2 := tokV_apply (BitVec.ofNat 32 (i 0).val) 2 y
  have k3 := tokV_apply (BitVec.ofNat 32 (i 0).val) 3 y
  change tokV _ 0#32 y = _ at k0
  change tokV _ 1#32 y = _ at k1
  change tokV _ 2#32 y = _ at k2
  change tokV _ 3#32 y = _ at k3
  rw [k0, k1, k2, k3]
  rfl

/-- The values stored per group and slot. -/
def valP (g j : ℕ) : Vec Ideal S1x8x128 .f32 :=
  match g with
  | 0 => shapeCast S1x8x128 (net0 i arg3 arg10 arg11 arg12 X3 X10 X11 X12 v16 v18 v20 j) shapeCasts_S8x128_S1x8x128
  | 1 => shapeCast S1x8x128 (net1 i arg3 arg10 arg11 arg12 X3 X10 X11 X12 v16 v18 v20 j) shapeCasts_S8x128_S1x8x128
  | 2 => shapeCast S1x8x128 (net2 i arg3 arg10 arg11 arg12 X3 X10 X11 X12 v16 v18 v20 j) shapeCasts_S8x128_S1x8x128
  | _ => shapeCast S1x8x128 (net3 i arg3 arg10 arg11 arg12 X3 X10 X11 X12 v16 v18 v20 j) shapeCasts_S8x128_S1x8x128

/-- The indices stored per group and slot. -/
def indP (g j : ℕ) : Vec Ideal S1x8x128 .i32 :=
  match g with
  | 0 => shapeCast S1x8x128 (netI0 i arg3 arg10 arg11 arg12 arg13 X3 X10 X11 X12 X13 v16 v18 v20 j) shapeCasts_S8x128_S1x8x128
  | 1 => shapeCast S1x8x128 (netI1 i arg3 arg10 arg11 arg12 arg13 X3 X10 X11 X12 X13 v16 v18 v20 j) shapeCasts_S8x128_S1x8x128
  | 2 => shapeCast S1x8x128 (netI2 i arg3 arg10 arg11 arg12 arg13 X3 X10 X11 X12 X13 v16 v18 v20 j) shapeCasts_S8x128_S1x8x128
  | _ => shapeCast S1x8x128 (netI3 i arg3 arg10 arg11 arg12 arg13 X3 X10 X11 X12 X13 v16 v18 v20 j) shapeCasts_S8x128_S1x8x128

theorem val_read : View.read (Elt Ideal) arg12.view (arg12.view.writes (Elt Ideal) arg12.view.junk (runMain.sl.Hk0_part350_4_32 i arg3 arg10 arg11 arg12 X3 X10 X11 X12 (BitVec.ofNat 32 (i 0).val) v16 v18 v20 (colV arg10 X10 ![0, 0] inb_S32x1_S8x1_0_0) (colV arg3 X3 ![0, 0] inb_S32x1_S8x1_0_0) (old0 arg12 X12 0))) = fun y => ins4 (newS i X3 X10 X11 v16 v18 v20 (y 1) (y 2)) (laneOf X12 (y 1) (y 2)) (y 0).val := by
  rw [View.read_writes_junk_eq_canon, piecesV]
  funext y
  refine pieces_canon (valP i arg3 arg10 arg11 arg12 X3 X10 X11 X12 v16 v18 v20) (fun y => ins4 (newS i X3 X10 X11 v16 v18 v20 (y 1) (y 2)) (laneOf X12 (y 1) (y 2)) (y 0).val) ?_ y
  intro g j hg hj x
  match g with
  | 0 => exact (shapeCast_addUnit_apply ![8, 128] _ shapeCasts_S8x128_S1x8x128 x).trans (net0_apply i arg3 arg10 arg11 arg12 X3 X10 X11 X12 v16 v18 v20 j _)
  | 1 => exact (shapeCast_addUnit_apply ![8, 128] _ shapeCasts_S8x128_S1x8x128 x).trans (net1_apply i arg3 arg10 arg11 arg12 X3 X10 X11 X12 v16 v18 v20 j _)
  | 2 => exact (shapeCast_addUnit_apply ![8, 128] _ shapeCasts_S8x128_S1x8x128 x).trans (net2_apply i arg3 arg10 arg11 arg12 X3 X10 X11 X12 v16 v18 v20 j _)
  | 3 => exact (shapeCast_addUnit_apply ![8, 128] _ shapeCasts_S8x128_S1x8x128 x).trans (net3_apply i arg3 arg10 arg11 arg12 X3 X10 X11 X12 v16 v18 v20 j _)
  | n + 4 => omega

theorem ind_read : View.read (Elt Ideal) arg13.view (arg13.view.writes (Elt Ideal) arg13.view.junk (runMain.sl.Hk0_part350_5_32 i arg3 arg10 arg11 arg12 arg13 X3 X10 X11 X12 X13 (BitVec.ofNat 32 (i 0).val) v16 v18 v20 (colV arg10 X10 ![0, 0] inb_S32x1_S8x1_0_0) (colV arg3 X3 ![0, 0] inb_S32x1_S8x1_0_0) (old0 arg12 X12 0))) = fun y => insK4 (newS i X3 X10 X11 v16 v18 v20 (y 1) (y 2)) (fun t => tokW (BitVec.ofNat 32 (i 0).val) t (y 2)) (laneOf X12 (y 1) (y 2)) (laneOf X13 (y 1) (y 2)) (y 0).val := by
  rw [View.read_writes_junk_eq_canon, piecesI]
  funext y
  refine pieces_canon (indP i arg3 arg10 arg11 arg12 arg13 X3 X10 X11 X12 X13 v16 v18 v20) (fun y => insK4 (newS i X3 X10 X11 v16 v18 v20 (y 1) (y 2)) (fun t => tokW (BitVec.ofNat 32 (i 0).val) t (y 2)) (laneOf X12 (y 1) (y 2)) (laneOf X13 (y 1) (y 2)) (y 0).val) ?_ y
  intro g j hg hj x
  match g with
  | 0 => exact (shapeCast_addUnit_apply ![8, 128] _ shapeCasts_S8x128_S1x8x128 x).trans (netI0_apply i arg3 arg10 arg11 arg12 arg13 X3 X10 X11 X12 X13 v16 v18 v20 j _)
  | 1 => exact (shapeCast_addUnit_apply ![8, 128] _ shapeCasts_S8x128_S1x8x128 x).trans (netI1_apply i arg3 arg10 arg11 arg12 arg13 X3 X10 X11 X12 X13 v16 v18 v20 j _)
  | 2 => exact (shapeCast_addUnit_apply ![8, 128] _ shapeCasts_S8x128_S1x8x128 x).trans (netI2_apply i arg3 arg10 arg11 arg12 arg13 X3 X10 X11 X12 X13 v16 v18 v20 j _)
  | 3 => exact (shapeCast_addUnit_apply ![8, 128] _ shapeCasts_S8x128_S1x8x128 x).trans (netI3_apply i arg3 arg10 arg11 arg12 arg13 X3 X10 X11 X12 X13 v16 v18 v20 j _)
  | n + 4 => omega

end Cert.Ideal

end

end
-- ==== Proof.State.lean ====
module

public import proofs.«01_k».proof.Proof.IdealBody
public import proofs.«01_k».proof.Proof.KerSeen
public import proofs.«01_k».proof.Proof.KerTops
public import proofs.«01_k».proof.Proof.KerStep

/-! What the three regions of the kernel leave, in closed form: the codes, the scale, the table of seen tokens, the two lists, the tops. -/

open Idealize Idealize.ShloMosaic
open Cert.KernelIdeal Cert.KernelIdeal.Gen

@[expose] public section

set_option maxRecDepth 65536

noncomputable section

namespace Cert.Ideal

variable (c : Dev nD) (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole)

/-- One store that fills the whole array. -/
theorem whole_store {sp : Space} {S : Shape} {e : EltTy} [∀ e, Nonempty (Elt Ideal e)] (M : Memref sig .tc sp S e) (off : Fin S.rank → ℕ) (hz : ∀ a, off a = 0)
    (h : ∀ a, off a + S.size a ≤ S.size a) (P : Vec Ideal S e) :
    View.read (Elt Ideal) M.view (M.view.writes (Elt Ideal) M.view.junk [⟨Rect.unit (s := S) off S.size h, P⟩]) = P := by
  rw [View.read_writes_junk_eq_canon]
  obtain rfl : off = fun _ => 0 := funext hz
  exact View.canon_unit_zero (Val := Elt Ideal) rfl h P

theorem front_eq (h1 : k0_cond1 i = 1#1) (X1 : Vec Ideal S32x7168 .bf16) (X2 : Vec Ideal S32x64 .i32) :
    frontV (F := Ideal) c i arg1 harg1 arg2 harg2 arg3 harg3 arg4 harg4 arg5 harg5 arg6 harg6 arg7 harg7 arg8 harg8 arg9 harg9 arg10 harg10 arg11 harg11 arg12 harg12 arg13 harg13 h1 X1 X2 = (
      View.read (Elt Ideal) arg9.view (arg9.view.writes (Elt Ideal) arg9.view.junk (runFront.sl.H9_1 arg1 X1)),
      View.read (Elt Ideal) arg10.view (arg10.view.writes (Elt Ideal) arg10.view.junk (runFront.sl.H10_1 arg1 X1)),
      View.read (Elt Ideal) arg11.view (arg11.view.writes (Elt Ideal) arg11.view.junk (runFront.sl.H11_32 arg2 X2)),
      View.read (Elt Ideal) arg12.view (arg12.view.writes (Elt Ideal) arg12.view.junk runFront.sl.H12_1),
      View.read (Elt Ideal) arg13.view (arg13.view.writes (Elt Ideal) arg13.view.junk runFront.sl.H13_1)) := by
  unfold frontV runFront
  rfl

theorem f9 (X1 : Vec Ideal S32x7168 .bf16) : runFront.sl.H9_1 arg1 X1 = [⟨Rect.unit (s := S32x7168) ![0, 0] S32x7168.size inb_S32x7168_S32x7168_0_0,
    k0_pay10 (Scalar.ofBits .f32 0x43E00000#32) (k0_pay9 (View.readAt (Elt Ideal) arg1.view (Rect.unit (s := S32x7168) ![0, 0] S32x7168.size inb_S32x7168_S32x7168_0_0).toLoadRect (arg1.view.rep X1)))⟩] := by
  unfold runFront.sl.H9_1
  rfl
theorem f10 (X1 : Vec Ideal S32x7168 .bf16) : runFront.sl.H10_1 arg1 X1 = [⟨Rect.unit (s := S32x1) ![0, 0] S32x1.size inb_S32x1_S32x1_0_0,
    k0_pay8 (View.readAt (Elt Ideal) arg1.view (Rect.unit (s := S32x7168) ![0, 0] S32x7168.size inb_S32x7168_S32x7168_0_0).toLoadRect (arg1.view.rep X1))⟩] := by
  unfold runFront.sl.H10_1
  rfl
theorem f12 : runFront.sl.H12_1 (F := Ideal) = [⟨Rect.unit (s := S8x32x128) ![0, 0, 0] S8x32x128.size inb_S8x32x128_S8x32x128_0_0_0,
    fun _ => Scalar.ofBits (F := Ideal) .f32 0xFF800000#32⟩] := by
  unfold runFront.sl.H12_1
  rfl
theorem f13 : runFront.sl.H13_1 (F := Ideal) = [⟨Rect.unit (s := S8x32x128) ![0, 0, 0] S8x32x128.size inb_S8x32x128_S8x32x128_0_0_0,
    fun _ => 0#32⟩] := by
  unfold runFront.sl.H13_1
  rfl

theorem load_whole {e : EltTy} {S : Shape} (M : Memref sig .tc .vmem S e) (X : Vec Ideal S e) (off : Fin S.rank → ℕ) (hz : ∀ a, off a = 0)
    (h : ∀ a, off a + S.size a ≤ S.size a) : View.readAt (Elt Ideal) M.view (Rect.unit (s := S) off S.size h).toLoadRect (M.view.rep X) = X := by
  obtain rfl : off = fun _ => 0 := funext hz
  rw [View.readAt_rep]
  funext y
  refine congrArg X (funext fun a => Fin.ext ?_)
  show 0 + 1 * (y a).val = _
  omega

theorem z2 : ∀ a, (![0, 0] : Fin 2 → ℕ) a = 0 := by decide
theorem z3 : ∀ a, (![0, 0, 0] : Fin 3 → ℕ) a = 0 := by decide

/-- The word `w` of row `b` and lane `l` of the table. -/
def tableP (arg2 : Memref sig .tc .vmem S32x64 .i32) (X2 : Vec Ideal S32x64 .i32) : ℕ → ℕ → Vec Ideal S1x8x128 .i32
  | 0, w => shapeCast S1x8x128 (seenV (BitVec.ofNat 32 w) (idsV (F := Ideal) arg2 X2 ![0, 0] inb_S32x64_S8x64_0_0) 64 (Nat.le_refl _)) shapeCasts_S8x128_S1x8x128
  | 1, w => shapeCast S1x8x128 (seenV (BitVec.ofNat 32 w) (idsV (F := Ideal) arg2 X2 ![8, 0] inb_S32x64_S8x64_8_0) 64 (Nat.le_refl _)) shapeCasts_S8x128_S1x8x128
  | 2, w => shapeCast S1x8x128 (seenV (BitVec.ofNat 32 w) (idsV (F := Ideal) arg2 X2 ![16, 0] inb_S32x64_S8x64_16_0) 64 (Nat.le_refl _)) shapeCasts_S8x128_S1x8x128
  | _, w => shapeCast S1x8x128 (seenV (BitVec.ofNat 32 w) (idsV (F := Ideal) arg2 X2 ![24, 0] inb_S32x64_S8x64_24_0) 64 (Nat.le_refl _)) shapeCasts_S8x128_S1x8x128

theorem f11 (X2 : Vec Ideal S32x64 .i32) : runFront.sl.H11_32 arg2 X2 = pieces (F := Ideal) (tableP arg2 X2) := by
  rw [words3, words2, words1, words0]
  rfl

/-- One column's bit for one row and lane. -/
def bitOf (w l h : BitVec 32) : BitVec 32 :=
  Scalar.select (IntOp.cmpi .eq (IntOp.shrsi .vector (IntOp.shrsi .vector h 7#32) 5#32) w)
    (Scalar.select (IntOp.cmpi .eq (IntOp.andi h 127#32) l) (IntOp.shli .vector 1#32 (IntOp.andi (IntOp.shrsi .vector h 7#32) 31#32)) 0#32) 0#32

/-- The word after the first `n` columns. -/
def seenW (w l : BitVec 32) (h : Fin 64 → BitVec 32) : (n : ℕ) → n ≤ 64 → BitVec 32
  | 0, _ => 0#32
  | n + 1, p => IntOp.ori (seenW w l h n (Nat.le_of_succ_le p)) (bitOf w l (h ⟨n, p⟩))

theorem histV_apply (ids : Vec Ideal S8x64 .i32) (h : Fin 64) (y : S8x128.Idx) : histV (F := Ideal) ids h y = ids (ValueIdx.ix2 (y 0) h) := by
  unfold histV
  refine (broadcastTo_apply _ _ y (ValueIdx.ix2 (y 0) (0 : Fin 1)) ?_).trans ?_
  · intro a
    match a with
    | ⟨0, _⟩ => rfl
    | ⟨1, _⟩ => rfl
  refine (congrFun (shapeCast_self (s := S8x1) _ _) _).trans ?_
  refine congrArg ids (funext fun a => Fin.ext ?_)
  match a with
  | ⟨0, _⟩ => show 0 + (y 0).val = _; exact Nat.zero_add _
  | ⟨1, _⟩ => rfl

theorem seenV_apply (w : BitVec 32) (ids : Vec Ideal S8x64 .i32) (y : S8x128.Idx) : ∀ (n : ℕ) (p : n ≤ 64),
    seenV (F := Ideal) w ids n p y = seenW w (BitVec.ofNat 32 (y 1).val) (fun h => ids (ValueIdx.ix2 (y 0) h)) n p
  | 0, _ => rfl
  | n + 1, p => by
    have e := seenV_apply w ids y n (Nat.le_of_succ_le p)
    have e2 : wordV (F := Ideal) w ids ⟨n, p⟩ y = bitOf w (BitVec.ofNat 32 (y 1).val) (ids (ValueIdx.ix2 (y 0) ⟨n, p⟩)) := by
      rw [← histV_apply ids ⟨n, p⟩ y]
      have e3 : iota .tc S8x128 32 [1] iota_S8x128_d1_w32 y = BitVec.ofNat 32 (y 1).val := by
        simp [iota]
      rw [← e3]
      rfl
    show IntOp.ori (seenV (F := Ideal) w ids n _ y) (wordV (F := Ideal) w ids ⟨n, p⟩ y) = _
    rw [e, e2]
    rfl

theorem idsV_apply (X2 : Vec Ideal S32x64 .i32) (o : ℕ) (ho : o + 8 ≤ 32) (h : ∀ a, (![o, 0] : Fin 2 → ℕ) a + S8x64.size a ≤ S32x64.size a) (r : Fin 8) (k : Fin 64) :
    idsV (F := Ideal) arg2 X2 ![o, 0] h (ValueIdx.ix2 r k) = X2 (ValueIdx.ix2 (rowOf o ho r) k) := by
  unfold idsV
  rw [View.readAt_rep]
  refine congrArg X2 (funext fun a => Fin.ext ?_)
  match a with
  | ⟨0, _⟩ => show o + 1 * r.val = o + r.val; omega
  | ⟨1, _⟩ => show 0 + 1 * k.val = k.val; omega

theorem table_read (X2 : Vec Ideal S32x64 .i32) : View.read (Elt Ideal) arg11.view (arg11.view.writes (Elt Ideal) arg11.view.junk (runFront.sl.H11_32 arg2 X2))
    = fun y => seenW (BitVec.ofNat 32 (y 0).val) (BitVec.ofNat 32 (y 2).val) (fun h => X2 (ValueIdx.ix2 (y 1) h)) 64 (Nat.le_refl _) := by
  rw [View.read_writes_junk_eq_canon, f11]
  funext y
  refine pieces_canon (tableP arg2 X2) (fun y => seenW (BitVec.ofNat 32 (y 0).val) (BitVec.ofNat 32 (y 2).val) (fun h => X2 (ValueIdx.ix2 (y 1) h)) 64 (Nat.le_refl _)) ?_ y
  intro g j hg hj x
  have key : ∀ (o : ℕ) (ho : o + 8 ≤ 32) (h : ∀ a, (![o, 0] : Fin 2 → ℕ) a + S8x64.size a ≤ S32x64.size a),
      shapeCast S1x8x128 (seenV (BitVec.ofNat 32 j) (idsV (F := Ideal) arg2 X2 ![o, 0] h) 64 (Nat.le_refl _)) shapeCasts_S8x128_S1x8x128 x
        = seenW (BitVec.ofNat 32 j) (BitVec.ofNat 32 (x 2).val) (fun k => X2 (ValueIdx.ix2 (rowOf o ho (x 1)) k)) 64 (Nat.le_refl _) := by
    intro o ho h
    have hx : (fun a : Fin 2 => x a.succ) = (ValueIdx.ix2 (x 1) (x 2) : S8x128.Idx) := by
      funext a; match a with
      | ⟨0, _⟩ => rfl
      | ⟨1, _⟩ => rfl
    refine (shapeCast_addUnit_apply ![8, 128] _ shapeCasts_S8x128_S1x8x128 x).trans ?_
    refine (congrArg (seenV (F := Ideal) (BitVec.ofNat 32 j) (idsV (F := Ideal) arg2 X2 ![o, 0] h) 64 (Nat.le_refl _)) hx).trans ?_
    refine (seenV_apply _ _ (ValueIdx.ix2 (x 1) (x 2)) 64 _).trans ?_
    exact congrArg (fun f => seenW (BitVec.ofNat 32 j) (BitVec.ofNat 32 (x 2).val) f 64 (Nat.le_refl _)) (funext fun k => idsV_apply arg2 X2 o ho h (x 1) k)
  match g with
  | 0 => exact key 0 (by omega) _
  | 1 => exact key 8 (by omega) _
  | 2 => exact key 16 (by omega) _
  | 3 => exact key 24 (by omega) _
  | n + 4 => omega

theorem front_val (h1 : k0_cond1 i = 1#1) (X1 : Vec Ideal S32x7168 .bf16) (X2 : Vec Ideal S32x64 .i32) :
    frontV (F := Ideal) c i arg1 harg1 arg2 harg2 arg3 harg3 arg4 harg4 arg5 harg5 arg6 harg6 arg7 harg7 arg8 harg8 arg9 harg9 arg10 harg10 arg11 harg11 arg12 harg12 arg13 harg13 h1 X1 X2 = (k0_pay10 (Scalar.ofBits .f32 0x43E00000#32) (k0_pay9 X1), k0_pay8 X1,
      (fun y => seenW (BitVec.ofNat 32 (y 0).val) (BitVec.ofNat 32 (y 2).val) (fun h => X2 (ValueIdx.ix2 (y 1) h)) 64 (Nat.le_refl _)),
      (fun _ => Scalar.ofBits (F := Ideal) .f32 0xFF800000#32), (fun _ => 0#32)) := by
  rw [front_eq, table_read, f9, f10, f12, f13, load_whole arg1 X1 _ z2, whole_store arg9 _ z2, whole_store arg10 _ z2, whole_store arg12 _ z3, whole_store arg13 _ z3]
  rfl

/-- A window of a whole array. -/
def cut {e : EltTy} {S : Shape} (X : Vec Ideal S e) (T : Fin S.rank → ℕ) (off : Fin S.rank → ℕ) (h : ∀ a, off a + T a ≤ S.size a) : Vec Ideal ⟨S.rank, T⟩ e :=
  fun y => X ((Rect.unit (s := S) off T h).emb y)

/-- The products of one point: three pieces of the contraction, added up. -/
def accV (X9 : Vec Ideal S32x7168 .fp8e4m3) (X4 : Vec Ideal S512x7168 .fp8e4m3) : FVec Ideal S32x512 .f32 :=
  k0_pay3536 (cut X9 ![32, 2432] ![0, 0] inb_S32x7168_S32x2432_0_0) (cut X4 ![512, 2432] ![0, 0] inb_S512x7168_S512x2432_0_0)
    (cut X9 ![32, 2432] ![0, 2432] inb_S32x7168_S32x2432_0_2432) (cut X4 ![512, 2432] ![0, 2432] inb_S512x7168_S512x2432_0_2432)
    (cut X9 ![32, 2304] ![0, 4864] inb_S32x7168_S32x2304_0_4864) (cut X4 ![512, 2304] ![0, 4864] inb_S512x7168_S512x2304_0_4864)

theorem step_val (X3 : Vec Ideal S32x1 .f32) (X4 : Vec Ideal S512x7168 .fp8e4m3) (X5 : Vec Ideal S1x512 .f32) (X6 : Vec Ideal S1x512 .f32) (s : St Ideal) :
    stepV c i arg1 harg1 arg2 harg2 arg3 harg3 arg4 harg4 arg5 harg5 arg6 harg6 arg7 harg7 arg8 harg8 arg9 harg9 arg10 harg10 arg11 harg11 arg12 harg12 arg13 harg13 X3 X4 X5 X6 s
      = ((fun y => ins4 (newS i X3 s.2.1 s.2.2.1 (accV s.1 X4) X5 X6 (y 1) (y 2)) (laneOf s.2.2.2.1 (y 1) (y 2)) (y 0).val),
        (fun y => insK4 (newS i X3 s.2.1 s.2.2.1 (accV s.1 X4) X5 X6 (y 1) (y 2)) (fun t => tokW (BitVec.ofNat 32 (i 0).val) t (y 2))
          (laneOf s.2.2.2.1 (y 1) (y 2)) (laneOf s.2.2.2.2 (y 1) (y 2)) (y 0).val)) := by
  have e16 : k0_pay3536 (View.readAt (Elt Ideal) arg9.view (Rect.unit ![0, 0] ![32, 2432] inb_S32x7168_S32x2432_0_0).toLoadRect (arg9.view.rep s.1))
      (View.readAt (Elt Ideal) arg4.view (Rect.unit ![0, 0] ![512, 2432] inb_S512x7168_S512x2432_0_0).toLoadRect (arg4.view.rep X4))
      (View.readAt (Elt Ideal) arg9.view (Rect.unit ![0, 2432] ![32, 2432] inb_S32x7168_S32x2432_0_2432).toLoadRect (arg9.view.rep s.1))
      (View.readAt (Elt Ideal) arg4.view (Rect.unit ![0, 2432] ![512, 2432] inb_S512x7168_S512x2432_0_2432).toLoadRect (arg4.view.rep X4))
      (View.readAt (Elt Ideal) arg9.view (Rect.unit ![0, 4864] ![32, 2304] inb_S32x7168_S32x2304_0_4864).toLoadRect (arg9.view.rep s.1))
      (View.readAt (Elt Ideal) arg4.view (Rect.unit ![0, 4864] ![512, 2304] inb_S512x7168_S512x2304_0_4864).toLoadRect (arg4.view.rep X4)) = accV s.1 X4 := by
    simp only [View.readAt_rep]; rfl
  have e18 : k0_pay3537 (View.readAt (Elt Ideal) arg5.view (Rect.unit ![0, 0] ![1, 512] inb_S1x512_S1x512_0_0).toLoadRect (arg5.view.rep X5)) = X5 := by
    unfold k0_pay3537
    rw [shapeCast_self]; exact load_whole arg5 X5 _ z2 _
  have e20 : k0_pay3538 (View.readAt (Elt Ideal) arg6.view (Rect.unit ![0, 0] ![1, 512] inb_S1x512_S1x512_0_0).toLoadRect (arg6.view.rep X6)) = X6 := by
    unfold k0_pay3538
    rw [shapeCast_self]; exact load_whole arg6 X6 _ z2 _
  rw [← e16, ← val_read i arg3 arg10 arg11 arg12, ← ind_read i arg3 arg10 arg11 arg12 arg13]
  conv_rhs => rw [← e18, ← e20]
  unfold stepV runMain runLoads
  rfl

theorem fin_val (h2 : k0_cond2 i = 1#1) (X12 : Vec Ideal S8x32x128 .f32) (X13 : Vec Ideal S8x32x128 .i32) :
    finV c i arg1 harg1 arg2 harg2 arg3 harg3 arg4 harg4 arg5 harg5 arg6 harg6 arg7 harg7 arg8 harg8 arg9 harg9 arg10 harg10 arg11 harg11 arg12 harg12 arg13 harg13 h2 X12 X13 = (View.read (Elt Ideal) arg7.view (arg7.view.writes (Elt Ideal) arg7.view.junk (runFin.sl.H7_1 arg12 arg13 X12 X13)),
      View.read (Elt Ideal) arg8.view (arg8.view.writes (Elt Ideal) arg8.view.junk (runFin.sl.H8_1 arg12 arg13 X12 X13))) := by
  unfold finV runFin
  rfl

end Cert.Ideal
end
end
-- ==== Proof.Seen.lean ====
module

public import proofs.«01_k».proof.Proof.State

/-! A bit of the table of seen tokens is set exactly where the history names the token. -/

open Idealize Idealize.ShloMosaic
open Cert.KernelIdeal Cert.KernelIdeal.Gen

@[expose] public section

set_option maxRecDepth 65536

noncomputable section

namespace Cert.Ideal

theorem shr_toNat (x : BitVec 32) (hx : x.toNat < 2 ^ 31) (s : BitVec 32) (hs : s.toNat < 32) : (IntOp.shrsi .vector x s).toNat = x.toNat / 2 ^ s.toNat := by
  unfold IntOp.shrsi
  rw [if_pos hs]
  have hm : x.msb = false := by rw [BitVec.msb_eq_decide]; simp; omega
  show (x.sshiftRight s.toNat).toNat = _
  rw [BitVec.sshiftRight_eq_of_msb_false hm, BitVec.toNat_ushiftRight, Nat.shiftRight_eq_div_pow]

theorem and_toNat (x : BitVec 32) (m : ℕ) (hm : m < 32) : (IntOp.andi x (BitVec.ofNat 32 (2 ^ m - 1))).toNat = x.toNat % 2 ^ m := by
  show (x &&& _).toNat = _
  have hp : 2 ^ m - 1 < 2 ^ 32 := by
    have := Nat.pow_lt_pow_right (a := 2) (by omega) (show m < 32 from hm); omega
  rw [BitVec.toNat_and, BitVec.toNat_ofNat, Nat.mod_eq_of_lt hp, Nat.and_two_pow_sub_one_eq_mod]

theorem one_shl (c : BitVec 32) (hc : c.toNat < 32) (s : ℕ) (hs : s < 32) : (IntOp.shli .vector 1#32 c).getLsbD s = decide (s = c.toNat) := by
  unfold IntOp.shli
  rw [if_pos hc]
  show (1#32 <<< c).getLsbD s = _
  rw [BitVec.shiftLeft_eq', BitVec.getLsbD_shiftLeft]
  by_cases h : s = c.toNat
  · subst h; simp [hs]
  · by_cases h2 : s < c.toNat
    · simp [h, h2]
    · have : s - c.toNat ≠ 0 := by omega
      simp [h, h2, this, BitVec.getLsbD_one]

theorem sel_eq (a b : BitVec 32) (x y : BitVec 32) : Scalar.select (IntOp.cmpi .eq a b) x y = if a = b then x else y := by
  unfold Scalar.select
  show (if BitVec.ofBool (a == b) = 1#1 then x else y) = _
  by_cases h : a = b
  · subst h; simp
  · rw [if_neg h, beq_eq_false_iff_ne.mpr h]; rfl

theorem bitOf_get (tau l : ℕ) (ht : tau < 256) (hl : l < 128) (h : BitVec 32) (hh : h.toNat < 2 ^ 31) :
    (bitOf (BitVec.ofNat 32 (tau / 32)) (BitVec.ofNat 32 l) h).getLsbD (tau % 32) = decide (h.toNat = 128 * tau + l) := by
  unfold bitOf
  have e7 : (IntOp.shrsi .vector h 7#32).toNat = h.toNat / 128 := shr_toNat h hh 7#32 (by decide)
  have e12 : (IntOp.shrsi .vector (IntOp.shrsi .vector h 7#32) 5#32).toNat = h.toNat / 128 / 32 := by
    have := shr_toNat (IntOp.shrsi .vector h 7#32) (by omega) 5#32 (by decide)
    rw [this, e7]; rfl
  have ea : (IntOp.andi h 127#32).toNat = h.toNat % 128 := and_toNat h 7 (by omega)
  have eb : (IntOp.andi (IntOp.shrsi .vector h 7#32) 31#32).toNat = h.toNat / 128 % 32 := by
    have := and_toNat (IntOp.shrsi .vector h 7#32) 5 (by omega)
    rw [e7] at this; exact this
  rw [sel_eq, sel_eq]
  have c1 : IntOp.shrsi .vector (IntOp.shrsi .vector h 7#32) 5#32 = BitVec.ofNat 32 (tau / 32) ↔ h.toNat / 128 / 32 = tau / 32 := by
    rw [← BitVec.toNat_inj, e12, BitVec.toNat_ofNat, Nat.mod_eq_of_lt (by omega : tau / 32 < 2 ^ 32)]
  have c2 : IntOp.andi h 127#32 = BitVec.ofNat 32 l ↔ h.toNat % 128 = l := by
    rw [← BitVec.toNat_inj, ea, BitVec.toNat_ofNat, Nat.mod_eq_of_lt (by omega : l < 2 ^ 32)]
  by_cases h1 : h.toNat / 128 / 32 = tau / 32
  · rw [if_pos (c1.mpr h1)]
    by_cases h2 : h.toNat % 128 = l
    · rw [if_pos (c2.mpr h2), one_shl _ (by omega) _ (by omega), eb]
      refine decide_eq_decide.mpr ?_
      omega
    · rw [if_neg (fun e => h2 (c2.mp e))]
      have : ¬ h.toNat = 128 * tau + l := by omega
      simp [this]
  · rw [if_neg (fun e => h1 (c1.mp e))]
    have : ¬ h.toNat = 128 * tau + l := by omega
    simp [this]

theorem seenW_get (tau l : ℕ) (ht : tau < 256) (hl : l < 128) (h : Fin 64 → BitVec 32) (hh : ∀ k, (h k).toNat < 2 ^ 31) : ∀ (n : ℕ) (p : n ≤ 64),
    (seenW (BitVec.ofNat 32 (tau / 32)) (BitVec.ofNat 32 l) h n p).getLsbD (tau % 32) = true ↔ ∃ k : Fin 64, k.val < n ∧ (h k).toNat = 128 * tau + l
  | 0, _ => by
    constructor
    · intro e; simp [seenW] at e
    · rintro ⟨k, hk, _⟩; omega
  | n + 1, p => by
    show (seenW _ _ h n _ ||| bitOf _ _ (h ⟨n, p⟩)).getLsbD _ = true ↔ _
    rw [BitVec.getLsbD_or, Bool.or_eq_true, seenW_get tau l ht hl h hh n (Nat.le_of_succ_le p), bitOf_get tau l ht hl _ (hh _), decide_eq_true_iff]
    constructor
    · rintro (⟨k, hk, e⟩ | e)
      · exact ⟨k, by omega, e⟩
      · exact ⟨⟨n, p⟩, Nat.lt_succ_self n, e⟩
    · rintro ⟨k, hk, e⟩
      by_cases hn : k.val = n
      · right; have : k = ⟨n, p⟩ := Fin.ext hn
        rw [← this]; exact e
      · left; exact ⟨k, by omega, e⟩

theorem test_bit (x s : BitVec 32) (hs : s.toNat < 32) : IntOp.andi (IntOp.shrsi .vector x s) 1#32 ≠ 0#32 ↔ x.getLsbD s.toNat = true := by
  unfold IntOp.shrsi
  rw [if_pos hs]
  show (x.sshiftRight s.toNat &&& 1#32) ≠ 0#32 ↔ _
  have e0 : (x.sshiftRight s.toNat &&& 1#32).getLsbD 0 = x.getLsbD s.toNat := by
    rw [BitVec.getLsbD_and, BitVec.getLsbD_sshiftRight]
    simp [-BitVec.getLsbD_eq_getElem, hs]
  constructor
  · intro hne
    by_contra hc
    refine hne (BitVec.eq_of_getLsbD_eq fun j hj => ?_)
    by_cases h0 : j = 0
    · subst h0; rw [e0]; simpa using hc
    · simp [BitVec.getLsbD_one, h0]
  · intro ht hc
    rw [← e0, hc] at ht
    simp at ht

theorem tileW_toNat (n : ℕ) (hn : n < 63) (t : Fin 4) : (tileW (BitVec.ofNat 32 n) t).toNat = 4 * n + t.val := by
  show (BitVec.ofNat 32 n * 4#32 + BitVec.ofNat 32 t.val).toNat = _
  have := t.isLt
  simp only [BitVec.toNat_add, BitVec.toNat_mul, BitVec.toNat_ofNat]
  omega

theorem tokW_toNat (n : ℕ) (hn : n < 63) (t : Fin 4) (l : Fin 128) : (tokW (BitVec.ofNat 32 n) t l).toNat = 512 * n + 128 * t.val + l.val := by
  have e := tileW_toNat n hn t
  have := t.isLt; have := l.isLt
  show (BitVec.ofNat 32 l.val + tileW (BitVec.ofNat 32 n) t * 128#32).toNat = _
  simp only [BitVec.toNat_add, BitVec.toNat_mul, BitVec.toNat_ofNat, e]
  omega

theorem wordAt_val (i : grid0.Coords) (t : Fin 4) (hi : (i 0).val < 63) : (wordAt i t).val = (4 * (i 0).val + t.val) / 32 := by
  show k0_off1 i (BitVec.ofNat 32 t.val) 0 = _
  have e := tileW_toNat (i 0).val hi t
  have := t.isLt
  have h2 : (Scalar.shrsi (tileW (BitVec.ofNat 32 (i 0).val) t) 5#32).toNat = (4 * (i 0).val + t.val) / 32 := by
    have := shr_toNat (tileW (BitVec.ofNat 32 (i 0).val) t) (by omega) 5#32 (by decide)
    rw [e] at this; exact this
  exact h2

/-- A token's bit is set exactly where the history names it. -/
theorem bit_iff (i : grid0.Coords) (hi : (i 0).val < 63) (t : Fin 4) (l : Fin 128) (h : Fin 64 → BitVec 32) (hh : ∀ k, (h k).toNat < 2 ^ 31) :
    bitW (BitVec.ofNat 32 (i 0).val) t (seenW (BitVec.ofNat 32 (wordAt i t).val) (BitVec.ofNat 32 l.val) h 64 (Nat.le_refl _)) ≠ 0#32
      ↔ ∃ k, (h k).toNat = 512 * (i 0).val + 128 * t.val + l.val := by
  have e := tileW_toNat (i 0).val hi t
  have ht := t.isLt; have hl := l.isLt
  have es : (Scalar.andi (tileW (BitVec.ofNat 32 (i 0).val) t) 31#32).toNat = (4 * (i 0).val + t.val) % 32 := by
    have := and_toNat (tileW (BitVec.ofNat 32 (i 0).val) t) 5 (by omega)
    rw [e] at this; exact this
  unfold bitW
  rw [test_bit _ _ (by rw [es]; omega), es, wordAt_val i t hi, seenW_get _ _ (by omega) (by omega) h hh]
  constructor
  · rintro ⟨k, _, e⟩; exact ⟨k, by omega⟩
  · rintro ⟨k, e⟩; exact ⟨k, k.isLt, by omega⟩

end Cert.Ideal

end

end
-- ==== Proof.RefTerms.lean ====
module

public import proofs.«01_k».proof.Proof.Gen.ReferenceIdeal.Frame
public import Idealize.ShloMosaic.Lib.Pipeline.Value
public import Idealize.ShloMosaic.Lib.StableHlo.Run
public import Idealize.ShloMosaic.Lib.Pipeline.ValueKit

/-! The reference's run: what each of its four results holds at the end, as a function of the arguments. -/

open Idealize Idealize.ShloMosaic
open Cert.ReferenceIdeal Cert.ReferenceIdeal.Gen

@[expose] public section

set_option maxRecDepth 65536

noncomputable section

namespace Cert.Ref

variable {F : FTy → Type} [FloatOps F]

/-- The scaled row maximum the exponent is read from. -/
def rM (x : Vec F S32x1x7168 .bf16) : Vec F S32x1 .f32 :=
  mulf (broadcastInDim S32x1 ![0] bcast_S32_S32x1_0
      (Host.reduce FloatOps.maximumf (Host.absf (extf .f32 (shapeCast S32x7168 x shapeCasts_S32x1x7168_S32x7168) bitsLt_bf16_f32))
        (constant S_ .f32 0xFF800000#32) reducesTo_S32x7168_S32_d1 h_S_))
    (broadcastInDim S32x1 ![] bcast_S_S32x1 (constant S_ .f32 0x3B124925#32))

/-- The row's exponent. -/
def rE (x : Vec F S32x1x7168 .bf16) : Vec F S32x1 .f32 :=
  select (cmpf .olt (rM x) (broadcastInDim S32x1 ![] bcast_S_S32x1 (constant S_ .f32 0x00800000#32)))
    (broadcastInDim S32x1 ![] bcast_S_S32x1 (constant S_ .f32 0x00000000#32))
    (addf (Host.floor (Host.divf (Host.log (rM x)) (Host.log (broadcastInDim S32x1 ![] bcast_S_S32x1 (constant S_ .f32 0x40000000#32)))))
      (broadcastInDim S32x1 ![] bcast_S_S32x1 (constant S_ .f32 0x3F800000#32)))

/-- The row's scale. -/
def rScale (x : Vec F S32x1x7168 .bf16) : Vec F S32x1 .f32 :=
  Host.powf (broadcastInDim S32x1 ![] bcast_S_S32x1 (constant S_ .f32 0x40000000#32)) (rE x)

/-- The clipped quotient that is rounded to the codes. -/
def rClip (x : Vec F S32x1x7168 .bf16) : Vec F S32x7168 .f32 :=
  minimumf (broadcastInDim S32x7168 ![] bcast_S_S32x7168 (constant S_ .f32 0x43E00000#32))
    (maximumf (broadcastInDim S32x7168 ![] bcast_S_S32x7168 (constant S_ .f32 0xC3E00000#32))
      (mulf (extf .f32 (shapeCast S32x7168 x shapeCasts_S32x1x7168_S32x7168) bitsLt_bf16_f32)
        (broadcastInDim S32x7168 ![0, 1] bcast_S32x1_S32x7168_0_1
          (Host.powf (broadcastInDim S32x1 ![] bcast_S_S32x1 (constant S_ .f32 0x40000000#32)) (Host.negf (rE x))))))

variable (m : (ℓ : Loc nD τ sig) → Buf (Elt F) ℓ)

set_option maxHeartbeats 1000000 in
theorem V_v24 (c : Dev nD) : V m c main_v24 = rClip (m ((c.tc : Thread nD τ).loc main_arg0)) := by
  unfold V V0
  simp only [List.flatten_cons, List.flatten_nil, List.append_nil, hostOps0, hostOps0_1, hostOps0_2, hostOps0_3, List.cons_append, List.nil_append]
  after_results_simp
  rfl

set_option maxHeartbeats 1000000 in
theorem V_v18 (c : Dev nD) : V m c main_v18 = rScale (m ((c.tc : Thread nD τ).loc main_arg0)) := by
  unfold V V0
  simp only [List.flatten_cons, List.flatten_nil, List.append_nil, hostOps0, hostOps0_1, hostOps0_2, hostOps0_3, List.cons_append, List.nil_append]
  after_results_simp
  rfl

/-- The product of the codes with the weights. -/
def rAcc (x : Vec F S32x1x7168 .bf16) (w : Vec F S32256x7168 .fp8e4m3) : Vec F S32x32256 .f32 := k0_pay2 (rClip x) w

/-- The codes. -/
def rCodes (x : Vec F S32x1x7168 .bf16) : Vec F S32x7168 .fp8e4m3 := k0_pay1 (rClip x)

/-- The logits before the penalty. -/
def rLogit (acc : Vec F S32x32256 .f32) (sc : Vec F S32x1 .f32) (ws b : Vec F S32256 .f32) : Vec F S32x32256 .f32 :=
  addf (mulf (mulf acc (broadcastInDim S32x32256 ![0, 1] bcast_S32x1_S32x32256_0_1 sc))
      (broadcastInDim S32x32256 ![0, 1] bcast_S1x32256_S32x32256_0_1 (broadcastInDim S1x32256 ![1] bcast_S32256_S1x32256_1 ws)))
    (broadcastInDim S32x32256 ![0, 1] bcast_S1x32256_S32x32256_0_1 (broadcastInDim S1x32256 ![1] bcast_S32256_S1x32256_1 b))

/-- The pairs (row, token) that the history names. -/
def rPairs (h : Vec F S32x64 .i32) : Vec F S32x64x2 .i32 :=
  concatenate S32x64x2 2 [⟨S32x64x1, broadcastInDim S32x64x1 ![0, 1] bcast_S32x64_S32x64x1_0_1
      (broadcastInDim S32x64 ![0, 1] bcast_S32x1_S32x64_0_1
        (select (cmpi .slt (broadcastInDim S32x1 ![0] bcast_S32_S32x1_0 (iotaInDim S32 32 0)) (broadcastInDim S32x1 ![] bcast_S_S32x1 (constantI S_ 32 0#32)))
          (addi (broadcastInDim S32x1 ![0] bcast_S32_S32x1_0 (iotaInDim S32 32 0)) (broadcastInDim S32x1 ![] bcast_S_S32x1 (constantI S_ 32 32#32)))
          (broadcastInDim S32x1 ![0] bcast_S32_S32x1_0 (iotaInDim S32 32 0))))⟩,
    ⟨S32x64x1, broadcastInDim S32x64x1 ![0, 1] bcast_S32x64_S32x64x1_0_1
      (select (cmpi .slt h (broadcastInDim S32x64 ![] bcast_S_S32x64 (constantI S_ 32 0#32)))
        (addi h (broadcastInDim S32x64 ![] bcast_S_S32x64 (constantI S_ 32 32256#32))) h)⟩] concatenates_S32x64x1_S32x64x1_S32x64x2_d2

/-- Which tokens each row has seen. -/
def rSeen (h : Vec F S32x64 .i32) : Vec F S32x32256 .i1 :=
  Host.scatter scatter_S32x32256_S32x64x2_S32x64_n_01_01_2 (fun _ b => b)
    (broadcastInDim S32x32256 ![] bcast_S_S32x32256 (constantI S_ 1 0#1)) (rPairs h)
    (broadcastInDim S32x64 ![] bcast_S_S32x64 (constantI S_ 1 1#1))

/-- The penalised logits. -/
def rFinal (acc : Vec F S32x32256 .f32) (sc : Vec F S32x1 .f32) (ws b : Vec F S32256 .f32) (h : Vec F S32x64 .i32) (p : Vec F S32 .f32) :
    Vec F S32x32256 .f32 :=
  select (rSeen h)
    (select (cmpf .ogt (rLogit acc sc ws b) (broadcastInDim S32x32256 ![] bcast_S_S32x32256 (constant S_ .f32 0x00000000#32)))
      (Host.divf (rLogit acc sc ws b) (broadcastInDim S32x32256 ![0, 1] bcast_S32x1_S32x32256_0_1 (broadcastInDim S32x1 ![0] bcast_S32_S32x1_0 p)))
      (mulf (rLogit acc sc ws b) (broadcastInDim S32x32256 ![0, 1] bcast_S32x1_S32x32256_0_1 (broadcastInDim S32x1 ![0] bcast_S32_S32x1_0 p))))
    (rLogit acc sc ws b)

/-- The eight largest of each row. -/
def rTopV (l : Vec F S32x32256 .f32) : Vec F S32x8 .f32 :=
  (Host.topK S32x8 1 (FloatOps.cmpfTotal .gt) l sliceFits_S32x32256_S32x8).1

/-- Their positions, zero where the value is minus infinity. -/
def rTopI (l : Vec F S32x32256 .f32) : Vec F S32x8 .i32 :=
  select (cmpf .oeq (rTopV l) (broadcastInDim S32x8 ![] bcast_S_S32x8 (constant S_ .f32 0xFF800000#32)))
    (broadcastInDim S32x8 ![] bcast_S_S32x8 (constantI S_ 32 0#32))
    (Host.topK S32x8 1 (FloatOps.cmpfTotal .gt) l sliceFits_S32x32256_S32x8).2

end Cert.Ref

end

end
-- ==== Proof.Prod.lean ====
module

public import proofs.«01_k».proof.Proof.State
public import proofs.«01_k».proof.Proof.RefTerms
public import Idealize.ShloMosaic.Lib.MatmulPlain
public import Idealize.ShloMosaic.PureOps.Ideal.Laws

/-! The products: three pieces of the contraction added up are the whole one. -/

open Idealize Idealize.ShloMosaic

@[expose] public section

set_option maxRecDepth 65536

noncomputable section

namespace Cert.Prod

open Cert.KernelIdeal Cert.KernelIdeal.Gen Cert.Ideal

theorem piece (K o : ℕ) (ho : o + K ≤ 7168) (X9 : Vec Ideal S32x7168 .fp8e4m3) (X4 : Vec Ideal S512x7168 .fp8e4m3)
    (h9 : ∀ a, (![0, o] : Fin 2 → ℕ) a + (![32, K] : Fin 2 → ℕ) a ≤ S32x7168.size a) (h4 : ∀ a, (![0, o] : Fin 2 → ℕ) a + (![512, K] : Fin 2 → ℕ) a ≤ S512x7168.size a)
    (acc : FVec Ideal S32x512 .f32) (hacc : ∀ y, acc y = 0) (b : Fin 32) (col : Fin 512) :
    FloatOps.matmul (F := Ideal) (φ₁ := .fp8e4m3) (φ₂ := .fp8e4m3) (DotDims.transposedRhs 32 K 512) none (cut X9 ![32, K] ![0, o] h9) (cut X4 ![512, K] ![0, o] h4) acc (ValueIdx.ix2 b col)
      = ∑ k : Fin K, X9 (ValueIdx.ix2 b (⟨o + k.val, by omega⟩ : Fin 7168)) * X4 (ValueIdx.ix2 col (⟨o + k.val, by omega⟩ : Fin 7168)) := by
  refine (Ideal.matmul_transposedRhs_apply none _ _ acc b col).trans ?_
  rw [hacc, zero_add]
  refine Finset.sum_congr rfl fun k _ => ?_
  have e9 : (Rect.unit (s := S32x7168) ![0, o] ![32, K] h9).emb (ValueIdx.ix2 b k) = ValueIdx.ix2 b (⟨o + k.val, by omega⟩ : Fin 7168) := by
    refine funext fun a => Fin.ext ?_
    match a with
    | ⟨0, _⟩ => show 0 + 1 * b.val = b.val; omega
    | ⟨1, _⟩ => show o + 1 * k.val = o + k.val; omega
  have e4 : (Rect.unit (s := S512x7168) ![0, o] ![512, K] h4).emb (ValueIdx.ix2 col k) = ValueIdx.ix2 col (⟨o + k.val, by omega⟩ : Fin 7168) := by
    refine funext fun a => Fin.ext ?_
    match a with
    | ⟨0, _⟩ => show 0 + 1 * col.val = col.val; omega
    | ⟨1, _⟩ => show o + 1 * k.val = o + k.val; omega
  exact congrArg₂ (fun a b : EReal => a * b) (congrArg X9 e9) (congrArg X4 e4)

theorem sum_three (f : Fin 7168 → EReal) :
    ∑ k, f k = ((∑ k : Fin 2432, f ⟨0 + k.val, by omega⟩) + ∑ k : Fin 2432, f ⟨2432 + k.val, by omega⟩) + ∑ k : Fin 2304, f ⟨4864 + k.val, by omega⟩ := by
  have e1 := Fin.sum_univ_add (a := 4864) (b := 2304) f
  have e2 := Fin.sum_univ_add (a := 2432) (b := 2432) (fun k => f (Fin.castAdd 2304 k))
  refine e1.trans ?_
  refine congrArg₂ (fun a b : EReal => a + b) (e2.trans ?_) rfl
  refine congrArg₂ (fun a b : EReal => a + b) (Finset.sum_congr rfl fun k _ => congrArg f (Fin.ext ?_)) rfl
  show k.val = 0 + k.val
  omega

theorem zero_const (y : S32x512.Idx) : (constant S32x512 .f32 0x00000000#32 : FVec Ideal S32x512 .f32) y = 0 := Ideal.ofBits_zero_f32

theorem accV_apply (X9 : Vec Ideal S32x7168 .fp8e4m3) (X4 : Vec Ideal S512x7168 .fp8e4m3) (b : Fin 32) (col : Fin 512) :
    accV X9 X4 (ValueIdx.ix2 b col) = ∑ k : Fin 7168, X9 (ValueIdx.ix2 b k) * X4 (ValueIdx.ix2 col k) := by
  rw [sum_three]
  refine Eq.trans ?_ (congrArg₂ (fun a b : EReal => a + b) (congrArg₂ (fun a b : EReal => a + b)
    (piece 2432 0 (by omega) X9 X4 inb_S32x7168_S32x2432_0_0 inb_S512x7168_S512x2432_0_0 _ zero_const b col)
    (piece 2432 2432 (by omega) X9 X4 inb_S32x7168_S32x2432_0_2432 inb_S512x7168_S512x2432_0_2432 _ zero_const b col))
    (piece 2304 4864 (by omega) X9 X4 inb_S32x7168_S32x2304_0_4864 inb_S512x7168_S512x2304_0_4864 _ zero_const b col))
  unfold accV k0_pay3536
  simp only [shapeCast_self]
  rfl

theorem rAcc_apply (x : Vec Ideal Cert.ReferenceIdeal.S32x1x7168 .bf16) (w : Vec Ideal Cert.ReferenceIdeal.S32256x7168 .fp8e4m3) (b : Fin 32) (v : Fin 32256) :
    Cert.Ref.rAcc x w (ValueIdx.ix2 b v) = ∑ k : Fin 7168, Cert.Ref.rCodes x (ValueIdx.ix2 b k) * w (ValueIdx.ix2 v k) := by
  have e := Ideal.matmul_transposedRhs_apply (M := 32) (K := 7168) (N := 32256) (φ₁ := .fp8e4m3) (φ₂ := .fp8e4m3) none (Cert.Ref.rCodes x) w
    (constant Cert.ReferenceIdeal.S32x32256 .f32 0x00000000#32) b v
  refine Eq.trans (Eq.trans ?_ e) ?_
  · unfold Cert.Ref.rAcc Cert.ReferenceIdeal.Gen.k0_pay2 Cert.Ref.rCodes
    rfl
  · have hz : (constant Cert.ReferenceIdeal.S32x32256 .f32 0x00000000#32 : FVec Ideal Cert.ReferenceIdeal.S32x32256 .f32) (ValueIdx.ix2 b v) = 0 := Ideal.ofBits_zero_f32
    rw [hz, zero_add]

end Cert.Prod

end

end
-- ==== Proof.Top8.lean ====
module

public import proofs.«01_k».proof.Proof.Lanes
public import Idealize.ShloMosaic.Lib.SortFacts

/-! The eight greatest entries, counted. An entry is a value and the index it stands at; of two entries with one value the one at
the smaller index is the greater. A descending sequence is known from how many of its entries reach each threshold `t`, so
each stage (the insertions into a lane, the rounds over the lanes, a stable sort) is described by such counts alone. -/

open Idealize Idealize.ShloMosaic

@[expose] public section

noncomputable section

namespace Cert.Lanes

/-- A value and its index, the smaller index being the greater. -/
abbrev Entry : Type := EReal ×ₗ ℕᵒᵈ

/-- The entry of a value and an index. -/
def ent (x : EReal) (n : ℕ) : Entry := toLex (x, OrderDual.toDual n)

/-- The entry an empty slot holds. -/
def void : Entry := ent ⊥ 0

theorem ent_le {x y : EReal} {m n : ℕ} : ent x m ≤ ent y n ↔ x < y ∨ x = y ∧ n ≤ m := by
  unfold ent; rw [Prod.Lex.toLex_le_toLex]; rfl

theorem ent_lt {x y : EReal} {m n : ℕ} : ent x m < ent y n ↔ x < y ∨ x = y ∧ n < m := by
  unfold ent; rw [Prod.Lex.toLex_lt_toLex]; rfl

theorem ent_inj {x y : EReal} {m n : ℕ} : ent x m = ent y n ↔ x = y ∧ m = n := by
  unfold ent
  rw [toLex_inj, Prod.mk.injEq, OrderDual.toDual_inj]

theorem le_void {n : ℕ} : ent ⊥ n ≤ void := by
  rw [void, ent_le]; exact .inr ⟨rfl, Nat.zero_le _⟩

theorem void_lt {x : EReal} (n : ℕ) (h : x ≠ ⊥) : void < ent x n := by
  rw [void, ent_lt]; exact .inl (bot_lt_iff_ne_bot.mpr h)

/-- A lane's list is known by its counts: `c t` entries were met that reach the threshold `t`, all at indices below `b` that leave `l` modulo 128. -/
structure Inv (l b : ℕ) (c : Entry → ℕ) (v : ℕ → EReal) (k : ℕ → BitVec 32) : Prop where
  cnt : ∀ t, void < t → ∀ j, j < 8 → (t ≤ ent (v j) (k j).toNat ↔ j < c t)
  bot : ∀ j, j < 8 → v j = ⊥ → k j = 0#32
  idx : ∀ j, j < 8 → v j ≠ ⊥ → (k j).toNat < b ∧ (k j).toNat % 128 = l

theorem Inv.anti {l b c v k} (h : Inv l b c v k) (j : ℕ) (hj : j + 1 < 8) : ent (v (j + 1)) (k (j + 1)).toNat ≤ ent (v j) (k j).toNat := by
  by_cases h1 : v (j + 1) = ⊥
  · rw [h1, h.bot _ hj h1]
    by_cases h0 : v j = ⊥
    · rw [h0, h.bot _ (by omega) h0]
    · exact (void_lt _ h0).le
  · have ht := void_lt (k (j + 1)).toNat h1
    have := (h.cnt _ ht (j + 1) hj).mp le_rfl
    exact (h.cnt _ ht j (by omega)).mpr (by omega)

theorem Inv.congr {l b c v k v' k'} (h : Inv l b c v k) (hv : ∀ j, j < 8 → v' j = v j) (hk : ∀ j, j < 8 → k' j = k j) : Inv l b c v' k' where
  cnt t ht j hj := by rw [hv j hj, hk j hj]; exact h.cnt t ht j hj
  bot j hj := by rw [hv j hj, hk j hj]; exact h.bot j hj
  idx j hj := by rw [hv j hj, hk j hj]; exact h.idx j hj

theorem Inv.start (l : ℕ) (k : ℕ → BitVec 32) (v : ℕ → EReal) (hv : ∀ j, j < 8 → v j = ⊥) (hk : ∀ j, j < 8 → k j = 0#32) : Inv l 0 (fun _ => 0) v k where
  cnt t ht j hj := by
    rw [hv j hj, hk j hj]
    exact ⟨fun h => absurd (lt_of_lt_of_le ht h) (lt_irrefl _), fun h => absurd h (Nat.not_lt_zero _)⟩
  bot j hj _ := hk j hj
  idx j hj h := absurd (hv j hj) h

/-- The order of the new entry against an old one is the order of the values. -/
theorem Inv.lt_iff {l b c v k} (h : Inv l b c v k) {x : EReal} {n : ℕ} (hx : x ≠ ⊥) (hn : b ≤ n) (j : ℕ) (hj : j < 8) :
    ent (v j) (k j).toNat < ent x n ↔ v j < x := by
  rw [ent_lt]
  refine ⟨?_, .inl⟩
  rintro (h1 | ⟨h1, h2⟩)
  · exact h1
  · have := (h.idx j hj (h1 ▸ hx)).1; omega

theorem ins_zero (v : ℕ → EReal) (x : EReal) : ins v x 0 = max (v 0) x := rfl
theorem ins_succ (v : ℕ → EReal) (x : EReal) (j : ℕ) : ins v x (j + 1) = max (v (j + 1)) (min (v j) x) := rfl
theorem insK_zero (v : ℕ → EReal) (k : ℕ → BitVec 32) (x : EReal) (n : BitVec 32) : insK v k x n 0 = if v 0 < x then n else k 0 := rfl
theorem insK_succ (v : ℕ → EReal) (k : ℕ → BitVec 32) (x : EReal) (n : BitVec 32) (j : ℕ) :
    insK v k x n (j + 1) = if v (j + 1) < x then (if v j < x then k j else n) else k (j + 1) := rfl

theorem ins_bot (v : ℕ → EReal) (j : ℕ) : ins v ⊥ j = v j := by
  cases j with
  | zero => rw [ins_zero, max_bot_right]
  | succ j => rw [ins_succ, min_bot_right, max_bot_right]

theorem insK_bot (v : ℕ → EReal) (k : ℕ → BitVec 32) (n : BitVec 32) (j : ℕ) : insK v k ⊥ n j = k j := by
  cases j with
  | zero => rw [insK_zero, if_neg not_lt_bot]
  | succ j => rw [insK_succ, if_neg not_lt_bot]

/-- What an insertion leaves in a slot: an old entry or the new one. -/
theorem Inv.cases {l b c v k} (h : Inv l b c v k) {x : EReal} {n : BitVec 32} (hx : x ≠ ⊥) (hn : b ≤ n.toNat) (j : ℕ) (hj : j < 8) :
    (∃ i, i < 8 ∧ ins v x j = v i ∧ insK v k x n j = k i) ∨ (ins v x j = x ∧ insK v k x n j = n) := by
  cases j with
  | zero =>
    rw [ins_zero, insK_zero]
    by_cases h0 : v 0 < x
    · right; rw [if_pos h0]; exact ⟨max_eq_right h0.le, rfl⟩
    · left; rw [if_neg h0]; exact ⟨0, by omega, max_eq_left (not_lt.mp h0), rfl⟩
  | succ j =>
    rw [ins_succ, insK_succ]
    by_cases h1 : v (j + 1) < x
    · rw [if_pos h1]
      by_cases h0 : v j < x
      · left
        refine ⟨j, by omega, ?_, by rw [if_pos h0]⟩
        rw [min_eq_left h0.le]
        refine max_eq_right ?_
        rcases ent_le.mp (h.anti j hj) with h2 | h2
        · exact h2.le
        · exact h2.1.le
      · right
        rw [if_neg h0, min_eq_right (not_lt.mp h0)]; exact ⟨max_eq_right h1.le, rfl⟩
    · left
      rw [if_neg h1]
      exact ⟨j + 1, hj, max_eq_left ((min_le_right _ _).trans (not_lt.mp h1)), rfl⟩

/-- What an insertion leaves, as entries: at the first slot. -/
theorem Inv.ent_zero {l b c v k} (h : Inv l b c v k) {x : EReal} {n : BitVec 32} (hx : x ≠ ⊥) (hn : b ≤ n.toNat) (t : Entry) :
    t ≤ ent (ins v x 0) (insK v k x n 0).toNat ↔ t ≤ ent (v 0) (k 0).toNat ∨ t ≤ ent x n.toNat := by
  have hl := h.lt_iff hx hn 0 (by omega)
  rw [ins_zero, insK_zero]
  by_cases h0 : v 0 < x
  · rw [if_pos h0, max_eq_right h0.le]
    exact ⟨.inr, fun h' => h'.elim (fun h'' => h''.trans (hl.mpr h0).le) id⟩
  · rw [if_neg h0, max_eq_left (not_lt.mp h0)]
    exact ⟨.inl, fun h' => h'.elim id (fun h'' => h''.trans (not_lt.mp (mt hl.mp h0)))⟩

/-- What an insertion leaves, as entries: at a later slot. -/
theorem Inv.ent_succ {l b c v k} (h : Inv l b c v k) {x : EReal} {n : BitVec 32} (hx : x ≠ ⊥) (hn : b ≤ n.toNat) (t : Entry) (j : ℕ) (hj : j + 1 < 8) :
    t ≤ ent (ins v x (j + 1)) (insK v k x n (j + 1)).toNat
      ↔ t ≤ ent (v (j + 1)) (k (j + 1)).toNat ∨ (t ≤ ent (v j) (k j).toNat ∧ t ≤ ent x n.toNat) := by
  have hl := h.lt_iff hx hn j (by omega)
  have hl1 := h.lt_iff hx hn (j + 1) hj
  have ha := h.anti j hj
  rw [ins_succ, insK_succ]
  by_cases h1 : v (j + 1) < x
  · rw [if_pos h1]
    have h1' := (hl1.mpr h1).le
    by_cases h0 : v j < x
    · have hav : v (j + 1) ≤ v j := by
        rcases ent_le.mp ha with h2 | h2
        · exact h2.le
        · exact h2.1.le
      rw [if_pos h0, min_eq_left h0.le, max_eq_right hav]
      have h0' := (hl.mpr h0).le
      exact ⟨fun h' => .inr ⟨h', h'.trans h0'⟩, fun h' => h'.elim (fun h'' => h''.trans ha) (fun h'' => h''.1)⟩
    · rw [if_neg h0, min_eq_right (not_lt.mp h0), max_eq_right h1.le]
      have h0' := not_lt.mp (mt hl.mp h0)
      exact ⟨fun h' => .inr ⟨h'.trans h0', h'⟩, fun h' => h'.elim (fun h'' => h''.trans h1') (fun h'' => h''.2)⟩
  · rw [if_neg h1, max_eq_left ((min_le_right _ _).trans (not_lt.mp h1))]
    have h1' := not_lt.mp (mt hl1.mp h1)
    exact ⟨.inl, fun h' => h'.elim id (fun h'' => h''.2.trans h1')⟩

/-- An insertion adds its entry to the counts. -/
theorem Inv.step {l b c v k} (h : Inv l b c v k) (x : EReal) (n : BitVec 32) (hn : b ≤ n.toNat) (hl : n.toNat % 128 = l) :
    Inv l (n.toNat + 1) (fun t => c t + if t ≤ ent x n.toNat then 1 else 0) (ins v x) (insK v k x n) := by
  by_cases hx : x = ⊥
  · subst hx
    constructor
    · intro t ht j hj
      rw [ins_bot, insK_bot, if_neg (not_le.mpr (lt_of_le_of_lt le_void ht)), Nat.add_zero]
      exact h.cnt t ht j hj
    · intro j hj hv
      rw [ins_bot] at hv
      rw [insK_bot]; exact h.bot j hj hv
    · intro j hj hv
      rw [ins_bot] at hv
      rw [insK_bot]
      have := h.idx j hj hv
      exact ⟨by omega, this.2⟩
  constructor
  · intro t ht j hj
    cases j with
    | zero =>
      rw [h.ent_zero hx hn, h.cnt t ht 0 hj]
      split <;> simp_all
    | succ j =>
      rw [h.ent_succ hx hn t j hj, h.cnt t ht (j + 1) hj, h.cnt t ht j (by omega)]
      split <;> rename_i h' <;> simp only [h', and_true, and_false, or_false] <;> omega
  · intro j hj hv
    rcases h.cases (n := n) hx hn j hj with ⟨i, hi, h1, h2⟩ | ⟨h1, h2⟩
    · rw [h2]; exact h.bot i hi (h1 ▸ hv)
    · exact absurd (h1 ▸ hv) hx
  · intro j hj hv
    rcases h.cases (n := n) hx hn j hj with ⟨i, hi, h1, h2⟩ | ⟨h1, h2⟩
    · rw [h2]
      have := h.idx i hi (h1 ▸ hv)
      exact ⟨by omega, this.2⟩
    · rw [h2]; exact ⟨by omega, hl⟩

/-! The rounds over the lanes. -/

section Rounds

variable (V : ℕ → ℕ → Fin 128 → EReal) (K : ℕ → ℕ → Fin 128 → BitVec 32) (M : ℕ → EReal) (S : ℕ → BitVec 32)

/-- How often a lane was taken before round `n`. -/
def taken (V : ℕ → ℕ → Fin 128 → EReal) (K : ℕ → ℕ → Fin 128 → BitVec 32) (M : ℕ → EReal) (S : ℕ → BitVec 32) : ℕ → Fin 128 → ℕ
  | 0, _ => 0
  | n + 1, l => taken V K M S n l + if V n 0 l = M n ∧ K n 0 l = S n then 1 else 0

variable {V K M S}

theorem taken_le (n : ℕ) (l : Fin 128) : taken V K M S n l ≤ n := by
  induction n with
  | zero => exact le_rfl
  | succ n ih => rw [taken]; split <;> omega

/-- EIGHT ROUNDS TAKE THE EIGHT GREATEST: the `n`-th round's entry reaches a threshold exactly when more than `n` entries of all lanes do. -/
theorem rounds_count (c : Fin 128 → Entry → ℕ) (b : ℕ) (h0 : ∀ l, Inv l.val b (c l) (fun j => V 0 j l) (fun j => K 0 j l))
    (hV : ∀ n j l, V (n + 1) j l = if V n 0 l = M n ∧ K n 0 l = S n then V n (j + 1) l else V n j l)
    (hK : ∀ n j l, K (n + 1) j l = if V n 0 l = M n ∧ K n 0 l = S n then K n (j + 1) l else K n j l)
    (hM : ∀ n l, V n 0 l ≤ M n) (hS : ∀ n l, n < 8 → V n 0 l = M n → (S n).toNat ≤ (K n 0 l).toNat)
    (hE : ∀ n, n < 8 → ∃ l, V n 0 l = M n ∧ K n 0 l = S n) (n : ℕ) (hn : n < 8) :
    (∀ t, void < t → (t ≤ ent (M n) (S n).toNat ↔ n < ∑ l, c l t)) ∧ (M n = ⊥ → S n = 0#32) := by
  have hV' : ∀ n j l, V n j l = V 0 (j + taken V K M S n l) l := by
    intro n
    induction n with
    | zero => intro j l; rfl
    | succ n ih =>
      intro j l
      rw [hV, taken]
      split
      · rw [ih]; congr 1; omega
      · rw [ih]; rfl
  have hK' : ∀ n j l, K n j l = K 0 (j + taken V K M S n l) l := by
    intro n
    induction n with
    | zero => intro j l; rfl
    | succ n ih =>
      intro j l
      rw [hK, taken]
      split
      · rw [ih]; congr 1; omega
      · rw [ih]; rfl
  have hle : ∀ n, n < 8 → ∀ l, ent (V n 0 l) (K n 0 l).toNat ≤ ent (M n) (S n).toNat := by
    intro n hn l
    rw [ent_le]
    rcases lt_or_eq_of_le (hM n l) with h | h
    · exact .inl h
    · exact .inr ⟨h, hS n l hn h⟩
  have hfront : ∀ n, n < 8 → ∀ t, void < t → ∀ l, (t ≤ ent (V n 0 l) (K n 0 l).toNat ↔ taken V K M S n l < c l t) := by
    intro n hn t ht l
    have := taken_le (V := V) (K := K) (M := M) (S := S) n l
    rw [hV', hK', Nat.zero_add]
    exact (h0 l).cnt t ht _ (by omega)
  have hmain : ∀ n, n ≤ 8 → ∀ t, void < t → ∑ l, min (taken V K M S n l) (c l t) = min n (∑ l, c l t) := by
    intro n
    induction n with
    | zero => intro _ t _; simp [taken]
    | succ n ih =>
      intro hn t ht
      have ihn := ih (by omega) t ht
      have hf := hfront n (by omega) t ht
      obtain ⟨l0, hl1, hl2⟩ := hE n (by omega)
      by_cases hm : t ≤ ent (M n) (S n).toNat
      · have h1 : taken V K M S n l0 < c l0 t := (hf l0).mp (by rw [hl1, hl2]; exact hm)
        have huniq : ∀ l, (V n 0 l = M n ∧ K n 0 l = S n) ↔ l = l0 := by
          intro l
          refine ⟨fun ⟨a, b'⟩ => ?_, fun e => e ▸ ⟨hl1, hl2⟩⟩
          have hne : M n ≠ ⊥ := by
            intro e
            rw [e] at hm
            exact absurd (lt_of_lt_of_le ht (hm.trans le_void)) (lt_irrefl _)
          have e1 := ((h0 l).idx (taken V K M S n l) (lt_of_le_of_lt (taken_le n l) (by omega)) (by
            have := hV' n 0 l; rw [Nat.zero_add] at this; show V 0 _ l ≠ ⊥; rw [← this, a]; exact hne)).2
          have e2 := ((h0 l0).idx (taken V K M S n l0) (lt_of_le_of_lt (taken_le n l0) (by omega)) (by
            have := hV' n 0 l0; rw [Nat.zero_add] at this; show V 0 _ l0 ≠ ⊥; rw [← this, hl1]; exact hne)).2
          have k1 := hK' n 0 l; have k2 := hK' n 0 l0
          rw [Nat.zero_add] at k1 k2
          beta_reduce at e1 e2
          rw [← k1, b'] at e1
          rw [← k2, hl2] at e2
          exact Fin.ext (e1.symm.trans e2)
        have h2 : ∑ l, min (taken V K M S (n + 1) l) (c l t) = ∑ l, (min (taken V K M S n l) (c l t) + if l = l0 then 1 else 0) := by
          refine Finset.sum_congr rfl fun l _ => ?_
          rw [taken]
          by_cases e : l = l0
          · rw [if_pos ((huniq l).mpr e), if_pos e, e]; omega
          · rw [if_neg (mt (huniq l).mp e), if_neg e]; simp
        rw [h2, Finset.sum_add_distrib, ihn, Finset.sum_ite_eq' Finset.univ l0, if_pos (Finset.mem_univ _)]
        have h3 : ∑ l, min (taken V K M S n l) (c l t) < ∑ l, c l t :=
          Finset.sum_lt_sum (fun l _ => min_le_right _ _) ⟨l0, Finset.mem_univ _, by omega⟩
        omega
      · have hno : ∀ l, ¬ taken V K M S n l < c l t := fun l h => hm (((hf l).mpr h).trans (hle n (by omega) l))
        have h2 : ∑ l, min (taken V K M S (n + 1) l) (c l t) = ∑ l, c l t :=
          Finset.sum_congr rfl fun l _ => by
            have := hno l
            rw [taken]; split <;> omega
        have h3 : ∑ l, min (taken V K M S n l) (c l t) = ∑ l, c l t :=
          Finset.sum_congr rfl fun l _ => by have := hno l; omega
        omega
  refine ⟨fun t ht => ?_, fun hb => ?_⟩
  · have hf := hfront n hn t ht
    have hs := hmain n hn.le t ht
    obtain ⟨l0, hl1, hl2⟩ := hE n hn
    constructor
    · intro hm
      have h1 : taken V K M S n l0 < c l0 t := (hf l0).mp (by rw [hl1, hl2]; exact hm)
      have h3 : ∑ l, min (taken V K M S n l) (c l t) < ∑ l, c l t :=
        Finset.sum_lt_sum (fun l _ => min_le_right _ _) ⟨l0, Finset.mem_univ _, by omega⟩
      omega
    · intro hlt
      by_contra hm
      have h3 : ∑ l, min (taken V K M S n l) (c l t) = ∑ l, c l t :=
        Finset.sum_congr rfl fun l _ => by
          have : ¬ taken V K M S n l < c l t := fun h => hm (((hf l).mpr h).trans (hle n hn l))
          omega
      omega
  · obtain ⟨l0, hl1, hl2⟩ := hE n hn
    have k1 := hK' n 0 l0
    have k2 := hV' n 0 l0
    rw [Nat.zero_add] at k1 k2
    rw [← hl2, k1]
    exact (h0 l0).bot _ (lt_of_le_of_lt (taken_le n l0) hn) (by show V 0 _ l0 = ⊥; rw [← k2, hl1, hb])

end Rounds

/-- Entries that reach the same thresholds, and hold index 0 where their value is minus infinity, are equal. -/
theorem eq_of_count {x y : EReal} {m n : ℕ} (hx : x = ⊥ → m = 0) (hy : y = ⊥ → n = 0)
    (h : ∀ t, void < t → (t ≤ ent x m ↔ t ≤ ent y n)) : x = y ∧ m = n := by
  rw [← ent_inj]
  by_cases h1 : x = ⊥
  · by_cases h2 : y = ⊥
    · rw [h1, h2, hx h1, hy h2]
    · have := (h _ (void_lt n h2)).mpr le_rfl
      rw [h1, hx h1] at this
      exact absurd (lt_of_lt_of_le (void_lt n h2) this) (lt_irrefl _)
  · have a := (h _ (void_lt m h1)).mp le_rfl
    by_cases h2 : y = ⊥
    · rw [h2, hy h2] at a
      exact absurd (lt_of_lt_of_le (void_lt m h1) a) (lt_irrefl _)
    · exact le_antisymm a ((h _ (void_lt n h2)).mpr le_rfl)

/-! The stable sort. -/

/-- Inserting before all that do not exceed it keeps a list of positions in the order "greater value, then smaller position". -/
theorem pairwise_insert {N : ℕ} (f : Fin N → EReal) (before : Fin N → Fin N → Bool) (hb : ∀ a b, before a b = true ↔ f b < f a) (a : Fin N) (l : List (Fin N))
    (ha : ∀ b ∈ l, a < b) (hl : l.Pairwise fun a b => ent (f b) b.val < ent (f a) a.val) :
    (insertBefore before a l).Pairwise fun a b => ent (f b) b.val < ent (f a) a.val := by
  induction l with
  | nil => simp [insertBefore]
  | cons b l ih =>
    obtain ⟨hb', hl'⟩ := List.pairwise_cons.mp hl
    unfold insertBefore
    split
    · next h =>
      have hba : f a < f b := (hb _ _).mp h
      refine List.pairwise_cons.mpr ⟨fun x hx => ?_, ih (fun x hx => ha x (List.mem_cons_of_mem _ hx)) hl'⟩
      rcases List.mem_cons.mp ((perm_insertBefore _ a l).mem_iff.mp hx) with rfl | hx'
      · exact ent_lt.mpr (.inl hba)
      · exact hb' x hx'
    · next h =>
      have hab : f b ≤ f a := not_lt.mp (mt (hb _ _).mpr h)
      have hba : ent (f b) b.val < ent (f a) a.val := by
        rw [ent_lt]
        rcases lt_or_eq_of_le hab with h1 | h1
        · exact .inl h1
        · exact .inr ⟨h1, ha b List.mem_cons_self⟩
      refine List.pairwise_cons.mpr ⟨fun x hx => ?_, hl⟩
      rcases List.mem_cons.mp hx with rfl | hx'
      · exact hba
      · exact (hb' x hx').trans hba

theorem pairwise_stable {N : ℕ} (f : Fin N → EReal) (before : Fin N → Fin N → Bool) (hb : ∀ a b, before a b = true ↔ f b < f a) (l : List (Fin N))
    (hl : l.Pairwise (· < ·)) : (stableSort before l).Pairwise fun a b => ent (f b) b.val < ent (f a) a.val := by
  induction l with
  | nil => simp [stableSort]
  | cons a l ih =>
    obtain ⟨ha, hl'⟩ := List.pairwise_cons.mp hl
    unfold stableSort
    exact pairwise_insert f before hb a _ (fun b hb => ha b ((perm_stableSort _ l).mem_iff.mp hb)) (ih hl')

/-- A STABLE SORT: its `n`-th entry reaches a threshold exactly when more than `n` entries do. -/
theorem sorted_count {N : ℕ} (f : Fin N → EReal) (before : Fin N → Fin N → Bool) (hb : ∀ a b, before a b = true ↔ f b < f a) (t : Entry) (n : Fin N) :
    t ≤ ent (f (sortedFrom before n)) (sortedFrom before n).val ↔ n.val < ∑ i : Fin N, if t ≤ ent (f i) i.val then 1 else 0 := by
  have hanti : ∀ i j : Fin N, i < j → ent (f (sortedFrom before j)) (sortedFrom before j).val < ent (f (sortedFrom before i)) (sortedFrom before i).val := by
    intro i j hij
    have hp := List.pairwise_iff_get.mp (pairwise_stable f before hb (List.finRange N) (List.pairwise_lt_finRange N))
    exact hp (i.cast (length_sortPositions N before).symm) (j.cast (length_sortPositions N before).symm) hij
  have hsum : (∑ i : Fin N, if t ≤ ent (f i) i.val then 1 else 0)
      = ∑ i : Fin N, if t ≤ ent (f (sortedFrom before i)) (sortedFrom before i).val then 1 else 0 :=
    (Equiv.sum_comp (Equiv.ofBijective (sortedFrom before) ⟨sortedFrom_injective before, sortedFrom_surjective before⟩)
      (fun i => if t ≤ ent (f i) i.val then 1 else 0)).symm
  rw [hsum, Finset.sum_boole, Nat.cast_id]
  constructor
  · intro h
    have hsub : Finset.Iic n ⊆ Finset.univ.filter fun i : Fin N => t ≤ ent (f (sortedFrom before i)) (sortedFrom before i).val := by
      intro i hi
      rw [Finset.mem_filter]
      refine ⟨Finset.mem_univ _, ?_⟩
      rcases lt_or_eq_of_le (Finset.mem_Iic.mp hi) with h1 | h1
      · exact h.trans (hanti _ _ h1).le
      · rw [h1]; exact h
    have := Finset.card_le_card hsub
    rw [Fin.card_Iic] at this
    omega
  · intro h
    by_contra hn
    have hsub : (Finset.univ.filter fun i : Fin N => t ≤ ent (f (sortedFrom before i)) (sortedFrom before i).val) ⊆ Finset.Iio n := by
      intro i hi
      rw [Finset.mem_filter] at hi
      rw [Finset.mem_Iio]
      by_contra h1
      rcases lt_or_eq_of_le (not_lt.mp h1) with h2 | h2
      · exact hn (hi.2.trans (hanti _ _ h2).le)
      · exact hn (h2 ▸ hi.2)
    have := Finset.card_le_card hsub
    rw [Fin.card_Iio] at this
    omega

end Cert.Lanes

end

end
-- ==== Proof.KerRun.lean ====
module

public import proofs.«01_k».proof.Proof.IdealCert
public import Idealize.ShloMosaic.Lib.Pipeline.Value
public import Idealize.ShloMosaic.Lib.StableHlo.Run
public import Idealize.ShloMosaic.Lib.Pipeline.ValueKit
public import Idealize.ShloMosaic.Adequacy

/-! The kernel's run: what each of its four results holds at the end, as a function of the state after the last point,
and the blocks its windows read, as parts of the arguments. -/

open Idealize Idealize.ShloMosaic
open Cert.KernelIdeal Cert.KernelIdeal.Gen

@[expose] public section

set_option maxRecDepth 65536

noncomputable section

namespace Cert.Ideal

variable {F : FTy → Type} [FloatOps F]

variable (m : (ℓ : Loc nD τ sig) → Buf (Elt F) ℓ)

theorem V_v0 (c : Dev nD) : V m c main_v0 = shapeCast S32x7168 (m ((c.tc : Thread nD τ).loc main_arg0)) shapeCasts_S32x1x7168_S32x7168 := by
  unfold V V0
  simp only [List.flatten_cons, List.flatten_nil, List.append_nil, hostOps0, List.cons_append, List.nil_append]
  after_results_simp
  rfl

theorem V_v1 (c : Dev nD) : V m c main_v1 = shapeCast S32x1 (m ((c.tc : Thread nD τ).loc main_arg5)) shapeCasts_S32_S32x1 := by
  unfold V V0
  simp only [List.flatten_cons, List.flatten_nil, List.append_nil, hostOps0, List.cons_append, List.nil_append]
  after_results_simp
  rfl

theorem V_v2 (c : Dev nD) : V m c main_v2 = shapeCast S1x32256 (m ((c.tc : Thread nD τ).loc main_arg2)) shapeCasts_S32256_S1x32256 := by
  unfold V V0
  simp only [List.flatten_cons, List.flatten_nil, List.append_nil, hostOps0, List.cons_append, List.nil_append]
  after_results_simp
  rfl

theorem V_v3 (c : Dev nD) : V m c main_v3 = shapeCast S1x32256 (m ((c.tc : Thread nD τ).loc main_arg3)) shapeCasts_S32256_S1x32256 := by
  unfold V V0
  simp only [List.flatten_cons, List.flatten_nil, List.append_nil, hostOps0, List.cons_append, List.nil_append]
  after_results_simp
  rfl

theorem idx_0 : ∀ (t : Fin grid0.N) (a : Fin 2), win0_0.index t a = 0 := by decide +kernel

theorem iblk_0 (c : Dev nD) (t : Fin cfg0.N) : iblk m c 0 t = V m c main_v0 := by
  funext j
  show V m c main_v0 (((cfg0.win 0).rect t).emb j) = V m c main_v0 j
  congr 1
  funext a
  apply Fin.ext
  exact Pipeline.Window.rect_emb_val_of_index_zero _ _ _ (idx_0 t a) j

theorem idx_1 : ∀ (t : Fin grid0.N) (a : Fin 2), win0_1.index t a = 0 := by decide +kernel

theorem iblk_1 (c : Dev nD) (t : Fin cfg0.N) : iblk m c 1 t = V m c main_arg4 := by
  funext j
  show V m c main_arg4 (((cfg0.win 1).rect t).emb j) = V m c main_arg4 j
  congr 1
  funext a
  apply Fin.ext
  exact Pipeline.Window.rect_emb_val_of_index_zero _ _ _ (idx_1 t a) j

theorem idx_2 : ∀ (t : Fin grid0.N) (a : Fin 2), win0_2.index t a = 0 := by decide +kernel

theorem iblk_2 (c : Dev nD) (t : Fin cfg0.N) : iblk m c 2 t = V m c main_v1 := by
  funext j
  show V m c main_v1 (((cfg0.win 2).rect t).emb j) = V m c main_v1 j
  congr 1
  funext a
  apply Fin.ext
  exact Pipeline.Window.rect_emb_val_of_index_zero _ _ _ (idx_2 t a) j

theorem idx_3 : ∀ t : Fin grid0.N, win0_3.index t 0 = t.val ∧ win0_3.index t 1 = 0 := by decide +kernel

theorem iblk_3 (c : Dev nD) (t : Fin cfg0.N) (j : S512x7168.Idx) (i : S32256x7168.Idx)
    (h : (i 0).val = 512 * t.val + (j 0).val) (h' : (i 1).val = (j 1).val) : iblk m c 3 t j = V m c main_arg1 i := by
  show V m c main_arg1 (((cfg0.win 3).rect t).emb j) = V m c main_arg1 i
  congr 1
  funext a
  apply Fin.ext
  refine (Pipeline.Window.rect_emb_val win0_3 t j a).trans ?_
  match a with
  | ⟨0, _⟩ => show win0_3.index t 0 * 512 + (j 0).val = (i 0).val; rw [(idx_3 t).1, h]; omega
  | ⟨1, _⟩ => show win0_3.index t 1 * win0_3.size 1 + (j 1).val = (i 1).val; rw [(idx_3 t).2, h']; omega

theorem idx_4 : ∀ t : Fin grid0.N, win0_4.index t 1 = t.val ∧ win0_4.index t 0 = 0 := by decide +kernel

theorem iblk_4 (c : Dev nD) (t : Fin cfg0.N) (j : S1x512.Idx) (i : S1x32256.Idx)
    (h : (i 1).val = 512 * t.val + (j 1).val) (h' : (i 0).val = (j 0).val) : iblk m c 4 t j = V m c main_v2 i := by
  show V m c main_v2 (((cfg0.win 4).rect t).emb j) = V m c main_v2 i
  congr 1
  funext a
  apply Fin.ext
  refine (Pipeline.Window.rect_emb_val win0_4 t j a).trans ?_
  match a with
  | ⟨0, _⟩ => show win0_4.index t 0 * win0_4.size 0 + (j 0).val = (i 0).val; rw [(idx_4 t).2, h']; omega
  | ⟨1, _⟩ => show win0_4.index t 1 * 512 + (j 1).val = (i 1).val; rw [(idx_4 t).1, h]; omega

theorem idx_5 : ∀ t : Fin grid0.N, win0_5.index t 1 = t.val ∧ win0_5.index t 0 = 0 := by decide +kernel

theorem iblk_5 (c : Dev nD) (t : Fin cfg0.N) (j : S1x512.Idx) (i : S1x32256.Idx)
    (h : (i 1).val = 512 * t.val + (j 1).val) (h' : (i 0).val = (j 0).val) : iblk m c 5 t j = V m c main_v3 i := by
  show V m c main_v3 (((cfg0.win 5).rect t).emb j) = V m c main_v3 i
  congr 1
  funext a
  apply Fin.ext
  refine (Pipeline.Window.rect_emb_val win0_5 t j a).trans ?_
  match a with
  | ⟨0, _⟩ => show win0_5.index t 0 * win0_5.size 0 + (j 0).val = (i 0).val; rw [(idx_5 t).2, h']; omega
  | ⟨1, _⟩ => show win0_5.index t 1 * 512 + (j 1).val = (i 1).val; rw [(idx_5 t).1, h]; omega

theorem whole6 : (cfg0.win 6).WholeAt ⟨61 + 1, lt62⟩ := by decide +kernel

theorem arr6 (c : Dev nD) : (dats m 0 c).arrAt 6 cfg0.N = (topAt m c).1 := by
  funext i
  refine ((dats m 0 c).arrAt_emb_eq_after_last 6 ⟨61 + 1, lt62⟩ whole6 i).trans ?_
  rw [after_6]
  generalize (topAt m c).1 = R
  exact (cast_eq _ _).trans rfl

theorem whole7 : (cfg0.win 7).WholeAt ⟨61 + 1, lt62⟩ := by decide +kernel

theorem arr7 (c : Dev nD) : (dats m 0 c).arrAt 7 cfg0.N = (topAt m c).2 := by
  funext i
  refine ((dats m 0 c).arrAt_emb_eq_after_last 7 ⟨61 + 1, lt62⟩ whole7 i).trans ?_
  rw [after_7]
  generalize (topAt m c).2 = R
  exact (cast_eq _ _).trans rfl

theorem whole8 : (cfg0.win 8).WholeAt ⟨61 + 1, lt62⟩ := by decide +kernel

theorem arr8 (c : Dev nD) : (dats m 0 c).arrAt 8 cfg0.N = (stateAt m c (61 + 1) lt62).1 := by
  funext i
  refine ((dats m 0 c).arrAt_emb_eq_after_last 8 ⟨61 + 1, lt62⟩ whole8 i).trans ?_
  rw [after_8]
  generalize (stateAt m c (61 + 1) lt62).1 = R
  exact (cast_eq _ _).trans rfl

theorem whole9 : (cfg0.win 9).WholeAt ⟨61 + 1, lt62⟩ := by decide +kernel

theorem arr9 (c : Dev nD) : (dats m 0 c).arrAt 9 cfg0.N = (stateAt m c (61 + 1) lt62).2.1 := by
  funext i
  refine ((dats m 0 c).arrAt_emb_eq_after_last 9 ⟨61 + 1, lt62⟩ whole9 i).trans ?_
  rw [after_9]
  generalize (stateAt m c (61 + 1) lt62).2.1 = R
  exact (cast_eq _ _).trans rfl

theorem w_v4_0 (c : Dev nD) : Pipeline.withArrays (cfgs 0).spec c (V0 m c) (fun w => (dats m 0 c).arrAt w (cfgs 0).N) (Proc.tc.devRef main_v4_0) = (dats m 0 c).arrAt 6 cfg0.N :=
  Pipeline.withArrays_arr (cfgs 0).spec (by decide) c (V0 m c) (fun w => (dats m 0 c).arrAt w (cfgs 0).N) 6

theorem w_v4_1 (c : Dev nD) : Pipeline.withArrays (cfgs 0).spec c (V0 m c) (fun w => (dats m 0 c).arrAt w (cfgs 0).N) (Proc.tc.devRef main_v4_1) = (dats m 0 c).arrAt 7 cfg0.N :=
  Pipeline.withArrays_arr (cfgs 0).spec (by decide) c (V0 m c) (fun w => (dats m 0 c).arrAt w (cfgs 0).N) 7

theorem w_v4_2 (c : Dev nD) : Pipeline.withArrays (cfgs 0).spec c (V0 m c) (fun w => (dats m 0 c).arrAt w (cfgs 0).N) (Proc.tc.devRef main_v4_2) = (dats m 0 c).arrAt 8 cfg0.N :=
  Pipeline.withArrays_arr (cfgs 0).spec (by decide) c (V0 m c) (fun w => (dats m 0 c).arrAt w (cfgs 0).N) 8

theorem w_v4_3 (c : Dev nD) : Pipeline.withArrays (cfgs 0).spec c (V0 m c) (fun w => (dats m 0 c).arrAt w (cfgs 0).N) (Proc.tc.devRef main_v4_3) = (dats m 0 c).arrAt 9 cfg0.N :=
  Pipeline.withArrays_arr (cfgs 0).spec (by decide) c (V0 m c) (fun w => (dats m 0 c).arrAt w (cfgs 0).N) 9

abbrev tail (c : Dev nD) := Pipeline.afterTail₀ cfgs (dats m) 0 (V0 m) [hostOps1] c

theorem after_v5 (W : Valuation τ sig (Elt F)) : StableHlo.after ([hostOps1] : List (List (HloOp τ sig (Elt F)))).flatten W (Proc.tc.devRef main_v5) = shapeCast S32x1x8 (W (Proc.tc.devRef main_v4_0)) shapeCasts_S32x8_S32x1x8 := by
  simp only [List.flatten_cons, List.flatten_nil, List.append_nil, hostOps1, List.cons_append, List.nil_append]
  after_results_simp
  rfl

theorem tail_v5 (c : Dev nD) : tail m c main_v5 = shapeCast S32x1x8 (topAt m c).1 shapeCasts_S32x8_S32x1x8 := by
  unfold tail Pipeline.afterTail₀
  rw [after_v5, w_v4_0, arr6]

theorem after_v6 (W : Valuation τ sig (Elt F)) : StableHlo.after ([hostOps1] : List (List (HloOp τ sig (Elt F)))).flatten W (Proc.tc.devRef main_v6) = shapeCast S32x1x8 (W (Proc.tc.devRef main_v4_1)) shapeCasts_S32x8_S32x1x8 := by
  simp only [List.flatten_cons, List.flatten_nil, List.append_nil, hostOps1, List.cons_append, List.nil_append]
  after_results_simp
  rfl

theorem tail_v6 (c : Dev nD) : tail m c main_v6 = shapeCast S32x1x8 (topAt m c).2 shapeCasts_S32x8_S32x1x8 := by
  unfold tail Pipeline.afterTail₀
  rw [after_v6, w_v4_1, arr7]

theorem after_v7 (W : Valuation τ sig (Elt F)) : StableHlo.after ([hostOps1] : List (List (HloOp τ sig (Elt F)))).flatten W (Proc.tc.devRef main_v7) = shapeCast S32x1x7168 (W (Proc.tc.devRef main_v4_2)) shapeCasts_S32x7168_S32x1x7168 := by
  simp only [List.flatten_cons, List.flatten_nil, List.append_nil, hostOps1, List.cons_append, List.nil_append]
  after_results_simp
  rfl

theorem tail_v7 (c : Dev nD) : tail m c main_v7 = shapeCast S32x1x7168 (stateAt m c (61 + 1) lt62).1 shapeCasts_S32x7168_S32x1x7168 := by
  unfold tail Pipeline.afterTail₀
  rw [after_v7, w_v4_2, arr8]

theorem after_v8 (W : Valuation τ sig (Elt F)) : StableHlo.after ([hostOps1] : List (List (HloOp τ sig (Elt F)))).flatten W (Proc.tc.devRef main_v8) = shapeCast S32x1x1 (W (Proc.tc.devRef main_v4_3)) shapeCasts_S32x1_S32x1x1 := by
  simp only [List.flatten_cons, List.flatten_nil, List.append_nil, hostOps1, List.cons_append, List.nil_append]
  after_results_simp
  rfl

theorem tail_v8 (c : Dev nD) : tail m c main_v8 = shapeCast S32x1x1 (stateAt m c (61 + 1) lt62).2.1 shapeCasts_S32x1_S32x1x1 := by
  unfold tail Pipeline.afterTail₀
  rw [after_v8, w_v4_3, arr9]

variable (ρ : Dev nD → PrngReg)

/-- The kernel's run: its four results and its unchanged arguments. -/
theorem run : θ_run defs (onTc (τ := τ) (main (F := F))) ⟨m, fun _ => 0, ρ⟩ (fun r => ∀ c : Dev nD,
      r.2.mem ((c.tc : Thread nD τ).loc main_v5) = shapeCast S32x1x8 (topAt m c).1 shapeCasts_S32x8_S32x1x8
      ∧ r.2.mem ((c.tc : Thread nD τ).loc main_v6) = shapeCast S32x1x8 (topAt m c).2 shapeCasts_S32x8_S32x1x8
      ∧ r.2.mem ((c.tc : Thread nD τ).loc main_v7) = shapeCast S32x1x7168 (stateAt m c (61 + 1) lt62).1 shapeCasts_S32x7168_S32x1x7168
      ∧ r.2.mem ((c.tc : Thread nD τ).loc main_v8) = shapeCast S32x1x1 (stateAt m c (61 + 1) lt62).2.1 shapeCasts_S32x1_S32x1x1
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))) :=
  (θ_run defs _ _).mono (fun _ h c => ⟨((h.1 c).2 main_v5 (Pipeline.mem_restRefs_of main_v5 (by decide) (by decide))).trans (tail_v5 m c),
      ((h.1 c).2 main_v6 (Pipeline.mem_restRefs_of main_v6 (by decide) (by decide))).trans (tail_v6 m c),
      ((h.1 c).2 main_v7 (Pipeline.mem_restRefs_of main_v7 (by decide) (by decide))).trans (tail_v7 m c),
      ((h.1 c).2 main_v8 (Pipeline.mem_restRefs_of main_v8 (by decide) (by decide))).trans (tail_v8 m c), h.2 c⟩)
    (θ_run_and (run_main m ρ) (frame_of m ρ (dats m) (A_eq m) (run_main m ρ)))

end Cert.Ideal

end

end
-- ==== Proof.Scale.lean ====
module

public import proofs.«01_k».proof.Proof.RefTerms
public import Idealize.ShloMosaic.Lib.IdealHost
public import Idealize.ShloMosaic.Lib.WordSum
public import Mathlib.Analysis.SpecialFunctions.Log.Basic

/-! The row's exponent. The kernel counts the powers of two that do not exceed the scaled row maximum `m`; the reference takes
the integral part of the logarithm of `m`. For a real `m` from zero to below `2 ^ 126` they are one number. -/

open Idealize Idealize.ShloMosaic

@[expose] public section

set_option maxRecDepth 65536

noncomputable section

namespace Cert.Scale

/-- The word whose exponent field is `n` and whose other bits are clear. -/
def expW (n : ℕ) : BitVec 32 := BitVec.ofNat 32 n <<< 23

theorem expW_toNat {n : ℕ} (h : n < 256) : (expW n).toNat = n * 2 ^ 23 := by
  unfold expW
  rw [BitVec.toNat_shiftLeft, BitVec.toNat_ofNat, Nat.shiftLeft_eq]
  rw [Nat.mod_eq_of_lt (show n < 2 ^ 32 by omega), Nat.mod_eq_of_lt (by norm_num; omega)]

/-- What a word denotes whose sign and fraction are clear. -/
theorem ieee_of {n : ℕ} (b : BitVec 32) (e1 : (BitVec.extractLsb' 31 1 b == 1#1) = false) (e2 : (BitVec.extractLsb' 23 8 b).toNat = n)
    (e3 : (BitVec.extractLsb' 0 23 b).toNat = 0) (h : n < 256) : Ideal.ofBits .f32 b
    = if n = 255 then ⊤ else if n = 0 then 0 else (((2 : ℝ) ^ ((n : ℤ) - 127) : ℝ) : EReal) := by
  simp only [Ideal.ofBits, Ideal.ieee, Nat.reduceAdd, e1, e2, e3]
  by_cases h1 : n = 255
  · subst h1; simp
  · by_cases h2 : n = 0
    · subst h2; simp
    · simp [h1, h2, -EReal.coe_mul]
      rw [show ((n : ℤ) - 127) = ((n : ℤ) - 127 - 23) + 23 by ring, zpow_add₀ (by norm_num)]
      norm_num
      ring

/-- What the word with exponent field `n` denotes: zero at 0, infinity at 255, else a power of two. -/
theorem ofBits_expW {n : ℕ} (h : n < 256) : Ideal.ofBits .f32 (expW n)
    = if n = 255 then ⊤ else if n = 0 then 0 else (((2 : ℝ) ^ ((n : ℤ) - 127) : ℝ) : EReal) := by
  have e1 : (BitVec.extractLsb' 31 1 (expW n) == 1#1) = false := by
    rw [beq_eq_false_iff_ne]
    intro e
    have := congrArg BitVec.toNat e
    rw [BitVec.extractLsb'_toNat, expW_toNat h, Nat.shiftRight_eq_div_pow] at this
    simp at this
    omega
  have e2 : (BitVec.extractLsb' 23 8 (expW n)).toNat = n := by
    rw [BitVec.extractLsb'_toNat, expW_toNat h, Nat.shiftRight_eq_div_pow]
    omega
  have e3 : (BitVec.extractLsb' 0 23 (expW n)).toNat = 0 := by
    rw [BitVec.extractLsb'_toNat, expW_toNat h, Nat.shiftRight_eq_div_pow]
    omega
  exact ieee_of _ e1 e2 e3 h

/-- The integral part of the binary logarithm. -/
def lg (r : ℝ) : ℤ := if h : 0 < r then (exists_mem_Ico_zpow (y := (2 : ℝ)) h (by norm_num)).choose else 0

theorem lg_spec {r : ℝ} (h : 0 < r) : (2 : ℝ) ^ lg r ≤ r ∧ r < 2 ^ (lg r + 1) := by
  unfold lg
  rw [dif_pos h]
  exact (exists_mem_Ico_zpow (y := (2 : ℝ)) h (by norm_num)).choose_spec

theorem lt_zpow_iff {r : ℝ} (h : 0 < r) (k : ℤ) : r < 2 ^ k ↔ lg r < k := by
  obtain ⟨a, b⟩ := lg_spec h
  constructor
  · intro hk
    exact (zpow_lt_zpow_iff_right₀ (by norm_num : (1 : ℝ) < 2)).mp (a.trans_lt hk)
  · intro hk
    exact b.trans_le (zpow_le_zpow_right₀ (by norm_num) (by omega))

/-- The exponent of a real `r`. -/
def exq (r : ℝ) : ℤ := if r < 2 ^ (-126 : ℤ) then 0 else lg r + 1

theorem log_mem {r : ℝ} (h0 : ¬ r < 2 ^ (-126 : ℤ)) (h1 : r < 2 ^ (126 : ℤ)) : -126 ≤ lg r ∧ lg r < 126 := by
  have hp : 0 < r := lt_of_lt_of_le (by positivity) (not_lt.mp h0)
  constructor
  · exact not_lt.mp (mt (lt_zpow_iff hp _).mpr h0)
  · exact (lt_zpow_iff hp _).mp h1

/-- The reference's exponent. -/
theorem ref_exp {r : ℝ} (h0 : 0 ≤ r) (h1 : r < 2 ^ (126 : ℤ)) :
    (if (r : EReal) < ((2 ^ (-126 : ℤ) : ℝ) : EReal) then (0 : EReal)
      else Ideal.liftRound Int.floor (Ideal.div (Ideal.log (r : EReal)) (Ideal.log ((2 : ℝ) : EReal))) + 1) = ((exq r : ℝ) : EReal) := by
  unfold exq
  by_cases h : r < 2 ^ (-126 : ℤ)
  · rw [if_pos (EReal.coe_lt_coe_iff.mpr h), if_pos h]; simp
  · rw [if_neg (mt EReal.coe_lt_coe_iff.mp h), if_neg h]
    have hp : 0 < r := lt_of_lt_of_le (by positivity) (not_lt.mp h)
    have l1 : Ideal.log (r : EReal) = (Real.log r : EReal) := by
      show (if r ≤ 0 then (⊥ : EReal) else (Real.log r : EReal)) = _
      rw [if_neg (not_le.mpr hp)]
    have l2 : Ideal.log ((2 : ℝ) : EReal) = (Real.log 2 : EReal) := by
      show (if (2 : ℝ) ≤ 0 then (⊥ : EReal) else (Real.log 2 : EReal)) = _
      rw [if_neg (by norm_num)]
    have hl : Real.log 2 ≠ 0 := (Real.log_pos (by norm_num)).ne'
    rw [l1, l2, Ideal.div, if_neg (by exact_mod_cast hl), ← EReal.coe_inv, ← EReal.coe_mul]
    show ((⌊Real.log r * (Real.log 2)⁻¹⌋ : ℝ) : EReal) + 1 = _
    have : ⌊Real.log r * (Real.log 2)⁻¹⌋ = lg r := by
      have hl0 : 0 < Real.log 2 := Real.log_pos (by norm_num)
      rw [← div_eq_mul_inv, Int.floor_eq_iff, le_div_iff₀ hl0, div_lt_iff₀ hl0]
      obtain ⟨a1, a2⟩ := lg_spec hp
      have b1 := Real.log_le_log (by positivity) a1
      have b2 := Real.log_lt_log hp a2
      rw [Real.log_zpow] at b1 b2
      exact ⟨b1, by push_cast at b2; exact b2⟩
    rw [this]
    push_cast
    rfl

theorem exq_bounds {r : ℝ} (h1 : r < 2 ^ (126 : ℤ)) : -125 ≤ exq r ∧ exq r ≤ 126 := by
  unfold exq
  split
  · omega
  · next h => have := log_mem h h1; omega

/-- How many powers of two do not exceed `r`. -/
theorem count {r : ℝ} (h0 : 0 ≤ r) (h1 : r < 2 ^ (126 : ℤ)) :
    (∑ k : Fin 256, if (r : EReal) < Ideal.ofBits .f32 (expW k.val) then 0 else 1)
      = if r < 2 ^ (-126 : ℤ) then 1 else (lg r + 128).toNat := by
  have hk : ∀ k : Fin 256, ((r : EReal) < Ideal.ofBits .f32 (expW k.val))
      ↔ ¬ (k.val < if r < 2 ^ (-126 : ℤ) then 1 else (lg r + 128).toNat) := by
    intro k
    rw [ofBits_expW k.isLt]
    have hk := k.isLt
    by_cases hs : r < 2 ^ (-126 : ℤ)
    · rw [if_pos hs]
      split
      · next e => exact ⟨fun _ => by omega, fun _ => EReal.coe_lt_top r⟩
      · split
        · next e => exact ⟨fun h => absurd (EReal.coe_lt_coe_iff.mp (by simpa using h)) (not_lt.mpr h0), fun h => by omega⟩
        · next e =>
          refine ⟨fun _ => by omega, fun _ => EReal.coe_lt_coe_iff.mpr (hs.trans_le (zpow_le_zpow_right₀ (by norm_num) (by omega)))⟩
    · rw [if_neg hs]
      have hb := log_mem hs h1
      have hp : 0 < r := lt_of_lt_of_le (by positivity) (not_lt.mp hs)
      split
      · next e => exact ⟨fun _ => by omega, fun _ => EReal.coe_lt_top r⟩
      · split
        · next e => exact ⟨fun h => absurd (EReal.coe_lt_coe_iff.mp (by simpa using h)) (not_lt.mpr h0), fun h => by omega⟩
        · next e =>
          rw [EReal.coe_lt_coe_iff]
          rw [lt_zpow_iff hp]; omega
  have hle : (if r < 2 ^ (-126 : ℤ) then 1 else (lg r + 128).toNat) ≤ 256 := by
    split
    · omega
    · next h => have := log_mem h h1; omega
  generalize (if r < 2 ^ (-126 : ℤ) then 1 else (lg r + 128).toNat) = N at hk hle
  rw [Finset.sum_congr rfl fun k _ => show _ = if k.val < N then 1 else 0 by
    by_cases e : k.val < N
    · rw [if_pos e, if_neg (mt (hk k).mp (not_not.mpr e))]
    · rw [if_neg e, if_pos ((hk k).mpr e)]]
  rw [Finset.sum_boole, Nat.cast_id, Fin.card_filter_val_lt]
  omega

/-- The exponent as a word, from the count. -/
theorem word {r : ℝ} (h1 : r < 2 ^ (126 : ℤ)) (C : BitVec 32)
    (hC : C.toNat = if r < 2 ^ (-126 : ℤ) then 1 else (lg r + 128).toNat) :
    (if C - 1#32 = 0#32 then 0#32 else C - 1#32 - 126#32) = BitVec.ofInt 32 (exq r) := by
  unfold exq
  split at hC
  · next h =>
    have : C = 1#32 := BitVec.eq_of_toNat_eq hC
    rw [this, if_pos h]; rfl
  · next h =>
    have hb := log_mem h h1
    rw [if_neg h]
    have hC' : C = BitVec.ofNat 32 (lg r + 128).toNat := by
      apply BitVec.eq_of_toNat_eq
      rw [hC, BitVec.toNat_ofNat, Nat.mod_eq_of_lt (by omega)]
    rw [hC']
    generalize lg r = q at hb
    obtain ⟨n, rfl⟩ : ∃ n : ℕ, q = (n : ℤ) - 126 := ⟨(q + 126).toNat, by omega⟩
    have hn : n < 252 := by omega
    have e1 : ((n : ℤ) - 126 + 128).toNat = n + 2 := by omega
    rw [e1]
    clear hC hC' e1 h hb
    interval_cases n <;> decide

/-- The scale's word. -/
theorem scale_word {e : ℤ} (h : -125 ≤ e ∧ e ≤ 126) : (BitVec.ofInt 32 e + 127#32) <<< 23 = expW (e + 127).toNat := by
  unfold expW
  congr 1
  obtain ⟨n, rfl⟩ : ∃ n : ℕ, e = (n : ℤ) - 125 := ⟨(e + 125).toNat, by omega⟩
  rw [show ((n : ℤ) - 125 + 127).toNat = n + 2 by omega]
  have hn : n < 252 := by omega
  clear h
  interval_cases n <;> decide

/-- The inverse's word. -/
theorem inv_word {e : ℤ} (h : -125 ≤ e ∧ e ≤ 126) : (127#32 - BitVec.ofInt 32 e) <<< 23 = expW (127 - e).toNat := by
  unfold expW
  congr 1
  obtain ⟨n, rfl⟩ : ∃ n : ℕ, e = 126 - (n : ℤ) := ⟨(126 - e).toNat, by omega⟩
  rw [show (127 - (126 - (n : ℤ))).toNat = n + 1 by omega]
  have hn : n < 252 := by omega
  clear h
  interval_cases n <;> decide

/-- The reference's power of two. -/
theorem pow_two (e : ℤ) : Ideal.pow ((2 : ℝ) : EReal) (((e : ℤ) : ℝ) : EReal) = (((2 : ℝ) ^ e : ℝ) : EReal) := by
  show ((Real.rpow 2 (e : ℝ) : ℝ) : EReal) = _
  congr 1
  exact Real.rpow_intCast 2 e

theorem scale_eq {e : ℤ} (h : -125 ≤ e ∧ e ≤ 126) : Ideal.ofBits .f32 ((BitVec.ofInt 32 e + 127#32) <<< 23) = (((2 : ℝ) ^ e : ℝ) : EReal) := by
  rw [scale_word h, ofBits_expW (by omega), if_neg (by omega), if_neg (by omega)]
  congr 2; omega

theorem inv_eq {e : ℤ} (h : -125 ≤ e ∧ e ≤ 126) : Ideal.ofBits .f32 ((127#32 - BitVec.ofInt 32 e) <<< 23) = (((2 : ℝ) ^ (-e) : ℝ) : EReal) := by
  rw [inv_word h, ofBits_expW (by omega), if_neg (by omega), if_neg (by omega)]
  congr 2; omega

/-! The constants. -/

theorem two_eq : Ideal.ofBits .f32 0x40000000#32 = ((2 : ℝ) : EReal) := by
  simp [Ideal.ofBits, Ideal.ieee, -EReal.coe_mul]; norm_num

theorem tiny_eq : Ideal.ofBits .f32 0x00800000#32 = ((2 ^ (-126 : ℤ) : ℝ) : EReal) := by
  have := ofBits_expW (n := 1) (by norm_num)
  rw [show expW 1 = 0x00800000#32 from by decide] at this
  rw [this, if_neg (by norm_num), if_neg (by norm_num)]; rfl

theorem ninf_eq : Ideal.ofBits .f32 0xFF800000#32 = (⊥ : EReal) := by
  simp [Ideal.ofBits, Ideal.ieee]

theorem third_eq : ∃ k : ℝ, Ideal.ofBits .f32 0x3B124925#32 = (k : EReal) ∧ 0 ≤ k ∧ k < 2 ^ (-8 : ℤ) := by
  refine ⟨(9586981 : ℝ) * 2 ^ (-32 : ℤ), ?_, by positivity, by norm_num⟩
  simp [Ideal.ofBits, Ideal.ieee, -EReal.coe_mul]

theorem big_eq : ∃ k : ℝ, Ideal.ofBits .f32 0x7F7F0000#32 = (k : EReal) ∧ 0 ≤ k ∧ k < 2 ^ (128 : ℤ) := by
  refine ⟨(8323072 + 8388608 : ℝ) * 2 ^ (104 : ℤ), ?_, by positivity, by norm_num⟩
  simp [Ideal.ofBits, Ideal.ieee, -EReal.coe_mul]; norm_num

end Cert.Scale

end

end
-- ==== Proof.Lists.lean ====
module

public import proofs.«01_k».proof.Proof.State
public import proofs.«01_k».proof.Proof.Seen
public import proofs.«01_k».proof.Proof.Prod
public import proofs.«01_k».proof.Proof.Top8
public import proofs.«01_k».proof.Proof.KerRun
public import proofs.«01_k».proof.Proof.Scale

/-! The lanes over the whole grid: after each point a lane holds the eight greatest of its logits so far. -/

open Idealize Idealize.ShloMosaic
open Cert.KernelIdeal Cert.KernelIdeal.Gen
open Cert.Lanes

@[expose] public section

set_option maxRecDepth 65536

noncomputable section

namespace Cert.Ideal

open Classical in
/-- One token's penalised logit in row `b`. -/
def logit (X9 : Vec Ideal S32x7168 .fp8e4m3) (X10 : Vec Ideal S32x1 .f32) (w : Vec Ideal S32256x7168 .fp8e4m3) (ws bi : Vec Ideal S32256 .f32) (h : Vec Ideal S32x64 .i32)
    (p : Vec Ideal S32 .f32) (b : Fin 32) (v : Fin 32256) : EReal :=
  penS (((∑ k : Fin 7168, X9 (ValueIdx.ix2 b k) * w (ValueIdx.ix2 v k)) * X10 (ValueIdx.ix2 b (0 : Fin 1))) * ws (ValueIdx.ix1 v) + bi (ValueIdx.ix1 v)) (p (ValueIdx.ix1 b))
    (∃ k, (h (ValueIdx.ix2 b k)).toNat = v.val)

theorem penS_congr {l l' p p' : EReal} {s s' : Prop} [Decidable s] [Decidable s'] (hl : l = l') (hp : p = p') (hs : s ↔ s') : penS l p s = penS l' p' s' := by
  subst hl hp
  unfold penS
  by_cases h : s
  · rw [if_pos h, if_pos (hs.mp h)]
  · rw [if_neg h, if_neg (fun e => h (hs.mpr e))]

theorem coords_val (t : Fin cfg0.N) : (grid0.coords t 0).val = t.val := by
  have key : ∀ t : Fin grid0.N, (grid0.coords t 0).val = t.val := by decide +kernel
  exact key t

/-- The table of seen tokens of a history. -/
def table (h : Vec Ideal S32x64 .i32) : Vec Ideal S8x32x128 .i32 :=
  fun y => seenW (BitVec.ofNat 32 (y 0).val) (BitVec.ofNat 32 (y 2).val) (fun k => h (ValueIdx.ix2 (y 1) k)) 64 (Nat.le_refl _)

variable (m : (ℓ : Loc nD τ sig) → Buf (Elt Ideal) ℓ) (c : Dev nD)

/-- The kernel's arguments. -/
abbrev ax : Vec Ideal S32x1x7168 .bf16 := m ((c.tc : Thread nD τ).loc main_arg0)
abbrev aw : Vec Ideal S32256x7168 .fp8e4m3 := m ((c.tc : Thread nD τ).loc main_arg1)
abbrev aws : Vec Ideal S32256 .f32 := m ((c.tc : Thread nD τ).loc main_arg2)
abbrev ab : Vec Ideal S32256 .f32 := m ((c.tc : Thread nD τ).loc main_arg3)
abbrev ah : Vec Ideal S32x64 .i32 := m ((c.tc : Thread nD τ).loc main_arg4)
abbrev ap : Vec Ideal S32 .f32 := m ((c.tc : Thread nD τ).loc main_arg5)

/-- The codes, the scale and the table the first region leaves. -/
def c9 : Vec Ideal S32x7168 .fp8e4m3 := k0_pay10 (Scalar.ofBits .f32 0x43E00000#32) (k0_pay9 (shapeCast S32x7168 (ax m c) shapeCasts_S32x1x7168_S32x7168))
def c10 : Vec Ideal S32x1 .f32 := k0_pay8 (shapeCast S32x7168 (ax m c) shapeCasts_S32x1x7168_S32x7168)

theorem V_arg1 : V m c main_arg1 = aw m c := by
  unfold V V0
  simp only [List.flatten_cons, List.flatten_nil, List.append_nil, hostOps0, List.cons_append, List.nil_append]
  after_results_simp
theorem V_arg4 : V m c main_arg4 = ah m c := by
  unfold V V0
  simp only [List.flatten_cons, List.flatten_nil, List.append_nil, hostOps0, List.cons_append, List.nil_append]
  after_results_simp

theorem front_at (t : Fin cfg0.N) (h : k0_cond1 (grid0.coords t) = 1#1) : frontAt m c t h
    = (c9 m c, c10 m c, table (ah m c), (fun _ => Scalar.ofBits (F := Ideal) .f32 0xFF800000#32), (fun _ => 0#32)) := by
  unfold frontAt
  rw [front_val, iblk_0, iblk_1, V_v0, V_arg4]
  unfold c9 c10 table
  rfl

theorem lists_1 (s : St Ideal) (p) : (s.lists p).1 = s.1 := rfl
theorem lists_2 (s : St Ideal) (p) : (s.lists p).2.1 = s.2.1 := rfl
theorem lists_3 (s : St Ideal) (p) : (s.lists p).2.2.1 = s.2.2.1 := rfl
theorem lists_4 (s : St Ideal) (p) : (s.lists p).2.2.2.1 = p.1 := rfl
theorem lists_5 (s : St Ideal) (p) : (s.lists p).2.2.2.2 = p.2 := rfl

theorem state_const : ∀ (n : ℕ) (h : n < cfg0.N), (stateAt m c n h).1 = c9 m c ∧ (stateAt m c n h).2.1 = c10 m c ∧ (stateAt m c n h).2.2.1 = table (ah m c)
  | 0, h => by
    have e := front_at m c ⟨0, h⟩ ((cond1_iff _).mpr rfl)
    rw [stateAt_zero]
    exact ⟨(lists_1 _ _).trans (congrArg (fun s : St Ideal => s.1) e), (lists_2 _ _).trans (congrArg (fun s : St Ideal => s.2.1) e), (lists_3 _ _).trans (congrArg (fun s : St Ideal => s.2.2.1) e)⟩
  | n + 1, h => by
    rw [stateAt_succ, lists_1, lists_2, lists_3]; exact state_const n (Nat.lt_of_succ_lt h)

theorem row_cast (v : Vec Ideal S32256 .f32) (j : Fin 32256) : shapeCast S1x32256 v shapeCasts_S32256_S1x32256 (ValueIdx.ix2 (0 : Fin 1) j) = v (ValueIdx.ix1 j) := by
  refine shapeCast_apply v _ _ (ValueIdx.ix1 j) ?_
  rw [Shape.rowMajor_val_one, Shape.rowMajor_val_two]
  show j.val = 0 * 32256 + j.val
  omega

theorem col_cast' (v : Vec Ideal S32 .f32) (b : Fin 32) : shapeCast S32x1 v shapeCasts_S32_S32x1 (ValueIdx.ix2 b (0 : Fin 1)) = v (ValueIdx.ix1 b) := by
  refine shapeCast_apply v _ _ (ValueIdx.ix1 b) ?_
  rw [Shape.rowMajor_val_one, Shape.rowMajor_val_two]
  show b.val = b.val * 1 + 0
  omega

/-- The logits of row `b`, one per token. -/
def lg (b : Fin 32) (n : ℕ) : EReal :=
  if h : n < 32256 then logit (c9 m c) (c10 m c) (aw m c) (aws m c) (ab m c) (ah m c) (ap m c) b ⟨n, h⟩ else ⊥

theorem newS_eq (hh : ∀ y, ((ah m c) y).toNat < 2 ^ 31) (t : Fin cfg0.N) (b : Fin 32) (l : Fin 128) (u : Fin 4) :
    newS (grid0.coords t) (iblk m c 2 t) (c10 m c) (table (ah m c)) (accV (c9 m c) (iblk m c 3 t)) (iblk m c 4 t) (iblk m c 5 t) b l u
      = lg m c b (512 * t.val + 128 * u.val + l.val) := by
  have ht := lt63 t
  have hu := u.isLt
  have hl := l.isLt
  have hlt : 512 * t.val + 128 * u.val + l.val < 32256 := by omega
  unfold lg
  rw [dif_pos hlt]
  unfold newS logit
  refine penS_congr ?_ ?_ ?_
  · have ew : iblk m c 4 t (ValueIdx.ix2 (0 : Fin 1) (colOf u l)) = aws m c (ValueIdx.ix1 ⟨_, hlt⟩) := by
      refine (iblk_4 m c t _ (ValueIdx.ix2 (0 : Fin 1) (⟨_, hlt⟩ : Fin 32256)) ?_ rfl).trans ?_
      · show 512 * t.val + 128 * u.val + l.val = 512 * t.val + (128 * u.val + l.val); omega
      · rw [V_v2]; exact row_cast _ _
    have eb : iblk m c 5 t (ValueIdx.ix2 (0 : Fin 1) (colOf u l)) = ab m c (ValueIdx.ix1 ⟨_, hlt⟩) := by
      refine (iblk_5 m c t _ (ValueIdx.ix2 (0 : Fin 1) (⟨_, hlt⟩ : Fin 32256)) ?_ rfl).trans ?_
      · show 512 * t.val + 128 * u.val + l.val = 512 * t.val + (128 * u.val + l.val); omega
      · rw [V_v3]; exact row_cast _ _
    have ea : accV (c9 m c) (iblk m c 3 t) (ValueIdx.ix2 b (colOf u l)) = ∑ k : Fin 7168, c9 m c (ValueIdx.ix2 b k) * aw m c (ValueIdx.ix2 (⟨_, hlt⟩ : Fin 32256) k) := by
      refine (Cert.Prod.accV_apply _ _ b (colOf u l)).trans (Finset.sum_congr rfl fun k _ => ?_)
      refine congrArg (fun a : EReal => c9 m c (ValueIdx.ix2 b k) * a) ?_
      refine (iblk_3 m c t _ (ValueIdx.ix2 (⟨_, hlt⟩ : Fin 32256) k) ?_ rfl).trans ?_
      · show 512 * t.val + 128 * u.val + l.val = 512 * t.val + (128 * u.val + l.val); omega
      · rw [V_arg1]
    exact congrArg₂ (fun a b : EReal => a + b) (congrArg₂ (fun a b : EReal => a * b) (congrArg (fun a : EReal => a * c10 m c (ValueIdx.ix2 b (0 : Fin 1))) ea) ew) eb
  · rw [iblk_2, V_v1]; exact col_cast' _ _
  · have e := bit_iff (grid0.coords t) (by rw [coords_val]; exact ht) u l (fun k => ah m c (ValueIdx.ix2 b k)) (fun k => hh _)
    rw [coords_val] at e
    rw [coords_val]
    exact e

/-- How many of the lane's first `n` tokens reach `t`. -/
def cntUp (b : Fin 32) (l : ℕ) (n : ℕ) (t : Entry) : ℕ := ∑ u ∈ Finset.range n, if t ≤ ent (lg m c b (128 * u + l)) (128 * u + l) then 1 else 0

theorem Inv_mono {l b b' : ℕ} {cc : Entry → ℕ} {v : ℕ → EReal} {k : ℕ → BitVec 32} (h : Inv l b cc v k) (hb : b ≤ b') : Inv l b' cc v k where
  cnt := h.cnt
  bot := h.bot
  idx j hj hv := ⟨lt_of_lt_of_le (h.idx j hj hv).1 hb, (h.idx j hj hv).2⟩

/-- One point's four insertions. -/
theorem inv_point (hh : ∀ y, ((ah m c) y).toNat < 2 ^ 31) (t : Fin cfg0.N) (b : Fin 32) (l : Fin 128) (v : ℕ → EReal) (k : ℕ → BitVec 32)
    (h : Inv l.val (512 * t.val) (cntUp m c b l.val (4 * t.val)) v k) :
    Inv l.val (512 * (t.val + 1)) (cntUp m c b l.val (4 * (t.val + 1)))
      (ins4 (newS (grid0.coords t) (iblk m c 2 t) (c10 m c) (table (ah m c)) (accV (c9 m c) (iblk m c 3 t)) (iblk m c 4 t) (iblk m c 5 t) b l) v)
      (insK4 (newS (grid0.coords t) (iblk m c 2 t) (c10 m c) (table (ah m c)) (accV (c9 m c) (iblk m c 3 t)) (iblk m c 4 t) (iblk m c 5 t) b l)
        (fun u => tokW (BitVec.ofNat 32 (grid0.coords t 0).val) u l) v k) := by
  have ht := lt63 t
  have hl := l.isLt
  have tk : ∀ u : Fin 4, (tokW (BitVec.ofNat 32 (grid0.coords t 0).val) u l).toNat = 512 * t.val + 128 * u.val + l.val := fun u => by
    rw [coords_val]; exact tokW_toNat t.val ht u l
  have t0 : (tokW (BitVec.ofNat 32 (grid0.coords t 0).val) 0 l).toNat = 512 * t.val + l.val := tk 0
  have t1 : (tokW (BitVec.ofNat 32 (grid0.coords t 0).val) 1 l).toNat = 512 * t.val + 128 + l.val := tk 1
  have t2 : (tokW (BitVec.ofNat 32 (grid0.coords t 0).val) 2 l).toNat = 512 * t.val + 256 + l.val := tk 2
  have t3 : (tokW (BitVec.ofNat 32 (grid0.coords t 0).val) 3 l).toNat = 512 * t.val + 384 + l.val := tk 3
  have s0 := h.step (newS (grid0.coords t) (iblk m c 2 t) (c10 m c) (table (ah m c)) (accV (c9 m c) (iblk m c 3 t)) (iblk m c 4 t) (iblk m c 5 t) b l 0)
    (tokW (BitVec.ofNat 32 (grid0.coords t 0).val) 0 l) (by omega) (by omega)
  have s1 := s0.step (newS (grid0.coords t) (iblk m c 2 t) (c10 m c) (table (ah m c)) (accV (c9 m c) (iblk m c 3 t)) (iblk m c 4 t) (iblk m c 5 t) b l 1)
    (tokW (BitVec.ofNat 32 (grid0.coords t 0).val) 1 l) (by omega) (by omega)
  have s2 := s1.step (newS (grid0.coords t) (iblk m c 2 t) (c10 m c) (table (ah m c)) (accV (c9 m c) (iblk m c 3 t)) (iblk m c 4 t) (iblk m c 5 t) b l 2)
    (tokW (BitVec.ofNat 32 (grid0.coords t 0).val) 2 l) (by omega) (by omega)
  have s3 := s2.step (newS (grid0.coords t) (iblk m c 2 t) (c10 m c) (table (ah m c)) (accV (c9 m c) (iblk m c 3 t)) (iblk m c 4 t) (iblk m c 5 t) b l 3)
    (tokW (BitVec.ofNat 32 (grid0.coords t 0).val) 3 l) (by omega) (by omega)
  have hc : cntUp m c b l.val (4 * (t.val + 1)) = fun q => (((cntUp m c b l.val (4 * t.val) q
      + if q ≤ ent (newS (grid0.coords t) (iblk m c 2 t) (c10 m c) (table (ah m c)) (accV (c9 m c) (iblk m c 3 t)) (iblk m c 4 t) (iblk m c 5 t) b l 0) (tokW (BitVec.ofNat 32 (grid0.coords t 0).val) 0 l).toNat then 1 else 0)
      + if q ≤ ent (newS (grid0.coords t) (iblk m c 2 t) (c10 m c) (table (ah m c)) (accV (c9 m c) (iblk m c 3 t)) (iblk m c 4 t) (iblk m c 5 t) b l 1) (tokW (BitVec.ofNat 32 (grid0.coords t 0).val) 1 l).toNat then 1 else 0)
      + if q ≤ ent (newS (grid0.coords t) (iblk m c 2 t) (c10 m c) (table (ah m c)) (accV (c9 m c) (iblk m c 3 t)) (iblk m c 4 t) (iblk m c 5 t) b l 2) (tokW (BitVec.ofNat 32 (grid0.coords t 0).val) 2 l).toNat then 1 else 0)
      + if q ≤ ent (newS (grid0.coords t) (iblk m c 2 t) (c10 m c) (table (ah m c)) (accV (c9 m c) (iblk m c 3 t)) (iblk m c 4 t) (iblk m c 5 t) b l 3) (tokW (BitVec.ofNat 32 (grid0.coords t 0).val) 3 l).toNat then 1 else 0 := by
    funext q
    rw [tk 0, tk 1, tk 2, tk 3, newS_eq m c hh, newS_eq m c hh, newS_eq m c hh, newS_eq m c hh]
    unfold cntUp
    rw [show 4 * (t.val + 1) = 4 * t.val + 1 + 1 + 1 + 1 by omega, Finset.sum_range_succ, Finset.sum_range_succ, Finset.sum_range_succ, Finset.sum_range_succ]
    have e0 : 128 * (4 * t.val) + l.val = 512 * t.val + 128 * (0 : Fin 4).val + l.val := by show _ = 512 * t.val + 128 * 0 + l.val; omega
    have e1 : 128 * (4 * t.val + 1) + l.val = 512 * t.val + 128 * (1 : Fin 4).val + l.val := by show _ = 512 * t.val + 128 * 1 + l.val; omega
    have e2 : 128 * (4 * t.val + 1 + 1) + l.val = 512 * t.val + 128 * (2 : Fin 4).val + l.val := by show _ = 512 * t.val + 128 * 2 + l.val; omega
    have e3 : 128 * (4 * t.val + 1 + 1 + 1) + l.val = 512 * t.val + 128 * (3 : Fin 4).val + l.val := by show _ = 512 * t.val + 128 * 3 + l.val; omega
    rw [e0, e1, e2, e3]
  rw [hc]
  exact Inv_mono s3 (by omega)

theorem laneOf_lt {α : Type} (f : Fin 32 → Fin 128 → ℕ → α) (b : Fin 32) (l : Fin 128) (j : ℕ) (hj : j < 8) :
    laneOf (fun y : S8x32x128.Idx => f (y 1) (y 2) (y 0).val) b l j = f b l j := by
  show f b l (min j 7) = _
  rw [Nat.min_eq_left (by omega)]

theorem step_at (t : Fin cfg0.N) (s : St Ideal) (h9 : s.1 = c9 m c) (h10 : s.2.1 = c10 m c) (h11 : s.2.2.1 = table (ah m c)) :
    stepAt m c t s = ((fun y => ins4 (newS (grid0.coords t) (iblk m c 2 t) (c10 m c) (table (ah m c)) (accV (c9 m c) (iblk m c 3 t)) (iblk m c 4 t) (iblk m c 5 t) (y 1) (y 2)) (laneOf s.2.2.2.1 (y 1) (y 2)) (y 0).val),
      (fun y => insK4 (newS (grid0.coords t) (iblk m c 2 t) (c10 m c) (table (ah m c)) (accV (c9 m c) (iblk m c 3 t)) (iblk m c 4 t) (iblk m c 5 t) (y 1) (y 2)) (fun u => tokW (BitVec.ofNat 32 (grid0.coords t 0).val) u (y 2))
          (laneOf s.2.2.2.1 (y 1) (y 2)) (laneOf s.2.2.2.2 (y 1) (y 2)) (y 0).val)) := by
  rw [← h9, ← h10, ← h11]
  exact step_val ..

theorem inv_step (hh : ∀ y, ((ah m c) y).toNat < 2 ^ 31) (t : Fin cfg0.N) (s : St Ideal) (h9 : s.1 = c9 m c) (h10 : s.2.1 = c10 m c) (h11 : s.2.2.1 = table (ah m c))
    (b : Fin 32) (l : Fin 128) (h : Inv l.val (512 * t.val) (cntUp m c b l.val (4 * t.val)) (laneOf s.2.2.2.1 b l) (laneOf s.2.2.2.2 b l)) :
    Inv l.val (512 * (t.val + 1)) (cntUp m c b l.val (4 * (t.val + 1))) (laneOf (stepAt m c t s).1 b l) (laneOf (stepAt m c t s).2 b l) := by
  rw [step_at m c t s h9 h10 h11]
  refine (inv_point m c hh t b l _ _ h).congr (fun j hj => ?_) (fun j hj => ?_)
  · exact laneOf_lt (fun b l j => ins4 (newS (grid0.coords t) (iblk m c 2 t) (c10 m c) (table (ah m c)) (accV (c9 m c) (iblk m c 3 t)) (iblk m c 4 t) (iblk m c 5 t) b l) (laneOf s.2.2.2.1 b l) j) b l j hj
  · exact laneOf_lt (fun b l j => insK4 (newS (grid0.coords t) (iblk m c 2 t) (c10 m c) (table (ah m c)) (accV (c9 m c) (iblk m c 3 t)) (iblk m c 4 t) (iblk m c 5 t) b l)
      (fun u => tokW (BitVec.ofNat 32 (grid0.coords t 0).val) u l) (laneOf s.2.2.2.1 b l) (laneOf s.2.2.2.2 b l) j) b l j hj

theorem inv_state (hh : ∀ y, ((ah m c) y).toNat < 2 ^ 31) (b : Fin 32) (l : Fin 128) : ∀ (n : ℕ) (h : n < cfg0.N),
    Inv l.val (512 * (n + 1)) (cntUp m c b l.val (4 * (n + 1))) (laneOf (stateAt m c n h).2.2.2.1 b l) (laneOf (stateAt m c n h).2.2.2.2 b l)
  | 0, h => by
    have e := front_at m c ⟨0, h⟩ ((cond1_iff _).mpr rfl)
    rw [stateAt_zero, lists_4, lists_5]
    refine inv_step m c hh ⟨0, h⟩ (frontAt m c ⟨0, h⟩ ((cond1_iff _).mpr rfl)) (congrArg (fun s : St Ideal => s.1) e) (congrArg (fun s : St Ideal => s.2.1) e)
      (congrArg (fun s : St Ideal => s.2.2.1) e) b l ?_
    rw [e]
    exact Inv.start l.val _ _ (fun _ _ => Cert.Scale.ninf_eq) (fun _ _ => rfl)
  | n + 1, h => by
    rw [stateAt_succ, lists_4, lists_5]
    have hc := state_const m c n (Nat.lt_of_succ_lt h)
    exact inv_step m c hh ⟨n + 1, h⟩ (stateAt m c n (Nat.lt_of_succ_lt h)) hc.1 hc.2.1 hc.2.2 b l (inv_state hh b l n (Nat.lt_of_succ_lt h))

end Cert.Ideal

end

end
-- ==== Proof.Heads.lean ====
module

public import proofs.«01_k».proof.Proof.Lists

/-! The eight rounds of the last region, read at one row: the best of the heads, the smallest index that has it, and what the rounds give. -/

open Idealize Idealize.ShloMosaic
open Cert.KernelIdeal Cert.KernelIdeal.Gen
open Cert.Lanes

@[expose] public section

set_option maxRecDepth 65536

noncomputable section

namespace Cert.Ideal

theorem bcol {α : Type} (v : S32x1.Idx → α) (b : Fin 32) (l : Fin 128) : broadcastTo S32x128 v broadcasts_S32x1_S32x128 (ValueIdx.ix2 b l) = v (ValueIdx.ix2 b (0 : Fin 1)) := by
  refine broadcastTo_apply v _ _ (ValueIdx.ix2 b (0 : Fin 1)) fun d => ?_
  fin_cases d
  · rfl
  · rfl

theorem scol {α : Type} (v : S32.Idx → α) (b : Fin 32) : shapeCast S32x1 v shapeCasts_S32_S32x1 (ValueIdx.ix2 b (0 : Fin 1)) = v (ValueIdx.ix1 b) := by
  refine shapeCast_apply v _ _ (ValueIdx.ix1 b) ?_
  rw [Shape.rowMajor_val_one, Shape.rowMajor_val_two]
  show b.val = b.val * 1 + 0
  omega

theorem lift_eq (b : Fin 32) (l : Fin 128) : reduces_S32x128_S32.lift (ValueIdx.ix1 b) l = ValueIdx.ix2 b l := by
  funext a
  refine Fin.ext ?_
  fin_cases a <;> rfl

/-- The best head of a row. -/
def rowTop (v : FVec Ideal S32x128 .f32) (b : Fin 32) : EReal := topV v (ValueIdx.ix2 b (0 : Fin 1))

theorem rowTop_fold (v : FVec Ideal S32x128 .f32) (b : Fin 32) : rowTop v b = (Finset.univ : Finset (Fin 128)).fold max (⊥ : EReal) (fun l => v (ValueIdx.ix2 b l)) := by
  unfold rowTop topV
  refine (scol _ b).trans ?_
  refine (Ideal.multiReduction_maximumf_single v 0xFF800000#32 reduces_S32x128_S32 (.inl rfl) rfl (ValueIdx.ix1 b)).trans ?_
  have e1 : FloatOps.ofBits (F := Ideal) .f32 0xFF800000#32 = (⊥ : EReal) := Cert.Scale.ninf_eq
  have e2 : v ∘ reduces_S32x128_S32.lift (ValueIdx.ix1 b) = fun l => v (ValueIdx.ix2 b l) := funext fun l => congrArg v (lift_eq b l)
  rw [e1, e2]
  rfl

theorem le_rowTop (v : FVec Ideal S32x128 .f32) (b : Fin 32) (l : Fin 128) : v (ValueIdx.ix2 b l) ≤ rowTop v b := by
  rw [rowTop_fold, Finset.le_fold_max]
  exact .inr ⟨l, Finset.mem_univ _, le_rfl⟩

theorem rowTop_mem (v : FVec Ideal S32x128 .f32) (b : Fin 32) : ∃ l : Fin 128, v (ValueIdx.ix2 b l) = rowTop v b := by
  rcases (Finset.le_fold_max (b := (⊥ : EReal)) (f := fun l : Fin 128 => v (ValueIdx.ix2 b l)) (s := Finset.univ) (rowTop v b)).mp (rowTop_fold v b).le with h | ⟨l, _, h⟩
  · have e : rowTop v b = ⊥ := le_bot_iff.mp h
    refine ⟨0, ?_⟩
    have := le_rowTop v b 0
    rw [e] at this ⊢
    exact le_bot_iff.mp this
  · exact ⟨l, le_antisymm (le_rowTop v b l) h⟩

theorem atV_iff (v : FVec Ideal S32x128 .f32) (b : Fin 32) (l : Fin 128) : atV v (ValueIdx.ix2 b l) = 1#1 ↔ v (ValueIdx.ix2 b l) = rowTop v b := by
  have e : atV v (ValueIdx.ix2 b l) = Ideal.cmp .oeq (v (ValueIdx.ix2 b l)) (broadcastTo S32x128 (topV v) broadcasts_S32x1_S32x128 (ValueIdx.ix2 b l)) := rfl
  rw [e, bcol]
  show BitVec.ofBool (decide (v (ValueIdx.ix2 b l) = rowTop v b)) = 1#1 ↔ _
  by_cases h : v (ValueIdx.ix2 b l) = rowTop v b <;> simp [h]

/-- The smaller of two words below `2 ^ 31`. -/
theorem minsi_nat (x y : BitVec 32) (hx : x.toNat < 2 ^ 31) (hy : y.toNat < 2 ^ 31) : IntOp.minsi x y = if x.toNat < y.toNat then x else y := by
  unfold IntOp.minsi
  have e : x.slt y = decide (x.toNat < y.toNat) := by
    rw [BitVec.slt_eq_decide, BitVec.toInt_eq_toNat_of_lt (by omega), BitVec.toInt_eq_toNat_of_lt (by omega)]
    simp
  rw [e]
  by_cases h : x.toNat < y.toNat <;> simp [h]

/-- The fold of the smaller word is the smallest word. -/
theorem fold_min {ι : Type} [DecidableEq ι] (f : ι → BitVec 32) (hf : ∀ l, (f l).toNat < 2 ^ 31) (s : Finset ι) :
    ∀ r, r = s.fold IntOp.minsi 2147483647#32 f → r.toNat < 2 ^ 31 ∧ (∀ l ∈ s, r.toNat ≤ (f l).toNat) ∧ (r = 2147483647#32 ∨ ∃ l ∈ s, r = f l) := by
  induction s using Finset.induction_on with
  | empty => rintro r rfl; exact ⟨(by decide : (2147483647#32 : BitVec 32).toNat < 2 ^ 31), fun l hl => absurd hl (Finset.notMem_empty _), .inl rfl⟩
  | insert a s ha ih =>
    rintro r rfl
    obtain ⟨h1, h2, h3⟩ := ih _ rfl
    rw [Finset.fold_insert ha, minsi_nat _ _ (hf a) h1]
    generalize s.fold IntOp.minsi 2147483647#32 f = q at h1 h2 h3
    by_cases h : (f a).toNat < q.toNat
    · rw [if_pos h]
      refine ⟨hf a, fun l hl => ?_, .inr ⟨a, Finset.mem_insert_self _ _, rfl⟩⟩
      rcases Finset.mem_insert.mp hl with rfl | hl
      · exact le_rfl
      · exact h.le.trans (h2 l hl)
    · rw [if_neg h]
      refine ⟨h1, fun l hl => ?_, ?_⟩
      · rcases Finset.mem_insert.mp hl with rfl | hl
        · omega
        · exact h2 l hl
      · rcases h3 with h3 | ⟨l, hl, e⟩
        · exact .inl h3
        · exact .inr ⟨l, Finset.mem_insert_of_mem hl, e⟩

/-- The smallest index of the best head of a row. -/
def rowIdx (v : FVec Ideal S32x128 .f32) (k : IVec S32x128 32) (b : Fin 32) : BitVec 32 := topI v k (ValueIdx.ix2 b (0 : Fin 1))

theorem rowIdx_fold (v : FVec Ideal S32x128 .f32) (k : IVec S32x128 32) (b : Fin 32) :
    rowIdx v k b = (Finset.univ : Finset (Fin 128)).fold IntOp.minsi 2147483647#32 (fun l => if atV v (ValueIdx.ix2 b l) = 1#1 then k (ValueIdx.ix2 b l) else 2147483647#32) := by
  unfold rowIdx topI
  refine (scol _ b).trans ?_
  refine (multiReductionI_eq_fold .minsi _ _ reduces_S32x128_S32 rfl (ValueIdx.ix1 b)).trans ?_
  refine (reduces_S32x128_S32.fold_filter_drop_single _ _ _ (ValueIdx.ix1 b)).trans ?_
  have e2 : (select (atV v) k (broadcast S32x128 2147483647#32)) ∘ reduces_S32x128_S32.lift (ValueIdx.ix1 b)
      = fun l => if atV v (ValueIdx.ix2 b l) = 1#1 then k (ValueIdx.ix2 b l) else 2147483647#32 :=
    funext fun l => congrArg (select (atV v) k (broadcast S32x128 2147483647#32)) (lift_eq b l)
  rw [e2]
  rfl

theorem rowIdx_spec (v : FVec Ideal S32x128 .f32) (k : IVec S32x128 32) (b : Fin 32) (hk : ∀ l, (k (ValueIdx.ix2 b l)).toNat < 2 ^ 31) :
    (∀ l, v (ValueIdx.ix2 b l) = rowTop v b → (rowIdx v k b).toNat ≤ (k (ValueIdx.ix2 b l)).toNat)
      ∧ ∃ l, v (ValueIdx.ix2 b l) = rowTop v b ∧ k (ValueIdx.ix2 b l) = rowIdx v k b := by
  obtain ⟨_, h2, h3⟩ := fold_min (fun l : Fin 128 => if atV v (ValueIdx.ix2 b l) = 1#1 then k (ValueIdx.ix2 b l) else 2147483647#32)
    (fun l => by split; · exact hk l
                 · decide) Finset.univ _ (rowIdx_fold v k b)
  have le : ∀ l, v (ValueIdx.ix2 b l) = rowTop v b → (rowIdx v k b).toNat ≤ (k (ValueIdx.ix2 b l)).toNat := fun l hl => by
    have := h2 l (Finset.mem_univ _)
    rwa [if_pos ((atV_iff v b l).mpr hl)] at this
  refine ⟨le, ?_⟩
  obtain ⟨l0, hl0⟩ := rowTop_mem v b
  have last : rowIdx v k b = 2147483647#32 → ∃ l, v (ValueIdx.ix2 b l) = rowTop v b ∧ k (ValueIdx.ix2 b l) = rowIdx v k b := fun h => by
    refine ⟨l0, hl0, ?_⟩
    have h4 := le l0 hl0
    have h5 := hk l0
    rw [h] at h4 ⊢
    refine BitVec.eq_of_toNat_eq ?_
    have : (2147483647#32 : BitVec 32).toNat = 2147483647 := by decide
    omega
  rcases h3 with h3 | ⟨l, _, h3⟩
  · exact last h3
  · by_cases h : atV v (ValueIdx.ix2 b l) = 1#1
    · rw [if_pos h] at h3
      exact ⟨l, (atV_iff v b l).mp h, h3.symm⟩
    · rw [if_neg h] at h3
      exact last h3

theorem hit_iff (v : FVec Ideal S32x128 .f32) (k : IVec S32x128 32) (b : Fin 32) (l : Fin 128) :
    hitV v k (ValueIdx.ix2 b l) = 1#1 ↔ v (ValueIdx.ix2 b l) = rowTop v b ∧ k (ValueIdx.ix2 b l) = rowIdx v k b := by
  have e : hitV v k (ValueIdx.ix2 b l) = atV v (ValueIdx.ix2 b l) &&& BitVec.ofBool (k (ValueIdx.ix2 b l) == broadcastTo S32x128 (topI v k) broadcasts_S32x1_S32x128 (ValueIdx.ix2 b l)) := rfl
  rw [e, bcol, ← atV_iff]
  have key : ∀ (x : BitVec 1) (q : Bool), x &&& BitVec.ofBool q = 1#1 ↔ x = 1#1 ∧ q = true := by decide
  rw [key, beq_iff_eq]
  rfl

/-- What eight rounds give in one row, from the invariants of the lanes. -/
theorem rounds_row (v : ℕ → FVec Ideal S32x128 .f32) (k : ℕ → IVec S32x128 32) (b : Fin 32) (c : Fin 128 → Entry → ℕ) (bd : ℕ) (hbd : bd ≤ 2 ^ 31)
    (h0 : ∀ l : Fin 128, Inv l.val bd (c l) (fun j => v j (ValueIdx.ix2 b l)) (fun j => k j (ValueIdx.ix2 b l))) (n : ℕ) (hn : n < 8) :
    (∀ t, void < t → (t ≤ ent (rowTop ((rounds v k n).1 0) b) (rowIdx ((rounds v k n).1 0) ((rounds v k n).2 0) b).toNat ↔ n < ∑ l, c l t))
      ∧ (rowTop ((rounds v k n).1 0) b = ⊥ → rowIdx ((rounds v k n).1 0) ((rounds v k n).2 0) b = 0#32) := by
  have kb : ∀ n j l, j + n < 8 → ((rounds v k n).2 j (ValueIdx.ix2 b l)).toNat < 2 ^ 31 := by
    intro n
    induction n with
    | zero =>
      intro j l hj
      show (k j (ValueIdx.ix2 b l)).toNat < 2 ^ 31
      by_cases hv : v j (ValueIdx.ix2 b l) = ⊥
      · rw [show k j (ValueIdx.ix2 b l) = 0#32 from (h0 l).bot j hj hv]; decide
      · exact lt_of_lt_of_le ((h0 l).idx j hj hv).1 hbd
    | succ n ih =>
      intro j l hj
      show (if hitV ((rounds v k n).1 0) ((rounds v k n).2 0) (ValueIdx.ix2 b l) = 1#1 then (rounds v k n).2 (j + 1) (ValueIdx.ix2 b l) else (rounds v k n).2 j (ValueIdx.ix2 b l)).toNat < _
      split
      · exact ih (j + 1) l (by omega)
      · exact ih j l (by omega)
  refine rounds_count (V := fun n j l => (rounds v k n).1 j (ValueIdx.ix2 b l)) (K := fun n j l => (rounds v k n).2 j (ValueIdx.ix2 b l))
    (M := fun n => rowTop ((rounds v k n).1 0) b) (S := fun n => rowIdx ((rounds v k n).1 0) ((rounds v k n).2 0) b) c bd h0 ?_ ?_ ?_ ?_ ?_ n hn
  · intro n j l
    show (if hitV ((rounds v k n).1 0) ((rounds v k n).2 0) (ValueIdx.ix2 b l) = 1#1 then (rounds v k n).1 (j + 1) (ValueIdx.ix2 b l) else (rounds v k n).1 j (ValueIdx.ix2 b l)) = _
    by_cases h : hitV ((rounds v k n).1 0) ((rounds v k n).2 0) (ValueIdx.ix2 b l) = 1#1
    · rw [if_pos h, if_pos ((hit_iff _ _ b l).mp h)]
    · rw [if_neg h, if_neg (fun e => h ((hit_iff _ _ b l).mpr e))]
  · intro n j l
    show (if hitV ((rounds v k n).1 0) ((rounds v k n).2 0) (ValueIdx.ix2 b l) = 1#1 then (rounds v k n).2 (j + 1) (ValueIdx.ix2 b l) else (rounds v k n).2 j (ValueIdx.ix2 b l)) = _
    by_cases h : hitV ((rounds v k n).1 0) ((rounds v k n).2 0) (ValueIdx.ix2 b l) = 1#1
    · rw [if_pos h, if_pos ((hit_iff _ _ b l).mp h)]
    · rw [if_neg h, if_neg (fun e => h ((hit_iff _ _ b l).mpr e))]
  · intro n l
    exact le_rowTop _ b l
  · intro n l hn' h
    exact (rowIdx_spec _ _ b (fun l => kb n 0 l (by omega))).1 l h
  · intro n hn'
    exact (rowIdx_spec _ _ b (fun l => kb n 0 l (by omega))).2

theorem slot_apply {e : EltTy} (r : Memref sig .tc .vmem S8x32x128 e) (X : Vec Ideal S8x32x128 e) (off : Fin 3 → ℕ)
    (h : ∀ a, off a + S1x32x128.size a ≤ S8x32x128.size a) (j : Fin 8) (h0 : off 0 = j.val) (h1 : off 1 = 0) (h2 : off 2 = 0) (b : Fin 32) (l : Fin 128) :
    slotT r X off h (ValueIdx.ix2 b l) = X (ValueIdx.ix3 j b l) := by
  unfold slotT
  refine (shapeCast_dropUnit_apply ![32, 128] _ shapeCasts_S1x32x128_S32x128 (ValueIdx.ix2 b l)).trans ?_
  rw [View.readAt_rep]
  refine congrArg X (funext fun a => Fin.ext ?_)
  fin_cases a
  · show off 0 + 1 * 0 = j.val; omega
  · show off 1 + 1 * b.val = b.val; omega
  · show off 2 + 1 * l.val = l.val; omega

theorem headV_apply (arg12 : Memref sig .tc .vmem S8x32x128 .f32) (X12 : Vec Ideal S8x32x128 .f32) (b : Fin 32) (l : Fin 128) (j : ℕ) :
    headV arg12 X12 j (ValueIdx.ix2 b l) = laneOf X12 b l j := by
  match j with
  | 0 => exact slot_apply arg12 X12 _ _ 0 rfl rfl rfl b l
  | 1 => exact slot_apply arg12 X12 _ _ 1 rfl rfl rfl b l
  | 2 => exact slot_apply arg12 X12 _ _ 2 rfl rfl rfl b l
  | 3 => exact slot_apply arg12 X12 _ _ 3 rfl rfl rfl b l
  | 4 => exact slot_apply arg12 X12 _ _ 4 rfl rfl rfl b l
  | 5 => exact slot_apply arg12 X12 _ _ 5 rfl rfl rfl b l
  | 6 => exact slot_apply arg12 X12 _ _ 6 rfl rfl rfl b l
  | n + 7 =>
    refine (slot_apply arg12 X12 _ _ 7 rfl rfl rfl b l).trans ?_
    unfold laneOf
    exact congrArg (fun q : Fin 8 => X12 (ValueIdx.ix3 q b l)) (Fin.ext (by show 7 = min (n + 7) 7; omega))

theorem headI_apply (arg13 : Memref sig .tc .vmem S8x32x128 .i32) (X13 : Vec Ideal S8x32x128 .i32) (b : Fin 32) (l : Fin 128) (j : ℕ) :
    headI (F := Ideal) arg13 X13 j (ValueIdx.ix2 b l) = laneOf X13 b l j := by
  match j with
  | 0 => exact slot_apply arg13 X13 _ _ 0 rfl rfl rfl b l
  | 1 => exact slot_apply arg13 X13 _ _ 1 rfl rfl rfl b l
  | 2 => exact slot_apply arg13 X13 _ _ 2 rfl rfl rfl b l
  | 3 => exact slot_apply arg13 X13 _ _ 3 rfl rfl rfl b l
  | 4 => exact slot_apply arg13 X13 _ _ 4 rfl rfl rfl b l
  | 5 => exact slot_apply arg13 X13 _ _ 5 rfl rfl rfl b l
  | 6 => exact slot_apply arg13 X13 _ _ 6 rfl rfl rfl b l
  | n + 7 =>
    refine (slot_apply arg13 X13 _ _ 7 rfl rfl rfl b l).trans ?_
    unfold laneOf
    exact congrArg (fun q : Fin 8 => X13 (ValueIdx.ix3 q b l)) (Fin.ext (by show 7 = min (n + 7) 7; omega))

/-- Eight columns next to one another, read at one. -/
theorem columns_apply {e : EltTy} (f : Fin 8 → (S32x1.Idx → Elt Ideal e))
    (h : Shape.Concatenates ((List.ofFn fun n : Fin 8 => (⟨S32x1, f n⟩ : (s : Shape) × (s.Idx → Elt Ideal e))).map (·.1)) S32x8 1) (b : Fin 32) (n : Fin 8) :
    concatenate S32x8 1 (List.ofFn fun n : Fin 8 => (⟨S32x1, f n⟩ : (s : Shape) × (s.Idx → Elt Ideal e))) h (ValueIdx.ix2 b n) = f n (ValueIdx.ix2 b (0 : Fin 1)) := by
  refine concatenate_ofFn_unit_apply (t := S32x8) (s₁ := S32x1) 1 f h rfl rfl (ValueIdx.ix2 b n) n rfl (ValueIdx.ix2 b (0 : Fin 1)) fun d hd => ?_
  fin_cases d
  · rfl
  · exact absurd rfl hd

variable (m : (ℓ : Loc nD τ sig) → Buf (Elt Ideal) ℓ) (c : Dev nD)

section Fin

variable (i : grid0.Coords) (arg1 : Memref sig .tc .vmem S32x7168 .bf16) (harg1 : arg1.IsWhole) (arg2 : Memref sig .tc .vmem S32x64 .i32) (harg2 : arg2.IsWhole) (arg3 : Memref sig .tc .vmem S32x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S32x8 .f32) (harg7 : arg7.IsWhole) (arg8 : Memref sig .tc .vmem S32x8 .i32) (harg8 : arg8.IsWhole) (arg9 : Memref sig .tc .vmem S32x7168 .fp8e4m3) (harg9 : arg9.IsWhole) (arg10 : Memref sig .tc .vmem S32x1 .f32) (harg10 : arg10.IsWhole) (arg11 : Memref sig .tc .vmem S8x32x128 .i32) (harg11 : arg11.IsWhole) (arg12 : Memref sig .tc .vmem S8x32x128 .f32) (harg12 : arg12.IsWhole) (arg13 : Memref sig .tc .vmem S8x32x128 .i32) (harg13 : arg13.IsWhole)

/-- What the last region leaves at row `b`, place `n`. -/
theorem fin_apply (h2 : k0_cond2 i = 1#1) (X12 : Vec Ideal S8x32x128 .f32) (X13 : Vec Ideal S8x32x128 .i32) (b : Fin 32) (n : Fin 8) :
    (finV c i arg1 harg1 arg2 harg2 arg3 harg3 arg4 harg4 arg5 harg5 arg6 harg6 arg7 harg7 arg8 harg8 arg9 harg9 arg10 harg10 arg11 harg11 arg12 harg12 arg13 harg13 h2 X12 X13).1 (ValueIdx.ix2 b n)
      = rowTop ((rounds (headV arg12 X12) (headI (F := Ideal) arg13 X13) n.val).1 0) b
    ∧ (finV c i arg1 harg1 arg2 harg2 arg3 harg3 arg4 harg4 arg5 harg5 arg6 harg6 arg7 harg7 arg8 harg8 arg9 harg9 arg10 harg10 arg11 harg11 arg12 harg12 arg13 harg13 h2 X12 X13).2 (ValueIdx.ix2 b n)
      = rowIdx ((rounds (headV arg12 X12) (headI (F := Ideal) arg13 X13) n.val).1 0) ((rounds (headV arg12 X12) (headI (F := Ideal) arg13 X13) n.val).2 0) b := by
  rw [fin_val, topsV, topsI]
  constructor
  · refine (congrFun (whole_store arg7 ![0, 0] z2 inb_S32x8_S32x8_0_0 _) _).trans ?_
    exact columns_apply (e := .f32) (fun n : Fin 8 => topV ((rounds (headV arg12 X12) (headI (F := Ideal) arg13 X13) n.val).1 0)) _ b n
  · refine (congrFun (whole_store arg8 ![0, 0] z2 inb_S32x8_S32x8_0_0 _) _).trans ?_
    exact columns_apply (e := .i32) (fun n : Fin 8 => topI ((rounds (headV arg12 X12) (headI (F := Ideal) arg13 X13) n.val).1 0) ((rounds (headV arg12 X12) (headI (F := Ideal) arg13 X13) n.val).2 0)) _ b n

end Fin

/-- THE KERNEL'S TOP VALUES AND INDICES: place `n` reaches a threshold exactly when more than `n` tokens do. -/
theorem top_count (hh : ∀ y, ((ah m c) y).toNat < 2 ^ 31) (b : Fin 32) (n : Fin 8) :
    (∀ t, void < t → (t ≤ ent ((topAt m c).1 (ValueIdx.ix2 b n)) ((topAt m c).2 (ValueIdx.ix2 b n)).toNat ↔ n.val < ∑ l : Fin 128, cntUp m c b l.val 252 t))
      ∧ ((topAt m c).1 (ValueIdx.ix2 b n) = (⊥ : EReal) → (topAt m c).2 (ValueIdx.ix2 b n) = 0#32) := by
  unfold topAt finAt
  have e := fin_apply c (grid0.coords ⟨61 + 1, lt62⟩) (win0_0.stage (cfg0.slots ⟨61 + 1, lt62⟩ 0)) (hstage0_0 ((cfg0.slots ⟨61 + 1, lt62⟩ 0).cast nbuf0_0)) (win0_1.stage (cfg0.slots ⟨61 + 1, lt62⟩ 1)) (hstage0_1 ((cfg0.slots ⟨61 + 1, lt62⟩ 1).cast nbuf0_1)) (win0_2.stage (cfg0.slots ⟨61 + 1, lt62⟩ 2)) (hstage0_2 ((cfg0.slots ⟨61 + 1, lt62⟩ 2).cast nbuf0_2)) (win0_3.stage (cfg0.slots ⟨61 + 1, lt62⟩ 3)) (hstage0_3 ((cfg0.slots ⟨61 + 1, lt62⟩ 3).cast nbuf0_3)) (win0_4.stage (cfg0.slots ⟨61 + 1, lt62⟩ 4)) (hstage0_4 ((cfg0.slots ⟨61 + 1, lt62⟩ 4).cast nbuf0_4)) (win0_5.stage (cfg0.slots ⟨61 + 1, lt62⟩ 5)) (hstage0_5 ((cfg0.slots ⟨61 + 1, lt62⟩ 5).cast nbuf0_5)) (win0_6.stage (cfg0.slots ⟨61 + 1, lt62⟩ 6)) (hstage0_6 ((cfg0.slots ⟨61 + 1, lt62⟩ 6).cast nbuf0_6)) (win0_7.stage (cfg0.slots ⟨61 + 1, lt62⟩ 7)) (hstage0_7 ((cfg0.slots ⟨61 + 1, lt62⟩ 7).cast nbuf0_7)) (win0_8.stage (cfg0.slots ⟨61 + 1, lt62⟩ 8)) (hstage0_8 ((cfg0.slots ⟨61 + 1, lt62⟩ 8).cast nbuf0_8)) (win0_9.stage (cfg0.slots ⟨61 + 1, lt62⟩ 9)) (hstage0_9 ((cfg0.slots ⟨61 + 1, lt62⟩ 9).cast nbuf0_9)) (Memref.whole cc0_scratch0) (Memref.isWhole_whole _) (Memref.whole cc0_scratch1) (Memref.isWhole_whole _) (Memref.whole cc0_scratch2) (Memref.isWhole_whole _) ((cond2_iff _).mpr rfl)
    (stateAt m c (61 + 1) lt62).2.2.2.1 (stateAt m c (61 + 1) lt62).2.2.2.2 b n
  rw [e.1, e.2]
  refine rounds_row _ _ b (fun l => cntUp m c b l.val 252) (512 * 63) (by decide) (fun l => ?_) n.val n.isLt
  exact (inv_state m c hh b l (61 + 1) lt62).congr (fun j _ => headV_apply _ _ b l j) (fun j _ => headI_apply _ _ b l j)

end Cert.Ideal

end

end
-- ==== Proof.RefSeen.lean ====
module

public import proofs.«01_k».proof.Proof.RefTerms
public import Idealize.ShloMosaic.Lib.Routing.OpsOne
public import Idealize.ShloMosaic.Lib.ValueIdx
public import Idealize.ShloMosaic.Lib.Pipeline.Value

/-! The reference's table of seen tokens: set exactly where the history names the token. -/

open Idealize Idealize.ShloMosaic
open Cert.ReferenceIdeal Cert.ReferenceIdeal.Gen

@[expose] public section

set_option maxRecDepth 65536

noncomputable section

namespace Cert.Ref

/-- The dimension numbers of the scatter. -/
abbrev sd : ScatterDims S32x32256 S32x64x2 S32x64 := scatter_S32x32256_S32x64x2_S32x64_n_01_01_2

theorem start_at (j : S32x64.Idx) (idx : IVec S32x64x2 32) (q : Fin 2) : sd.start j idx q = (idx (ValueIdx.ix3 (j 0) (j 1) q)).toInt := by
  have hm : q ∈ sd.scatterDimsToOperandDims := by show q ∈ [0, 1]; fin_cases q <;> simp
  have hsi : sd.siIdx j ⟨sd.scatterDimsToOperandDims.idxOf q, List.idxOf_lt_length_iff.2 hm⟩ = ValueIdx.ix3 (j 0) (j 1) q := by
    funext b
    apply Fin.ext
    match b with
    | ⟨0, _⟩ => rfl
    | ⟨1, _⟩ => rfl
    | ⟨2, _⟩ =>
      unfold ScatterDims.siIdx
      rw [dif_pos (by rfl)]
      show List.idxOf q [0, 1] = q.val
      fin_cases q <;> rfl
  unfold ScatterDims.start
  rw [dif_pos hm, hsi]
  rfl

theorem window_at (j : S32x64.Idx) (q : Fin 2) : sd.window j q = 0 := by
  unfold ScatterDims.window
  rw [dif_neg fun h => (of_decide_eq_true (List.mem_filter.1 h).2) (by show q ∈ [0, 1]; fin_cases q <;> simp)]

theorem lands (j : S32x64.Idx) (idx : IVec S32x64x2 32) (r : Fin 32) (c : Fin 32256) :
    sd.resultIdx? j idx = some (ValueIdx.ix2 r c) ↔ (idx (ValueIdx.ix3 (j 0) (j 1) (0 : Fin 2))).toInt = r.val ∧ (idx (ValueIdx.ix3 (j 0) (j 1) (1 : Fin 2))).toInt = c.val := by
  have e := Routing.resultIdx?_ix2 sd j idx r c
  rw [start_at, start_at, window_at, window_at] at e
  refine e.trans ?_
  simp

theorem slt_nonneg (x : BitVec 32) (hx : x.toNat < 2 ^ 31) (y : BitVec 32) : Scalar.select (IntOp.cmpi .slt x 0#32) y x = x := by
  have hm : x.msb = false := by rw [BitVec.msb_eq_decide]; simp; omega
  have : BitVec.slt x 0#32 = false := by
    rw [BitVec.slt_zero_eq_msb, hm]
  unfold Scalar.select
  show (if BitVec.ofBool (BitVec.slt x 0#32) = 1#1 then y else x) = x
  rw [this]; rfl

theorem rPairs_row (h : Vec Ideal S32x64 .i32) (b : Fin 32) (k : Fin 64) : rPairs (F := Ideal) h (ValueIdx.ix3 b k (0 : Fin 2)) = BitVec.ofNat 32 b.val := by
  unfold rPairs
  refine (concatenate_pair_apply_left (s₁ := S32x64x1) (s₂ := S32x64x1) (t := S32x64x2) 2 _ _ concatenates_S32x64x1_S32x64x1_S32x64x2_d2 (ValueIdx.ix3 b k (0 : Fin 2)) rfl (ValueIdx.ix3 b k (0 : Fin 1)) ?_).trans ?_
  · intro a
    match a with
    | ⟨0, _⟩ => rfl
    | ⟨1, _⟩ => rfl
    | ⟨2, _⟩ => rfl
  · exact slt_nonneg (BitVec.ofNat 32 b.val) (by rw [BitVec.toNat_ofNat]; omega) _

theorem rPairs_tok (h : Vec Ideal S32x64 .i32) (b : Fin 32) (k : Fin 64) (hh : (h (ValueIdx.ix2 b k)).toNat < 2 ^ 31) :
    rPairs (F := Ideal) h (ValueIdx.ix3 b k (1 : Fin 2)) = h (ValueIdx.ix2 b k) := by
  unfold rPairs
  refine (concatenate_pair_apply_right (s₁ := S32x64x1) (s₂ := S32x64x1) (t := S32x64x2) 2 _ _ concatenates_S32x64x1_S32x64x1_S32x64x2_d2 (ValueIdx.ix3 b k (1 : Fin 2)) rfl rfl (ValueIdx.ix3 b k (0 : Fin 1)) ?_ rfl).trans ?_
  · intro a ha
    match a with
    | ⟨0, _⟩ => rfl
    | ⟨1, _⟩ => rfl
    | ⟨2, _⟩ => exact absurd rfl ha
  · refine Eq.trans ?_ (slt_nonneg (h (ValueIdx.ix2 b k)) hh (IntOp.addi (h (ValueIdx.ix2 b k)) 32256#32))
    refine (broadcastInDim_apply _ _ _ _ (ValueIdx.ix2 b k) ?_).trans rfl
    intro a
    match a with
    | ⟨0, _⟩ => rfl
    | ⟨1, _⟩ => rfl

theorem rSeen_iff (h : Vec Ideal S32x64 .i32) (hh : ∀ y, (h y).toNat < 2 ^ 31) (b : Fin 32) (v : Fin 32256) :
    rSeen (F := Ideal) h (ValueIdx.ix2 b v) = 1#1 ↔ ∃ k, (h (ValueIdx.ix2 b k)).toNat = v.val := by
  have hl : ∀ j : S32x64.Idx, sd.resultIdx? j (rPairs (F := Ideal) h) = some (ValueIdx.ix2 b v) ↔ (j 0).val = b.val ∧ (h j).toNat = v.val := by
    intro j
    have hj : h (ValueIdx.ix2 (j 0) (j 1)) = h j := congrArg h (funext fun a => by
      match a with
      | ⟨0, _⟩ => rfl
      | ⟨1, _⟩ => rfl)
    refine (lands j _ b v).trans ?_
    have e0 := rPairs_row h (j 0) (j 1)
    have e1 := rPairs_tok h (j 0) (j 1) (hh _)
    have hb : (j 0).val < 32 := (j 0).isLt
    have h2 := hh j
    have t0 : (BitVec.ofNat 32 (j 0).val).toInt = ((j 0).val : ℤ) := by
      rw [BitVec.toInt_eq_toNat_of_lt (by rw [BitVec.toNat_ofNat]; omega), BitVec.toNat_ofNat, Nat.mod_eq_of_lt (by omega)]
    have t1 : (h j).toInt = ((h j).toNat : ℤ) := BitVec.toInt_eq_toNat_of_lt (by omega)
    rw [e0, e1, hj, t0, t1]
    omega
  unfold rSeen
  by_cases hx : ∃ k, (h (ValueIdx.ix2 b k)).toNat = v.val
  · obtain ⟨k, hk⟩ := hx
    refine ⟨fun _ => ⟨k, hk⟩, fun _ => ?_⟩
    exact Routing.scatter_set_hit sd _ _ _ _ _ (fun _ _ => rfl) (ValueIdx.ix2 b k) ((hl _).mpr ⟨rfl, hk⟩)
  · refine ⟨fun e => ?_, fun e => absurd e hx⟩
    have e2 := Routing.scatter_set_miss sd (broadcastInDim S32x32256 ![] bcast_S_S32x32256 (constantI S_ 1 0#1)) (rPairs (F := Ideal) h)
      (broadcastInDim S32x64 ![] bcast_S_S32x64 (constantI S_ 1 1#1)) (ValueIdx.ix2 b v) (fun j hj => hx ⟨j 1, by
        have := (hl j).mp hj
        rw [← this.2]
        refine congrArg (fun q => (h q).toNat) (funext fun a => ?_)
        match a with
        | ⟨0, _⟩ => exact (Fin.ext this.1).symm
        | ⟨1, _⟩ => rfl⟩)
    have e3 := e2.symm.trans e
    exact absurd e3 (by show ¬ (0#1 = 1#1); decide)

end Cert.Ref

end

end
-- ==== Proof.RefTop.lean ====
module

public import proofs.«01_k».proof.Proof.Lists
public import proofs.«01_k».proof.Proof.RefSeen

/-! The reference's penalised logits at an index, and its eight largest of a row told by counts. -/

open Idealize Idealize.ShloMosaic
open Cert.ReferenceIdeal Cert.ReferenceIdeal.Gen
open Cert.Lanes

@[expose] public section

set_option maxRecDepth 65536

noncomputable section

namespace Cert.Ref

theorem wide_col (v : Vec Ideal S32x1 .f32) (b : Fin 32) (j : Fin 32256) :
    broadcastInDim S32x32256 ![0, 1] bcast_S32x1_S32x32256_0_1 v (ValueIdx.ix2 b j) = v (ValueIdx.ix2 b (0 : Fin 1)) := by
  refine broadcastInDim_apply _ _ v _ (ValueIdx.ix2 b (0 : Fin 1)) fun a => ?_
  fin_cases a <;> rfl

theorem wide_row (v : Vec Ideal S32256 .f32) (b : Fin 32) (j : Fin 32256) :
    broadcastInDim S32x32256 ![0, 1] bcast_S1x32256_S32x32256_0_1 (broadcastInDim S1x32256 ![1] bcast_S32256_S1x32256_1 v) (ValueIdx.ix2 b j) = v (ValueIdx.ix1 j) := by
  refine (broadcastInDim_apply _ _ _ _ (ValueIdx.ix2 (0 : Fin 1) j) fun a => ?_).trans ?_
  · fin_cases a <;> rfl
  refine broadcastInDim_apply _ _ v _ (ValueIdx.ix1 j) fun a => ?_
  fin_cases a
  rfl

theorem thin_col (v : Vec Ideal S32 .f32) (b : Fin 32) : broadcastInDim S32x1 ![0] bcast_S32_S32x1_0 v (ValueIdx.ix2 b (0 : Fin 1)) = v (ValueIdx.ix1 b) := by
  refine broadcastInDim_apply _ _ v _ (ValueIdx.ix1 b) fun a => ?_
  fin_cases a
  rfl

theorem wide_thin (v : Vec Ideal S32 .f32) (b : Fin 32) (j : Fin 32256) :
    broadcastInDim S32x32256 ![0, 1] bcast_S32x1_S32x32256_0_1 (broadcastInDim S32x1 ![0] bcast_S32_S32x1_0 v) (ValueIdx.ix2 b j) = v (ValueIdx.ix1 b) :=
  (wide_col _ b j).trans (thin_col v b)

theorem rLogit_apply (x : Vec Ideal S32x1x7168 .bf16) (w : Vec Ideal S32256x7168 .fp8e4m3) (sc : Vec Ideal S32x1 .f32) (ws bi : Vec Ideal S32256 .f32) (b : Fin 32) (v : Fin 32256) :
    rLogit (rAcc x w) sc ws bi (ValueIdx.ix2 b v)
      = (((∑ k : Fin 7168, rCodes x (ValueIdx.ix2 b k) * w (ValueIdx.ix2 v k)) * sc (ValueIdx.ix2 b (0 : Fin 1))) * ws (ValueIdx.ix1 v) + bi (ValueIdx.ix1 v) : EReal) := by
  unfold rLogit
  exact congrArg₂ (fun a b : EReal => a + b)
    (congrArg₂ (fun a b : EReal => a * b) (congrArg₂ (fun a b : EReal => a * b) (Cert.Prod.rAcc_apply x w b v) (wide_col sc b v)) (wide_row ws b v)) (wide_row bi b v)

theorem zero_wide (b : Fin 32) (v : Fin 32256) : broadcastInDim S32x32256 ![] bcast_S_S32x32256 (constant (F := Ideal) S_ .f32 0x00000000#32) (ValueIdx.ix2 b v) = (0 : EReal) :=
  Ideal.ofBits_zero_f32

/-- Selecting by a condition. -/
theorem sel_if (q : BitVec 1) (s : Prop) [Decidable s] (h : q = 1#1 ↔ s) (a b : EReal) : Scalar.select q a b = if s then a else b := by
  show (if q = 1#1 then a else b) = _
  by_cases e : q = 1#1
  · rw [if_pos e, if_pos (h.mp e)]
  · rw [if_neg e, if_neg (fun e' => e (h.mpr e'))]

theorem gt_iff (a b : EReal) : Ideal.cmp .ogt a b = 1#1 ↔ b < a := by
  show BitVec.ofBool (decide (b < a)) = 1#1 ↔ _
  by_cases h : b < a <;> simp [h]

theorem eq_iff (a b : EReal) : Ideal.cmp .oeq a b = 1#1 ↔ a = b := by
  show BitVec.ofBool (decide (a = b)) = 1#1 ↔ _
  by_cases h : a = b <;> simp [h]

open Classical in
/-- The reference's penalised logit is the one the kernel's lanes are told by. -/
theorem rFinal_apply (x : Vec Ideal S32x1x7168 .bf16) (w : Vec Ideal S32256x7168 .fp8e4m3) (sc : Vec Ideal S32x1 .f32) (ws bi : Vec Ideal S32256 .f32) (h : Vec Ideal S32x64 .i32)
    (p : Vec Ideal S32 .f32) (hh : ∀ y, (h y).toNat < 2 ^ 31) (b : Fin 32) (v : Fin 32256) :
    rFinal (rAcc x w) sc ws bi h p (ValueIdx.ix2 b v) = Cert.Ideal.logit (rCodes x) sc w ws bi h p b v := by
  unfold rFinal Cert.Ideal.logit
  have e := rLogit_apply x w sc ws bi b v
  generalize rLogit (rAcc x w) sc ws bi = L at e
  rw [← e]
  refine (sel_if _ _ (rSeen_iff h hh b v) _ _).trans ?_
  unfold penS
  refine if_congr Iff.rfl ?_ rfl
  refine (sel_if _ (0 < L (ValueIdx.ix2 b v)) ?_ _ _).trans ?_
  · refine Iff.trans ?_ (gt_iff (L (ValueIdx.ix2 b v)) 0)
    rw [← zero_wide b v]
    rfl
  · refine if_congr Iff.rfl ?_ ?_
    · exact congrArg (fun q : EReal => Ideal.div (L (ValueIdx.ix2 b v)) q) (wide_thin p b v)
    · exact congrArg (fun q : EReal => L (ValueIdx.ix2 b v) * q) (wide_thin p b v)

/-- The order of a row by value, greatest first. -/
def before (l : Vec Ideal S32x32256 .f32) (b : Fin 32) (k k' : Fin 32256) : Bool :=
  Ideal.cmp .ogt (l (ValueIdx.ix2 b k)) (l (ValueIdx.ix2 b k')) == 1#1

/-- The place in the sorted row. -/
def place (l : Vec Ideal S32x32256 .f32) (b : Fin 32) (n : Fin 8) : Fin 32256 := sortedFrom (before l b) ⟨n.val, by omega⟩

theorem along_eq (b : Fin 32) (k k' : Fin 32256) : (ValueIdx.ix2 b k : S32x32256.Idx).along 1 k' = ValueIdx.ix2 b k' := by
  funext a
  fin_cases a
  · rfl
  · rfl

theorem cut_eq (b : Fin 32) (n : Fin 8) :
    (fun a => ⟨0 + ((ValueIdx.ix2 b n : S32x8.Idx) (a.cast sliceFits_S32x32256_S32x8.1.symm)).val,
      Nat.lt_of_lt_of_le (Nat.add_lt_add_left ((ValueIdx.ix2 b n : S32x8.Idx) _).isLt _) (sliceFits_S32x32256_S32x8.2 a)⟩ : S32x32256.Idx)
      = ValueIdx.ix2 b (⟨n.val, by omega⟩ : Fin 32256) := by
  funext a
  refine Fin.ext ?_
  fin_cases a
  · show 0 + b.val = b.val; omega
  · show 0 + n.val = n.val; omega

theorem sort_place (l : Vec Ideal S32x32256 .f32) (b : Fin 32) (n : Fin 8) (j : S32x32256.Idx) (hj : j = ValueIdx.ix2 b (⟨n.val, by omega⟩ : Fin 32256)) (y : S32x32256.Idx → BitVec 32) :
    (Host.sort2 S32x32256 1 (fun l r => FloatOps.cmpfTotal (F := Ideal) (φ := .f32) .gt l.1 r.1) l y).1 j = l (ValueIdx.ix2 b (place l b n))
      ∧ (Host.sort2 S32x32256 1 (fun l r => FloatOps.cmpfTotal (F := Ideal) (φ := .f32) .gt l.1 r.1) l y).2 j = y (ValueIdx.ix2 b (place l b n)) := by
  subst hj
  unfold Host.sort2
  rw [dif_pos (show 1 < S32x32256.rank by decide)]
  have e : sortedFrom (fun k k' : Fin 32256 => FloatOps.cmpfTotal (F := Ideal) (φ := .f32) .gt
        (l ((ValueIdx.ix2 b (⟨n.val, by omega⟩ : Fin 32256) : S32x32256.Idx).along 1 k)) (l ((ValueIdx.ix2 b (⟨n.val, by omega⟩ : Fin 32256) : S32x32256.Idx).along 1 k')) == 1#1)
      (⟨n.val, by omega⟩ : Fin 32256) = place l b n := by
    unfold place
    refine congrArg (fun q => sortedFrom q (⟨n.val, by omega⟩ : Fin 32256)) ?_
    funext k k'
    rw [along_eq, along_eq]
    rfl
  constructor
  · refine congrArg l (Eq.trans ?_ (along_eq b ⟨n.val, by omega⟩ (place l b n)))
    exact congrArg (fun q : Fin 32256 => (ValueIdx.ix2 b (⟨n.val, by omega⟩ : Fin 32256) : S32x32256.Idx).along 1 q) e
  · refine congrArg y (Eq.trans ?_ (along_eq b ⟨n.val, by omega⟩ (place l b n)))
    exact congrArg (fun q : Fin 32256 => (ValueIdx.ix2 b (⟨n.val, by omega⟩ : Fin 32256) : S32x32256.Idx).along 1 q) e

theorem topK_apply (l : Vec Ideal S32x32256 .f32) (b : Fin 32) (n : Fin 8) :
    rTopV l (ValueIdx.ix2 b n) = l (ValueIdx.ix2 b (place l b n))
      ∧ (Host.topK S32x8 1 (FloatOps.cmpfTotal (F := Ideal) (φ := .f32) .gt) l sliceFits_S32x32256_S32x8).2 (ValueIdx.ix2 b n) = BitVec.ofNat 32 (place l b n).val := by
  have e := sort_place l b n _ (cut_eq b n) (fun i => if hd : 1 < S32x32256.rank then iotaInDim S32x32256 32 ⟨1, hd⟩ i else 0#32)
  constructor
  · exact e.1
  · exact e.2

theorem ninf_wide (b : Fin 32) (n : Fin 8) : broadcastInDim S32x8 ![] bcast_S_S32x8 (constant (F := Ideal) S_ .f32 0xFF800000#32) (ValueIdx.ix2 b n) = (⊥ : EReal) :=
  Cert.Scale.ninf_eq

open Classical in
theorem rTopI_apply (l : Vec Ideal S32x32256 .f32) (b : Fin 32) (n : Fin 8) :
    rTopI l (ValueIdx.ix2 b n) = if l (ValueIdx.ix2 b (place l b n)) = (⊥ : EReal) then 0#32 else BitVec.ofNat 32 (place l b n).val := by
  have e := (topK_apply l b n).1
  have e2 := (topK_apply l b n).2
  have h : cmpf .oeq (rTopV l) (broadcastInDim S32x8 ![] bcast_S_S32x8 (constant (F := Ideal) S_ .f32 0xFF800000#32)) (ValueIdx.ix2 b n) = 1#1
      ↔ l (ValueIdx.ix2 b (place l b n)) = (⊥ : EReal) := by
    rw [← ninf_wide b n, ← e]
    exact eq_iff _ _
  unfold rTopI
  rw [← e2]
  show (if cmpf .oeq (rTopV l) (broadcastInDim S32x8 ![] bcast_S_S32x8 (constant (F := Ideal) S_ .f32 0xFF800000#32)) (ValueIdx.ix2 b n) = 1#1 then 0#32
    else (Host.topK S32x8 1 (FloatOps.cmpfTotal (F := Ideal) (φ := .f32) .gt) l sliceFits_S32x32256_S32x8).2 (ValueIdx.ix2 b n)) = _
  by_cases q : l (ValueIdx.ix2 b (place l b n)) = (⊥ : EReal)
  · rw [if_pos q, if_pos (h.mpr q)]
  · rw [if_neg q, if_neg (fun e' => q (h.mp e'))]

theorem bot_lt_void {t : Entry} (h : void < t) (n : ℕ) : ¬ t ≤ ent ⊥ n := fun e => by
  have h2 : ent ⊥ n ≤ void := by
    unfold void
    by_cases hn : n = 0
    · rw [hn]
    · exact le_of_lt ((ent_lt).mpr (.inr ⟨rfl, Nat.pos_of_ne_zero hn⟩))
  exact absurd (lt_of_lt_of_le h (e.trans h2)) (lt_irrefl _)

/-- THE REFERENCE'S TOP VALUES AND INDICES: place `n` reaches a threshold exactly when more than `n` tokens do. -/
theorem top_count (l : Vec Ideal S32x32256 .f32) (b : Fin 32) (n : Fin 8) :
    (∀ t, void < t → (t ≤ ent (rTopV l (ValueIdx.ix2 b n)) (rTopI l (ValueIdx.ix2 b n)).toNat ↔ n.val < ∑ i : Fin 32256, if t ≤ ent (l (ValueIdx.ix2 b i)) i.val then 1 else 0))
      ∧ (rTopV l (ValueIdx.ix2 b n) = (⊥ : EReal) → rTopI l (ValueIdx.ix2 b n) = 0#32) := by
  rw [(topK_apply l b n).1, rTopI_apply]
  have hs := fun t => sorted_count (fun i : Fin 32256 => l (ValueIdx.ix2 b i)) (before l b) (fun k k' => by
    unfold before
    rw [beq_iff_eq]
    exact gt_iff _ _) t ⟨n.val, by omega⟩
  have hp := (place l b n).isLt
  refine ⟨fun t ht => ?_, fun h => if_pos h⟩
  rw [← hs t]
  by_cases q : l (ValueIdx.ix2 b (place l b n)) = (⊥ : EReal)
  · rw [if_pos q]
    constructor
    · intro e; rw [q] at e; exact absurd e (bot_lt_void ht _)
    · intro e
      change t ≤ ent (l (ValueIdx.ix2 b (place l b n))) (place l b n).val at e
      rw [q] at e; exact absurd e (bot_lt_void ht _)
  · rw [if_neg q, BitVec.toNat_ofNat, Nat.mod_eq_of_lt (by omega)]
    exact Iff.rfl

end Cert.Ref

end

end
-- ==== Proof.RefArr.lean ====
module

public import proofs.«01_k».proof.Proof.Gen.ReferenceIdeal.Frame
public import Idealize.ShloMosaic.Lib.Pipeline.Value
public import Idealize.ShloMosaic.Lib.StableHlo.Run
public import Idealize.ShloMosaic.Lib.Pipeline.ValueKit
public import proofs.«01_k».proof.Proof.RefTerms

/-! The reference's run: what each of its four results holds at the end, as a function of the arguments. -/

open Idealize Idealize.ShloMosaic
open Cert.ReferenceIdeal Cert.ReferenceIdeal.Gen

@[expose] public section

set_option maxRecDepth 65536

noncomputable section

namespace Cert.Ref

variable {F : FTy → Type} [FloatOps F]

variable (m : (ℓ : Loc nD τ sig) → Buf (Elt F) ℓ)

variable (ρ : Dev nD → PrngReg)

theorem idx_0 : ∀ (t : Fin grid0.N) (a : Fin 2), win0_0.index t a = 0 := by decide +kernel
theorem idx_1 : ∀ (t : Fin grid0.N) (a : Fin 2), win0_1.index t a = 0 := by decide +kernel

theorem iblk_0 (c : Dev nD) (t : Fin cfg0.N) : iblk m c 0 t = V m c main_v24 := by
  funext j
  show V m c main_v24 (((cfg0.win 0).rect t).emb j) = V m c main_v24 j
  congr 1
  funext a
  apply Fin.ext
  exact Pipeline.Window.rect_emb_val_of_index_zero _ _ _ (idx_0 t a) j

theorem iblk_1 (c : Dev nD) (t : Fin cfg0.N) : iblk m c 1 t = m ((c.tc : Thread nD τ).loc main_arg1) := by
  rw [← V_main_arg1 m c]
  funext j
  show V m c main_arg1 (((cfg0.win 1).rect t).emb j) = V m c main_arg1 j
  congr 1
  funext a
  apply Fin.ext
  exact Pipeline.Window.rect_emb_val_of_index_zero _ _ _ (idx_1 t a) j

theorem zeros2 : (![0, 0] : Fin 2 → Nat) = fun _ => 0 := by decide

theorem out2_eq (x0 : Vec F S32x7168 .f32) (x1 : Vec F S32256x7168 .fp8e4m3) : out0_2 x0 x1 = k0_pay1 x0 := by
  unfold out0_2
  rw [View.canon_unit_zero zeros2, View.ld_unit_zero zeros2]

theorem out3_eq (x0 : Vec F S32x7168 .f32) (x1 : Vec F S32256x7168 .fp8e4m3) : out0_3 x0 x1 = k0_pay2 x0 x1 := by
  unfold out0_3
  rw [View.canon_unit_zero zeros2, View.ld_unit_zero zeros2, View.ld_unit_zero zeros2]

theorem whole2 : (cfg0.win 2).WholeAt ⟨0, by decide⟩ := by decide +kernel
theorem whole3 : (cfg0.win 3).WholeAt ⟨0, by decide⟩ := by decide +kernel

theorem after2 (c : Dev nD) (t : Fin cfg0.N) : (dats m 0 c).after 2 t = rCodes (m ((c.tc : Thread nD τ).loc main_arg0)) := by
  rw [after0_2]
  rw [iblk_0, out2_eq, V_v24]
  rfl

theorem after3 (c : Dev nD) (t : Fin cfg0.N) : (dats m 0 c).after 3 t = rAcc (m ((c.tc : Thread nD τ).loc main_arg0)) (m ((c.tc : Thread nD τ).loc main_arg1)) := by
  rw [after0_3]
  rw [iblk_0, iblk_1, out3_eq, V_v24]
  rfl

theorem arr2 (c : Dev nD) : (dats m 0 c).arrAt 2 cfg0.N = rCodes (m ((c.tc : Thread nD τ).loc main_arg0)) := by
  funext i
  refine ((dats m 0 c).arrAt_emb_eq_after_last 2 ⟨0, by decide⟩ whole2 i).trans ?_
  rw [after2]
  generalize rCodes (m ((c.tc : Thread nD τ).loc main_arg0)) = R
  exact (cast_eq _ _).trans rfl

theorem arr3 (c : Dev nD) : (dats m 0 c).arrAt 3 cfg0.N = rAcc (m ((c.tc : Thread nD τ).loc main_arg0)) (m ((c.tc : Thread nD τ).loc main_arg1)) := by
  funext i
  refine ((dats m 0 c).arrAt_emb_eq_after_last 3 ⟨0, by decide⟩ whole3 i).trans ?_
  rw [after3]
  generalize rAcc (m ((c.tc : Thread nD τ).loc main_arg0)) (m ((c.tc : Thread nD τ).loc main_arg1)) = R
  exact (cast_eq _ _).trans rfl

end Cert.Ref

end

end
-- ==== Proof.RefTail.lean ====
module

public import proofs.«01_k».proof.Proof.Gen.ReferenceIdeal.Frame
public import Idealize.ShloMosaic.Lib.Pipeline.Value
public import Idealize.ShloMosaic.Lib.StableHlo.Run
public import Idealize.ShloMosaic.Lib.Pipeline.ValueKit
public import proofs.«01_k».proof.Proof.RefTerms

/-! The reference's run: what each of its four results holds at the end, as a function of the arguments. -/

open Idealize Idealize.ShloMosaic
open Cert.ReferenceIdeal Cert.ReferenceIdeal.Gen

@[expose] public section

set_option maxRecDepth 65536

noncomputable section

namespace Cert.Ref

variable {F : FTy → Type} [FloatOps F]

set_option maxHeartbeats 1000000 in
theorem mid_v33 (W : Valuation τ sig (Elt F)) : StableHlo.after (hostOps1 : List (HloOp τ sig (Elt F))) W (Proc.tc.devRef main_v33) = (rLogit (W (Proc.tc.devRef main_v25_1)) (W (Proc.tc.devRef main_v18)) (W (Proc.tc.devRef main_arg2)) (W (Proc.tc.devRef main_arg3))) := by
  simp only [hostOps1, List.cons_append, List.nil_append]
  after_results_simp
  rfl

set_option maxHeartbeats 1000000 in
theorem mid_v52 (W : Valuation τ sig (Elt F)) : StableHlo.after (hostOps1 : List (HloOp τ sig (Elt F))) W (Proc.tc.devRef main_v52) = rSeen (W (Proc.tc.devRef main_arg4)) := by
  simp only [hostOps1, List.cons_append, List.nil_append]
  after_results_simp
  rfl

set_option maxHeartbeats 1000000 in
theorem mid_v55 (W : Valuation τ sig (Elt F)) : StableHlo.after (hostOps1 : List (HloOp τ sig (Elt F))) W (Proc.tc.devRef main_v55) = cmpf .ogt (rLogit (W (Proc.tc.devRef main_v25_1)) (W (Proc.tc.devRef main_v18)) (W (Proc.tc.devRef main_arg2)) (W (Proc.tc.devRef main_arg3))) (broadcastInDim S32x32256 ![] bcast_S_S32x32256 (constant S_ .f32 0x00000000#32)) := by
  simp only [hostOps1, List.cons_append, List.nil_append]
  after_results_simp
  rfl

set_option maxHeartbeats 1000000 in
theorem mid_v57 (W : Valuation τ sig (Elt F)) : StableHlo.after (hostOps1 : List (HloOp τ sig (Elt F))) W (Proc.tc.devRef main_v57) = Host.divf (rLogit (W (Proc.tc.devRef main_v25_1)) (W (Proc.tc.devRef main_v18)) (W (Proc.tc.devRef main_arg2)) (W (Proc.tc.devRef main_arg3))) (broadcastInDim S32x32256 ![0, 1] bcast_S32x1_S32x32256_0_1 (broadcastInDim S32x1 ![0] bcast_S32_S32x1_0 (W (Proc.tc.devRef main_arg5)))) := by
  simp only [hostOps1, List.cons_append, List.nil_append]
  after_results_simp
  rfl

set_option maxHeartbeats 1000000 in
theorem mid_v59 (W : Valuation τ sig (Elt F)) : StableHlo.after (hostOps1 : List (HloOp τ sig (Elt F))) W (Proc.tc.devRef main_v59) = mulf (rLogit (W (Proc.tc.devRef main_v25_1)) (W (Proc.tc.devRef main_v18)) (W (Proc.tc.devRef main_arg2)) (W (Proc.tc.devRef main_arg3))) (broadcastInDim S32x32256 ![0, 1] bcast_S32x1_S32x32256_0_1 (broadcastInDim S32x1 ![0] bcast_S32_S32x1_0 (W (Proc.tc.devRef main_arg5)))) := by
  simp only [hostOps1, List.cons_append, List.nil_append]
  after_results_simp
  rfl

set_option maxHeartbeats 1000000 in
theorem late_v65 (W : Valuation τ sig (Elt F)) : StableHlo.after ([hostOps1_1, hostOps1_2, hostOps1_3, hostOps1_4, hostOps1_5] : List (List (HloOp τ sig (Elt F)))).flatten W (Proc.tc.devRef main_v65)
    = broadcastInDim S32x1x8 ![0, 2] bcast_S32x8_S32x1x8_0_2 (rTopV (select (W (Proc.tc.devRef main_v52)) (select (W (Proc.tc.devRef main_v55)) (W (Proc.tc.devRef main_v57)) (W (Proc.tc.devRef main_v59))) (W (Proc.tc.devRef main_v33)))) := by
  simp only [List.flatten_cons, List.flatten_nil, List.append_nil, hostOps1_1, hostOps1_2, hostOps1_3, hostOps1_4, hostOps1_5, List.cons_append, List.nil_append]
  after_results_simp
  rfl

set_option maxHeartbeats 1000000 in
theorem late_v66 (W : Valuation τ sig (Elt F)) : StableHlo.after ([hostOps1_1, hostOps1_2, hostOps1_3, hostOps1_4, hostOps1_5] : List (List (HloOp τ sig (Elt F)))).flatten W (Proc.tc.devRef main_v66)
    = broadcastInDim S32x1x8 ![0, 2] bcast_S32x8_S32x1x8_0_2 (rTopI (select (W (Proc.tc.devRef main_v52)) (select (W (Proc.tc.devRef main_v55)) (W (Proc.tc.devRef main_v57)) (W (Proc.tc.devRef main_v59))) (W (Proc.tc.devRef main_v33)))) := by
  simp only [List.flatten_cons, List.flatten_nil, List.append_nil, hostOps1_1, hostOps1_2, hostOps1_3, hostOps1_4, hostOps1_5, List.cons_append, List.nil_append]
  after_results_simp
  rfl

theorem after_v65 (W : Valuation τ sig (Elt F)) : StableHlo.after ([hostOps1, hostOps1_1, hostOps1_2, hostOps1_3, hostOps1_4, hostOps1_5] : List (List (HloOp τ sig (Elt F)))).flatten W (Proc.tc.devRef main_v65)
    = broadcastInDim S32x1x8 ![0, 2] bcast_S32x8_S32x1x8_0_2 (rTopV (rFinal (W (Proc.tc.devRef main_v25_1)) (W (Proc.tc.devRef main_v18)) (W (Proc.tc.devRef main_arg2)) (W (Proc.tc.devRef main_arg3)) (W (Proc.tc.devRef main_arg4)) (W (Proc.tc.devRef main_arg5)))) := by
  rw [List.flatten_cons, StableHlo.after_append, late_v65, mid_v33, mid_v52, mid_v55, mid_v57, mid_v59]
  rfl

theorem after_v66 (W : Valuation τ sig (Elt F)) : StableHlo.after ([hostOps1, hostOps1_1, hostOps1_2, hostOps1_3, hostOps1_4, hostOps1_5] : List (List (HloOp τ sig (Elt F)))).flatten W (Proc.tc.devRef main_v66)
    = broadcastInDim S32x1x8 ![0, 2] bcast_S32x8_S32x1x8_0_2 (rTopI (rFinal (W (Proc.tc.devRef main_v25_1)) (W (Proc.tc.devRef main_v18)) (W (Proc.tc.devRef main_arg2)) (W (Proc.tc.devRef main_arg3)) (W (Proc.tc.devRef main_arg4)) (W (Proc.tc.devRef main_arg5)))) := by
  rw [List.flatten_cons, StableHlo.after_append, late_v66, mid_v33, mid_v52, mid_v55, mid_v57, mid_v59]
  rfl

set_option maxHeartbeats 1000000 in
theorem after_v67 (W : Valuation τ sig (Elt F)) : StableHlo.after ([hostOps1, hostOps1_1, hostOps1_2, hostOps1_3, hostOps1_4, hostOps1_5] : List (List (HloOp τ sig (Elt F)))).flatten W (Proc.tc.devRef main_v67) = broadcastInDim S32x1x7168 ![0, 2] bcast_S32x7168_S32x1x7168_0_2 (W (Proc.tc.devRef main_v25_0)) := by
  simp only [List.flatten_cons, List.flatten_nil, List.append_nil, hostOps1, hostOps1_1, hostOps1_2, hostOps1_3, hostOps1_4, hostOps1_5, List.cons_append, List.nil_append]
  after_results_simp

set_option maxHeartbeats 1000000 in
theorem after_v68 (W : Valuation τ sig (Elt F)) : StableHlo.after ([hostOps1, hostOps1_1, hostOps1_2, hostOps1_3, hostOps1_4, hostOps1_5] : List (List (HloOp τ sig (Elt F)))).flatten W (Proc.tc.devRef main_v68) = broadcastInDim S32x1x1 ![0, 1] bcast_S32x1_S32x1x1_0_1 (W (Proc.tc.devRef main_v18)) := by
  simp only [List.flatten_cons, List.flatten_nil, List.append_nil, hostOps1, hostOps1_1, hostOps1_2, hostOps1_3, hostOps1_4, hostOps1_5, List.cons_append, List.nil_append]
  after_results_simp

end Cert.Ref

end

end
-- ==== Proof.RefRun.lean ====
module

public import proofs.«01_k».proof.Proof.Gen.ReferenceIdeal.Frame
public import Idealize.ShloMosaic.Lib.Pipeline.Value
public import Idealize.ShloMosaic.Lib.StableHlo.Run
public import Idealize.ShloMosaic.Lib.Pipeline.ValueKit
public import proofs.«01_k».proof.Proof.RefArr
public import proofs.«01_k».proof.Proof.RefTail
public import Idealize.ShloMosaic.Adequacy

/-! The reference's run: what each of its four results holds at the end, as a function of the arguments. -/

open Idealize Idealize.ShloMosaic
open Cert.ReferenceIdeal Cert.ReferenceIdeal.Gen

@[expose] public section

set_option maxRecDepth 65536

noncomputable section

namespace Cert.Ref

variable {F : FTy → Type} [FloatOps F]

variable (m : (ℓ : Loc nD τ sig) → Buf (Elt F) ℓ)

theorem w_v18 (c : Dev nD) : Pipeline.withArrays (cfgs 0).spec c (V0 m c) (fun w => (dats m 0 c).arrAt w (cfgs 0).N) (Proc.tc.devRef main_v18) = rScale (m ((c.tc : Thread nD τ).loc main_arg0)) := by
  rw [Pipeline.withArrays_of_ne _ c (V0 m c) _ main_v18 (by exact (by decide : ∀ w, Pipeline.arrRef spec0 w ≠ main_v18))]
  exact V_v18 m c

theorem w_arg2 (c : Dev nD) : Pipeline.withArrays (cfgs 0).spec c (V0 m c) (fun w => (dats m 0 c).arrAt w (cfgs 0).N) (Proc.tc.devRef main_arg2) = (m ((c.tc : Thread nD τ).loc main_arg2)) := by
  rw [Pipeline.withArrays_of_ne _ c (V0 m c) _ main_arg2 (by exact (by decide : ∀ w, Pipeline.arrRef spec0 w ≠ main_arg2))]
  exact V_main_arg2 m c

theorem w_arg3 (c : Dev nD) : Pipeline.withArrays (cfgs 0).spec c (V0 m c) (fun w => (dats m 0 c).arrAt w (cfgs 0).N) (Proc.tc.devRef main_arg3) = (m ((c.tc : Thread nD τ).loc main_arg3)) := by
  rw [Pipeline.withArrays_of_ne _ c (V0 m c) _ main_arg3 (by exact (by decide : ∀ w, Pipeline.arrRef spec0 w ≠ main_arg3))]
  exact V_main_arg3 m c

theorem w_arg4 (c : Dev nD) : Pipeline.withArrays (cfgs 0).spec c (V0 m c) (fun w => (dats m 0 c).arrAt w (cfgs 0).N) (Proc.tc.devRef main_arg4) = (m ((c.tc : Thread nD τ).loc main_arg4)) := by
  rw [Pipeline.withArrays_of_ne _ c (V0 m c) _ main_arg4 (by exact (by decide : ∀ w, Pipeline.arrRef spec0 w ≠ main_arg4))]
  exact V_main_arg4 m c

theorem w_arg5 (c : Dev nD) : Pipeline.withArrays (cfgs 0).spec c (V0 m c) (fun w => (dats m 0 c).arrAt w (cfgs 0).N) (Proc.tc.devRef main_arg5) = (m ((c.tc : Thread nD τ).loc main_arg5)) := by
  rw [Pipeline.withArrays_of_ne _ c (V0 m c) _ main_arg5 (by exact (by decide : ∀ w, Pipeline.arrRef spec0 w ≠ main_arg5))]
  exact V_main_arg5 m c

theorem w_v25_0 (c : Dev nD) : Pipeline.withArrays (cfgs 0).spec c (V0 m c) (fun w => (dats m 0 c).arrAt w (cfgs 0).N) (Proc.tc.devRef main_v25_0) = (dats m 0 c).arrAt 2 cfg0.N :=
  Pipeline.withArrays_arr (cfgs 0).spec (by decide) c (V0 m c) (fun w => (dats m 0 c).arrAt w (cfgs 0).N) 2

theorem w_v25_1 (c : Dev nD) : Pipeline.withArrays (cfgs 0).spec c (V0 m c) (fun w => (dats m 0 c).arrAt w (cfgs 0).N) (Proc.tc.devRef main_v25_1) = (dats m 0 c).arrAt 3 cfg0.N :=
  Pipeline.withArrays_arr (cfgs 0).spec (by decide) c (V0 m c) (fun w => (dats m 0 c).arrAt w (cfgs 0).N) 3

abbrev tail (c : Dev nD) := Pipeline.afterTail₀ cfgs (dats m) 0 (V0 m) [hostOps1, hostOps1_1, hostOps1_2, hostOps1_3, hostOps1_4, hostOps1_5] c

theorem tail_v65 (c : Dev nD) : tail m c main_v65 = broadcastInDim S32x1x8 ![0, 2] bcast_S32x8_S32x1x8_0_2 (rTopV (rFinal (rAcc (m ((c.tc : Thread nD τ).loc main_arg0)) (m ((c.tc : Thread nD τ).loc main_arg1))) (rScale (m ((c.tc : Thread nD τ).loc main_arg0))) (m ((c.tc : Thread nD τ).loc main_arg2)) (m ((c.tc : Thread nD τ).loc main_arg3)) (m ((c.tc : Thread nD τ).loc main_arg4)) (m ((c.tc : Thread nD τ).loc main_arg5)))) := by
  unfold tail Pipeline.afterTail₀
  rw [after_v65, w_v25_1, w_v18, w_arg2, w_arg3, w_arg4, w_arg5, arr3]

theorem tail_v66 (c : Dev nD) : tail m c main_v66 = broadcastInDim S32x1x8 ![0, 2] bcast_S32x8_S32x1x8_0_2 (rTopI (rFinal (rAcc (m ((c.tc : Thread nD τ).loc main_arg0)) (m ((c.tc : Thread nD τ).loc main_arg1))) (rScale (m ((c.tc : Thread nD τ).loc main_arg0))) (m ((c.tc : Thread nD τ).loc main_arg2)) (m ((c.tc : Thread nD τ).loc main_arg3)) (m ((c.tc : Thread nD τ).loc main_arg4)) (m ((c.tc : Thread nD τ).loc main_arg5)))) := by
  unfold tail Pipeline.afterTail₀
  rw [after_v66, w_v25_1, w_v18, w_arg2, w_arg3, w_arg4, w_arg5, arr3]

theorem tail_v67 (c : Dev nD) : tail m c main_v67 = broadcastInDim S32x1x7168 ![0, 2] bcast_S32x7168_S32x1x7168_0_2 (rCodes (m ((c.tc : Thread nD τ).loc main_arg0))) := by
  unfold tail Pipeline.afterTail₀
  rw [after_v67, w_v25_0, arr2]

theorem tail_v68 (c : Dev nD) : tail m c main_v68 = broadcastInDim S32x1x1 ![0, 1] bcast_S32x1_S32x1x1_0_1 (rScale (m ((c.tc : Thread nD τ).loc main_arg0))) := by
  unfold tail Pipeline.afterTail₀
  rw [after_v68, w_v18]

variable (ρ : Dev nD → PrngReg)

/-- The reference's run: its four results and its unchanged arguments. -/
theorem run : θ_run defs (onTc (τ := τ) (main (F := F))) ⟨m, fun _ => 0, ρ⟩ (fun r => ∀ c : Dev nD,
      r.2.mem ((c.tc : Thread nD τ).loc main_v65) = broadcastInDim S32x1x8 ![0, 2] bcast_S32x8_S32x1x8_0_2 (rTopV (rFinal (rAcc (m ((c.tc : Thread nD τ).loc main_arg0)) (m ((c.tc : Thread nD τ).loc main_arg1))) (rScale (m ((c.tc : Thread nD τ).loc main_arg0))) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v66) = broadcastInDim S32x1x8 ![0, 2] bcast_S32x8_S32x1x8_0_2 (rTopI (rFinal (rAcc (m ((c.tc : Thread nD τ).loc main_arg0)) (m ((c.tc : Thread nD τ).loc main_arg1))) (rScale (m ((c.tc : Thread nD τ).loc main_arg0))) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v67) = broadcastInDim S32x1x7168 ![0, 2] bcast_S32x7168_S32x1x7168_0_2 (rCodes (m ((c.tc : Thread nD τ).loc main_arg0)))
      ∧ r.2.mem ((c.tc : Thread nD τ).loc main_v68) = broadcastInDim S32x1x1 ![0, 1] bcast_S32x1_S32x1x1_0_1 (rScale (m ((c.tc : Thread nD τ).loc main_arg0)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))) :=
  (θ_run defs _ _).mono (fun _ h c => ⟨((h.1 c).2 main_v65 (Pipeline.mem_restRefs_of main_v65 (by decide) (by decide))).trans (tail_v65 m c),
      ((h.1 c).2 main_v66 (Pipeline.mem_restRefs_of main_v66 (by decide) (by decide))).trans (tail_v66 m c),
      ((h.1 c).2 main_v67 (Pipeline.mem_restRefs_of main_v67 (by decide) (by decide))).trans (tail_v67 m c),
      ((h.1 c).2 main_v68 (Pipeline.mem_restRefs_of main_v68 (by decide) (by decide))).trans (tail_v68 m c), h.2 c⟩)
    (θ_run_and (run_main m ρ) (unchanged m ρ))

end Cert.Ref

end

end
-- ==== Proof.ScalePay.lean ====
module

public import proofs.«01_k».proof.Proof.Scale
public import proofs.«01_k».proof.Proof.KerPieces
public import Idealize.ShloMosaic.Lib.ValueIdx
public import Idealize.ShloMosaic.Lib.KernelVsHost
public import Idealize.ShloMosaic.Lib.IdealHost
public import Idealize.ShloMosaic.PureOps.Ideal.Laws

/-! The scale and the codes: the kernel's first point computes the reference's. -/

open Idealize Idealize.ShloMosaic
open Cert.KernelIdeal Cert.KernelIdeal.Gen

@[expose] public section

set_option maxRecDepth 65536

noncomputable section

namespace Cert.Scale

variable (x : Vec Ideal S32x1x7168 .bf16)

/-- The activations as a matrix. -/
def mat : Vec Ideal S32x7168 .bf16 := shapeCast S32x7168 x shapeCasts_S32x1x7168_S32x7168

/-- Every activation is at most the largest finite number of its format. -/
def Fine : Prop := ∀ i, max (mat x i) (-(mat x i)) ≤ Ideal.ofBits .f32 0x7F7F0000#32

/-! The operations read at an index. -/

section Apply
variable {s : Shape} {φ : FTy}

theorem hfloor_apply (v : FVec Ideal s φ) (y : s.Idx) : Host.floor v y = Ideal.liftRound Int.floor (v y) := rfl
theorem hlog_apply (v : FVec Ideal s φ) (y : s.Idx) : Host.log v y = Ideal.log (v y) := rfl
theorem hdiv_apply (v w : FVec Ideal s φ) (y : s.Idx) : Host.divf v w y = Ideal.div (v y) (w y) := rfl
theorem hpow_apply (v w : FVec Ideal s φ) (y : s.Idx) : Host.powf v w y = Ideal.pow (v y) (w y) := rfl
theorem hneg_apply (v : FVec Ideal s φ) (y : s.Idx) : Host.negf v y = -(v y) := rfl
theorem habs_apply (v : FVec Ideal s φ) (y : s.Idx) : Host.absf v y = max (v y) (-(v y)) := rfl
theorem abs_apply (v : FVec Ideal s φ) (y : s.Idx) : absf v y = max (v y) (-(v y)) := rfl
theorem cast_apply (v : IVec s 32) (y : s.Idx) : (bitcastToFloat .f32 v : FVec Ideal s .f32) y = Ideal.ofBits .f32 (v y) := rfl
theorem splat_apply (b : BitVec 32) (y : s.Idx) : (broadcast s (Scalar.ofBits (F := Ideal) .f32 b)) y = Ideal.ofBits .f32 b := rfl
theorem sel_apply {α : Type} (c : IVec s 1) (a b : s.Idx → α) (y : s.Idx) : select c a b y = Scalar.select (c y) (a y) (b y) := rfl
theorem cmp_apply (p : CmpFPredicate) (a b : FVec Ideal s φ) (y : s.Idx) : cmpf p a b y = FloatOps.cmpf p (a y) (b y) := rfl
theorem const_apply {t u : Shape} (dims : Fin u.rank → Fin t.rank) (h : u.BroadcastsInDim t dims) (b : BitVec 32) (y : t.Idx) :
    broadcastInDim t dims h (constant (F := Ideal) u .f32 b) y = Ideal.ofBits .f32 b := rfl
theorem lt_select {α : Type} (a b : EReal) (p q : α) : Scalar.select (FloatOps.cmpf (F := Ideal) (φ := .f32) .olt a b) p q = if a < b then p else q := by
  show Scalar.select (BitVec.ofBool (decide (a < b))) p q = _
  by_cases h : a < b <;> simp [Scalar.select, h]

end Apply

/-- A row of a column vector. -/
def row0 (b : Fin 32) : S32x1.Idx := ValueIdx.ix2 b (0 : Fin 1)

/-- The kernel's scaled row maximum. -/
def kM (X : Vec Ideal S32x7168 .bf16) : FVec Ideal S32x1 .f32 :=
  mulf (shapeCast S32x1 (multiReduction .maximumf [1] S32 (absf (k0_pay6 X)) 0xFF800000#32 reduces_S32x7168_S32 (.inl rfl) rfl) shapeCasts_S32_S32x1)
    (broadcast S32x1 (Scalar.ofBits .f32 0x3B124925#32))

theorem ext_eq (X : Vec Ideal S32x7168 .bf16) : k0_pay6 X = extf .f32 X bitsLt_bf16_f32 := by
  unfold k0_pay6
  simp only [shapeCast_self]

theorem col_cast {α : Type} (v : S32.Idx → α) (y : S32x1.Idx) : shapeCast S32x1 v shapeCasts_S32_S32x1 y = v (ValueIdx.ix1 (y 0)) := by
  refine shapeCast_apply v _ y _ ?_
  have := (y 1).isLt
  change (y 1).val < 1 at this
  rw [Shape.rowMajor_val_two, Shape.rowMajor_val_one]
  show (y 0).val = (y 0).val * 1 + (y 1).val
  omega

/-- The largest magnitude of a row. -/
def rowMax (b : Fin 32) : EReal := (multiReduction .maximumf [1] S32 (absf (extf .f32 (mat x) bitsLt_bf16_f32)) 0xFF800000#32 reduces_S32x7168_S32 (.inl rfl) rfl : FVec Ideal S32 .f32) (ValueIdx.ix1 b)

theorem kM_apply (y : S32x1.Idx) : kM (mat x) y = rowMax x (y 0) * Ideal.ofBits .f32 0x3B124925#32 := by
  unfold kM
  rw [ValueIdx.mulf_apply, col_cast, ext_eq, splat_apply]
  rfl

theorem host_max (v : FVec Ideal S32x7168 .f32) : Host.reduce FloatOps.maximumf v (constant (F := Ideal) Cert.ReferenceIdeal.S_ .f32 0xFF800000#32) Cert.ReferenceIdeal.Gen.reducesTo_S32x7168_S32_d1 Cert.ReferenceIdeal.Gen.h_S_
    = multiReduction .maximumf [1] S32 v 0xFF800000#32 reduces_S32x7168_S32 (.inl rfl) rfl :=
  hostReduce_maximumf_eq_multiReduction v _ _ _ reduces_S32x7168_S32 (.inl rfl) rfl

theorem col_bcast (v : S32.Idx → EReal) (y : S32x1.Idx) : broadcastInDim Cert.ReferenceIdeal.S32x1 ![0] Cert.ReferenceIdeal.Gen.bcast_S32_S32x1_0 v y = v (ValueIdx.ix1 (y 0)) := by
  refine broadcastInDim_apply _ _ v y (ValueIdx.ix1 (y 0)) ?_
  intro a
  match a with
  | ⟨0, _⟩ => rfl

theorem rM_apply (y : S32x1.Idx) : Cert.Ref.rM x y = rowMax x (y 0) * Ideal.ofBits .f32 0x3B124925#32 := by
  unfold Cert.Ref.rM
  rw [ValueIdx.mulf_apply, const_apply]
  have e := congrFun (host_max (Host.absf (extf .f32 (mat x) bitsLt_bf16_f32))) (ValueIdx.ix1 (y 0))
  have e' := (col_bcast _ y).trans e
  unfold rowMax
  exact congrArg (fun a : EReal => a * Ideal.ofBits .f32 0x3B124925#32) e'

theorem kM_eq : kM (mat x) = Cert.Ref.rM x := by
  funext y
  rw [kM_apply, rM_apply]

/-- The largest magnitude is a real from zero to the largest finite number. -/
theorem rowMax_real (hx : Fine x) (b : Fin 32) : ∃ a : ℝ, rowMax x b = (a : EReal) ∧ 0 ≤ a ∧ (a : EReal) ≤ Ideal.ofBits .f32 0x7F7F0000#32 := by
  unfold rowMax
  have hm := Ideal.multiReduction_maximumf_single (absf (extf .f32 (mat x) bitsLt_bf16_f32)) 0xFF800000#32 reduces_S32x7168_S32 (.inl rfl) rfl (ValueIdx.ix1 b)
  have hf : ∀ j : Fin (S32x7168.size 1), ((absf (extf .f32 (mat x) bitsLt_bf16_f32) : FVec Ideal S32x7168 .f32) ∘ reduces_S32x7168_S32.lift (ValueIdx.ix1 b)) j
      = max (mat x (reduces_S32x7168_S32.lift (ValueIdx.ix1 b) j)) (-(mat x (reduces_S32x7168_S32.lift (ValueIdx.ix1 b) j))) := fun j => rfl
  generalize ((absf (extf .f32 (mat x) bitsLt_bf16_f32) : FVec Ideal S32x7168 .f32) ∘ reduces_S32x7168_S32.lift (ValueIdx.ix1 b)) = f at hf hm
  rw [show FloatOps.ofBits (F := Ideal) .f32 0xFF800000#32 = (⊥ : EReal) from ninf_eq] at hm
  rw [hm]
  have up : (Finset.univ : Finset (Fin (S32x7168.size 1))).fold max (⊥ : EReal) f ≤ Ideal.ofBits .f32 0x7F7F0000#32 := by
    rw [Finset.fold_max_le]
    exact ⟨bot_le, fun j _ => by rw [hf]; exact hx _⟩
  have lo : (0 : EReal) ≤ (Finset.univ : Finset (Fin (S32x7168.size 1))).fold max (⊥ : EReal) f := by
    rw [Finset.le_fold_max]
    refine .inr ⟨⟨0, by decide⟩, Finset.mem_univ _, ?_⟩
    rw [hf]
    rcases le_total 0 (mat x (reduces_S32x7168_S32.lift (ValueIdx.ix1 b) ⟨0, by decide⟩)) with h | h
    · exact le_max_of_le_left h
    · exact le_max_of_le_right (EReal.neg_nonneg.mpr h)
  generalize (Finset.univ : Finset (Fin (S32x7168.size 1))).fold max (⊥ : EReal) f = a at up lo
  obtain ⟨B, hB, B0, B1⟩ := big_eq
  induction a with
  | bot => exact absurd lo (by simp)
  | top => rw [hB] at up; exact absurd up (by simp)
  | coe a => exact ⟨a, rfl, by exact_mod_cast lo, up⟩

/-- The scaled row maximum is a real from zero to below `2 ^ 126`. -/
theorem kM_real (hx : Fine x) (y : S32x1.Idx) : ∃ r : ℝ, kM (mat x) y = (r : EReal) ∧ 0 ≤ r ∧ r < 2 ^ (126 : ℤ) := by
  obtain ⟨k, hk, k0, k1⟩ := third_eq
  obtain ⟨B, hB, B0, B1⟩ := big_eq
  obtain ⟨a, ha, a0, a1⟩ := rowMax_real x hx (y 0)
  rw [hB, EReal.coe_le_coe_iff] at a1
  rw [kM_apply, ha, hk]
  refine ⟨a * k, (EReal.coe_mul a k).symm, mul_nonneg a0 k0, ?_⟩
  calc a * k ≤ B * 2 ^ (-8 : ℤ) := mul_le_mul a1 k1.le k0 B0
    _ < 2 ^ (128 : ℤ) * 2 ^ (-8 : ℤ) := by apply mul_lt_mul_of_pos_right B1; positivity
    _ ≤ 2 ^ (126 : ℤ) := by norm_num

/-- The comparisons with the powers of two that the kernel counts. -/
def below (X : Vec Ideal S32x7168 .bf16) : IVec S32x256 32 :=
  select (cmpf .olt (broadcastTo S32x256 (kM X) broadcasts_S32x1_S32x256)
      (broadcastTo S32x256 (bitcastToFloat .f32 (shli (iota .tc S1x256 32 [1] iota_S1x256_d1_w32) (broadcast S1x256 23#32)) : FVec Ideal S1x256 .f32) broadcasts_S1x256_S32x256))
    (broadcast S32x256 0#32) (broadcast S32x256 1#32)

/-- Their number. -/
def cnt (X : Vec Ideal S32x7168 .bf16) : IVec S32 32 := multiReductionI .add [1] S32 (below X) 0#32 reduces_S32x256_S32 rfl

theorem pay7_unfold (X : Vec Ideal S32x7168 .bf16) : k0_pay7 X = select (cmpi .eq (subi (shapeCast S32x1 (cnt X) shapeCasts_S32_S32x1) (broadcast S32x1 1#32)) (broadcast S32x1 0#32)) (broadcast S32x1 0#32)
    (subi (subi (shapeCast S32x1 (cnt X) shapeCasts_S32_S32x1) (broadcast S32x1 1#32)) (broadcast S32x1 126#32)) := rfl

theorem pay7_apply (X : Vec Ideal S32x7168 .bf16) (y : S32x1.Idx) : k0_pay7 X y
    = if cnt X (ValueIdx.ix1 (y 0)) - 1#32 = 0#32 then 0#32 else cnt X (ValueIdx.ix1 (y 0)) - 1#32 - 126#32 := by
  rw [pay7_unfold]
  have : ∀ C : S32x1.Idx → BitVec 32, select (cmpi .eq (subi C (broadcast S32x1 1#32)) (broadcast S32x1 0#32)) (broadcast S32x1 0#32) (subi (subi C (broadcast S32x1 1#32)) (broadcast S32x1 126#32)) y
      = if C y - 1#32 = 0#32 then 0#32 else C y - 1#32 - 126#32 := by
    intro C
    show (if BitVec.ofBool (C y - 1#32 == 0#32) = 1#1 then 0#32 else C y - 1#32 - 126#32) = _
    by_cases h : C y - 1#32 = 0#32
    · rw [h]; rfl
    · rw [if_neg h, if_neg]
      rw [beq_eq_false_iff_ne.mpr h]; decide
  rw [this, col_cast]

theorem iota_shl (k : S1x256.Idx) : shli (iota .tc S1x256 32 [1] iota_S1x256_d1_w32) (broadcast S1x256 23#32) k = expW (k 1).val := by
  show IntOp.shli .vector (iota .tc S1x256 32 [1] iota_S1x256_d1_w32 k) 23#32 = _
  rw [iota_single_apply]
  rfl

theorem below_apply (i : S32x256.Idx) : below (mat x) i = if kM (mat x) (row0 (i 0)) < Ideal.ofBits .f32 (expW (i 1).val) then 0#32 else 1#32 := by
  unfold below
  have b1 : broadcastTo S32x256 (kM (mat x)) broadcasts_S32x1_S32x256 i = kM (mat x) (row0 (i 0)) := by
    refine broadcastTo_apply _ _ i (row0 (i 0)) ?_
    intro a
    match a with
    | ⟨0, _⟩ => rfl
    | ⟨1, _⟩ => rfl
  have b2 : ∀ v : FVec Ideal S1x256 .f32, broadcastTo S32x256 v broadcasts_S1x256_S32x256 i = v (ValueIdx.ix2 (0 : Fin 1) (i 1)) := by
    intro v
    refine broadcastTo_apply _ _ i (ValueIdx.ix2 (0 : Fin 1) (i 1)) ?_
    intro a
    match a with
    | ⟨0, _⟩ => rfl
    | ⟨1, _⟩ => rfl
  rw [sel_apply, cmp_apply, b1, b2, cast_apply, iota_shl, lt_select]
  rfl

/-- The word of the exponent. -/
theorem pay7_eq (y : S32x1.Idx) {r : ℝ} (hr : kM (mat x) y = (r : EReal)) (r0 : 0 ≤ r) (r1 : r < 2 ^ (126 : ℤ)) :
    k0_pay7 (mat x) y = BitVec.ofInt 32 (exq r) := by
  rw [pay7_apply]
  apply word r1
  have hy : row0 (y 0) = y := by
    funext a
    match a with
    | ⟨0, _⟩ => rfl
    | ⟨1, _⟩ => exact Fin.ext (by have := (y 1).isLt; change (y 1).val < 1 at this; show 0 = (y 1).val; omega)
  have hl : ∀ k : Fin 256, (below (mat x) (reduces_S32x256_S32.lift (ValueIdx.ix1 (y 0)) k)).toNat = if (r : EReal) < Ideal.ofBits .f32 (expW k.val) then 0 else 1 := by
    intro k
    rw [below_apply]
    have h1 : kM (mat x) (row0 ((reduces_S32x256_S32.lift (ValueIdx.ix1 (y 0)) k) 0)) = (r : EReal) := by
      rw [← hr]
      exact congrArg (kM (mat x)) hy
    have h2 : ((reduces_S32x256_S32.lift (ValueIdx.ix1 (y 0)) k) 1).val = k.val := rfl
    rw [h1, h2]
    by_cases h : (r : EReal) < Ideal.ofBits .f32 (expW k.val)
    · rw [if_pos h, if_pos h]; rfl
    · rw [if_neg h, if_neg h]; rfl
  have hsum : (∑ k : Fin 256, (below (mat x) (reduces_S32x256_S32.lift (ValueIdx.ix1 (y 0)) k)).toNat) = if r < 2 ^ (-126 : ℤ) then 1 else (lg r + 128).toNat := by
    rw [Finset.sum_congr rfl fun k _ => hl k]
    exact count r0 r1
  have hsum' := (reduces_S32x256_S32.sum_filter_drop_single (fun i => (below (mat x) i).toNat) (ValueIdx.ix1 (y 0))).trans hsum
  unfold cnt
  refine (WordSum.toNat_multiReductionI_add _ _ _ _ ?_).trans hsum'
  · rw [hsum']
    split
    · norm_num
    · next h => have := log_mem h r1; omega

/-- The reference's exponent at a row. -/
theorem rE_eq (y : S32x1.Idx) {r : ℝ} (hr : kM (mat x) y = (r : EReal)) (r0 : 0 ≤ r) (r1 : r < 2 ^ (126 : ℤ)) :
    Cert.Ref.rE x y = ((exq r : ℝ) : EReal) := by
  rw [kM_eq] at hr
  rw [← ref_exp r0 r1, ← two_eq, ← tiny_eq]
  unfold Cert.Ref.rE
  rw [sel_apply, cmp_apply, ValueIdx.addf_apply, hfloor_apply, hdiv_apply, hlog_apply, hlog_apply]
  simp only [const_apply]
  rw [lt_select, hr, Ideal.ofBits_zero_f32, Ideal.ofBits_one_f32]

theorem pay8_apply (X : Vec Ideal S32x7168 .bf16) (y : S32x1.Idx) : k0_pay8 X y = Ideal.ofBits .f32 ((k0_pay7 X y + 127#32) <<< 23) := by
  unfold k0_pay8
  rw [cast_apply]
  generalize k0_pay7 X = e
  rfl

/-- The scales agree. -/
theorem scale_agree (hx : Fine x) : k0_pay8 (mat x) = Cert.Ref.rScale x := by
  funext y
  obtain ⟨r, hr, r0, r1⟩ := kM_real x hx y
  rw [pay8_apply]
  unfold Cert.Ref.rScale
  rw [hpow_apply, const_apply]
  rw [pay7_eq x y hr r0 r1, rE_eq x y hr r0 r1, scale_eq (exq_bounds r1), two_eq, pow_two]

theorem pay9_apply (y : S32x7168.Idx) : k0_pay9 (mat x) y = max (Ideal.ofBits .f32 0xC3E00000#32) (mat x y * Ideal.ofBits .f32 ((127#32 - k0_pay7 (mat x) (row0 (y 0))) <<< 23)) := by
  unfold k0_pay9
  rw [ValueIdx.maximumf_apply, ValueIdx.mulf_apply, splat_apply, ext_eq, ValueIdx.extf_apply]
  refine congrArg (fun a : EReal => max (Ideal.ofBits .f32 0xC3E00000#32) (mat x y * a)) ?_
  refine (broadcastTo_apply _ _ y (row0 (y 0)) ?_).trans ?_
  · intro a
    match a with
    | ⟨0, _⟩ => rfl
    | ⟨1, _⟩ => rfl
  rw [cast_apply]
  generalize k0_pay7 (mat x) = e
  rfl

/-- The clipped quotients agree. -/
theorem clip_agree (hx : Fine x) : minimumf (broadcast S32x7168 (Scalar.ofBits .f32 0x43E00000#32)) (k0_pay9 (mat x)) = Cert.Ref.rClip x := by
  funext y
  obtain ⟨r, hr, r0, r1⟩ := kM_real x hx (row0 (y 0))
  rw [ValueIdx.minimumf_apply, pay9_apply, splat_apply, pay7_eq x _ hr r0 r1, inv_eq (exq_bounds r1)]
  unfold Cert.Ref.rClip
  rw [ValueIdx.minimumf_apply, ValueIdx.maximumf_apply, ValueIdx.mulf_apply, ValueIdx.extf_apply]
  simp only [const_apply]
  refine congrArg (fun a : EReal => min (Ideal.ofBits .f32 0x43E00000#32) (max (Ideal.ofBits .f32 0xC3E00000#32) (mat x y * a))) ?_
  refine Eq.symm ((broadcastInDim_apply _ _ _ y (row0 (y 0)) ?_).trans ?_)
  · intro a
    match a with
    | ⟨0, _⟩ => rfl
    | ⟨1, _⟩ => rfl
  rw [hpow_apply, hneg_apply, const_apply, rE_eq x _ hr r0 r1, two_eq]
  have : (-(((exq r : ℤ) : ℝ) : EReal)) = (((-exq r : ℤ) : ℝ) : EReal) := by push_cast; rfl
  rw [this, pow_two]

/-- The codes agree. -/
theorem codes_agree (hx : Fine x) : k0_pay10 (Scalar.ofBits .f32 0x43E00000#32) (k0_pay9 (mat x)) = Cert.Ref.rCodes x := by
  unfold k0_pay10
  dsimp only
  rw [clip_agree x hx]
  unfold Cert.Ref.rCodes Cert.ReferenceIdeal.Gen.k0_pay1
  simp only [shapeCast_self]

end Cert.Scale

end

end
-- ==== Proof.Agree.lean ====
module

public import proofs.«01_k».proof.Defs
public import proofs.«01_k».proof.Proof.Heads
public import proofs.«01_k».proof.Proof.RefTop
public import proofs.«01_k».proof.Proof.RefRun
public import proofs.«01_k».proof.Proof.ScalePay
public import proofs.«01_k».proof.Proof.Gen.Pre_x_finite_history_nonnegative
public import Idealize.ShloMosaic.Lib.ReduceAll

/-! The kernel's four results are the reference's four results. -/

open Idealize Idealize.ShloMosaic
open Cert.KernelIdeal Cert.KernelIdeal.Gen
open Cert.Lanes Cert.Ideal

@[expose] public section

set_option maxRecDepth 65536

noncomputable section

namespace Cert.Agree

/-- Tokens counted lane by lane are all tokens. -/
theorem sum_lanes (g : ℕ → ℕ) : (∑ l : Fin 128, ∑ u ∈ Finset.range 252, g (128 * u + l.val)) = ∑ i : Fin 32256, g i.val := by
  have e : (∑ i : Fin (252 * 128), g i.val) = ∑ q : Fin 252 × Fin 128, g (128 * q.1.val + q.2.val) := by
    rw [← Equiv.sum_comp finProdFinEquiv]
    refine Finset.sum_congr rfl fun q _ => ?_
    rw [finProdFinEquiv_apply_val]
    exact congrArg g (by omega)
  refine Eq.trans ?_ e.symm
  rw [Fintype.sum_prod_type, Finset.sum_comm, Finset.sum_range]

variable (m : (ℓ : Loc nD τ sig) → Buf (Elt Ideal) ℓ) (c : Dev nD)

/-- The reference's penalised logits at the kernel's arguments. -/
def refLogits : Vec Ideal Cert.ReferenceIdeal.S32x32256 .f32 :=
  Cert.Ref.rFinal (F := Ideal) (Cert.Ref.rAcc (ax m c) (aw m c)) (Cert.Ref.rScale (ax m c)) (aws m c) (ab m c) (ah m c) (ap m c)

theorem c9_eq (hx : Cert.Scale.Fine (ax m c)) : c9 m c = Cert.Ref.rCodes (ax m c) := Cert.Scale.codes_agree (ax m c) hx
theorem c10_eq (hx : Cert.Scale.Fine (ax m c)) : c10 m c = Cert.Ref.rScale (ax m c) := Cert.Scale.scale_agree (ax m c) hx

theorem lg_eq (hx : Cert.Scale.Fine (ax m c)) (hh : ∀ y, ((ah m c) y).toNat < 2 ^ 31) (b : Fin 32) (i : Fin 32256) :
    lg m c b i.val = refLogits m c (ValueIdx.ix2 b i) := by
  unfold lg refLogits
  rw [dif_pos i.isLt, c9_eq m c hx, c10_eq m c hx]
  exact (Cert.Ref.rFinal_apply _ _ _ _ _ _ _ hh b i).symm

theorem tops_at (hx : Cert.Scale.Fine (ax m c)) (hh : ∀ y, ((ah m c) y).toNat < 2 ^ 31) (b : Fin 32) (n : Fin 8) :
    (topAt m c).1 (ValueIdx.ix2 b n) = Cert.Ref.rTopV (F := Ideal) (refLogits m c) (ValueIdx.ix2 b n)
      ∧ (topAt m c).2 (ValueIdx.ix2 b n) = Cert.Ref.rTopI (F := Ideal) (refLogits m c) (ValueIdx.ix2 b n) := by
  obtain ⟨k1, k2⟩ := Cert.Ideal.top_count m c hh b n
  obtain ⟨r1, r2⟩ := Cert.Ref.top_count (refLogits m c) b n
  have h := eq_of_count (x := (topAt m c).1 (ValueIdx.ix2 b n)) (y := Cert.Ref.rTopV (F := Ideal) (refLogits m c) (ValueIdx.ix2 b n))
    (m := ((topAt m c).2 (ValueIdx.ix2 b n)).toNat) (n := (Cert.Ref.rTopI (F := Ideal) (refLogits m c) (ValueIdx.ix2 b n)).toNat)
    (fun e => by rw [k2 e]; rfl) (fun e => by rw [r2 e]; rfl) (fun t ht => by
      rw [k1 t ht, r1 t ht]
      have e : (∑ l : Fin 128, cntUp m c b l.val 252 t) = ∑ i : Fin 32256, if t ≤ ent (refLogits m c (ValueIdx.ix2 b i)) i.val then 1 else 0 := by
        refine (sum_lanes fun q => if t ≤ ent (lg m c b q) q then 1 else 0).trans (Finset.sum_congr rfl fun i _ => ?_)
        rw [lg_eq m c hx hh]
      rw [e])
  exact ⟨h.1, BitVec.eq_of_toNat_eq h.2⟩

theorem idx2 (y : S32x8.Idx) : ∃ (b : Fin 32) (n : Fin 8), y = ValueIdx.ix2 b n :=
  ⟨y 0, y 1, by funext a; fin_cases a <;> rfl⟩

theorem topV_eq (hx : Cert.Scale.Fine (ax m c)) (hh : ∀ y, ((ah m c) y).toNat < 2 ^ 31) : (topAt m c).1 = Cert.Ref.rTopV (F := Ideal) (refLogits m c) := by
  funext y
  obtain ⟨b, n, rfl⟩ := idx2 y
  exact (tops_at m c hx hh b n).1

theorem topI_eq (hx : Cert.Scale.Fine (ax m c)) (hh : ∀ y, ((ah m c) y).toNat < 2 ^ 31) : (topAt m c).2 = Cert.Ref.rTopI (F := Ideal) (refLogits m c) := by
  funext y
  obtain ⟨b, n, rfl⟩ := idx2 y
  exact (tops_at m c hx hh b n).2

/-! The reshapes at the end: the kernel's and the reference's. -/

theorem reshape8 {α : Type} (v : S32x8.Idx → α) : shapeCast S32x1x8 v shapeCasts_S32x8_S32x1x8
    = broadcastInDim Cert.ReferenceIdeal.S32x1x8 ![0, 2] Cert.ReferenceIdeal.Gen.bcast_S32x8_S32x1x8_0_2 v := by
  funext y
  have h1 := (y 1).isLt
  change (y 1).val < 1 at h1
  have e1 : shapeCast S32x1x8 v shapeCasts_S32x8_S32x1x8 y = v (ValueIdx.ix2 (y 0) (y 2)) := by
    refine shapeCast_apply v _ y _ ?_
    rw [Shape.rowMajor_val_two, Shape.rowMajor_val_three]
    show (y 0).val * 8 + (y 2).val = ((y 0).val * 1 + (y 1).val) * 8 + (y 2).val
    omega
  rw [e1]
  refine (broadcastInDim_apply _ _ v y (ValueIdx.ix2 (y 0) (y 2)) fun a => ?_).symm
  fin_cases a <;> rfl

theorem reshapeCodes {α : Type} (v : S32x7168.Idx → α) : shapeCast S32x1x7168 v shapeCasts_S32x7168_S32x1x7168
    = broadcastInDim Cert.ReferenceIdeal.S32x1x7168 ![0, 2] Cert.ReferenceIdeal.Gen.bcast_S32x7168_S32x1x7168_0_2 v := by
  funext y
  have h1 := (y 1).isLt
  change (y 1).val < 1 at h1
  have e1 : shapeCast S32x1x7168 v shapeCasts_S32x7168_S32x1x7168 y = v (ValueIdx.ix2 (y 0) (y 2)) := by
    refine shapeCast_apply v _ y _ ?_
    rw [Shape.rowMajor_val_two, Shape.rowMajor_val_three]
    show (y 0).val * 7168 + (y 2).val = ((y 0).val * 1 + (y 1).val) * 7168 + (y 2).val
    omega
  rw [e1]
  refine (broadcastInDim_apply _ _ v y (ValueIdx.ix2 (y 0) (y 2)) fun a => ?_).symm
  fin_cases a <;> rfl

theorem reshapeScale {α : Type} (v : S32x1.Idx → α) : shapeCast S32x1x1 v shapeCasts_S32x1_S32x1x1
    = broadcastInDim Cert.ReferenceIdeal.S32x1x1 ![0, 1] Cert.ReferenceIdeal.Gen.bcast_S32x1_S32x1x1_0_1 v := by
  funext y
  have h1 := (y 1).isLt
  have h2 := (y 2).isLt
  change (y 1).val < 1 at h1
  change (y 2).val < 1 at h2
  have e1 : shapeCast S32x1x1 v shapeCasts_S32x1_S32x1x1 y = v (ValueIdx.ix2 (y 0) (0 : Fin 1)) := by
    refine shapeCast_apply v _ y _ ?_
    rw [Shape.rowMajor_val_two, Shape.rowMajor_val_three]
    show (y 0).val * 1 + 0 = ((y 0).val * 1 + (y 1).val) * 1 + (y 2).val
    omega
  rw [e1]
  refine (broadcastInDim_apply _ _ v y (ValueIdx.ix2 (y 0) (0 : Fin 1)) fun a => ?_).symm
  fin_cases a <;> rfl

/-! What the precondition gives. -/

instance : Subsingleton Cert.Pre_x_finite_history_nonnegative.S_.Idx := ⟨fun a b => funext fun d => d.elim0⟩

theorem pre_gives [Cert.Pre_x_finite_history_nonnegative.Facts] (x : Vec Ideal S32x1x7168 .bf16) (w : Vec Ideal S32256x7168 .fp8e4m3) (ws bi : Vec Ideal S32256 .f32) (h : Vec Ideal S32x64 .i32) (p : Vec Ideal S32 .f32)
    (e : Cert.Pre_x_finite_history_nonnegative.fn (F := Ideal) x w ws bi h p = fun _ => 1#1) : Cert.Scale.Fine x ∧ ∀ y, (h y).toNat < 2 ^ 31 := by
  have e0 := congrFun e (fun d => d.elim0)
  unfold Cert.Pre_x_finite_history_nonnegative.fn at e0
  obtain ⟨e1, e2⟩ := IntOp.andi_eq_one.1 e0
  constructor
  · intro i
    have key := Host.reduce_andi_all _ _ _ _ _ e1
    have at_ : ∀ q : S32x1x7168.Idx, max (x q) (-(x q)) ≤ Ideal.ofBits .f32 0x7F7F0000#32 := fun q => by
      have hq : BitVec.ofBool (decide (max (x q) (-(x q)) ≤ Ideal.ofBits .f32 0x7F7F0000#32)) = 1#1 := key q
      by_contra hn
      rw [decide_eq_false hn] at hq
      exact absurd hq (by decide)
    exact at_ _
  · intro y
    have hy : BitVec.ofBool ((0#32 : BitVec 32).sle (h y)) = 1#1 := Host.reduce_andi_all _ _ _ _ _ e2 y
    have hb : (0#32 : BitVec 32).sle (h y) = true := by
      revert hy; cases (0#32 : BitVec 32).sle (h y) <;> decide
    have hn : (0#32 : BitVec 32).toInt ≤ (h y).toInt := by
      rw [BitVec.sle_eq_decide] at hb
      exact of_decide_eq_true hb
    rw [show (0#32 : BitVec 32).toInt = 0 by decide] at hn
    by_contra hc
    have := BitVec.toInt_eq_toNat_cond (h y)
    rw [if_neg (by omega)] at this
    have h3 := (h y).isLt
    omega

/-- THE CLAIM ABOUT VALUES: from memories that agree on the arguments and meet the precondition, both programs end with the same four results. -/
theorem algebraic : Cert.algebraic_KernelIdeal_ReferenceIdeal_pre_x_finite_history_nonnegative (hKernelIdeal := Cert.KernelIdeal.Gen.facts)
    (hReferenceIdeal := Cert.ReferenceIdeal.Gen.facts) (hPre_x_finite_history_nonnegative := Cert.Pre_x_finite_history_nonnegative.Gen.facts) := by
  intro m g m' g' hpre hargs
  have hp := fun c => pre_gives (h := ah m c) (x := ax m c) (w := aw m c) (ws := aws m c) (bi := ab m c) (p := ap m c) (hpre c)
  refine ⟨fun c => shapeCast S32x1x8 (topAt m c).1 shapeCasts_S32x8_S32x1x8, fun c => shapeCast S32x1x8 (topAt m c).2 shapeCasts_S32x8_S32x1x8,
    fun c => shapeCast S32x1x7168 (stateAt m c (61 + 1) lt62).1 shapeCasts_S32x7168_S32x1x7168, fun c => shapeCast S32x1x1 (stateAt m c (61 + 1) lt62).2.1 shapeCasts_S32x1_S32x1x1,
    Cert.Ideal.run m g, ?_⟩
  refine (θ_run Cert.ReferenceIdeal.defs _ _).mono (fun r h c => ?_) (Cert.Ref.run m' g')
  obtain ⟨hx, hh⟩ := hp c
  obtain ⟨a0, a1, a2, a3, a4, a5⟩ := hargs c
  obtain ⟨h0, h1, h2, h3, h4⟩ := h c
  have hc := state_const m c (61 + 1) lt62
  refine ⟨h0.trans ?_, h1.trans ?_, h2.trans ?_, h3.trans ?_, h4⟩
  · rw [a0, a1, a2, a3, a4, a5]
    exact ((congrArg (fun v => shapeCast S32x1x8 v shapeCasts_S32x8_S32x1x8) (topV_eq m c hx hh)).trans (reshape8 _)).symm
  · rw [a0, a1, a2, a3, a4, a5]
    exact ((congrArg (fun v => shapeCast S32x1x8 v shapeCasts_S32x8_S32x1x8) (topI_eq m c hx hh)).trans (reshape8 _)).symm
  · rw [a0]
    exact ((congrArg (fun v => shapeCast S32x1x7168 v shapeCasts_S32x7168_S32x1x7168) (hc.1.trans (c9_eq m c hx))).trans (reshapeCodes _)).symm
  · rw [a0]
    exact ((congrArg (fun v => shapeCast S32x1x1 v shapeCasts_S32x1_S32x1x1) (hc.2.1.trans (c10_eq m c hx))).trans (reshapeScale _)).symm

end Cert.Agree

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_x_finite_history_nonnegative
public import proofs.«01_k».proof.Proof.IdealCert
public import proofs.«01_k».proof.Proof.ExactCert
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_x_finite_history_nonnegative.Gen.facts,
    fun m ρ _ => Cert.Exact.quiescent m ρ, fun m ρ _ => Cert.Ideal.quiescent m ρ, fun m ρ _ => Cert.Ideal.quiescent m ρ,
    fun m ρ _ => Cert.ReferenceIdeal.Gen.frame m ρ, fun m ρ _ => Cert.ReferenceIdeal.Gen.frame m ρ, trivial, Cert.Agree.algebraic⟩

end Cert.Proof

end
